-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_nonzero [hPre_finite_and_nonzero : Cert.Pre_finite_and_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonzero [hPre_finite_and_nonzero : Cert.Pre_finite_and_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_and_nonzero [hKernelIdeal : Cert.KernelIdeal.Facts] [hPre_finite_and_nonzero : Cert.Pre_finite_and_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_and_nonzero [hReferenceIdeal : Cert.ReferenceIdeal.Facts] [hPre_finite_and_nonzero : Cert.Pre_finite_and_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  True

def algebraic_KernelIdeal_ReferenceIdeal_pre_finite_and_nonzero [hKernelIdeal : Cert.KernelIdeal.Facts] [hReferenceIdeal : Cert.ReferenceIdeal.Facts] [hPre_finite_and_nonzero : Cert.Pre_finite_and_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v372)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v372) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v47) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v36_0)) (v1 : (c : Dev Cert.Kernel3Ideal.nD) → Buf (Elt Ideal) ((c.tc : Thread Cert.Kernel3Ideal.nD Cert.Kernel3Ideal.τ).loc Cert.Kernel3Ideal.main_v36_1)) (v2 : (c : Dev Cert.Kernel3Ideal.nD) → Buf (Elt Ideal) ((c.tc : Thread Cert.Kernel3Ideal.nD Cert.Kernel3Ideal.τ).loc Cert.Kernel3Ideal.main_v36_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36_0) = v0 c
          ∧ r.2.mem ((c.tc : Thread Cert.Kernel3Ideal.nD Cert.Kernel3Ideal.τ).loc Cert.Kernel3Ideal.main_v36_1) = v1 c
          ∧ r.2.mem ((c.tc : Thread Cert.Kernel3Ideal.nD Cert.Kernel3Ideal.τ).loc Cert.Kernel3Ideal.main_v36_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v51) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  IdealRules.bf16_pair.Statement Cert.Kernel6Ideal.S512x128 Cert.Kernel6Ideal.S256x128
  ∧ IdealRules.bf16_pair.Statement Cert.Kernel6Ideal.S512x256 Cert.Kernel6Ideal.S256x256

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  IdealRules.bf16_pair.Statement Cert.Kernel7Ideal.S512x256 Cert.Kernel7Ideal.S256x256
  ∧ IdealRules.bf16_pair.Statement Cert.Kernel7Ideal.S512x128 Cert.Kernel7Ideal.S256x128

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_and_nonzero : Cert.Pre_finite_and_nonzero.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite_and_nonzero (hKernelIdeal := hKernelIdeal) (hPre_finite_and_nonzero := hPre_finite_and_nonzero)
    ∧ quiescent_ReferenceIdeal (hReferenceIdeal := hReferenceIdeal)
    ∧ quiescent_ReferenceIdeal_pre_finite_and_nonzero (hReferenceIdeal := hReferenceIdeal) (hPre_finite_and_nonzero := hPre_finite_and_nonzero)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_and_nonzero (hKernelIdeal := hKernelIdeal) (hReferenceIdeal := hReferenceIdeal) (hPre_finite_and_nonzero := hPre_finite_and_nonzero)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S16x4096x1024 : Shape := ⟨3, ![16, 4096, 1024]⟩
abbrev S16x4096x512 : Shape := ⟨3, ![16, 4096, 512]⟩
abbrev S1x512x512 : Shape := ⟨3, ![1, 512, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x4096x512 : S_.BroadcastsInDim S16x4096x512 (![] : Fin 0 → Fin S16x4096x512.rank)
  reducesTo_S16x4096x512_S_d0_1_2 : S16x4096x512.ReducesTo [0, 1, 2] S_
  bcast_S_S1x512x512 : S_.BroadcastsInDim S1x512x512 (![] : Fin 0 → Fin S1x512x512.rank)
  reducesTo_S1x512x512_S_d0_1_2 : S1x512x512.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_
  bcast_S_S1x8x2x128x128 : S_.BroadcastsInDim S1x8x2x128x128 (![] : Fin 0 → Fin S1x8x2x128x128.rank)
  reducesTo_S1x8x2x128x128_S_d0_1_2_3_4 : S1x8x2x128x128.ReducesTo [0, 1, 2, 3, 4] S_

variable [Facts]

def fn_part2 {F : FTy → Type} [FloatOps F] (main_arg7 : FVec F S1x8x2x128x128 .f32) (main_v33 : IVec S_ 1) : IVec S_ 1 :=
  let main_v34 : FVec F S1x8x2x128x128 .f32 := Host.absf main_arg7
  let main_cst_12 : FVec F S_ .f32 := constant S_ .f32 0x7F800000#32
  let main_v35 : FVec F S1x8x2x128x128 .f32 := broadcastInDim S1x8x2x128x128 ![] bcast_S_S1x8x2x128x128 main_cst_12
  let main_v36 : IVec S1x8x2x128x128 1 := cmpf .olt main_v34 main_v35
  let main_c_13 : IVec S_ 1 := constantI S_ 1 1#1
  let main_v37 : IVec S_ 1 := (fun x v => Host.reduce IntOp.andi x v reducesTo_S1x8x2x128x128_S_d0_1_2_3_4 h_S_) main_v36 main_c_13
  let main_v38 : IVec S_ 1 := andi main_v33 main_v37
  main_v38

def fn_part1 {F : FTy → Type} [FloatOps F] (main_arg4 : FVec F S1x1024x1024 .f32) (main_arg5 : FVec F S1x1024 .f32) (main_arg6 : FVec F S1x1024x2048 .f32) (main_arg7 : FVec F S1x8x2x128x128 .f32) (main_v13 : IVec S_ 1) (main_v16 : IVec S1x512x512 1) : IVec S_ 1 :=
  let main_c_5 : IVec S_ 1 := constantI S_ 1 1#1
  let main_v17 : IVec S_ 1 := (fun x v => Host.reduce IntOp.andi x v reducesTo_S1x512x512_S_d0_1_2 h_S_) main_v16 main_c_5
  let main_v18 : IVec S_ 1 := andi main_v13 main_v17
  let main_v19 : FVec F S1x1024x1024 .f32 := Host.absf main_arg4
  let main_cst_6 : FVec F S_ .f32 := constant S_ .f32 0x7F800000#32
  let main_v20 : FVec F S1x1024x1024 .f32 := broadcastInDim S1x1024x1024 ![] bcast_S_S1x1024x1024 main_cst_6
  let main_v21 : IVec S1x1024x1024 1 := cmpf .olt main_v19 main_v20
  let main_c_7 : IVec S_ 1 := constantI S_ 1 1#1
  let main_v22 : IVec S_ 1 := (fun x v => Host.reduce IntOp.andi x v reducesTo_S1x1024x1024_S_d0_1_2 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024x2048 .f32 := Host.absf main_arg6
  let main_cst_10 : FVec F S_ .f32 := constant S_ .f32 0x7F800000#32
  let main_v30 : FVec F S1x1024x2048 .f32 := broadcastInDim S1x1024x2048 ![] bcast_S_S1x1024x2048 main_cst_10
  let main_v31 : IVec S1x1024x2048 1 := cmpf .olt main_v29 main_v30
  let main_c_11 : IVec S_ 1 := constantI S_ 1 1#1
  let main_v32 : IVec S_ 1 := (fun x v => Host.reduce IntOp.andi x v reducesTo_S1x1024x2048_S_d0_1_2 h_S_) main_v31 main_c_11
  let main_v33 : IVec S_ 1 := andi main_v28 main_v32
  fn_part2 (F := F) main_arg7 main_v33

def fn {F : FTy → Type} [FloatOps F] (main_arg0 : FVec F S16x4096x1024 .f32) (main_arg1 : FVec F S16x4096x512 .f32) (main_arg2 : FVec F S16x4096x512 .f32) (main_arg3 : FVec F S1x512x512 .f32) (main_arg4 : FVec F S1x1024x1024 .f32) (main_arg5 : FVec F S1x1024 .f32) (main_arg6 : FVec F S1x1024x2048 .f32) (main_arg7 : FVec F S1x8x2x128x128 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x4096x512 .f32 := Host.absf main_arg1
  let main_cst_0 : FVec F S_ .f32 := constant S_ .f32 0x7F800000#32
  let main_v5 : FVec F S16x4096x512 .f32 := broadcastInDim S16x4096x512 ![] bcast_S_S16x4096x512 main_cst_0
  let main_v6 : IVec S16x4096x512 1 := cmpf .olt main_v4 main_v5
  let main_c_1 : IVec S_ 1 := constantI S_ 1 1#1
  let main_v7 : IVec S_ 1 := (fun x v => Host.reduce IntOp.andi x v reducesTo_S16x4096x512_S_d0_1_2 h_S_) main_v6 main_c_1
  let main_v8 : IVec S_ 1 := andi main_v3 main_v7
  let main_v9 : FVec F S16x4096x512 .f32 := Host.absf main_arg2
  let main_cst_2 : FVec F S_ .f32 := constant S_ .f32 0x7F800000#32
  let main_v10 : FVec F S16x4096x512 .f32 := broadcastInDim S16x4096x512 ![] bcast_S_S16x4096x512 main_cst_2
  let main_v11 : IVec S16x4096x512 1 := cmpf .olt main_v9 main_v10
  let main_c_3 : IVec S_ 1 := constantI S_ 1 1#1
  let main_v12 : IVec S_ 1 := (fun x v => Host.reduce IntOp.andi x v reducesTo_S16x4096x512_S_d0_1_2 h_S_) main_v11 main_c_3
  let main_v13 : IVec S_ 1 := andi main_v8 main_v12
  let main_v14 : FVec F S1x512x512 .f32 := Host.absf main_arg3
  let main_cst_4 : FVec F S_ .f32 := constant S_ .f32 0x7F800000#32
  let main_v15 : FVec F S1x512x512 .f32 := broadcastInDim S1x512x512 ![] bcast_S_S1x512x512 main_cst_4
  let main_v16 : IVec S1x512x512 1 := cmpf .olt main_v14 main_v15
  fn_part1 (F := F) main_arg4 main_arg5 main_arg6 main_arg7 main_v13 main_v16
-- ==== Pre_finite3.lean ====
abbrev S16x4096x1024 : Shape := ⟨3, ![16, 4096, 1024]⟩
abbrev S1x1024 : Shape := ⟨2, ![1, 1024]⟩
abbrev S1x1024x1024 : Shape := ⟨3, ![1, 1024, 1024]⟩
abbrev S1x4x128x128 : Shape := ⟨4, ![1, 4, 128, 128]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_

variable [Facts]

def fn_part1 {F : FTy → Type} [FloatOps F] (main_v13 : IVec S_ 1) (main_v16 : IVec S1x4x128x128 1) : IVec S_ 1 :=
  let main_c_5 : IVec S_ 1 := constantI S_ 1 1#1
  let main_v17 : IVec S_ 1 := (fun x v => Host.reduce IntOp.andi x v reducesTo_S1x4x128x128_S_d0_1_2_3 h_S_) main_v16 main_c_5
  let main_v18 : IVec S_ 1 := andi main_v13 main_v17
  main_v18

def fn {F : FTy → Type} [FloatOps F] (main_arg0 : FVec F S16x4096x1024 .f32) (main_arg1 : FVec F S1x1024 .f32) (main_arg2 : FVec F S1x1024x1024 .f32) (main_arg3 : FVec F S1x4x128x128 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1024 .f32 := Host.absf main_arg2
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S1x4x128x128 .f32 := Host.absf main_arg3
  let main_cst_4 : FVec F S_ .f32 := constant S_ .f32 0x7F800000#32
  let main_v15 : FVec F S1x4x128x128 .f32 := broadcastInDim S1x4x128x128 ![] bcast_S_S1x4x128x128 main_cst_4
  let main_v16 : IVec S1x4x128x128 1 := cmpf .olt main_v14 main_v15
  fn_part1 (F := F) main_v13 main_v16
-- ==== Pre_finite_and_nonzero.lean ====
abbrev S16x4096x512 : Shape := ⟨3, ![16, 4096, 512]⟩
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S1x32x16 : Shape := ⟨3, ![1, 32, 16]⟩
abbrev S_ : Shape := ⟨0, ![]⟩

class Facts : Prop where
  bcast_S_S1x2x32x64 : S_.BroadcastsInDim S1x2x32x64 (![] : Fin 0 → Fin S1x2x32x64.rank)
  reducesTo_S1x2x32x64_S_d0_1_2_3 : S1x2x32x64.ReducesTo [0, 1, 2, 3] S_
  h_S_ : 0 < S_.numel
  bcast_S_S16x4096x512 : S_.BroadcastsInDim S16x4096x512 (![] : Fin 0 → Fin S16x4096x512.rank)
  reducesTo_S16x4096x512_S_d0_1_2 : S16x4096x512.ReducesTo [0, 1, 2] S_
  bcast_S_S1x2x32 : S_.BroadcastsInDim S1x2x32 (![] : Fin 0 → Fin S1x2x32.rank)
  reducesTo_S1x2x32_S_d0_1_2 : S1x2x32.ReducesTo [0, 1, 2] S_
  bcast_S_S1x2x32x64x16 : S_.BroadcastsInDim S1x2x32x64x16 (![] : Fin 0 → Fin S1x2x32x64x16.rank)
  reducesTo_S1x2x32x64x16_S_d0_1_2_3_4 : S1x2x32x64x16.ReducesTo [0, 1, 2, 3, 4] S_
  bcast_S_S1x2x32x16x64 : S_.BroadcastsInDim S1x2x32x16x64 (![] : Fin 0 → Fin S1x2x32x16x64.rank)
  reducesTo_S1x2x32x16x64_S_d0_1_2_3_4 : S1x2x32x16x64.ReducesTo [0, 1, 2, 3, 4] S_
  bcast_S_S1x32x16 : S_.BroadcastsInDim S1x32x16 (![] : Fin 0 → Fin S1x32x16.rank)
  reducesTo_S1x32x16_S_d0_1_2 : S1x32x16.ReducesTo [0, 1, 2] S_

variable [Facts]

def fn_part2 {F : FTy → Type} [FloatOps F] (main_arg6 : FVec F S1x2x32x16x64 .f32) (main_arg7 : FVec F S1x2x32x16x64 .f32) (main_arg8 : FVec F S1x32x16 .f32) (main_v30 : IVec S_ 1) (main_v33 : IVec S1x2x32x64x16 1) : IVec S_ 1 :=
  let main_c_12 : IVec S_ 1 := constantI S_ 1 1#1
  let main_v34 : IVec S_ 1 := (fun x v => Host.reduce IntOp.andi x v reducesTo_S1x2x32x64x16_S_d0_1_2_3_4 h_S_) main_v33 main_c_12
  let main_v35 : IVec S_ 1 := andi main_v30 main_v34
  let main_v36 : FVec F S1x2x32x16x64 .f32 := Host.absf main_arg6
  let main_cst_13 : FVec F S_ .f32 := constant S_ .f32 0x7F800000#32
  let main_v37 : FVec F S1x2x32x16x64 .f32 := broadcastInDim S1x2x32x16x64 ![] bcast_S_S1x2x32x16x64 main_cst_13
  let main_v38 : IVec S1x2x32x16x64 1 := cmpf .olt main_v36 main_v37
  let main_c_14 : IVec S_ 1 := constantI S_ 1 1#1
  let main_v39 : IVec S_ 1 := (fun x v => Host.reduce IntOp.andi x v reducesTo_S1x2x32x16x64_S_d0_1_2_3_4 h_S_) main_v38 main_c_14
  let main_v40 : IVec S_ 1 := andi main_v35 main_v39
  let main_v41 : FVec F S1x2x32x16x64 .f32 := Host.absf main_arg7
  let main_cst_15 : FVec F S_ .f32 := constant S_ .f32 0x7F800000#32
  let main_v42 : FVec F S1x2x32x16x64 .f32 := broadcastInDim S1x2x32x16x64 ![] bcast_S_S1x2x32x16x64 main_cst_15
  let main_v43 : IVec S1x2x32x16x64 1 := cmpf .olt main_v41 main_v42
  let main_c_16 : IVec S_ 1 := constantI S_ 1 1#1
  let main_v44 : IVec S_ 1 := (fun x v => Host.reduce IntOp.andi x v reducesTo_S1x2x32x16x64_S_d0_1_2_3_4 h_S_) main_v43 main_c_16
  let main_v45 : IVec S_ 1 := andi main_v40 main_v44
  let main_v46 : FVec F S1x32x16 .f32 := Host.absf main_arg8
  let main_cst_17 : FVec F S_ .f32 := constant S_ .f32 0x7F800000#32
  let main_v47 : FVec F S1x32x16 .f32 := broadcastInDim S1x32x16 ![] bcast_S_S1x32x16 main_cst_17
  let main_v48 : IVec S1x32x16 1 := cmpf .olt main_v46 main_v47
  let main_c_18 : IVec S_ 1 := constantI S_ 1 1#1
  let main_v49 : IVec S_ 1 := (fun x v => Host.reduce IntOp.andi x v reducesTo_S1x32x16_S_d0_1_2 h_S_) main_v48 main_c_18
  let main_v50 : IVec S_ 1 := andi main_v45 main_v49
  main_v50

def fn_part1 {F : FTy → Type} [FloatOps F] (main_arg3 : FVec F S1x2x32 .f32) (main_arg4 : FVec F S1x2x32x64x16 .f32) (main_arg5 : FVec F S1x2x32x64x16 .f32) (main_arg6 : FVec F S1x2x32x16x64 .f32) (main_arg7 : FVec F S1x2x32x16x64 .f32) (main_arg8 : FVec F S1x32x16 .f32) (main_v15 : IVec S_ 1) (main_v16 : FVec F S1x2x32x64 .f32) : IVec S_ 1 :=
  let main_cst_5 : FVec F S_ .f32 := constant S_ .f32 0x7F800000#32
  let main_v17 : FVec F S1x2x32x64 .f32 := broadcastInDim S1x2x32x64 ![] bcast_S_S1x2x32x64 main_cst_5
  let main_v18 : IVec S1x2x32x64 1 := cmpf .olt main_v16 main_v17
  let main_c_6 : IVec S_ 1 := constantI S_ 1 1#1
  let main_v19 : IVec S_ 1 := (fun x v => Host.reduce IntOp.andi x v reducesTo_S1x2x32x64_S_d0_1_2_3 h_S_) main_v18 main_c_6
  let main_v20 : IVec S_ 1 := andi main_v15 main_v19
  let main_v21 : FVec F S1x2x32 .f32 := Host.absf main_arg3
  let main_cst_7 : FVec F S_ .f32 := constant S_ .f32 0x7F800000#32
  let main_v22 : FVec F S1x2x32 .f32 := broadcastInDim S1x2x32 ![] bcast_S_S1x2x32 main_cst_7
  let main_v23 : IVec S1x2x32 1 := cmpf .olt main_v21 main_v22
  let main_c_8 : IVec S_ 1 := constantI S_ 1 1#1
  let main_v24 : IVec S_ 1 := (fun x v => Host.reduce IntOp.andi x v reducesTo_S1x2x32_S_d0_1_2 h_S_) main_v23 main_c_8
  let main_v25 : IVec S_ 1 := andi main_v20 main_v24
  let main_v26 : FVec F S1x2x32x64x16 .f32 := Host.absf main_arg4
  let main_cst_9 : FVec F S_ .f32 := constant S_ .f32 0x7F800000#32
  let main_v27 : FVec F S1x2x32x64x16 .f32 := broadcastInDim S1x2x32x64x16 ![] bcast_S_S1x2x32x64x16 main_cst_9
  let main_v28 : IVec S1x2x32x64x16 1 := cmpf .olt main_v26 main_v27
  let main_c_10 : IVec S_ 1 := constantI S_ 1 1#1
  let main_v29 : IVec S_ 1 := (fun x v => Host.reduce IntOp.andi x v reducesTo_S1x2x32x64x16_S_d0_1_2_3_4 h_S_) main_v28 main_c_10
  let main_v30 : IVec S_ 1 := andi main_v25 main_v29
  let main_v31 : FVec F S1x2x32x64x16 .f32 := Host.absf main_arg5
  let main_cst_11 : FVec F S_ .f32 := constant S_ .f32 0x7F800000#32
  let main_v32 : FVec F S1x2x32x64x16 .f32 := broadcastInDim S1x2x32x64x16 ![] bcast_S_S1x2x32x64x16 main_cst_11
  let main_v33 : IVec S1x2x32x64x16 1 := cmpf .olt main_v31 main_v32
  fn_part2 (F := F) main_arg6 main_arg7 main_arg8 main_v30 main_v33

def fn {F : FTy → Type} [FloatOps F] (main_arg0 : FVec F S16x4096x512 .f32) (main_arg1 : FVec F S1x2x32x64 .f32) (main_arg2 : FVec F S1x2x32x64 .f32) (main_arg3 : FVec F S1x2x32 .f32) (main_arg4 : FVec F S1x2x32x64x16 .f32) (main_arg5 : FVec F S1x2x32x64x16 .f32) (main_arg6 : FVec F S1x2x32x16x64 .f32) (main_arg7 : FVec F S1x2x32x16x64 .f32) (main_arg8 : FVec F S1x32x16 .f32) : IVec S_ 1 :=
  let main_cst : FVec F S_ .f32 := constant S_ .f32 0x00000000#32
  let main_v0 : FVec F S1x2x32x64 .f32 := broadcastInDim S1x2x32x64 ![] bcast_S_S1x2x32x64 main_cst
  let main_v1 : IVec S1x2x32x64 1 := cmpf .une main_arg1 main_v0
  let main_cst_0 : FVec F S_ .f32 := constant S_ .f32 0x00000000#32
  let main_v2 : FVec F S1x2x32x64 .f32 := broadcastInDim S1x2x32x64 ![] bcast_S_S1x2x32x64 main_cst_0
  let main_v3 : IVec S1x2x32x64 1 := cmpf .une main_arg2 main_v2
  let main_v4 : IVec S1x2x32x64 1 := ori main_v1 main_v3
  let main_c : IVec S_ 1 := constantI S_ 1 1#1
  let main_v5 : IVec S_ 1 := (fun x v => Host.reduce IntOp.andi x v reducesTo_S1x2x32x64_S_d0_1_2_3 h_S_) main_v4 main_c
  let main_v6 : FVec F S16x4096x512 .f32 := Host.absf main_arg0
  let main_cst_1 : FVec F S_ .f32 := constant S_ .f32 0x7F800000#32
  let main_v7 : FVec F S16x4096x512 .f32 := broadcastInDim S16x4096x512 ![] bcast_S_S16x4096x512 main_cst_1
  let main_v8 : IVec S16x4096x512 1 := cmpf .olt main_v6 main_v7
  let main_c_2 : IVec S_ 1 := constantI S_ 1 1#1
  let main_v9 : IVec S_ 1 := (fun x v => Host.reduce IntOp.andi x v reducesTo_S16x4096x512_S_d0_1_2 h_S_) main_v8 main_c_2
  let main_v10 : IVec S_ 1 := andi main_v5 main_v9
  let main_v11 : FVec F S1x2x32x64 .f32 := Host.absf main_arg1
  let main_cst_3 : FVec F S_ .f32 := constant S_ .f32 0x7F800000#32
  let main_v12 : FVec F S1x2x32x64 .f32 := broadcastInDim S1x2x32x64 ![] bcast_S_S1x2x32x64 main_cst_3
  let main_v13 : IVec S1x2x32x64 1 := cmpf .olt main_v11 main_v12
  let main_c_4 : IVec S_ 1 := constantI S_ 1 1#1
  let main_v14 : IVec S_ 1 := (fun x v => Host.reduce IntOp.andi x v reducesTo_S1x2x32x64_S_d0_1_2_3 h_S_) main_v13 main_c_4
  let main_v15 : IVec S_ 1 := andi main_v10 main_v14
  let main_v16 : FVec F S1x2x32x64 .f32 := Host.absf main_arg2
  fn_part1 (F := F) main_arg3 main_arg4 main_arg5 main_arg6 main_arg7 main_arg8 main_v15 main_v16
-- ==== Kernel.lean ====
abbrev S16x4096x512 : Shape := ⟨3, ![16, 4096, 512]⟩
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S1x32x16 : Shape := ⟨3, ![1, 32, 16]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S32x16 : Shape := ⟨2, ![32, 16]⟩
abbrev S17 : Shape := ⟨1, ![17]⟩
abbrev S1x32x64 : Shape := ⟨3, ![1, 32, 64]⟩
abbrev S32x64 : Shape := ⟨2, ![32, 64]⟩
abbrev S1x32 : Shape := ⟨2, ![1, 32]⟩
abbrev S32 : Shape := ⟨1, ![32]⟩
abbrev S32x1 : Shape := ⟨2, ![32, 1]⟩
abbrev S_ : Shape := ⟨0, ![]⟩
abbrev S32x64x1 : Shape := ⟨3, ![32, 64, 1]⟩
abbrev S1x32x64x16 : Shape := ⟨4, ![1, 32, 64, 16]⟩
abbrev S32x64x16 : Shape := ⟨3, ![32, 64, 16]⟩
abbrev S1x32x16x64 : Shape := ⟨4, ![1, 32, 16, 64]⟩
abbrev S32x16x64 : Shape := ⟨3, ![32, 16, 64]⟩
abbrev S17x1x1 : Shape := ⟨3, ![17, 1, 1]⟩
abbrev S17x32x64 : Shape := ⟨3, ![17, 32, 64]⟩
abbrev S16x32x64 : Shape := ⟨3, ![16, 32, 64]⟩
abbrev S16x32x1x64 : Shape := ⟨4, ![16, 32, 1, 64]⟩
abbrev S16x32x16x64 : Shape := ⟨4, ![16, 32, 16, 64]⟩
abbrev S32x16x16x16 : Shape := ⟨4, ![32, 16, 16, 16]⟩
abbrev S16x32x16x16 : Shape := ⟨4, ![16, 32, 16, 16]⟩
abbrev S16 : Shape := ⟨1, ![16]⟩
abbrev S1x16 : Shape := ⟨2, ![1, 16]⟩
abbrev S16x1 : Shape := ⟨2, ![16, 1]⟩
abbrev S16x16 : Shape := ⟨2, ![16, 16]⟩
abbrev S16x16x1x1x1 : Shape := ⟨5, ![16, 16, 1, 1, 1]⟩
abbrev S16x16x1 : Shape := ⟨3, ![16, 16, 1]⟩
abbrev S16x16x32x16x16 : Shape := ⟨5, ![16, 16, 32, 16, 16]⟩
abbrev S1x1x1x16x16 : Shape := ⟨5, ![1, 1, 1, 16, 16]⟩
abbrev S16x16x1x16x16 : Shape := ⟨5, ![16, 16, 1, 16, 16]⟩
abbrev S1x1x32x16x1 : Shape := ⟨5, ![1, 1, 32, 16, 1]⟩
abbrev S32x16x16x16x16 : Shape := ⟨5, ![32, 16, 16, 16, 16]⟩
abbrev S32x256x256 : Shape := ⟨3, ![32, 256, 256]⟩
abbrev S16x32x64x1 : Shape := ⟨4, ![16, 32, 64, 1]⟩
abbrev S16x32x64x16 : Shape := ⟨4, ![16, 32, 64, 16]⟩
abbrev S32x16x16x64 : Shape := ⟨4, ![32, 16, 16, 64]⟩
abbrev S32x256x64 : Shape := ⟨3, ![32, 256, 64]⟩
abbrev S32x64x16x16 : Shape := ⟨4, ![32, 64, 16, 16]⟩
abbrev S32x64x256 : Shape := ⟨3, ![32, 64, 256]⟩
abbrev S32x128 : Shape := ⟨2, ![32, 128]⟩
abbrev S32x1x128 : Shape := ⟨3, ![32, 1, 128]⟩
abbrev S32x2x128 : Shape := ⟨3, ![32, 2, 128]⟩
abbrev S16x256x16x32x16 : Shape := ⟨5, ![16, 256, 16, 32, 16]⟩
abbrev S32x256x16x16x16 : Shape := ⟨5, ![32, 256, 16, 16, 16]⟩
abbrev S32x4096x256 : Shape := ⟨3, ![32, 4096, 256]⟩
abbrev S1x4096x256 : Shape := ⟨3, ![1, 4096, 256]⟩
abbrev S1x256x256 : Shape := ⟨3, ![1, 256, 256]⟩
abbrev S1x2x128 : Shape := ⟨3, ![1, 2, 128]⟩
abbrev S4096x256 : Shape := ⟨2, ![4096, 256]⟩
abbrev S1x512x256 : Shape := ⟨3, ![1, 512, 256]⟩
abbrev S512x256 : Shape := ⟨2, ![512, 256]⟩
abbrev S256x256 : Shape := ⟨2, ![256, 256]⟩
abbrev S1x1x128 : Shape := ⟨3, ![1, 1, 128]⟩
abbrev S1x128 : Shape := ⟨2, ![1, 128]⟩
abbrev S16x128 : Shape := ⟨2, ![16, 128]⟩

abbrev nBuf : Space → Nat
  | .hbm => 415
  | .vmem => 17
  | .smem => 0
  | _ => 0

abbrev hbmTy0_0 (i : Nat) : BufTy := match i % 128 with
  | 0 => ⟨S16x4096x512, .f32⟩
  | 1 => ⟨S1x2x32x64, .f32⟩
  | 2 => ⟨S1x2x32x64, .f32⟩
  | 3 => ⟨S1x2x32, .f32⟩
  | 4 => ⟨S1x2x32x64x16, .f32⟩
  | 5 => ⟨S1x2x32x64x16, .f32⟩
  | 6 => ⟨S1x2x32x16x64, .f32⟩
  | 7 => ⟨S1x2x32x16x64, .f32⟩
  | 8 => ⟨S1x32x16, .f32⟩
  | 9 => ⟨S2x32x64, .f32⟩
  | 10 => ⟨S2x32x64, .f32⟩
  | 11 => ⟨S2x32, .f32⟩
  | 12 => ⟨S2x32x64x16, .f32⟩
  | 13 => ⟨S2x32x64x16, .f32⟩
  | 14 => ⟨S2x32x16x64, .f32⟩
  | 15 => ⟨S2x32x16x64, .f32⟩
  | 16 => ⟨S32x16, .f32⟩
  | 17 => ⟨S17, .f32⟩
  | 18 => ⟨S1x32x64, .f32⟩
  | 19 => ⟨S32x64, .f32⟩
  | 20 => ⟨S1x32x64, .f32⟩
  | 21 => ⟨S32x64, .f32⟩
  | 22 => ⟨S1x32, .f32⟩
  | 23 => ⟨S32, .f32⟩
  | 24 => ⟨S32, .f32⟩
  | 25 => ⟨S32x1, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S_, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64x1, .f32⟩
  | 50 => ⟨S32x64x1, .f32⟩
  | 51 => ⟨S1x32x64x16, .f32⟩
  | 52 => ⟨S32x64x16, .f32⟩
  | 53 => ⟨S1x32x64x16, .f32⟩
  | 54 => ⟨S32x64x16, .f32⟩
  | 55 => ⟨S32x64x16, .f32⟩
  | 56 => ⟨S32x64x16, .f32⟩
  | 57 => ⟨S32x64x16, .f32⟩
  | 58 => ⟨S32x64x16, .f32⟩
  | 59 => ⟨S32x64x16, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S1x32x16x64, .f32⟩
  | 66 => ⟨S32x16x64, .f32⟩
  | 67 => ⟨S1x32x16x64, .f32⟩
  | 68 => ⟨S32x16x64, .f32⟩
  | 69 => ⟨S1x32x64, .f32⟩
  | 70 => ⟨S17x1x1, .f32⟩
  | 71 => ⟨S17x32x64, .f32⟩
  | 72 => ⟨S17x32x64, .f32⟩
  | 73 => ⟨S17x32x64, .f32⟩
  | 74 => ⟨S1x32x64, .f32⟩
  | 75 => ⟨S17x1x1, .f32⟩
  | 76 => ⟨S17x32x64, .f32⟩
  | 77 => ⟨S17x32x64, .f32⟩
  | 78 => ⟨S17x32x64, .f32⟩
  | 79 => ⟨S17x32x64, .f32⟩
  | 80 => ⟨S17x32x64, .f32⟩
  | 81 => ⟨S17x32x64, .f32⟩
  | 82 => ⟨S17x32x64, .f32⟩
  | 83 => ⟨S17x32x64, .f32⟩
  | 84 => ⟨S1x32x16x64, .f32⟩
  | 85 => ⟨S1x32x16x64, .f32⟩
  | 86 => ⟨S16x32x64, .f32⟩
  | 87 => ⟨S16x32x1x64, .f32⟩
  | 88 => ⟨S16x32x64, .f32⟩
  | 89 => ⟨S16x32x1x64, .f32⟩
  | 90 => ⟨S16x32x16x64, .f32⟩
  | 91 => ⟨S16x32x16x64, .f32⟩
  | 92 => ⟨S16x32x16x64, .f32⟩
  | 93 => ⟨S16x32x16x64, .f32⟩
  | 94 => ⟨S16x32x16x64, .f32⟩
  | 95 => ⟨S16x32x16x64, .f32⟩
  | 96 => ⟨S16x32x16x64, .f32⟩
  | 97 => ⟨S16x32x16x64, .f32⟩
  | 98 => ⟨S16x32x16x64, .f32⟩
  | 99 => ⟨S16x32x16x64, .f32⟩
  | 100 => ⟨S16x32x16x64, .f32⟩
  | 101 => ⟨S16x32x16x64, .f32⟩
  | 102 => ⟨S16x32x16x64, .f32⟩
  | 103 => ⟨S16x32x16x64, .f32⟩
  | 104 => ⟨S32x16x16x16, .f32⟩
  | 105 => ⟨S16x32x16x16, .f32⟩
  | 106 => ⟨S32x16x16x16, .f32⟩
  | 107 => ⟨S16x32x16x16, .f32⟩
  | 108 => ⟨S16x32x16x16, .f32⟩
  | 109 => ⟨S1x32x64, .f32⟩
  | 110 => ⟨S32x64, .f32⟩
  | 111 => ⟨S1x32x64, .f32⟩
  | 112 => ⟨S32x64, .f32⟩
  | 113 => ⟨S1x32, .f32⟩
  | 114 => ⟨S32, .f32⟩
  | 115 => ⟨S32, .f32⟩
  | 116 => ⟨S32x1, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S_, .f32⟩
  | 127 => ⟨S32x64, .f32⟩
  | _ => ⟨S16x4096x512, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64x1, .f32⟩
  | 13 => ⟨S32x64x1, .f32⟩
  | 14 => ⟨S1x32x64x16, .f32⟩
  | 15 => ⟨S32x64x16, .f32⟩
  | 16 => ⟨S1x32x64x16, .f32⟩
  | 17 => ⟨S32x64x16, .f32⟩
  | 18 => ⟨S32x64x16, .f32⟩
  | 19 => ⟨S32x64x16, .f32⟩
  | 20 => ⟨S32x64x16, .f32⟩
  | 21 => ⟨S32x64x16, .f32⟩
  | 22 => ⟨S32x64x16, .f32⟩
  | 23 => ⟨S32x64x16, .f32⟩
  | 24 => ⟨S32x64x16, .f32⟩
  | 25 => ⟨S32x64x16, .f32⟩
  | 26 => ⟨S32x64x16, .f32⟩
  | 27 => ⟨S32x64x16, .f32⟩
  | 28 => ⟨S1x32x16x64, .f32⟩
  | 29 => ⟨S32x16x64, .f32⟩
  | 30 => ⟨S1x32x16x64, .f32⟩
  | 31 => ⟨S32x16x64, .f32⟩
  | 32 => ⟨S1x32x64, .f32⟩
  | 33 => ⟨S17x1x1, .f32⟩
  | 34 => ⟨S17x32x64, .f32⟩
  | 35 => ⟨S17x32x64, .f32⟩
  | 36 => ⟨S17x32x64, .f32⟩
  | 37 => ⟨S1x32x64, .f32⟩
  | 38 => ⟨S17x1x1, .f32⟩
  | 39 => ⟨S17x32x64, .f32⟩
  | 40 => ⟨S17x32x64, .f32⟩
  | 41 => ⟨S17x32x64, .f32⟩
  | 42 => ⟨S17x32x64, .f32⟩
  | 43 => ⟨S17x32x64, .f32⟩
  | 44 => ⟨S17x32x64, .f32⟩
  | 45 => ⟨S17x32x64, .f32⟩
  | 46 => ⟨S17x32x64, .f32⟩
  | 47 => ⟨S1x32x16x64, .f32⟩
  | 48 => ⟨S1x32x16x64, .f32⟩
  | 49 => ⟨S16x32x64, .f32⟩
  | 50 => ⟨S16x32x1x64, .f32⟩
  | 51 => ⟨S16x32x64, .f32⟩
  | 52 => ⟨S16x32x1x64, .f32⟩
  | 53 => ⟨S16x32x16x64, .f32⟩
  | 54 => ⟨S16x32x16x64, .f32⟩
  | 55 => ⟨S16x32x16x64, .f32⟩
  | 56 => ⟨S16x32x16x64, .f32⟩
  | 57 => ⟨S16x32x16x64, .f32⟩
  | 58 => ⟨S16x32x16x64, .f32⟩
  | 59 => ⟨S16x32x16x64, .f32⟩
  | 60 => ⟨S16x32x16x64, .f32⟩
  | 61 => ⟨S16x32x16x64, .f32⟩
  | 62 => ⟨S16x32x16x64, .f32⟩
  | 63 => ⟨S16x32x16x64, .f32⟩
  | 64 => ⟨S16x32x16x64, .f32⟩
  | 65 => ⟨S16x32x16x64, .f32⟩
  | 66 => ⟨S16x32x16x64, .f32⟩
  | 67 => ⟨S32x16x16x16, .f32⟩
  | 68 => ⟨S16x32x16x16, .f32⟩
  | 69 => ⟨S32x16x16x16, .f32⟩
  | 70 => ⟨S16x32x16x16, .f32⟩
  | 71 => ⟨S16x32x16x16, .f32⟩
  | 72 => ⟨S16, .i32⟩
  | 73 => ⟨S1x16, .i32⟩
  | 74 => ⟨S16x1, .i32⟩
  | 75 => ⟨S16x16, .i32⟩
  | 76 => ⟨S16x16, .i32⟩
  | 77 => ⟨S16x16, .i32⟩
  | 78 => ⟨S_, .i32⟩
  | 79 => ⟨S16x16, .i32⟩
  | 80 => ⟨S16x16, .i1⟩
  | 81 => ⟨S16x16x1x1x1, .i1⟩
  | 82 => ⟨S_, .i32⟩
  | 83 => ⟨S_, .i32⟩
  | 84 => ⟨S_, .i32⟩
  | 85 => ⟨S16x16, .i32⟩
  | 86 => ⟨S16x16, .i32⟩
  | 87 => ⟨S_, .i32⟩
  | 88 => ⟨S16x16, .i32⟩
  | 89 => ⟨S16x16, .i32⟩
  | 90 => ⟨S_, .i32⟩
  | 91 => ⟨S16x16, .i32⟩
  | 92 => ⟨S16x16, .i1⟩
  | 93 => ⟨S_, .i32⟩
  | 94 => ⟨S16x16, .i32⟩
  | 95 => ⟨S16x16, .i32⟩
  | 96 => ⟨S16x16, .i32⟩
  | 97 => ⟨S16x16x1, .i32⟩
  | 98 => ⟨S16x16x32x16x16, .f32⟩
  | 99 => ⟨S_, .f32⟩
  | 100 => ⟨S_, .f32⟩
  | 101 => ⟨S16x16x32x16x16, .i1⟩
  | 102 => ⟨S16x16x32x16x16, .f32⟩
  | 103 => ⟨S16x16x32x16x16, .f32⟩
  | 104 => ⟨S_, .i32⟩
  | 105 => ⟨S16x16, .i32⟩
  | 106 => ⟨S16x16, .i1⟩
  | 107 => ⟨S16x16x1x1x1, .i1⟩
  | 108 => ⟨S16x16, .i32⟩
  | 109 => ⟨S_, .i32⟩
  | 110 => ⟨S_, .i32⟩
  | 111 => ⟨S_, .i32⟩
  | 112 => ⟨S16x16, .i32⟩
  | 113 => ⟨S16x16, .i32⟩
  | 114 => ⟨S_, .i32⟩
  | 115 => ⟨S16x16, .i32⟩
  | 116 => ⟨S16x16, .i32⟩
  | 117 => ⟨S_, .i32⟩
  | 118 => ⟨S16x16, .i32⟩
  | 119 => ⟨S16x16, .i1⟩
  | 120 => ⟨S_, .i32⟩
  | 121 => ⟨S16x16, .i32⟩
  | 122 => ⟨S16x16, .i32⟩
  | 123 => ⟨S16x16, .i32⟩
  | 124 => ⟨S16x16x1, .i32⟩
  | 125 => ⟨S16x16x32x16x16, .f32⟩
  | 126 => ⟨S_, .f32⟩
  | 127 => ⟨S_, .f32⟩
  | _ => ⟨S16x4096x512, .f32⟩

abbrev hbmTy0_2 (i : Nat) : BufTy := match i % 128 with
  | 0 => ⟨S16x16x32x16x16, .i1⟩
  | 1 => ⟨S16x16x32x16x16, .f32⟩
  | 2 => ⟨S16x16x32x16x16, .f32⟩
  | 3 => ⟨S16x16, .i32⟩
  | 4 => ⟨S16x16, .i32⟩
  | 5 => ⟨S_, .i32⟩
  | 6 => ⟨S16x16, .i32⟩
  | 7 => ⟨S16x16, .i32⟩
  | 8 => ⟨S16x16, .i1⟩
  | 9 => ⟨S16x16, .f32⟩
  | 10 => ⟨S16x16x1x1x1, .f32⟩
  | 11 => ⟨S16x16, .i32⟩
  | 12 => ⟨S16x16, .i32⟩
  | 13 => ⟨S_, .i32⟩
  | 14 => ⟨S16x16, .i32⟩
  | 15 => ⟨S16x16, .i32⟩
  | 16 => ⟨S16x16, .i1⟩
  | 17 => ⟨S16x16, .f32⟩
  | 18 => ⟨S1x1x1x16x16, .f32⟩
  | 19 => ⟨S16x16x1x16x16, .f32⟩
  | 20 => ⟨S16x16x1x16x16, .f32⟩
  | 21 => ⟨S16x16x1x16x16, .f32⟩
  | 22 => ⟨S1x1x32x16x1, .f32⟩
  | 23 => ⟨S16x16x32x16x16, .f32⟩
  | 24 => ⟨S16x16x32x16x16, .f32⟩
  | 25 => ⟨S16x16x32x16x16, .f32⟩
  | 26 => ⟨S16x16x32x16x16, .f32⟩
  | 27 => ⟨S16x16x32x16x16, .f32⟩
  | 28 => ⟨S32x16x16x16x16, .f32⟩
  | 29 => ⟨S32x256x256, .f32⟩
  | 30 => ⟨S16x32x64, .f32⟩
  | 31 => ⟨S16x32x64, .f32⟩
  | 32 => ⟨S16x32x64, .f32⟩
  | 33 => ⟨S16x32x64, .f32⟩
  | 34 => ⟨S16x32x64x1, .f32⟩
  | 35 => ⟨S16x32x64x1, .f32⟩
  | 36 => ⟨S1x32x64x16, .f32⟩
  | 37 => ⟨S1x32x64x16, .f32⟩
  | 38 => ⟨S16x32x64x16, .f32⟩
  | 39 => ⟨S16x32x64x16, .f32⟩
  | 40 => ⟨S16x32x64x16, .f32⟩
  | 41 => ⟨S16x32x64x16, .f32⟩
  | 42 => ⟨S16x32x64x16, .f32⟩
  | 43 => ⟨S16x32x64x16, .f32⟩
  | 44 => ⟨S16x32x64x16, .f32⟩
  | 45 => ⟨S16x32x64x16, .f32⟩
  | 46 => ⟨S16x32x64x16, .f32⟩
  | 47 => ⟨S16x32x64x16, .f32⟩
  | 48 => ⟨S16x32x64x16, .f32⟩
  | 49 => ⟨S16x32x64x16, .f32⟩
  | 50 => ⟨S16x32x64x16, .f32⟩
  | 51 => ⟨S16x32x64x16, .f32⟩
  | 52 => ⟨S32x16x16x64, .f32⟩
  | 53 => ⟨S32x256x64, .f32⟩
  | 54 => ⟨S32x16x16x64, .f32⟩
  | 55 => ⟨S32x256x64, .f32⟩
  | 56 => ⟨S16x32x64, .f32⟩
  | 57 => ⟨S16x32x64, .f32⟩
  | 58 => ⟨S16x32x64x1, .f32⟩
  | 59 => ⟨S16x32x64x1, .f32⟩
  | 60 => ⟨S1x32x64x16, .f32⟩
  | 61 => ⟨S1x32x64x16, .f32⟩
  | 62 => ⟨S16x32x64x16, .f32⟩
  | 63 => ⟨S16x32x64x16, .f32⟩
  | 64 => ⟨S16x32x64x16, .f32⟩
  | 65 => ⟨S16x32x64x16, .f32⟩
  | 66 => ⟨S16x32x64x16, .f32⟩
  | 67 => ⟨S16x32x64x16, .f32⟩
  | 68 => ⟨S16x32x64x16, .f32⟩
  | 69 => ⟨S16x32x64x16, .f32⟩
  | 70 => ⟨S16x32x64x16, .f32⟩
  | 71 => ⟨S16x32x64x16, .f32⟩
  | 72 => ⟨S16x32x64x16, .f32⟩
  | 73 => ⟨S16x32x64x16, .f32⟩
  | 74 => ⟨S16x32x64x16, .f32⟩
  | 75 => ⟨S16x32x64x16, .f32⟩
  | 76 => ⟨S32x16x16x64, .f32⟩
  | 77 => ⟨S32x256x64, .f32⟩
  | 78 => ⟨S32x16x16x64, .f32⟩
  | 79 => ⟨S32x256x64, .f32⟩
  | 80 => ⟨S32x256x256, .f32⟩
  | 81 => ⟨S16x32x64, .f32⟩
  | 82 => ⟨S16x32x64, .f32⟩
  | 83 => ⟨S1x32x16x64, .f32⟩
  | 84 => ⟨S1x32x16x64, .f32⟩
  | 85 => ⟨S16x32x1x64, .f32⟩
  | 86 => ⟨S16x32x1x64, .f32⟩
  | 87 => ⟨S16x32x16x64, .f32⟩
  | 88 => ⟨S16x32x16x64, .f32⟩
  | 89 => ⟨S16x32x16x64, .f32⟩
  | 90 => ⟨S16x32x16x64, .f32⟩
  | 91 => ⟨S16x32x16x64, .f32⟩
  | 92 => ⟨S16x32x16x64, .f32⟩
  | 93 => ⟨S16x32x16x64, .f32⟩
  | 94 => ⟨S16x32x16x64, .f32⟩
  | 95 => ⟨S16x32x16x64, .f32⟩
  | 96 => ⟨S16x32x16x64, .f32⟩
  | 97 => ⟨S16x32x16x64, .f32⟩
  | 98 => ⟨S16x32x16x64, .f32⟩
  | 99 => ⟨S16x32x16x64, .f32⟩
  | 100 => ⟨S16x32x16x64, .f32⟩
  | 101 => ⟨S32x64x16x16, .f32⟩
  | 102 => ⟨S32x64x256, .f32⟩
  | 103 => ⟨S32x64x16x16, .f32⟩
  | 104 => ⟨S32x64x256, .f32⟩
  | 105 => ⟨S16x32x64, .f32⟩
  | 106 => ⟨S16x32x64, .f32⟩
  | 107 => ⟨S16x32x64, .f32⟩
  | 108 => ⟨S16x32x64, .f32⟩
  | 109 => ⟨S1x32x16x64, .f32⟩
  | 110 => ⟨S1x32x16x64, .f32⟩
  | 111 => ⟨S16x32x1x64, .f32⟩
  | 112 => ⟨S16x32x1x64, .f32⟩
  | 113 => ⟨S16x32x16x64, .f32⟩
  | 114 => ⟨S16x32x16x64, .f32⟩
  | 115 => ⟨S16x32x16x64, .f32⟩
  | 116 => ⟨S16x32x16x64, .f32⟩
  | 117 => ⟨S16x32x16x64, .f32⟩
  | 118 => ⟨S16x32x16x64, .f32⟩
  | 119 => ⟨S16x32x16x64, .f32⟩
  | 120 => ⟨S16x32x16x64, .f32⟩
  | 121 => ⟨S16x32x16x64, .f32⟩
  | 122 => ⟨S16x32x16x64, .f32⟩
  | 123 => ⟨S16x32x16x64, .f32⟩
  | 124 => ⟨S16x32x16x64, .f32⟩
  | 125 => ⟨S16x32x16x64, .f32⟩
  | 126 => ⟨S16x32x16x64, .f32⟩
  | 127 => ⟨S32x64x16x16, .f32⟩
  | _ => ⟨S16x4096x512, .f32⟩

abbrev hbmTy0_3 (i : Nat) : BufTy := match i % 128 with
  | 0 => ⟨S32x64x256, .f32⟩
  | 1 => ⟨S32x64x16x16, .f32⟩
  | 2 => ⟨S32x64x256, .f32⟩
  | 3 => ⟨S_, .f32⟩
  | 4 => ⟨S32x64x256, .f32⟩
  | 5 => ⟨S32x64x256, .f32⟩
  | 6 => ⟨S32x256x256, .f32⟩
  | 7 => ⟨S32x64x256, .f32⟩
  | 8 => ⟨S32x256x256, .f32⟩
  | 9 => ⟨S1x32x64, .f32⟩
  | 10 => ⟨S32x64, .f32⟩
  | 11 => ⟨S1x32x64, .f32⟩
  | 12 => ⟨S32x64, .f32⟩
  | 13 => ⟨S32x128, .f32⟩
  | 14 => ⟨S1x32x64, .f32⟩
  | 15 => ⟨S32x64, .f32⟩
  | 16 => ⟨S1x32x64, .f32⟩
  | 17 => ⟨S32x64, .f32⟩
  | 18 => ⟨S32x128, .f32⟩
  | 19 => ⟨S32x1x128, .f32⟩
  | 20 => ⟨S32x1x128, .f32⟩
  | 21 => ⟨S32x2x128, .f32⟩
  | 22 => ⟨S32x256x256, .bf16⟩
  | 23 => ⟨S32x256x256, .bf16⟩
  | 24 => ⟨S32x256x256, .bf16⟩
  | 25 => ⟨S32x256x256, .bf16⟩
  | 26 => ⟨S16x4096x512, .bf16⟩
  | 27 => ⟨S16x256x16x32x16, .bf16⟩
  | 28 => ⟨S32x256x16x16x16, .bf16⟩
  | 29 => ⟨S32x4096x256, .bf16⟩
  | 30 => ⟨S32x4096x256, .bf16⟩
  | _ => ⟨S16x4096x512, .f32⟩

abbrev hbmTy (i : Nat) : BufTy := match i / 128 with
  | 0 => hbmTy0_0 i
  | 1 => hbmTy0_1 i
  | 2 => hbmTy0_2 i
  | 3 => hbmTy0_3 i
  | _ => ⟨S16x4096x512, .f32⟩

abbrev bufTy : (tb : Table) → Fin (tcTables nBuf tb) → BufTy
  | .hbm, ⟨i, _⟩ => hbmTy i
  | .local _ .vmem, ⟨0, _⟩ => ⟨S1x4096x256, .bf16⟩
  | .local _ .vmem, ⟨1, _⟩ => ⟨S1x4096x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x2x128, .f32⟩
  | .local _ .vmem, ⟨11, _⟩ => ⟨S1x2x128, .f32⟩
  | .local _ .vmem, ⟨12, _⟩ => ⟨S1x4096x256, .bf16⟩
  | .local _ .vmem, ⟨13, _⟩ => ⟨S1x4096x256, .bf16⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_cst_0 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩
abbrev main_v157 : Ref sig .tc := ⟨.hbm, 168, rfl⟩
abbrev main_v158 : Ref sig .tc := ⟨.hbm, 169, rfl⟩
abbrev main_v159 : Ref sig .tc := ⟨.hbm, 170, rfl⟩
abbrev main_v160 : Ref sig .tc := ⟨.hbm, 171, rfl⟩
abbrev main_v161 : Ref sig .tc := ⟨.hbm, 172, rfl⟩
abbrev main_v162 : Ref sig .tc := ⟨.hbm, 173, rfl⟩
abbrev main_v163 : Ref sig .tc := ⟨.hbm, 174, rfl⟩
abbrev main_v164 : Ref sig .tc := ⟨.hbm, 175, rfl⟩
abbrev main_v165 : Ref sig .tc := ⟨.hbm, 176, rfl⟩
abbrev main_v166 : Ref sig .tc := ⟨.hbm, 177, rfl⟩
abbrev main_v167 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_v188 : Ref sig .tc := ⟨.hbm, 199, rfl⟩
abbrev main_v189 : Ref sig .tc := ⟨.hbm, 200, rfl⟩
abbrev main_v190 : Ref sig .tc := ⟨.hbm, 201, rfl⟩
abbrev main_v191 : Ref sig .tc := ⟨.hbm, 202, rfl⟩
abbrev main_v192 : Ref sig .tc := ⟨.hbm, 203, rfl⟩
abbrev main_v193 : Ref sig .tc := ⟨.hbm, 204, rfl⟩
abbrev main_v194 : Ref sig .tc := ⟨.hbm, 205, rfl⟩
abbrev main_c : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_c_1 : Ref sig .tc := ⟨.hbm, 210, rfl⟩
abbrev main_c_2 : Ref sig .tc := ⟨.hbm, 211, rfl⟩
abbrev main_call0_v0 : Ref sig .tc := ⟨.hbm, 212, rfl⟩
abbrev main_call0_v1 : Ref sig .tc := ⟨.hbm, 213, rfl⟩
abbrev main_call0_v2 : Ref sig .tc := ⟨.hbm, 214, rfl⟩
abbrev main_call0_v3 : Ref sig .tc := ⟨.hbm, 215, rfl⟩
abbrev main_call0_v4 : Ref sig .tc := ⟨.hbm, 216, rfl⟩
abbrev main_v198 : Ref sig .tc := ⟨.hbm, 217, rfl⟩
abbrev main_c_3 : Ref sig .tc := ⟨.hbm, 218, rfl⟩
abbrev main_v199 : Ref sig .tc := ⟨.hbm, 219, rfl⟩
abbrev main_v200 : Ref sig .tc := ⟨.hbm, 220, rfl⟩
abbrev main_c_4 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_cst_5 : Ref sig .tc := ⟨.hbm, 227, rfl⟩
abbrev main_call1_v0 : Ref sig .tc := ⟨.hbm, 228, rfl⟩
abbrev main_call1_v1 : Ref sig .tc := ⟨.hbm, 229, rfl⟩
abbrev main_call1_v2 : Ref sig .tc := ⟨.hbm, 230, rfl⟩
abbrev main_v206 : Ref sig .tc := ⟨.hbm, 231, rfl⟩
abbrev main_c_6 : Ref sig .tc := ⟨.hbm, 232, rfl⟩
abbrev main_v207 : Ref sig .tc := ⟨.hbm, 233, rfl⟩
abbrev main_v208 : Ref sig .tc := ⟨.hbm, 234, rfl⟩
abbrev main_v209 : Ref sig .tc := ⟨.hbm, 235, rfl⟩
abbrev main_v210 : Ref sig .tc := ⟨.hbm, 236, rfl⟩
abbrev main_c_7 : Ref sig .tc := ⟨.hbm, 237, rfl⟩
abbrev main_c_8 : Ref sig .tc := ⟨.hbm, 238, rfl⟩
abbrev main_call2_v0 : Ref sig .tc := ⟨.hbm, 239, rfl⟩
abbrev main_call2_v1 : Ref sig .tc := ⟨.hbm, 240, rfl⟩
abbrev main_call2_v2 : Ref sig .tc := ⟨.hbm, 241, rfl⟩
abbrev main_call2_v3 : Ref sig .tc := ⟨.hbm, 242, rfl⟩
abbrev main_call2_v4 : Ref sig .tc := ⟨.hbm, 243, rfl⟩
abbrev main_v211 : Ref sig .tc := ⟨.hbm, 244, rfl⟩
abbrev main_c_9 : Ref sig .tc := ⟨.hbm, 245, rfl⟩
abbrev main_v212 : Ref sig .tc := ⟨.hbm, 246, rfl⟩
abbrev main_v213 : Ref sig .tc := ⟨.hbm, 247, rfl⟩
abbrev main_c_10 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_cst_11 : Ref sig .tc := ⟨.hbm, 254, rfl⟩
abbrev main_call3_v0 : Ref sig .tc := ⟨.hbm, 255, rfl⟩
abbrev main_call3_v1 : Ref sig .tc := ⟨.hbm, 256, rfl⟩
abbrev main_call3_v2 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_c_12 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_c_13 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_v290 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_v295 : Ref sig .tc := ⟨.hbm, 336, rfl⟩
abbrev main_v296 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩
abbrev main_v308 : Ref sig .tc := ⟨.hbm, 349, rfl⟩
abbrev main_v309 : Ref sig .tc := ⟨.hbm, 350, rfl⟩
abbrev main_v310 : Ref sig .tc := ⟨.hbm, 351, rfl⟩
abbrev main_v311 : Ref sig .tc := ⟨.hbm, 352, rfl⟩
abbrev main_v312 : Ref sig .tc := ⟨.hbm, 353, rfl⟩
abbrev main_v313 : Ref sig .tc := ⟨.hbm, 354, rfl⟩
abbrev main_v314 : Ref sig .tc := ⟨.hbm, 355, rfl⟩
abbrev main_v315 : Ref sig .tc := ⟨.hbm, 356, rfl⟩
abbrev main_v316 : Ref sig .tc := ⟨.hbm, 357, rfl⟩
abbrev main_v317 : Ref sig .tc := ⟨.hbm, 358, rfl⟩
abbrev main_v318 : Ref sig .tc := ⟨.hbm, 359, rfl⟩
abbrev main_v319 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_v327 : Ref sig .tc := ⟨.hbm, 368, rfl⟩
abbrev main_v328 : Ref sig .tc := ⟨.hbm, 369, rfl⟩
abbrev main_v329 : Ref sig .tc := ⟨.hbm, 370, rfl⟩
abbrev main_v330 : Ref sig .tc := ⟨.hbm, 371, rfl⟩
abbrev main_v331 : Ref sig .tc := ⟨.hbm, 372, rfl⟩
abbrev main_v332 : Ref sig .tc := ⟨.hbm, 373, rfl⟩
abbrev main_v333 : Ref sig .tc := ⟨.hbm, 374, rfl⟩
abbrev main_v334 : Ref sig .tc := ⟨.hbm, 375, rfl⟩
abbrev main_v335 : Ref sig .tc := ⟨.hbm, 376, rfl⟩
abbrev main_v336 : Ref sig .tc := ⟨.hbm, 377, rfl⟩
abbrev main_v337 : Ref sig .tc := ⟨.hbm, 378, rfl⟩
abbrev main_v338 : Ref sig .tc := ⟨.hbm, 379, rfl⟩
abbrev main_v339 : Ref sig .tc := ⟨.hbm, 380, rfl⟩
abbrev main_v340 : Ref sig .tc := ⟨.hbm, 381, rfl⟩
abbrev main_v341 : Ref sig .tc := ⟨.hbm, 382, rfl⟩
abbrev main_v342 : Ref sig .tc := ⟨.hbm, 383, rfl⟩
abbrev main_v343 : Ref sig .tc := ⟨.hbm, 384, rfl⟩
abbrev main_v344 : Ref sig .tc := ⟨.hbm, 385, rfl⟩
abbrev main_v345 : Ref sig .tc := ⟨.hbm, 386, rfl⟩
abbrev main_cst_14 : Ref sig .tc := ⟨.hbm, 387, rfl⟩
abbrev main_v346 : Ref sig .tc := ⟨.hbm, 388, rfl⟩
abbrev main_v347 : Ref sig .tc := ⟨.hbm, 389, rfl⟩
abbrev main_v348 : Ref sig .tc := ⟨.hbm, 390, rfl⟩
abbrev main_v349 : Ref sig .tc := ⟨.hbm, 391, rfl⟩
abbrev main_v350 : Ref sig .tc := ⟨.hbm, 392, rfl⟩
abbrev main_v351 : Ref sig .tc := ⟨.hbm, 393, rfl⟩
abbrev main_v352 : Ref sig .tc := ⟨.hbm, 394, rfl⟩
abbrev main_v353 : Ref sig .tc := ⟨.hbm, 395, rfl⟩
abbrev main_v354 : Ref sig .tc := ⟨.hbm, 396, rfl⟩
abbrev main_v355 : Ref sig .tc := ⟨.hbm, 397, rfl⟩
abbrev main_v356 : Ref sig .tc := ⟨.hbm, 398, rfl⟩
abbrev main_v357 : Ref sig .tc := ⟨.hbm, 399, rfl⟩
abbrev main_v358 : Ref sig .tc := ⟨.hbm, 400, rfl⟩
abbrev main_v359 : Ref sig .tc := ⟨.hbm, 401, rfl⟩
abbrev main_v360 : Ref sig .tc := ⟨.hbm, 402, rfl⟩
abbrev main_v361 : Ref sig .tc := ⟨.hbm, 403, rfl⟩
abbrev main_v362 : Ref sig .tc := ⟨.hbm, 404, rfl⟩
abbrev main_v363 : Ref sig .tc := ⟨.hbm, 405, rfl⟩
abbrev main_v364 : Ref sig .tc := ⟨.hbm, 406, rfl⟩
abbrev main_v365 : Ref sig .tc := ⟨.hbm, 407, rfl⟩
abbrev main_v366 : Ref sig .tc := ⟨.hbm, 408, rfl⟩
abbrev main_v367 : Ref sig .tc := ⟨.hbm, 409, rfl⟩
abbrev main_v368 : Ref sig .tc := ⟨.hbm, 410, rfl⟩
abbrev main_v369 : Ref sig .tc := ⟨.hbm, 411, rfl⟩
abbrev main_v370 : Ref sig .tc := ⟨.hbm, 412, rfl⟩
abbrev main_v371 : Ref sig .tc := ⟨.hbm, 413, rfl⟩
abbrev main_v372 : Ref sig .tc := ⟨.hbm, 414, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v12 : BitVec 32 := Scalar.muli arg11 c512_i32
  v12
def k0_off1 (k0_t1 : Fin k0_t1_loop.trips) : Fin 3 → Nat :=
  let c0_12 : Index := 0#32
  let c0_i32 : BitVec 32 := 0#32
  let c1_i32 : BitVec 32 := 1#32
  let arg11 : BitVec 32 := Scf.iv c0_i32 c1_i32 k0_t1
  let c512_i32 : BitVec 32 := 512#32
  let v12 : BitVec 32 := Scalar.muli arg11 c512_i32
  let v13 : BitVec 32 := v12
  let v14 : Index := Scalar.indexCast v13
  let c0_13 : Index := 0#32
  ![0, v14.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c512_i32 : BitVec 32 := 512#32
  let v12 : BitVec 32 := Scalar.muli arg11 c512_i32
  let v13 : BitVec 32 := v12
  let v20 : Index := Scalar.indexCast v13
  let c0_18 : Index := 0#32
  ![v20.toNat, 0]
@[reducible] def k0_t2_loop : Scf.Loop 32 :=
  let c0_i32_5 : BitVec 32 := 0#32
  let c256_i32 : BitVec 32 := 256#32
  let v9 : BitVec 32 := Scalar.addi c0_i32_5 c256_i32
  let c1_i32_6 : BitVec 32 := 1#32
  ⟨c0_i32_5, v9, c1_i32_6⟩
def k0_mult2 (k0_t2 : Fin k0_t2_loop.trips) : BitVec 32 :=
  let c0_i32_5 : BitVec 32 := 0#32
  let c1_i32_6 : BitVec 32 := 1#32
  let arg11 : BitVec 32 := Scf.iv c0_i32_5 c1_i32_6 k0_t2
  let c16_i32 : BitVec 32 := 16#32
  let v12 : BitVec 32 := Scalar.muli arg11 c16_i32
  v12
def k0_mult3 (k0_t2 : Fin k0_t2_loop.trips) : BitVec 32 :=
  let c255_i32 : BitVec 32 := 255#32
  let c0_i32_5 : BitVec 32 := 0#32
  let c1_i32_6 : BitVec 32 := 1#32
  let arg11 : BitVec 32 := Scf.iv c0_i32_5 c1_i32_6 k0_t2
  let v14 : BitVec 32 := Scalar.subi c255_i32 arg11
  let c16_i32_12 : BitVec 32 := 16#32
  let v15 : BitVec 32 := Scalar.muli v14 c16_i32_12
  v15
def k0_off3 (k0_t2 : Fin k0_t2_loop.trips) : Fin 2 → Nat :=
  let c0_i32_5 : BitVec 32 := 0#32
  let c1_i32_6 : BitVec 32 := 1#32
  let arg11 : BitVec 32 := Scf.iv c0_i32_5 c1_i32_6 k0_t2
  let c16_i32 : BitVec 32 := 16#32
  let v12 : BitVec 32 := Scalar.muli arg11 c16_i32
  let v13 : BitVec 32 := v12
  let v17 : Index := Scalar.indexCast v13
  let c0_13 : Index := 0#32
  ![v17.toNat, 0]
def k0_off4 (k0_t2 : Fin k0_t2_loop.trips) : Fin 2 → Nat :=
  let c0_i32_5 : BitVec 32 := 0#32
  let c1_i32_6 : BitVec 32 := 1#32
  let arg11 : BitVec 32 := Scf.iv c0_i32_5 c1_i32_6 k0_t2
  let c16_i32 : BitVec 32 := 16#32
  let v12 : BitVec 32 := Scalar.muli arg11 c16_i32
  let v13 : BitVec 32 := v12
  let v21 : Index := Scalar.indexCast v13
  let c128 : Index := 128#32
  ![v21.toNat, 128]
def k0_off5 (k0_t2 : Fin k0_t2_loop.trips) : Fin 2 → Nat :=
  let c255_i32 : BitVec 32 := 255#32
  let c0_i32_5 : BitVec 32 := 0#32
  let c1_i32_6 : BitVec 32 := 1#32
  let arg11 : BitVec 32 := Scf.iv c0_i32_5 c1_i32_6 k0_t2
  let v14 : BitVec 32 := Scalar.subi c255_i32 arg11
  let c16_i32_12 : BitVec 32 := 16#32
  let v15 : BitVec 32 := Scalar.muli v14 c16_i32_12
  let v16 : BitVec 32 := v15
  let v25 : Index := Scalar.indexCast v16
  let c0_14 : Index := 0#32
  ![v25.toNat, 0]
def k0_off6 (k0_t2 : Fin k0_t2_loop.trips) : Fin 2 → Nat :=
  let c255_i32 : BitVec 32 := 255#32
  let c0_i32_5 : BitVec 32 := 0#32
  let c1_i32_6 : BitVec 32 := 1#32
  let arg11 : BitVec 32 := Scf.iv c0_i32_5 c1_i32_6 k0_t2
  let v14 : BitVec 32 := Scalar.subi c255_i32 arg11
  let c16_i32_12 : BitVec 32 := 16#32
  let v15 : BitVec 32 := Scalar.muli v14 c16_i32_12
  let v16 : BitVec 32 := v15
  let v29 : Index := Scalar.indexCast v16
  let c128_15 : Index := 128#32
  ![v29.toNat, 128]
@[reducible] def k0_t3_loop : Scf.Loop 32 :=
  let c0_i32_8 : BitVec 32 := 0#32
  let c8_i32_9 : BitVec 32 := 8#32
  let v11 : BitVec 32 := Scalar.addi c0_i32_8 c8_i32_9
  let c1_i32_10 : BitVec 32 := 1#32
  ⟨c0_i32_8, v11, c1_i32_10⟩
def k0_mult4 (k0_t3 : Fin k0_t3_loop.trips) : BitVec 32 :=
  let c0_i32_8 : BitVec 32 := 0#32
  let c1_i32_10 : BitVec 32 := 1#32
  let arg11 : BitVec 32 := Scf.iv c0_i32_8 c1_i32_10 k0_t3
  let c512_i32 : BitVec 32 := 512#32
  let v12 : BitVec 32 := Scalar.muli arg11 c512_i32
  v12
def k0_off7 (k0_t3 : Fin k0_t3_loop.trips) : Fin 3 → Nat :=
  let c0_12 : Index := 0#32
  let c0_i32_8 : BitVec 32 := 0#32
  let c1_i32_10 : BitVec 32 := 1#32
  let arg11 : BitVec 32 := Scf.iv c0_i32_8 c1_i32_10 k0_t3
  let c512_i32 : BitVec 32 := 512#32
  let v12 : BitVec 32 := Scalar.muli arg11 c512_i32
  let v13 : BitVec 32 := v12
  let v14 : Index := Scalar.indexCast v13
  let c0_13 : Index := 0#32
  ![0, v14.toNat, 0]
def k0_off8 (k0_t3 : Fin k0_t3_loop.trips) : Fin 2 → Nat :=
  let c0_i32_8 : BitVec 32 := 0#32
  let c1_i32_10 : BitVec 32 := 1#32
  let arg11 : BitVec 32 := Scf.iv c0_i32_8 c1_i32_10 k0_t3
  let c512_i32 : BitVec 32 := 512#32
  let v12 : BitVec 32 := Scalar.muli arg11 c512_i32
  let v13 : BitVec 32 := v12
  let v20 : Index := Scalar.indexCast v13
  let c0_18 : Index := 0#32
  ![v20.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S16x4096x512 : Shape := ⟨3, ![16, 4096, 512]⟩
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S1x32x16 : Shape := ⟨3, ![1, 32, 16]⟩
abbrev S2x32x64 : Shape := ⟨3, ![2, 32, 64]⟩
abbrev S2x32x64x16 : Shape := ⟨4, ![2, 32, 64, 16]⟩
abbrev S16x4096x32x16 : Shape := ⟨4, ![16, 4096, 32, 16]⟩
abbrev S4096x16x32x16 : Shape := ⟨4, ![4096, 16, 32, 16]⟩
abbrev S2x32 : Shape := ⟨2, ![2, 32]⟩
abbrev S2x32x1 : Shape := ⟨3, ![2, 32, 1]⟩
abbrev S_ : Shape := ⟨0, ![]⟩
abbrev S2x32x64x1 : Shape := ⟨4, ![2, 32, 64, 1]⟩
abbrev S1x4096x16x32x16 : Shape := ⟨5, ![1, 4096, 16, 32, 16]⟩
abbrev S2x4096x16x32x16 : Shape := ⟨5, ![2, 4096, 16, 32, 16]⟩
abbrev S2x32x4096x16x64 : Shape := ⟨5, ![2, 32, 4096, 16, 64]⟩
abbrev S4096x2x16x32x64 : Shape := ⟨5, ![4096, 2, 16, 32, 64]⟩
abbrev S2x1x32x64 : Shape := ⟨4, ![2, 1, 32, 64]⟩
abbrev S2x16x32x64 : Shape := ⟨4, ![2, 16, 32, 64]⟩
abbrev S1x2x16x32x64 : Shape := ⟨5, ![1, 2, 16, 32, 64]⟩
abbrev S2x32x16x64 : Shape := ⟨4, ![2, 32, 16, 64]⟩
abbrev S2x32x4096x16x16 : Shape := ⟨5, ![2, 32, 4096, 16, 16]⟩
abbrev S32x16 : Shape := ⟨2, ![32, 16]⟩
abbrev S1x1x32x16 : Shape := ⟨4, ![1, 1, 32, 16]⟩
abbrev S256x16x16x32x16 : Shape := ⟨5, ![256, 16, 16, 32, 16]⟩
abbrev S32x256x16x16x16 : Shape := ⟨5, ![32, 256, 16, 16, 16]⟩
abbrev S32x4096x256 : Shape := ⟨3, ![32, 4096, 256]⟩

abbrev nBuf : Space → Nat
  | .hbm => 150
  | .vmem => 0
  | .smem => 0
  | _ => 0

abbrev hbmTy0_0 (i : Nat) : BufTy := match i % 128 with
  | 0 => ⟨S16x4096x512, .f32⟩
  | 1 => ⟨S1x2x32x64, .f32⟩
  | 2 => ⟨S1x2x32x64, .f32⟩
  | 3 => ⟨S1x2x32, .f32⟩
  | 4 => ⟨S1x2x32x64x16, .f32⟩
  | 5 => ⟨S1x2x32x64x16, .f32⟩
  | 6 => ⟨S1x2x32x16x64, .f32⟩
  | 7 => ⟨S1x2x32x16x64, .f32⟩
  | 8 => ⟨S1x32x16, .f32⟩
  | 9 => ⟨S2x32x64, .f32⟩
  | 10 => ⟨S2x32x64, .f32⟩
  | 11 => ⟨S2x32x64x16, .f32⟩
  | 12 => ⟨S2x32x64x16, .f32⟩
  | 13 => ⟨S16x4096x32x16, .f32⟩
  | 14 => ⟨S4096x16x32x16, .f32⟩
  | 15 => ⟨S2x32, .f32⟩
  | 16 => ⟨S2x32, .f32⟩
  | 17 => ⟨S2x32x1, .f32⟩
  | 18 => ⟨S2x32x64, .f32⟩
  | 19 => ⟨S2x32x64, .f32⟩
  | 20 => ⟨S2x32x64, .f32⟩
  | 21 => ⟨S2x32x64, .f32⟩
  | 22 => ⟨S2x32x64, .f32⟩
  | 23 => ⟨S2x32x64, .f32⟩
  | 24 => ⟨S2x32x64, .f32⟩
  | 25 => ⟨S2x32x64, .f32⟩
  | 26 => ⟨S2x32x64, .f32⟩
  | 27 => ⟨S2x32x64, .f32⟩
  | 28 => ⟨S2x32x64, .f32⟩
  | 29 => ⟨S2x32x64, .f32⟩
  | 30 => ⟨S2x32x64, .f32⟩
  | 31 => ⟨S2x32x64, .f32⟩
  | 32 => ⟨S_, .f32⟩
  | 33 => ⟨S2x32x64, .f32⟩
  | 34 => ⟨S2x32x64, .f32⟩
  | 35 => ⟨S2x32x64, .f32⟩
  | 36 => ⟨S2x32x64, .f32⟩
  | 37 => ⟨S2x32x64, .f32⟩
  | 38 => ⟨S2x32x64, .f32⟩
  | 39 => ⟨S2x32x64, .f32⟩
  | 40 => ⟨S_, .f32⟩
  | 41 => ⟨S2x32x64, .f32⟩
  | 42 => ⟨S2x32x64, .f32⟩
  | 43 => ⟨S2x32x64, .f32⟩
  | 44 => ⟨S2x32x64, .f32⟩
  | 45 => ⟨S2x32x64, .f32⟩
  | 46 => ⟨S2x32x64x1, .f32⟩
  | 47 => ⟨S2x32x64x16, .f32⟩
  | 48 => ⟨S2x32x64x16, .f32⟩
  | 49 => ⟨S2x32x64x1, .f32⟩
  | 50 => ⟨S2x32x64x16, .f32⟩
  | 51 => ⟨S2x32x64x16, .f32⟩
  | 52 => ⟨S2x32x64x16, .f32⟩
  | 53 => ⟨S2x32x64x1, .f32⟩
  | 54 => ⟨S2x32x64x16, .f32⟩
  | 55 => ⟨S2x32x64x16, .f32⟩
  | 56 => ⟨S2x32x64x1, .f32⟩
  | 57 => ⟨S2x32x64x16, .f32⟩
  | 58 => ⟨S2x32x64x16, .f32⟩
  | 59 => ⟨S2x32x64x16, .f32⟩
  | 60 => ⟨S4096x16x32x16, .f32⟩
  | 61 => ⟨S1x4096x16x32x16, .f32⟩
  | 62 => ⟨S1x4096x16x32x16, .f32⟩
  | 63 => ⟨S2x4096x16x32x16, .f32⟩
  | 64 => ⟨S2x32x4096x16x64, .f32⟩
  | 65 => ⟨S4096x2x16x32x64, .f32⟩
  | 66 => ⟨S2x32x4096x16x64, .f32⟩
  | 67 => ⟨S4096x2x16x32x64, .f32⟩
  | 68 => ⟨S2x1x32x64, .f32⟩
  | 69 => ⟨S2x1x32x64, .f32⟩
  | 70 => ⟨S_, .f32⟩
  | 71 => ⟨S2x16x32x64, .f32⟩
  | 72 => ⟨S_, .f32⟩
  | 73 => ⟨S4096x2x16x32x64, .f32⟩
  | 74 => ⟨S_, .f32⟩
  | 75 => ⟨S4096x2x16x32x64, .f32⟩
  | 76 => ⟨S_, .i32⟩
  | 77 => ⟨S4096x2x16x32x64, .f32⟩
  | 78 => ⟨S4096x2x16x32x64, .f32⟩
  | 79 => ⟨S2x1x32x64, .f32⟩
  | 80 => ⟨S2x1x32x64, .f32⟩
  | 81 => ⟨S_, .i32⟩
  | 82 => ⟨S2x16x32x64, .f32⟩
  | 83 => ⟨S2x16x32x64, .f32⟩
  | 84 => ⟨S4096x2x16x32x64, .f32⟩
  | 85 => ⟨S4096x2x16x32x64, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x2x16x32x64, .f32⟩
  | 93 => ⟨S2x16x32x64, .f32⟩
  | 94 => ⟨S_, .i32⟩
  | 95 => ⟨S_, .i32⟩
  | 96 => ⟨S_, .i32⟩
  | 97 => ⟨S_, .i32⟩
  | 98 => ⟨S1x2x16x32x64, .f32⟩
  | 99 => ⟨S2x16x32x64, .f32⟩
  | 100 => ⟨S2x16x32x64, .f32⟩
  | 101 => ⟨S2x16x32x64, .f32⟩
  | 102 => ⟨S2x16x32x64, .f32⟩
  | 103 => ⟨S2x16x32x64, .f32⟩
  | 104 => ⟨S2x16x32x64, .f32⟩
  | 105 => ⟨S2x16x32x64, .f32⟩
  | 106 => ⟨S2x16x32x64, .f32⟩
  | 107 => ⟨S2x16x32x64, .f32⟩
  | 108 => ⟨S2x16x32x64, .f32⟩
  | 109 => ⟨S2x16x32x64, .f32⟩
  | 110 => ⟨S2x16x32x64, .f32⟩
  | 111 => ⟨S2x16x32x64, .f32⟩
  | 112 => ⟨S1x2x16x32x64, .f32⟩
  | 113 => ⟨S_, .i32⟩
  | 114 => ⟨S_, .i32⟩
  | 115 => ⟨S_, .i32⟩
  | 116 => ⟨S_, .i32⟩
  | 117 => ⟨S4096x2x16x32x64, .f32⟩
  | 118 => ⟨S1x2x16x32x64, .f32⟩
  | 119 => ⟨S_, .i32⟩
  | 120 => ⟨S_, .i32⟩
  | 121 => ⟨S_, .i32⟩
  | 122 => ⟨S_, .i32⟩
  | 123 => ⟨S4096x2x16x32x64, .f32⟩
  | 124 => ⟨S_, .i32⟩
  | 125 => ⟨S_, .i32⟩
  | 126 => ⟨S2x32x16x64, .f32⟩
  | 127 => ⟨S2x32x4096x16x16, .f32⟩
  | _ => ⟨S16x4096x512, .f32⟩

abbrev hbmTy0_1 (i : Nat) : BufTy := match i % 128 with
  | 0 => ⟨S2x4096x16x32x16, .f32⟩
  | 1 => ⟨S2x32x16x64, .f32⟩
  | 2 => ⟨S2x32x4096x16x16, .f32⟩
  | 3 => ⟨S2x4096x16x32x16, .f32⟩
  | 4 => ⟨S2x4096x16x32x16, .f32⟩
  | 5 => ⟨S1x4096x16x32x16, .f32⟩
  | 6 => ⟨S4096x16x32x16, .f32⟩
  | 7 => ⟨S1x4096x16x32x16, .f32⟩
  | 8 => ⟨S4096x16x32x16, .f32⟩
  | 9 => ⟨S4096x16x32x16, .f32⟩
  | 10 => ⟨S4096x16x32x16, .f32⟩
  | 11 => ⟨S32x16, .f32⟩
  | 12 => ⟨S16x4096x32x16, .f32⟩
  | 13 => ⟨S4096x16x32x16, .f32⟩
  | 14 => ⟨S1x1x32x16, .f32⟩
  | 15 => ⟨S4096x16x32x16, .f32⟩
  | 16 => ⟨S4096x16x32x16, .f32⟩
  | 17 => ⟨S4096x16x32x16, .f32⟩
  | 18 => ⟨S256x16x16x32x16, .f32⟩
  | 19 => ⟨S32x256x16x16x16, .f32⟩
  | 20 => ⟨S32x4096x256, .f32⟩
  | 21 => ⟨S32x4096x256, .bf16⟩
  | _ => ⟨S16x4096x512, .f32⟩

abbrev hbmTy (i : Nat) : BufTy := match i / 128 with
  | 0 => hbmTy0_0 i
  | 1 => hbmTy0_1 i
  | _ => ⟨S16x4096x512, .f32⟩

abbrev bufTy : (tb : Table) → Fin (tcTables nBuf tb) → BufTy
  | .hbm, ⟨i, _⟩ => hbmTy i
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_cst_1 : Ref sig .tc := ⟨.hbm, 70, rfl⟩
abbrev main_v59 : Ref sig .tc := ⟨.hbm, 71, rfl⟩
abbrev main_cst_2 : Ref sig .tc := ⟨.hbm, 72, rfl⟩
abbrev main_v60 : Ref sig .tc := ⟨.hbm, 73, rfl⟩
abbrev main_cst_3 : Ref sig .tc := ⟨.hbm, 74, rfl⟩
abbrev main_v61 : Ref sig .tc := ⟨.hbm, 75, rfl⟩
abbrev main_c : Ref sig .tc := ⟨.hbm, 76, rfl⟩
abbrev main_v62_0 : Ref sig .tc := ⟨.hbm, 77, rfl⟩
abbrev main_v62_1 : Ref sig .tc := ⟨.hbm, 78, rfl⟩
abbrev main_v62_2 : Ref sig .tc := ⟨.hbm, 79, rfl⟩
abbrev main_v62_3 : Ref sig .tc := ⟨.hbm, 80, rfl⟩
abbrev main_v62_4 : Ref sig .tc := ⟨.hbm, 81, rfl⟩
abbrev main_v62_5 : Ref sig .tc := ⟨.hbm, 82, rfl⟩
abbrev main_v62_6 : Ref sig .tc := ⟨.hbm, 83, rfl⟩
abbrev main_v62_7 : Ref sig .tc := ⟨.hbm, 84, rfl⟩
abbrev main_v62_8 : Ref sig .tc := ⟨.hbm, 85, rfl⟩
abbrev main_while0c_c_12 : Ref sig .tc := ⟨.hbm, 86, rfl⟩
abbrev main_while0c_v87 : Ref sig .tc := ⟨.hbm, 87, rfl⟩
abbrev main_while0b_call0_c : Ref sig .tc := ⟨.hbm, 88, rfl⟩
abbrev main_while0b_call0_c_0 : Ref sig .tc := ⟨.hbm, 89, rfl⟩
abbrev main_while0b_call0_c_1 : Ref sig .tc := ⟨.hbm, 90, rfl⟩
abbrev main_while0b_call0_c_2 : Ref sig .tc := ⟨.hbm, 91, rfl⟩
abbrev main_while0b_call0_v0 : Ref sig .tc := ⟨.hbm, 92, rfl⟩
abbrev main_while0b_v87 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_c_1 : Ref sig .tc := ⟨.hbm, 96, rfl⟩
abbrev main_while0b_call1_c_2 : Ref sig .tc := ⟨.hbm, 97, rfl⟩
abbrev main_while0b_call1_v0 : Ref sig .tc := ⟨.hbm, 98, rfl⟩
abbrev main_while0b_v88 : Ref sig .tc := ⟨.hbm, 99, rfl⟩
abbrev main_while0b_v89 : Ref sig .tc := ⟨.hbm, 100, rfl⟩
abbrev main_while0b_v90 : Ref sig .tc := ⟨.hbm, 101, rfl⟩
abbrev main_while0b_v91 : Ref sig .tc := ⟨.hbm, 102, rfl⟩
abbrev main_while0b_v92 : Ref sig .tc := ⟨.hbm, 103, rfl⟩
abbrev main_while0b_v93 : Ref sig .tc := ⟨.hbm, 104, rfl⟩
abbrev main_while0b_v94 : Ref sig .tc := ⟨.hbm, 105, rfl⟩
abbrev main_while0b_v95 : Ref sig .tc := ⟨.hbm, 106, rfl⟩
abbrev main_while0b_v96 : Ref sig .tc := ⟨.hbm, 107, rfl⟩
abbrev main_while0b_v97 : Ref sig .tc := ⟨.hbm, 108, rfl⟩
abbrev main_while0b_v98 : Ref sig .tc := ⟨.hbm, 109, rfl⟩
abbrev main_while0b_v99 : Ref sig .tc := ⟨.hbm, 110, rfl⟩
abbrev main_while0b_v100 : Ref sig .tc := ⟨.hbm, 111, rfl⟩
abbrev main_while0b_call2_v0 : Ref sig .tc := ⟨.hbm, 112, rfl⟩
abbrev main_while0b_call2_c : Ref sig .tc := ⟨.hbm, 113, rfl⟩
abbrev main_while0b_call2_c_0 : Ref sig .tc := ⟨.hbm, 114, rfl⟩
abbrev main_while0b_call2_c_1 : Ref sig .tc := ⟨.hbm, 115, rfl⟩
abbrev main_while0b_call2_c_2 : Ref sig .tc := ⟨.hbm, 116, rfl⟩
abbrev main_while0b_v101 : Ref sig .tc := ⟨.hbm, 117, rfl⟩
abbrev main_while0b_call3_v0 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_c_1 : Ref sig .tc := ⟨.hbm, 121, rfl⟩
abbrev main_while0b_call3_c_2 : Ref sig .tc := ⟨.hbm, 122, rfl⟩
abbrev main_while0b_v102 : Ref sig .tc := ⟨.hbm, 123, rfl⟩
abbrev main_while0b_c_12 : Ref sig .tc := ⟨.hbm, 124, rfl⟩
abbrev main_while0b_v103 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S16x4096x1024 : Shape := ⟨3, ![16, 4096, 1024]⟩
abbrev S16x4096x512 : Shape := ⟨3, ![16, 4096, 512]⟩
abbrev S1x512x512 : Shape := ⟨3, ![1, 512, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S1024x2048 : Shape := ⟨2, ![1024, 2048]⟩
abbrev S1024x8x2x128 : Shape := ⟨4, ![1024, 8, 2, 128]⟩
abbrev S8x2x128x128 : Shape := ⟨4, ![8, 2, 128, 128]⟩
abbrev S8x2x128x1024 : Shape := ⟨4, ![8, 2, 128, 1024]⟩
abbrev S2048x1024 : Shape := ⟨2, ![2048, 1024]⟩
abbrev S16x256x16x512 : Shape := ⟨4, ![16, 256, 16, 512]⟩
abbrev S512x512 : Shape := ⟨2, ![512, 512]⟩
abbrev S1024x1024 : Shape := ⟨2, ![1024, 1024]⟩
abbrev S1024 : Shape := ⟨1, ![1024]⟩
abbrev S1024x65536 : Shape := ⟨2, ![1024, 65536]⟩
abbrev S2048x65536 : Shape := ⟨2, ![2048, 65536]⟩
abbrev S16x32x1024 : Shape := ⟨3, ![16, 32, 1024]⟩
abbrev S16x2x16x512 : Shape := ⟨4, ![16, 2, 16, 512]⟩
abbrev S16x32x512 : Shape := ⟨3, ![16, 32, 512]⟩
abbrev S1024x512 : Shape := ⟨2, ![1024, 512]⟩
abbrev S2048x512 : Shape := ⟨2, ![2048, 512]⟩
abbrev S4x512x128 : Shape := ⟨3, ![4, 512, 128]⟩
abbrev S1x1x16x512 : Shape := ⟨4, ![1, 1, 16, 512]⟩
abbrev S16x512 : Shape := ⟨2, ![16, 512]⟩
abbrev S16x128 : Shape := ⟨2, ![16, 128]⟩
abbrev S1x16x128 : Shape := ⟨3, ![1, 16, 128]⟩
abbrev S1x512x128 : Shape := ⟨3, ![1, 512, 128]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩

abbrev nBuf : Space → Nat
  | .hbm => 27
  | .vmem => 17
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1x512x512, .f32⟩
  | .hbm, ⟨4, _⟩ => ⟨S1x1024x1024, .f32⟩
  | .hbm, ⟨5, _⟩ => ⟨S1x1024, .f32⟩
  | .hbm, ⟨6, _⟩ => ⟨S1x1024x2048, .f32⟩
  | .hbm, ⟨7, _⟩ => ⟨S1x8x2x128x128, .f32⟩
  | .hbm, ⟨8, _⟩ => ⟨S1024x2048, .f32⟩
  | .hbm, ⟨9, _⟩ => ⟨S1024x8x2x128, .f32⟩
  | .hbm, ⟨10, _⟩ => ⟨S8x2x128x128, .f32⟩
  | .hbm, ⟨11, _⟩ => ⟨S8x2x128x1024, .f32⟩
  | .hbm, ⟨12, _⟩ => ⟨S2048x1024, .f32⟩
  | .hbm, ⟨13, _⟩ => ⟨S2048x1024, .bf16⟩
  | .hbm, ⟨14, _⟩ => ⟨S16x4096x512, .bf16⟩
  | .hbm, ⟨15, _⟩ => ⟨S16x256x16x512, .bf16⟩
  | .hbm, ⟨16, _⟩ => ⟨S16x256x16x512, .bf16⟩
  | .hbm, ⟨17, _⟩ => ⟨S16x4096x512, .bf16⟩
  | .hbm, ⟨18, _⟩ => ⟨S512x512, .f32⟩
  | .hbm, ⟨19, _⟩ => ⟨S512x512, .bf16⟩
  | .hbm, ⟨20, _⟩ => ⟨S1024x1024, .f32⟩
  | .hbm, ⟨21, _⟩ => ⟨S1024x1024, .bf16⟩
  | .hbm, ⟨22, _⟩ => ⟨S1024, .f32⟩
  | .hbm, ⟨23, _⟩ => ⟨S1x1024, .f32⟩
  | .hbm, ⟨24, _⟩ => ⟨S16x4096x1024, .f32⟩
  | .hbm, ⟨25, _⟩ => ⟨S1024x65536, .bf16⟩
  | .hbm, ⟨26, _⟩ => ⟨S2048x65536, .f32⟩
  | .local _ .vmem, ⟨0, _⟩ => ⟨S16x32x1024, .f32⟩
  | .local _ .vmem, ⟨1, _⟩ => ⟨S16x32x1024, .f32⟩
  | .local _ .vmem, ⟨2, _⟩ => ⟨S16x2x16x512, .bf16⟩
  | .local _ .vmem, ⟨3, _⟩ => ⟨S16x2x16x512, .bf16⟩
  | .local _ .vmem, ⟨4, _⟩ => ⟨S16x32x512, .bf16⟩
  | .local _ .vmem, ⟨5, _⟩ => ⟨S16x32x512, .bf16⟩
  | .local _ .vmem, ⟨6, _⟩ => ⟨S512x512, .bf16⟩
  | .local _ .vmem, ⟨7, _⟩ => ⟨S1024x1024, .bf16⟩
  | .local _ .vmem, ⟨8, _⟩ => ⟨S1x1024, .f32⟩
  | .local _ .vmem, ⟨9, _⟩ => ⟨S2048x1024, .bf16⟩
  | .local _ .vmem, ⟨10, _⟩ => ⟨S16x32x1024, .f32⟩
  | .local _ .vmem, ⟨11, _⟩ => ⟨S16x32x1024, .f32⟩
  | .local _ .vmem, ⟨12, _⟩ => ⟨S1024x512, .bf16⟩
  | .local _ .vmem, ⟨13, _⟩ => ⟨S1024x512, .bf16⟩
  | .local _ .vmem, ⟨14, _⟩ => ⟨S2048x512, .f32⟩
  | .local _ .vmem, ⟨15, _⟩ => ⟨S2048x512, .f32⟩
  | .local _ .vmem, ⟨16, _⟩ => ⟨S4x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16x4096x1024 : Shape := ⟨3, ![16, 4096, 1024]⟩
abbrev S16x4096x512 : Shape := ⟨3, ![16, 4096, 512]⟩
abbrev S1x512x512 : Shape := ⟨3, ![1, 512, 512]⟩
abbrev S1x1024x1024 : Shape := ⟨3, ![1, 1024, 1024]⟩
abbrev S1x1024 : Shape := ⟨2, ![1, 1024]⟩
abbrev S1x1024x2048 : Shape := ⟨3, ![1, 1024, 2048]⟩
abbrev S1x8x2x128x128 : Shape := ⟨5, ![1, 8, 2, 128, 128]⟩
abbrev S_ : Shape := ⟨0, ![]⟩
abbrev S512x512 : Shape := ⟨2, ![512, 512]⟩
abbrev S1024x1024 : Shape := ⟨2, ![1024, 1024]⟩
abbrev S16x4096 : Shape := ⟨2, ![16, 4096]⟩
abbrev S16x4096x1 : Shape := ⟨3, ![16, 4096, 1]⟩
abbrev S1024 : Shape := ⟨1, ![1024]⟩
abbrev S1x1x1024 : Shape := ⟨3, ![1, 1, 1024]⟩
abbrev S1024x2048 : Shape := ⟨2, ![1024, 2048]⟩
abbrev S16x4096x2048 : Shape := ⟨3, ![16, 4096, 2048]⟩
abbrev S16x4096x8x2x128 : Shape := ⟨5, ![16, 4096, 8, 2, 128]⟩
abbrev S8x2x128x128 : Shape := ⟨4, ![8, 2, 128, 128]⟩
abbrev S8x2x128x16x4096 : Shape := ⟨5, ![8, 2, 128, 16, 4096]⟩
abbrev S16x128x32x1024 : Shape := ⟨4, ![16, 128, 32, 1024]⟩
abbrev S1024x128x16x32 : Shape := ⟨4, ![1024, 128, 16, 32]⟩
abbrev S1024x65536 : Shape := ⟨2, ![1024, 65536]⟩
abbrev S16x128x32x2048 : Shape := ⟨4, ![16, 128, 32, 2048]⟩
abbrev S2048x128x16x32 : Shape := ⟨4, ![2048, 128, 16, 32]⟩
abbrev S2048x65536 : Shape := ⟨2, ![2048, 65536]⟩

abbrev nBuf : Space → Nat
  | .hbm => 64
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .f32⟩
  | .hbm, ⟨2, _⟩ => ⟨S16x4096x512, .f32⟩
  | .hbm, ⟨3, _⟩ => ⟨S1x512x512, .f32⟩
  | .hbm, ⟨4, _⟩ => ⟨S1x1024x1024, .f32⟩
  | .hbm, ⟨5, _⟩ => ⟨S1x1024, .f32⟩
  | .hbm, ⟨6, _⟩ => ⟨S1x1024x2048, .f32⟩
  | .hbm, ⟨7, _⟩ => ⟨S1x8x2x128x128, .f32⟩
  | .hbm, ⟨8, _⟩ => ⟨S_, .f32⟩
  | .hbm, ⟨9, _⟩ => ⟨S16x4096x512, .f32⟩
  | .hbm, ⟨10, _⟩ => ⟨S16x4096x512, .f32⟩
  | .hbm, ⟨11, _⟩ => ⟨S_, .f32⟩
  | .hbm, ⟨12, _⟩ => ⟨S16x4096x512, .f32⟩
  | .hbm, ⟨13, _⟩ => ⟨S16x4096x512, .f32⟩
  | .hbm, ⟨14, _⟩ => ⟨S16x4096x512, .f32⟩
  | .hbm, ⟨15, _⟩ => ⟨S_, .f32⟩
  | .hbm, ⟨16, _⟩ => ⟨S16x4096x512, .f32⟩
  | .hbm, ⟨17, _⟩ => ⟨S16x4096x512, .f32⟩
  | .hbm, ⟨18, _⟩ => ⟨S16x4096x512, .f32⟩
  | .hbm, ⟨19, _⟩ => ⟨S512x512, .f32⟩
  | .hbm, ⟨20, _⟩ => ⟨S16x4096x512, .f32⟩
  | .hbm, ⟨21, _⟩ => ⟨S16x4096x512, .f32⟩
  | .hbm, ⟨22, _⟩ => ⟨S16x4096x512, .f32⟩
  | .hbm, ⟨23, _⟩ => ⟨S_, .f32⟩
  | .hbm, ⟨24, _⟩ => ⟨S16x4096x512, .f32⟩
  | .hbm, ⟨25, _⟩ => ⟨S16x4096x512, .f32⟩
  | .hbm, ⟨26, _⟩ => ⟨S_, .f32⟩
  | .hbm, ⟨27, _⟩ => ⟨S16x4096x512, .f32⟩
  | .hbm, ⟨28, _⟩ => ⟨S16x4096x512, .f32⟩
  | .hbm, ⟨29, _⟩ => ⟨S16x4096x512, .f32⟩
  | .hbm, ⟨30, _⟩ => ⟨S16x4096x1024, .f32⟩
  | .hbm, ⟨31, _⟩ => ⟨S1024x1024, .f32⟩
  | .hbm, ⟨32, _⟩ => ⟨S16x4096x1024, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S_, .f32⟩
  | .hbm, ⟨42, _⟩ => ⟨S16x4096x1, .f32⟩
  | .hbm, ⟨43, _⟩ => ⟨S16x4096x1, .f32⟩
  | .hbm, ⟨44, _⟩ => ⟨S16x4096x1, .f32⟩
  | .hbm, ⟨45, _⟩ => ⟨S16x4096x1024, .f32⟩
  | .hbm, ⟨46, _⟩ => ⟨S16x4096x1024, .f32⟩
  | .hbm, ⟨47, _⟩ => ⟨S1024, .f32⟩
  | .hbm, ⟨48, _⟩ => ⟨S1x1x1024, .f32⟩
  | .hbm, ⟨49, _⟩ => ⟨S16x4096x1024, .f32⟩
  | .hbm, ⟨50, _⟩ => ⟨S16x4096x1024, .f32⟩
  | .hbm, ⟨51, _⟩ => ⟨S1024x2048, .f32⟩
  | .hbm, ⟨52, _⟩ => ⟨S16x4096x2048, .f32⟩
  | .hbm, ⟨53, _⟩ => ⟨S16x4096x8x2x128, .f32⟩
  | .hbm, ⟨54, _⟩ => ⟨S8x2x128x128, .f32⟩
  | .hbm, ⟨55, _⟩ => ⟨S8x2x128x16x4096, .f32⟩
  | .hbm, ⟨56, _⟩ => ⟨S16x4096x8x2x128, .f32⟩
  | .hbm, ⟨57, _⟩ => ⟨S16x128x32x1024, .f32⟩
  | .hbm, ⟨58, _⟩ => ⟨S1024x128x16x32, .f32⟩
  | .hbm, ⟨59, _⟩ => ⟨S1024x65536, .f32⟩
  | .hbm, ⟨60, _⟩ => ⟨S1024x65536, .bf16⟩
  | .hbm, ⟨61, _⟩ => ⟨S16x128x32x2048, .f32⟩
  | .hbm, ⟨62, _⟩ => ⟨S2048x128x16x32, .f32⟩
  | .hbm, ⟨63, _⟩ => ⟨S2048x65536, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel3.lean ====
abbrev S16x4096x1024 : Shape := ⟨3, ![16, 4096, 1024]⟩
abbrev S1x1024 : Shape := ⟨2, ![1, 1024]⟩
abbrev S1x1024x1024 : Shape := ⟨3, ![1, 1024, 1024]⟩
abbrev S1x4x128x128 : Shape := ⟨4, ![1, 4, 128, 128]⟩
abbrev S1024x1024 : Shape := ⟨2, ![1024, 1024]⟩
abbrev S1024x512 : Shape := ⟨2, ![1024, 512]⟩
abbrev S4x128x128 : Shape := ⟨3, ![4, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S1024x4x128 : Shape := ⟨3, ![1024, 4, 128]⟩
abbrev S4x128x1024 : Shape := ⟨3, ![4, 128, 1024]⟩
abbrev S1024x1536 : Shape := ⟨2, ![1024, 1536]⟩
abbrev S1024 : Shape := ⟨1, ![1024]⟩
abbrev S16x256x16x512 : Shape := ⟨4, ![16, 256, 16, 512]⟩
abbrev S4096x8192 : Shape := ⟨2, ![4096, 8192]⟩
abbrev S16x32x1024 : Shape := ⟨3, ![16, 32, 1024]⟩
abbrev S16x2x16x512 : Shape := ⟨4, ![16, 2, 16, 512]⟩
abbrev S32x8192 : Shape := ⟨2, ![32, 8192]⟩
abbrev S4x512x128 : Shape := ⟨3, ![4, 512, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S32x512 : Shape := ⟨2, ![32, 512]⟩
abbrev S512x128 : Shape := ⟨2, ![512, 128]⟩
abbrev S1x512x128 : Shape := ⟨3, ![1, 512, 128]⟩
abbrev S1x16x128 : Shape := ⟨3, ![1, 16, 128]⟩
abbrev S16x128 : Shape := ⟨2, ![16, 128]⟩
abbrev S16x512 : Shape := ⟨2, ![16, 512]⟩
abbrev S1x1x16x512 : Shape := ⟨4, ![1, 1, 16, 512]⟩

abbrev nBuf : Space → Nat
  | .hbm => 67
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x1024, .f32⟩
  | .hbm, ⟨3, _⟩ => ⟨S1x4x128x128, .f32⟩
  | .hbm, ⟨4, _⟩ => ⟨S1024x1024, .f32⟩
  | .hbm, ⟨5, _⟩ => ⟨S1024x512, .f32⟩
  | .hbm, ⟨6, _⟩ => ⟨S4x128x128, .f32⟩
  | .hbm, ⟨7, _⟩ => ⟨S128, .i32⟩
  | .hbm, ⟨8, _⟩ => ⟨S128x1, .i32⟩
  | .hbm, ⟨9, _⟩ => ⟨S1x128, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i1⟩
  | .hbm, ⟨24, _⟩ => ⟨S_, .i32⟩
  | .hbm, ⟨25, _⟩ => ⟨S128x128, .i32⟩
  | .hbm, ⟨26, _⟩ => ⟨S128x128, .i1⟩
  | .hbm, ⟨27, _⟩ => ⟨S_, .i32⟩
  | .hbm, ⟨28, _⟩ => ⟨S_, .i1⟩
  | .hbm, ⟨29, _⟩ => ⟨S128x128, .i1⟩
  | .hbm, ⟨30, _⟩ => ⟨S128x128, .i1⟩
  | .hbm, ⟨31, _⟩ => ⟨S128x128, .i1⟩
  | .hbm, ⟨32, _⟩ => ⟨S128x128, .i32⟩
  | .hbm, ⟨33, _⟩ => ⟨S128x128, .i32⟩
  | .hbm, ⟨34, _⟩ => ⟨S128x128, .i32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S4x128x128, .f32⟩
  | .hbm, ⟨41, _⟩ => ⟨S4x128x128, .f32⟩
  | .hbm, ⟨42, _⟩ => ⟨S_, .f32⟩
  | .hbm, ⟨43, _⟩ => ⟨S4x128x128, .f32⟩
  | .hbm, ⟨44, _⟩ => ⟨S4x128x128, .f32⟩
  | .hbm, ⟨45, _⟩ => ⟨S128x128, .f32⟩
  | .hbm, ⟨46, _⟩ => ⟨S4x128x128, .f32⟩
  | .hbm, ⟨47, _⟩ => ⟨S4x128x128, .f32⟩
  | .hbm, ⟨48, _⟩ => ⟨S_, .f32⟩
  | .hbm, ⟨49, _⟩ => ⟨S4x128x128, .f32⟩
  | .hbm, ⟨50, _⟩ => ⟨S4x128x128, .f32⟩
  | .hbm, ⟨51, _⟩ => ⟨S1024x4x128, .f32⟩
  | .hbm, ⟨52, _⟩ => ⟨S4x128x1024, .f32⟩
  | .hbm, ⟨53, _⟩ => ⟨S1024x4x128, .f32⟩
  | .hbm, ⟨54, _⟩ => ⟨S1024x512, .f32⟩
  | .hbm, ⟨55, _⟩ => ⟨S4x128x1024, .f32⟩
  | .hbm, ⟨56, _⟩ => ⟨S1024x4x128, .f32⟩
  | .hbm, ⟨57, _⟩ => ⟨S1024x512, .f32⟩
  | .hbm, ⟨58, _⟩ => ⟨S1024x1024, .f32⟩
  | .hbm, ⟨59, _⟩ => ⟨S1024x512, .f32⟩
  | .hbm, ⟨60, _⟩ => ⟨S1024x1536, .f32⟩
  | .hbm, ⟨61, _⟩ => ⟨S1024x1536, .bf16⟩
  | .hbm, ⟨62, _⟩ => ⟨S1024, .f32⟩
  | .hbm, ⟨63, _⟩ => ⟨S1x1024, .f32⟩
  | .hbm, ⟨64, _⟩ => ⟨S16x256x16x512, .bf16⟩
  | .hbm, ⟨65, _⟩ => ⟨S4096x8192, .bf16⟩
  | .hbm, ⟨66, _⟩ => ⟨S4096x8192, .bf16⟩
  | .local _ .vmem, ⟨0, _⟩ => ⟨S16x32x1024, .f32⟩
  | .local _ .vmem, ⟨1, _⟩ => ⟨S16x32x1024, .f32⟩
  | .local _ .vmem, ⟨2, _⟩ => ⟨S1x1024, .f32⟩
  | .local _ .vmem, ⟨3, _⟩ => ⟨S1024x1536, .bf16⟩
  | .local _ .vmem, ⟨4, _⟩ => ⟨S16x2x16x512, .bf16⟩
  | .local _ .vmem, ⟨5, _⟩ => ⟨S16x2x16x512, .bf16⟩
  | .local _ .vmem, ⟨6, _⟩ => ⟨S32x8192, .bf16⟩
  | .local _ .vmem, ⟨7, _⟩ => ⟨S32x8192, .bf16⟩
  | .local _ .vmem, ⟨8, _⟩ => ⟨S32x8192, .bf16⟩
  | .local _ .vmem, ⟨9, _⟩ => ⟨S32x8192, .bf16⟩
  | .local _ .vmem, ⟨10, _⟩ => ⟨S4x512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_0 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_1 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36_0 : Ref sig .tc := ⟨.hbm, 64, rfl⟩
abbrev main_v36_1 : Ref sig .tc := ⟨.hbm, 65, rfl⟩
abbrev main_v36_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x2x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S16x4096x1024 : Shape := ⟨3, ![16, 4096, 1024]⟩
abbrev S1x1024 : Shape := ⟨2, ![1, 1024]⟩
abbrev S1x1024x1024 : Shape := ⟨3, ![1, 1024, 1024]⟩
abbrev S1x4x128x128 : Shape := ⟨4, ![1, 4, 128, 128]⟩
abbrev S_ : Shape := ⟨0, ![]⟩
abbrev S16x4096 : Shape := ⟨2, ![16, 4096]⟩
abbrev S16x4096x1 : Shape := ⟨3, ![16, 4096, 1]⟩
abbrev S1024 : Shape := ⟨1, ![1024]⟩
abbrev S1x1x1024 : Shape := ⟨3, ![1, 1, 1024]⟩
abbrev S1024x1024 : Shape := ⟨2, ![1024, 1024]⟩
abbrev S16x4096x512 : Shape := ⟨3, ![16, 4096, 512]⟩
abbrev S16x4096x4x128 : Shape := ⟨4, ![16, 4096, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x128x128 : Shape := ⟨3, ![4, 128, 128]⟩
abbrev S4x128x16x4096 : Shape := ⟨4, ![4, 128, 16, 4096]⟩
abbrev S16x256x16x512 : Shape := ⟨4, ![16, 256, 16, 512]⟩
abbrev S4096x16x4x128 : Shape := ⟨4, ![4096, 16, 4, 128]⟩
abbrev S4096x8192 : Shape := ⟨2, ![4096, 8192]⟩

abbrev nBuf : Space → Nat
  | .hbm => 83
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024, .f32⟩
  | .hbm, ⟨2, _⟩ => ⟨S1x1024x1024, .f32⟩
  | .hbm, ⟨3, _⟩ => ⟨S1x4x128x128, .f32⟩
  | .hbm, ⟨4, _⟩ => ⟨S16x4096x1024, .f32⟩
  | .hbm, ⟨5, _⟩ => ⟨S_, .f32⟩
  | .hbm, ⟨6, _⟩ => ⟨S16x4096, .f32⟩
  | .hbm, ⟨7, _⟩ => ⟨S16x4096x1, .f32⟩
  | .hbm, ⟨8, _⟩ => ⟨S_, .f32⟩
  | .hbm, ⟨9, _⟩ => ⟨S16x4096x1, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S16x4096x1, .f32⟩
  | .hbm, ⟨15, _⟩ => ⟨S16x4096x1024, .f32⟩
  | .hbm, ⟨16, _⟩ => ⟨S16x4096x1024, .f32⟩
  | .hbm, ⟨17, _⟩ => ⟨S1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S1024x1024, .f32⟩
  | .hbm, ⟨22, _⟩ => ⟨S16x4096x1024, .f32⟩
  | .hbm, ⟨23, _⟩ => ⟨S16x4096x512, .f32⟩
  | .hbm, ⟨24, _⟩ => ⟨S16x4096x512, .f32⟩
  | .hbm, ⟨25, _⟩ => ⟨S16x4096x4x128, .f32⟩
  | .hbm, ⟨26, _⟩ => ⟨S128, .i32⟩
  | .hbm, ⟨27, _⟩ => ⟨S128x1, .i32⟩
  | .hbm, ⟨28, _⟩ => ⟨S1x128, .i32⟩
  | .hbm, ⟨29, _⟩ => ⟨S128x128, .i32⟩
  | .hbm, ⟨30, _⟩ => ⟨S128x128, .i32⟩
  | .hbm, ⟨31, _⟩ => ⟨S128x128, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S128x128, .i32⟩
  | .hbm, ⟨39, _⟩ => ⟨S128x128, .i32⟩
  | .hbm, ⟨40, _⟩ => ⟨S_, .i32⟩
  | .hbm, ⟨41, _⟩ => ⟨S128x128, .i32⟩
  | .hbm, ⟨42, _⟩ => ⟨S128x128, .i1⟩
  | .hbm, ⟨43, _⟩ => ⟨S_, .i32⟩
  | .hbm, ⟨44, _⟩ => ⟨S128x128, .i32⟩
  | .hbm, ⟨45, _⟩ => ⟨S128x128, .i1⟩
  | .hbm, ⟨46, _⟩ => ⟨S_, .i32⟩
  | .hbm, ⟨47, _⟩ => ⟨S_, .i1⟩
  | .hbm, ⟨48, _⟩ => ⟨S128x128, .i1⟩
  | .hbm, ⟨49, _⟩ => ⟨S128x128, .i1⟩
  | .hbm, ⟨50, _⟩ => ⟨S128x128, .i1⟩
  | .hbm, ⟨51, _⟩ => ⟨S128x128, .i32⟩
  | .hbm, ⟨52, _⟩ => ⟨S128x128, .i32⟩
  | .hbm, ⟨53, _⟩ => ⟨S128x128, .i32⟩
  | .hbm, ⟨54, _⟩ => ⟨S128x128, .f32⟩
  | .hbm, ⟨55, _⟩ => ⟨S_, .f32⟩
  | .hbm, ⟨56, _⟩ => ⟨S128x128, .f32⟩
  | .hbm, ⟨57, _⟩ => ⟨S128x128, .f32⟩
  | .hbm, ⟨58, _⟩ => ⟨S128x128, .f32⟩
  | .hbm, ⟨59, _⟩ => ⟨S16x4096x4x128, .f32⟩
  | .hbm, ⟨60, _⟩ => ⟨S_, .f32⟩
  | .hbm, ⟨61, _⟩ => ⟨S16x4096x4x128, .f32⟩
  | .hbm, ⟨62, _⟩ => ⟨S16x4096x4x128, .f32⟩
  | .hbm, ⟨63, _⟩ => ⟨S128x128, .f32⟩
  | .hbm, ⟨64, _⟩ => ⟨S16x4096x4x128, .f32⟩
  | .hbm, ⟨65, _⟩ => ⟨S_, .f32⟩
  | .hbm, ⟨66, _⟩ => ⟨S16x4096x4x128, .f32⟩
  | .hbm, ⟨67, _⟩ => ⟨S16x4096x4x128, .f32⟩
  | .hbm, ⟨68, _⟩ => ⟨S4x128x128, .f32⟩
  | .hbm, ⟨69, _⟩ => ⟨S4x128x16x4096, .f32⟩
  | .hbm, ⟨70, _⟩ => ⟨S16x4096x4x128, .f32⟩
  | .hbm, ⟨71, _⟩ => ⟨S4x128x128, .f32⟩
  | .hbm, ⟨72, _⟩ => ⟨S4x128x16x4096, .f32⟩
  | .hbm, ⟨73, _⟩ => ⟨S16x4096x4x128, .f32⟩
  | .hbm, ⟨74, _⟩ => ⟨S16x256x16x512, .f32⟩
  | .hbm, ⟨75, _⟩ => ⟨S16x256x16x512, .f32⟩
  | .hbm, ⟨76, _⟩ => ⟨S4096x16x4x128, .f32⟩
  | .hbm, ⟨77, _⟩ => ⟨S4096x8192, .f32⟩
  | .hbm, ⟨78, _⟩ => ⟨S4096x16x4x128, .f32⟩
  | .hbm, ⟨79, _⟩ => ⟨S4096x8192, .f32⟩
  | .hbm, ⟨80, _⟩ => ⟨S16x256x16x512, .bf16⟩
  | .hbm, ⟨81, _⟩ => ⟨S4096x8192, .bf16⟩
  | .hbm, ⟨82, _⟩ => ⟨S4096x8192, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_3 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_4 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]
-- ==== Kernel4.lean ====
abbrev S1x16384x1024 : Shape := ⟨3, ![1, 16384, 1024]⟩
abbrev S16384x1024 : Shape := ⟨2, ![16384, 1024]⟩
abbrev S2048x1024 : Shape := ⟨2, ![2048, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S16384x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S1x16384x1024 : Shape := ⟨3, ![1, 16384, 1024]⟩
abbrev S16384x1024 : Shape := ⟨2, ![16384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S16384x1024, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel5.lean ====
abbrev S1x16384x1024 : Shape := ⟨3, ![1, 16384, 1024]⟩
abbrev S16384x1024 : Shape := ⟨2, ![16384, 1024]⟩
abbrev S1024x16384 : Shape := ⟨2, ![1024, 16384]⟩
abbrev S2048x1024 : Shape := ⟨2, ![2048, 1024]⟩
abbrev S1024x2048 : Shape := ⟨2, ![1024, 2048]⟩

abbrev nBuf : Space → Nat
  | .hbm => 3
  | .vmem => 4
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S1024x16384, .bf16⟩
  | .local _ .vmem, ⟨0, _⟩ => ⟨S2048x1024, .f32⟩
  | .local _ .vmem, ⟨1, _⟩ => ⟨S2048x1024, .f32⟩
  | .local _ .vmem, ⟨2, _⟩ => ⟨S1024x2048, .bf16⟩
  | .local _ .vmem, ⟨3, _⟩ => ⟨S1024x2048, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference5Ideal.lean ====
abbrev S1x16384x1024 : Shape := ⟨3, ![1, 16384, 1024]⟩
abbrev S16384x1024 : Shape := ⟨2, ![16384, 1024]⟩
abbrev S1024x16384 : Shape := ⟨2, ![1024, 16384]⟩

abbrev nBuf : Space → Nat
  | .hbm => 4
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x1024, .f32⟩
  | .hbm, ⟨2, _⟩ => ⟨S1024x16384, .f32⟩
  | .hbm, ⟨3, _⟩ => ⟨S1024x16384, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel6.lean ====
abbrev S16x4096x512 : Shape := ⟨3, ![16, 4096, 512]⟩
abbrev S16x256x16x512 : Shape := ⟨4, ![16, 256, 16, 512]⟩
abbrev S32x4096x256 : Shape := ⟨3, ![32, 4096, 256]⟩
abbrev S16x32x16x128 : Shape := ⟨4, ![16, 32, 16, 128]⟩
abbrev S8x512x256 : Shape := ⟨3, ![8, 512, 256]⟩
abbrev S1x32x16x128 : Shape := ⟨4, ![1, 32, 16, 128]⟩
abbrev S32x16x128 : Shape := ⟨3, ![32, 16, 128]⟩
abbrev S512x128 : Shape := ⟨2, ![512, 128]⟩
abbrev S256x128 : Shape := ⟨2, ![256, 128]⟩
abbrev S256x256 : Shape := ⟨2, ![256, 256]⟩
abbrev S512x256 : Shape := ⟨2, ![512, 256]⟩
abbrev S1x512x256 : Shape := ⟨3, ![1, 512, 256]⟩

abbrev nBuf : Space → Nat
  | .hbm => 5
  | .vmem => 4
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .bf16⟩
  | .hbm, ⟨2, _⟩ => ⟨S16x256x16x512, .bf16⟩
  | .hbm, ⟨3, _⟩ => ⟨S16x256x16x512, .bf16⟩
  | .hbm, ⟨4, _⟩ => ⟨S32x4096x256, .bf16⟩
  | .local _ .vmem, ⟨0, _⟩ => ⟨S16x32x16x128, .bf16⟩
  | .local _ .vmem, ⟨1, _⟩ => ⟨S16x32x16x128, .bf16⟩
  | .local _ .vmem, ⟨2, _⟩ => ⟨S8x512x256, .bf16⟩
  | .local _ .vmem, ⟨3, _⟩ => ⟨S8x512x256, .bf16⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x32x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Kernel6Ideal.lean ====
variable {F : FTy → Type} [FloatOps F]
-- ==== Reference6Ideal.lean ====
abbrev S16x4096x512 : Shape := ⟨3, ![16, 4096, 512]⟩
abbrev S16x4096x32x16 : Shape := ⟨4, ![16, 4096, 32, 16]⟩
abbrev S16x256x16x32x16 : Shape := ⟨5, ![16, 256, 16, 32, 16]⟩
abbrev S32x256x16x16x16 : Shape := ⟨5, ![32, 256, 16, 16, 16]⟩
abbrev S32x4096x256 : Shape := ⟨3, ![32, 4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x32x16, .f32⟩
  | .hbm, ⟨2, _⟩ => ⟨S16x256x16x32x16, .f32⟩
  | .hbm, ⟨3, _⟩ => ⟨S32x256x16x16x16, .f32⟩
  | .hbm, ⟨4, _⟩ => ⟨S32x4096x256, .f32⟩
  | .hbm, ⟨5, _⟩ => ⟨S32x4096x256, .bf16⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Kernel7.lean ====
abbrev S16x4096x32x16 : Shape := ⟨4, ![16, 4096, 32, 16]⟩
abbrev S16x256x16x32x16 : Shape := ⟨5, ![16, 256, 16, 32, 16]⟩
abbrev S32x256x16x16x16 : Shape := ⟨5, ![32, 256, 16, 16, 16]⟩
abbrev S32x4096x256 : Shape := ⟨3, ![32, 4096, 256]⟩
abbrev S16x256x16x512 : Shape := ⟨4, ![16, 256, 16, 512]⟩
abbrev S8x512x256 : Shape := ⟨3, ![8, 512, 256]⟩
abbrev S16x32x16x128 : Shape := ⟨4, ![16, 32, 16, 128]⟩
abbrev S1x512x256 : Shape := ⟨3, ![1, 512, 256]⟩
abbrev S512x256 : Shape := ⟨2, ![512, 256]⟩
abbrev S256x256 : Shape := ⟨2, ![256, 256]⟩
abbrev S256x128 : Shape := ⟨2, ![256, 128]⟩
abbrev S512x128 : Shape := ⟨2, ![512, 128]⟩
abbrev S32x16x128 : Shape := ⟨3, ![32, 16, 128]⟩
abbrev S1x32x16x128 : Shape := ⟨4, ![1, 32, 16, 128]⟩

abbrev nBuf : Space → Nat
  | .hbm => 6
  | .vmem => 4
  | .smem => 0
  | _ => 0

abbrev bufTy : (tb : Table) → Fin (tcTables nBuf tb) → BufTy
  | .hbm, ⟨0, _⟩ => ⟨S16x4096x32x16, .f32⟩
  | .hbm, ⟨1, _⟩ => ⟨S16x4096x32x16, .bf16⟩
  | .hbm, ⟨2, _⟩ => ⟨S16x256x16x32x16, .bf16⟩
  | .hbm, ⟨3, _⟩ => ⟨S32x256x16x16x16, .bf16⟩
  | .hbm, ⟨4, _⟩ => ⟨S32x4096x256, .bf16⟩
  | .hbm, ⟨5, _⟩ => ⟨S16x256x16x512, .bf16⟩
  | .local _ .vmem, ⟨0, _⟩ => ⟨S8x512x256, .bf16⟩
  | .local _ .vmem, ⟨1, _⟩ => ⟨S8x512x256, .bf16⟩
  | .local _ .vmem, ⟨2, _⟩ => ⟨S16x32x16x128, .bf16⟩
  | .local _ .vmem, ⟨3, _⟩ => ⟨S16x32x16x128, .bf16⟩
  | _, _ => ⟨S16x4096x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x32x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Kernel7Ideal.lean ====
variable {F : FTy → Type} [FloatOps F]
-- ==== Reference7Ideal.lean ====
abbrev S16x4096x32x16 : Shape := ⟨4, ![16, 4096, 32, 16]⟩
abbrev S16x4096x512 : Shape := ⟨3, ![16, 4096, 512]⟩
abbrev S16x256x16x512 : Shape := ⟨4, ![16, 256, 16, 512]⟩

abbrev nBuf : Space → Nat
  | .hbm => 5
  | .vmem => 0
  | .smem => 0
  | _ => 0

abbrev bufTy : (tb : Table) → Fin (tcTables nBuf tb) → BufTy
  | .hbm, ⟨0, _⟩ => ⟨S16x4096x32x16, .f32⟩
  | .hbm, ⟨1, _⟩ => ⟨S16x4096x512, .f32⟩
  | .hbm, ⟨2, _⟩ => ⟨S16x256x16x512, .f32⟩
  | .hbm, ⟨3, _⟩ => ⟨S16x256x16x512, .f32⟩
  | .hbm, ⟨4, _⟩ => ⟨S16x256x16x512, .bf16⟩
  | _, _ => ⟨S16x4096x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Proof.IdealBody.lean ====
/- The kernel body's run at one grid point, with what each scratch holds after its loop named.

   The body fills three scratch buffers (the products of the input block with the input weights, and
   the states at the head of every 16-step block for the two directions) and then writes its output
   block.  Each loop writes its whole scratch, so what the scratch held before the body does not
   matter: the contents are replaced by their canonical reading before the output's pieces are named. -/
module

public import proofs.«01_k».proof.Proof.Gen.KernelIdeal.Frame.Runs

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole buffer that a list of stores covers holds what the stores read back to, whatever it held. -/
theorem held_of_cover {s : Shape} {e : EltTy} {arg : Memref sig .tc .vmem s e} (h : arg.IsWhole)
    (f : arg.view.ty.Contents (Elt F)) (L : List (View.Piece (Elt F) s e)) (hc : ∀ y, ∃ p ∈ L, y ∈ p.1.set) :
    arg.view.writes (Elt F) f L = h.unread (View.canon L) :=
  h.eq_unread (View.read_writes_eq_canon _ f L hc)

section
variable (c : Dev nD) (i : grid0.Coords)
  (arg1 : Memref sig .tc .vmem S1x4096x256 .bf16) (harg1 : arg1.IsWhole)
  (arg2 : Memref sig .tc .vmem S1x256x256 .bf16) (harg2 : arg2.IsWhole)
  (arg3 : Memref sig .tc .vmem S1x256x256 .bf16) (harg3 : arg3.IsWhole)
  (arg4 : Memref sig .tc .vmem S1x256x256 .bf16) (harg4 : arg4.IsWhole)
  (arg5 : Memref sig .tc .vmem S1x256x256 .bf16) (harg5 : arg5.IsWhole)
  (arg6 : Memref sig .tc .vmem S1x2x128 .f32) (harg6 : arg6.IsWhole)
  (arg7 : Memref sig .tc .vmem S1x4096x256 .bf16) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S4096x256 .f32) (harg10 : arg10.IsWhole)

/-- The stores of the first loop, which fill the products' scratch. -/
abbrev sums (X1 : BufTy.Contents (Elt F) arg1.view.ty) (X2 : BufTy.Contents (Elt F) arg2.view.ty) :
    List (View.Piece (Elt F) S4096x256 .f32) :=
  pb_k0_t1 Variants.none c none i arg1 harg1 arg2 harg2 arg3 harg3 arg4 harg4 arg5 harg5 arg6 harg6 arg7 harg7 arg8 harg8 arg9 harg9 arg10 harg10 X1 X2
    (Scf.trips k0_t1_loop.lb k0_t1_loop.ub k0_t1_loop.st)

theorem sums_cover (X1 : BufTy.Contents (Elt F) arg1.view.ty) (X2 : BufTy.Contents (Elt F) arg2.view.ty)
    (y : S4096x256.Idx) : ∃ p ∈ sums c i arg1 harg1 arg2 harg2 arg3 harg3 arg4 harg4 arg5 harg5 arg6 harg6 arg7 harg7 arg8 harg8 arg9 harg9 arg10 harg10 X1 X2, y ∈ p.1.set :=
  View.cover_of_tiledL (sums c i arg1 harg1 arg2 harg2 arg3 harg3 arg4 harg4 arg5 harg5 arg6 harg6 arg7 harg7 arg8 harg8 arg9 harg9 arg10 harg10 X1 X2) S512x256.size (by sl_kernel_rfl) y

/-- After the first loop the products' scratch holds what the loop's stores read back to. -/
theorem sums_held (f : BufTy.Contents (Elt F) arg8.view.ty) (X1 : BufTy.Contents (Elt F) arg1.view.ty)
    (X2 : BufTy.Contents (Elt F) arg2.view.ty) :
    arg8.view.writes (Elt F) f (pb_k0_t1 Variants.none c none i arg1 harg1 arg2 harg2 arg3 harg3 arg4 harg4 arg5 harg5 arg6 harg6 arg7 harg7 arg8 harg8 arg9 harg9 arg10 harg10 X1 X2
      (Scf.trips k0_t1_loop.lb k0_t1_loop.ub k0_t1_loop.st))
      = harg8.unread (View.canon (sums c i arg1 harg1 arg2 harg2 arg3 harg3 arg4 harg4 arg5 harg5 arg6 harg6 arg7 harg7 arg8 harg8 arg9 harg9 arg10 harg10 X1 X2)) :=
  held_of_cover harg8 f _ (sums_cover c i arg1 harg1 arg2 harg2 arg3 harg3 arg4 harg4 arg5 harg5 arg6 harg6 arg7 harg7 arg8 harg8 arg9 harg9 arg10 harg10 X1 X2)

/-- The second loop: the carried state and the stores into the two state scratches. -/
abbrev walk (v1 v3 : Vec F S1x1x128 .f32) (X8 : BufTy.Contents (Elt F) arg8.view.ty)
    (init : FVec F S16x128 .f32 × FVec F S16x128 .f32) :=
  st_k0_t2 Variants.none c none i arg1 harg1 arg2 harg2 arg3 harg3 arg4 harg4 arg5 harg5 arg6 harg6 arg7 harg7 arg8 harg8 arg9 harg9 arg10 harg10 v1 v3 X8 init
    (Scf.trips k0_t2_loop.lb k0_t2_loop.ub k0_t2_loop.st)

theorem fwd_cover (v1 v3 : Vec F S1x1x128 .f32) (X8 : BufTy.Contents (Elt F) arg8.view.ty)
    (init : FVec F S16x128 .f32 × FVec F S16x128 .f32) (y : S4096x256.Idx) :
    ∃ p ∈ (walk c i arg1 harg1 arg2 harg2 arg3 harg3 arg4 harg4 arg5 harg5 arg6 harg6 arg7 harg7 arg8 harg8 arg9 harg9 arg10 harg10 v1 v3 X8 init).2.1, y ∈ p.1.set :=
  View.cover_of_tiledL (walk c i arg1 harg1 arg2 harg2 arg3 harg3 arg4 harg4 arg5 harg5 arg6 harg6 arg7 harg7 arg8 harg8 arg9 harg9 arg10 harg10 v1 v3 X8 init).2.1 S16x128.size (by sl_kernel_rfl) y

theorem bwd_cover (v1 v3 : Vec F S1x1x128 .f32) (X8 : BufTy.Contents (Elt F) arg8.view.ty)
    (init : FVec F S16x128 .f32 × FVec F S16x128 .f32) (y : S4096x256.Idx) :
    ∃ p ∈ (walk c i arg1 harg1 arg2 harg2 arg3 harg3 arg4 harg4 arg5 harg5 arg6 harg6 arg7 harg7 arg8 harg8 arg9 harg9 arg10 harg10 v1 v3 X8 init).2.2, y ∈ p.1.set :=
  View.cover_of_tiledL (walk c i arg1 harg1 arg2 harg2 arg3 harg3 arg4 harg4 arg5 harg5 arg6 harg6 arg7 harg7 arg8 harg8 arg9 harg9 arg10 harg10 v1 v3 X8 init).2.2 S16x128.size (by sl_kernel_rfl) y

theorem fwd_held (f : BufTy.Contents (Elt F) arg9.view.ty) (v1 v3 : Vec F S1x1x128 .f32)
    (X8 : BufTy.Contents (Elt F) arg8.view.ty) (init : FVec F S16x128 .f32 × FVec F S16x128 .f32) :
    arg9.view.writes (Elt F) f (st_k0_t2 Variants.none c none i arg1 harg1 arg2 harg2 arg3 harg3 arg4 harg4 arg5 harg5 arg6 harg6 arg7 harg7 arg8 harg8 arg9 harg9 arg10 harg10 v1 v3 X8 init
      (Scf.trips k0_t2_loop.lb k0_t2_loop.ub k0_t2_loop.st)).2.1
      = harg9.unread (View.canon (walk c i arg1 harg1 arg2 harg2 arg3 harg3 arg4 harg4 arg5 harg5 arg6 harg6 arg7 harg7 arg8 harg8 arg9 harg9 arg10 harg10 v1 v3 X8 init).2.1) :=
  held_of_cover harg9 f _ (fwd_cover c i arg1 harg1 arg2 harg2 arg3 harg3 arg4 harg4 arg5 harg5 arg6 harg6 arg7 harg7 arg8 harg8 arg9 harg9 arg10 harg10 v1 v3 X8 init)

theorem bwd_held (f : BufTy.Contents (Elt F) arg10.view.ty) (v1 v3 : Vec F S1x1x128 .f32)
    (X8 : BufTy.Contents (Elt F) arg8.view.ty) (init : FVec F S16x128 .f32 × FVec F S16x128 .f32) :
    arg10.view.writes (Elt F) f (st_k0_t2 Variants.none c none i arg1 harg1 arg2 harg2 arg3 harg3 arg4 harg4 arg5 harg5 arg6 harg6 arg7 harg7 arg8 harg8 arg9 harg9 arg10 harg10 v1 v3 X8 init
      (Scf.trips k0_t2_loop.lb k0_t2_loop.ub k0_t2_loop.st)).2.2
      = harg10.unread (View.canon (walk c i arg1 harg1 arg2 harg2 arg3 harg3 arg4 harg4 arg5 harg5 arg6 harg6 arg7 harg7 arg8 harg8 arg9 harg9 arg10 harg10 v1 v3 X8 init).2.2) :=
  held_of_cover harg10 f _ (bwd_cover c i arg1 harg1 arg2 harg2 arg3 harg3 arg4 harg4 arg5 harg5 arg6 harg6 arg7 harg7 arg8 harg8 arg9 harg9 arg10 harg10 v1 v3 X8 init)

end

set_option maxHeartbeats 1000000 in
/-- The body's run: the stores its third loop leaves in the output block, with the proof that from
    the inputs at their contents, and the output and scratch buffers at anything, the body returns
    the inputs as they were and the output with those stores written. -/
noncomputable def run (c : Dev nD) (i : grid0.Coords)
  (arg1 : Memref sig .tc .vmem S1x4096x256 .bf16) (harg1 : arg1.IsWhole)
  (arg2 : Memref sig .tc .vmem S1x256x256 .bf16) (harg2 : arg2.IsWhole)
  (arg3 : Memref sig .tc .vmem S1x256x256 .bf16) (harg3 : arg3.IsWhole)
  (arg4 : Memref sig .tc .vmem S1x256x256 .bf16) (harg4 : arg4.IsWhole)
  (arg5 : Memref sig .tc .vmem S1x256x256 .bf16) (harg5 : arg5.IsWhole)
  (arg6 : Memref sig .tc .vmem S1x2x128 .f32) (harg6 : arg6.IsWhole)
  (arg7 : Memref sig .tc .vmem S1x4096x256 .bf16) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S4096x256 .f32) (harg10 : arg10.IsWhole)
  (x0 : Vec F S1x4096x256 .bf16)
  (x1 : Vec F S1x256x256 .bf16)
  (x2 : Vec F S1x256x256 .bf16)
  (x3 : Vec F S1x256x256 .bf16)
  (x4 : Vec F S1x256x256 .bf16)
  (x5 : Vec F S1x2x128 .f32) :
    { L6 : List (View.Piece (Elt F) S1x4096x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_s5 i arg1 harg1 arg2 harg2 arg3 harg3 arg4 harg4 arg5 harg5 arg6 harg6 arg7 harg7 arg8 harg8 arg9 harg9 arg10 harg10) K } := by
  refine ⟨?_, fun E K => ?run⟩
  case run =>
    simp only [cc0_s5_eq_skeleton]; unfold cc0_s5_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec
    sl_step
    rw [sums_held, fwd_held, bwd_held]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.KernelIdeal.Body

end
-- ==== Proof.IdealRun.lean ====
/- The launch of the kernel: what the output block holds after each grid point, the pipeline's data, the
   body at every point, the whole run, and the frame (every argument array unchanged, every counter at zero). -/
module

public import proofs.«01_k».proof.Proof.IdealBody
public import Idealize.ShloMosaic.Lib.Claim
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The third loop's stores fill the output block: eight blocks of 512 rows. -/
theorem out_cover (c : Dev nD) (i : grid0.Coords)
  (arg1 : Memref sig .tc .vmem S1x4096x256 .bf16) (harg1 : arg1.IsWhole)
  (arg2 : Memref sig .tc .vmem S1x256x256 .bf16) (harg2 : arg2.IsWhole)
  (arg3 : Memref sig .tc .vmem S1x256x256 .bf16) (harg3 : arg3.IsWhole)
  (arg4 : Memref sig .tc .vmem S1x256x256 .bf16) (harg4 : arg4.IsWhole)
  (arg5 : Memref sig .tc .vmem S1x256x256 .bf16) (harg5 : arg5.IsWhole)
  (arg6 : Memref sig .tc .vmem S1x2x128 .f32) (harg6 : arg6.IsWhole)
  (arg7 : Memref sig .tc .vmem S1x4096x256 .bf16) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S4096x256 .f32) (harg10 : arg10.IsWhole)
  (x0 : Vec F S1x4096x256 .bf16)
  (x1 : Vec F S1x256x256 .bf16)
  (x2 : Vec F S1x256x256 .bf16)
  (x3 : Vec F S1x256x256 .bf16)
  (x4 : Vec F S1x256x256 .bf16)
  (x5 : Vec F S1x2x128 .f32) (y : S1x4096x256.Idx) :
    ∃ p ∈ (run c i arg1 harg1 arg2 harg2 arg3 harg3 arg4 harg4 arg5 harg5 arg6 harg6 arg7 harg7 arg8 harg8 arg9 harg9 arg10 harg10 x0 x1 x2 x3 x4 x5).1, y ∈ p.1.set :=
  View.cover_of_tiledL (run c i arg1 harg1 arg2 harg2 arg3 harg3 arg4 harg4 arg5 harg5 arg6 harg6 arg7 harg7 arg8 harg8 arg9 harg9 arg10 harg10 x0 x1 x2 x3 x4 x5).1 S1x512x256.size (by sl_kernel_rfl) y

/-- What the output block holds after the body at point `t`: the stores' reading. -/
def blockOut (c : Dev nD) (t : Fin cfg0.N) : Vec F S1x4096x256 .bf16 :=
  View.canon (run c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t)).1

/-! ## The pipeline's proof data -/

/-- The pipeline's data on core `c`: the arrays as the launch finds them, each input's block kept, the output's block at `blockOut`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (blockOut m c t)
  Φ _ := Pipeline.ΦA spec0 c
  q _ := fullShare
  owed _ := 0

/-- The data's arrays are the contents at the launch. -/
theorem A_eq (c : Dev nD) (w : Fin cfg0.W) : (dats m 0 c).A w = V m c (Pipeline.arrRef spec0 w) := by
  dsimp only [dats]

/-- What the body leaves in each window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (blockOut m c t) := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body starts from at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold blockOut
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
  iapply ((run c (grid0.coords t) _ _ _ _ _ _ _ _ _ _ _ _ _ _ _ _ _ _ _ _ (iblk m c 0 t) (iblk m c 1 t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  iintro ⟨H0, H1, H2, H3, H4, H5, ⟨%e6, H6⟩, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_eq_canon _ _ _ (out_cover c _ _ _ _ _ _ _ _ _ _ _ _ _ _ _ _ _ _ _ _ _ _ _ _ _ _ _)

/-- The table of bodies has this body at point `t`. -/
theorem defs₀_row (t : Fin cfg0.N) :
    defs₀ (F := F) .tc cfg0.body (cfg0.bodyArgs t (cfg0.slots t)) = bodyAt0 t := by
  unfold defs₀; rw [Defs.onTc_tc]

/-- So the pipeline's obligation holds. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every final state has the pipeline's arrays at the data's contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The frame: the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

/-! ## The output array, block by block -/

theorem flushed6 (c : Dev nD) (t : Fin cfg0.N) :
    (dats m 0 c).flushed 6 t = (cfg0.win 6).cut (grid0.coords t) (blockOut m c t) := by
  show (cfg0.win 6).cut (grid0.coords t) ((dats m 0 c).after 6 t) = _
  rw [after0_6]

/-- Distinct grid points write distinct blocks. -/
theorem index_inj : ∀ t t' : Fin cfg0.N, win0_6.index t = win0_6.index t' → t = t' :=
  (by decide +kernel : ∀ t t' : Fin grid0.N, win0_6.index t = win0_6.index t' → t = t')

/-- The final array's block of point `t` is what the body left there. -/
theorem block_read (c : Dev nD) (t : Fin cfg0.N) (hf : (cfg0.win 6).flush t = true) :
    ((cfg0.win 6).blk t).view.read (Elt F) ((dats m 0 c).arrAt 6 cfg0.N)
      = (cfg0.win 6).cut (grid0.coords t) (blockOut m c t) :=
  ((dats m 0 c).read_blk_arrAt_eq_flushed 6
    (fun t t' _ _ hne => (cfg0.win 6).disjoint_blk fun h => hne (index_inj t t' h)) cfg0.N t t.isLt hf).trans
    (flushed6 m c t)

/-- The run with the result array named. -/
theorem run_result : θ_run defs (onTc (τ := τ) (main (F := F))) ⟨m, fun _ => 0, ρ⟩ fun r => ∀ c : Dev nD,
      r.2.mem ((c : Thread nD τ).loc main_v372) = (dats m 0 c).arrAt 6 cfg0.N :=
  (θ_run defs _ _).mono (fun r h c => (h c).1 6) (run_main m ρ)

end Cert.KernelIdeal.Body

end
-- ==== Proof.RefRun.lean ====
/- The reference's run over its loop state: the buffers the loop carries, gathered from the contents before a trip into
   one state, go on by the generated step, and the result is the generated tail of the state after the last trip. -/
module

public import proofs.«01_k».proof.Proof.Gen.ReferenceIdeal.Run
public import proofs.«01_k».proof.Proof.Gen.ReferenceIdeal.Step

@[expose] public section

noncomputable section

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's state, as the contents hold it. -/
def held (V0 : Valuation τ sig (Elt F)) : State F where
  main_v62_5 := V0 (Proc.devRef .tc main_v62_5)
  main_v62_6 := V0 (Proc.devRef .tc main_v62_6)
  main_v62_7 := V0 (Proc.devRef .tc main_v62_7)
  main_v62_8 := V0 (Proc.devRef .tc main_v62_8)
  main_v62_0 := V0 (Proc.devRef .tc main_v62_0)
  main_v62_1 := V0 (Proc.devRef .tc main_v62_1)
  main_v62_2 := V0 (Proc.devRef .tc main_v62_2)
  main_v62_3 := V0 (Proc.devRef .tc main_v62_3)

set_option maxRecDepth 16384 in
theorem step_re (V0 : Valuation τ sig (Elt F)) (j : ℕ)
    (h : V0 (Proc.devRef .tc main_v62_4) = constantI S_ 32 (BitVec.ofNat 32 j)) :
    step_main_v62_5 V0 = Step.b17 j (held V0) := by
  unfold step_main_v62_5 res_main_while0b_v94
  rw [h]
  rfl

set_option maxRecDepth 16384 in
theorem step_im (V0 : Valuation τ sig (Elt F)) (j : ℕ)
    (h : V0 (Proc.devRef .tc main_v62_4) = constantI S_ 32 (BitVec.ofNat 32 j)) :
    step_main_v62_6 V0 = Step.b23 j (held V0) := by
  unfold step_main_v62_6 res_main_while0b_v100
  rw [h]
  rfl

set_option maxRecDepth 16384 in
theorem step_outRe (V0 : Valuation τ sig (Elt F)) (j : ℕ)
    (h : V0 (Proc.devRef .tc main_v62_4) = constantI S_ 32 (BitVec.ofNat 32 j)) :
    step_main_v62_7 V0 = Step.b29 j (held V0) := by
  unfold step_main_v62_7 Step.b29 Step.b24
  rw [← step_re V0 j h, h]
  rfl

set_option maxRecDepth 16384 in
theorem step_outIm (V0 : Valuation τ sig (Elt F)) (j : ℕ)
    (h : V0 (Proc.devRef .tc main_v62_4) = constantI S_ 32 (BitVec.ofNat 32 j)) :
    step_main_v62_8 V0 = Step.b35 j (held V0) := by
  unfold step_main_v62_8 Step.b35 Step.b30
  rw [← step_im V0 j h, h]
  rfl

/-- One trip of the loop is the step of the state it holds, and counts the trip. -/
theorem held_STEP (V0 : Valuation τ sig (Elt F)) (j : ℕ)
    (h : V0 (Proc.devRef .tc main_v62_4) = constantI S_ 32 (BitVec.ofNat 32 j)) :
    held (STEP V0) = step j (held V0)
      ∧ STEP V0 (Proc.devRef .tc main_v62_4) = constantI S_ 32 (BitVec.ofNat 32 (j + 1)) := by
  constructor
  · unfold held step
    rw [STEP_main_v62_5, STEP_main_v62_6, STEP_main_v62_7, STEP_main_v62_8, STEP_main_v62_0, STEP_main_v62_1,
      STEP_main_v62_2, STEP_main_v62_3, step_re V0 j h, step_im V0 j h, step_outRe V0 j h, step_outIm V0 j h]
    rfl
  · rw [STEP_main_v62_4]
    unfold step_main_v62_4
    rw [h]
    funext i
    show BitVec.ofNat 32 j + 1#32 = BitVec.ofNat 32 (j + 1)
    rw [BitVec.ofNat_add]

variable (m : (ℓ : Loc nD τ sig) → Buf (Elt F) ℓ) (c : Dev nD)

/-- The state the loop starts from, of the arguments in memory. -/
abbrev start : State F :=
  init (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))

set_option maxRecDepth 65536 in
set_option maxHeartbeats 1000000 in
theorem entry_fields :
    (entryContents preI m c (Proc.devRef .tc main_v62_5) = (start m c).main_v62_5
      ∧ entryContents preI m c (Proc.devRef .tc main_v62_6) = (start m c).main_v62_6
      ∧ entryContents preI m c (Proc.devRef .tc main_v62_7) = (start m c).main_v62_7
      ∧ entryContents preI m c (Proc.devRef .tc main_v62_8) = (start m c).main_v62_8)
    ∧ (entryContents preI m c (Proc.devRef .tc main_v62_0) = (start m c).main_v62_0
      ∧ entryContents preI m c (Proc.devRef .tc main_v62_1) = (start m c).main_v62_1
      ∧ entryContents preI m c (Proc.devRef .tc main_v62_2) = (start m c).main_v62_2
      ∧ entryContents preI m c (Proc.devRef .tc main_v62_3) = (start m c).main_v62_3)
    ∧ entryContents preI m c (Proc.devRef .tc main_v62_4) = constantI S_ 32 (BitVec.ofNat 32 0) := by
  refine ⟨⟨?_, ?_, ?_, ?_⟩, ⟨?_, ?_, ?_, ?_⟩, ?_⟩ <;>
    (simp only [entryContents, afterL_cons, afterL_nil]; after_reads_simp) <;> rfl

theorem held_entry : held (entryContents preI m c) = start m c := by
  obtain ⟨⟨h5, h6, h7, h8⟩, ⟨h0, h1, h2, h3⟩, -⟩ := entry_fields m c
  unfold held
  rw [h5, h6, h7, h8, h0, h1, h2, h3]

/-- Before trip `k` the loop holds the `k`-th state of any sequence that starts at `start` and goes on by `step`. -/
theorem held_iter (it : ℕ → State F) (h0 : it 0 = start m c) (hs : ∀ n, it (n + 1) = step n (it n)) (k : ℕ) :
    held (STEP^[k] (entryContents preI m c)) = it k
      ∧ (STEP^[k] (entryContents preI m c)) (Proc.devRef .tc main_v62_4) = constantI S_ 32 (BitVec.ofNat 32 k) := by
  induction k with
  | zero => exact ⟨(held_entry m c).trans h0.symm, (entry_fields m c).2.2⟩
  | succ k ih =>
    rw [Function.iterate_succ_apply']
    have := held_STEP _ k ih.2
    exact ⟨by rw [this.1, ih.1, hs], this.2⟩

theorem out_held (V0 : Valuation τ sig (Elt F)) (a0 a6 a7 a8)
    (h0 : V0 (Proc.devRef .tc main_arg0) = a0) (h6 : V0 (Proc.devRef .tc main_arg6) = a6)
    (h7 : V0 (Proc.devRef .tc main_arg7) = a7) (h8 : V0 (Proc.devRef .tc main_arg8) = a8) :
    out_main_v86 V0 = Step.R_main_v86 (held V0) a0 a6 a7 a8 := by
  unfold out_main_v86 Step.R_main_v86
  rw [h0, h6, h7, h8]
  rfl

/-- The reference ends with its result at the tail of the state after the last trip, and its arguments kept. -/
theorem run_state (ρ : Dev nD → PrngReg) (it : Dev nD → ℕ → State F)
    (h0 : ∀ c, it c 0 = start m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v86)
          = Step.R_main_v86 (it c 4096) (m ((c.tc : Thread nD τ).loc main_arg0)) (m ((c.tc : Thread nD τ).loc main_arg6))
              (m ((c.tc : Thread nD τ).loc main_arg7)) (m ((c.tc : Thread nD τ).loc main_arg8)) := by
  refine (θ_run defs _ _).mono (fun _ h c => ?_) (Value.run m ρ)
  rw [(h c).1, out_held _ _ _ _ _ (iter_main_arg0 m c 4096) (iter_main_arg6 m c 4096) (iter_main_arg7 m c 4096)
    (iter_main_arg8 m c 4096), (held_iter m c (it c) (h0 c) (hs c) 4096).1]

end Cert.RefRun

end
-- ==== Proof.Scan.lean ====
/- The mathematics of the S5 recurrence, over the complex numbers: a linear recurrence cut into chunks of sixteen
   steps, and the value of one output written once from the chunk's start and once step by step. No program occurs
   here. -/
module

public import Mathlib.Analysis.SpecialFunctions.Exp
public import Mathlib.Analysis.SpecialFunctions.Trigonometric.Basic
public import Mathlib.Tactic.Ring
public import Mathlib.Tactic.Linarith

@[expose] public section

noncomputable section

namespace Cert.Scan

open Finset

/-- The state of `h ← lam · h + v n` before step `n`, started at zero. -/
def st (lam : ℂ) (v : ℕ → ℂ) : ℕ → ℂ
  | 0 => 0
  | n + 1 => lam * st lam v n + v n

/-- `m` further steps from state `n`. -/
theorem st_add (lam : ℂ) (v : ℕ → ℂ) (n m : ℕ) :
    st lam v (n + m) = lam ^ m * st lam v n + ∑ t ∈ range m, lam ^ (m - 1 - t) * v (n + t) := by
  induction m with
  | zero => simp
  | succ m ih =>
    rw [← Nat.add_assoc, st, ih, sum_range_succ, mul_add, mul_sum]
    have : ∀ t ∈ range m, lam * (lam ^ (m - 1 - t) * v (n + t)) = lam ^ (m + 1 - 1 - t) * v (n + t) := by
      intro t ht
      have ht := mem_range.mp ht
      rw [← mul_assoc, ← pow_succ', show m - 1 - t + 1 = m + 1 - 1 - t by omega]
    rw [sum_congr rfl this, show m + 1 - 1 - m = 0 by omega]
    ring

/-- The state at the next chunk's start. -/
theorem st_chunk (lam : ℂ) (v : ℕ → ℂ) (k : ℕ) :
    st lam v (16 * (k + 1)) = lam ^ 16 * st lam v (16 * k)
      + ∑ t : Fin 16, lam ^ (15 - t.val) * v (16 * k + t.val) := by
  rw [show 16 * (k + 1) = 16 * k + 16 by ring, st_add,
    Finset.sum_range (fun t => lam ^ (16 - 1 - t) * v (16 * k + t))]

/-- The state `t + 1` steps into a chunk, the steps taken as a sum over the whole chunk with a triangular mask. -/
theorem st_within (lam : ℂ) (v : ℕ → ℂ) (n : ℕ) (t : ℕ) (ht : t < 16) :
    st lam v (n + t + 1) = lam ^ (t + 1) * st lam v n
      + ∑ s : Fin 16, (if s.val ≤ t then lam ^ (t - s.val) * v (n + s.val) else 0) := by
  rw [Nat.add_assoc, st_add,
    ← Finset.sum_range (fun s => if s ≤ t then lam ^ (t - s) * v (n + s) else 0), ← sum_filter]
  congr 1
  have : (range 16).filter (fun s => s ≤ t) = range (t + 1) := by
    ext s; simp only [mem_filter, mem_range]; omega
  rw [this]
  refine sum_congr rfl fun s hs => ?_
  rw [show t + 1 - 1 - s = t - s by omega]

/-- The input of one state coordinate at step `n`: the row of the input matrix against the step's channels. -/
def drive (bb : Fin 16 → ℂ) (x : ℕ → Fin 16 → ℝ) (n : ℕ) : ℂ := ∑ i, bb i * (x n i : ℂ)

/-- One direction's output at step `n + t`, from the state at `n` and the chunk's own inputs. -/
theorem dir_out (c lam : Fin 64 → ℂ) (bb : Fin 64 → Fin 16 → ℂ) (x : ℕ → Fin 16 → ℝ) (n t : ℕ) (ht : t < 16) :
    ∑ p, (c p * st (lam p) (drive (bb p) x) (n + t + 1)).re
      = (∑ s : Fin 16, ∑ i : Fin 16, x (n + s.val) i
          * (if s.val ≤ t then ∑ p, (c p * lam p ^ (t - s.val) * bb p i).re else 0))
        + ∑ p, (st (lam p) (drive (bb p) x) n * (c p * lam p ^ (t + 1))).re := by
  have key : ∀ p, (c p * st (lam p) (drive (bb p) x) (n + t + 1)).re
      = (st (lam p) (drive (bb p) x) n * (c p * lam p ^ (t + 1))).re
        + ∑ s : Fin 16, ∑ i : Fin 16, x (n + s.val) i
          * (if s.val ≤ t then (c p * lam p ^ (t - s.val) * bb p i).re else 0) := by
    intro p
    rw [st_within _ _ _ _ ht, mul_add, Complex.add_re, mul_sum, Complex.re_sum]
    congr 1
    · congr 1; ring
    refine sum_congr rfl fun s _ => ?_
    split
    · rw [drive, mul_sum, mul_sum, Complex.re_sum]
      refine sum_congr rfl fun i _ => ?_
      rw [← Complex.re_ofReal_mul]
      congr 1; ring
    · simp
  rw [sum_congr rfl fun p _ => key p, sum_add_distrib, add_comm]
  congr 1
  rw [sum_comm]
  refine sum_congr rfl fun s _ => ?_
  rw [sum_comm]
  refine sum_congr rfl fun i _ => ?_
  rw [← mul_sum]
  congr 1
  split <;> simp

/-- The sequence read from its end. -/
def rev (x : ℕ → Fin 16 → ℝ) (n : ℕ) : Fin 16 → ℝ := x (4095 - n)

/-- One element of the layer's S5 output: the triangular matrix against the chunk's inputs and the two carried
    states, against the two recurrences run step by step. -/
theorem out_eq (x : ℕ → Fin 16 → ℝ) (c0 c1 l0 l1 : Fin 64 → ℂ) (b0 b1 : Fin 64 → Fin 16 → ℂ) (d : ℝ) (o : Fin 16)
    (k t : ℕ) (hk : k < 256) (ht : t < 16) :
    (∑ s : Fin 16, ∑ i : Fin 16, x (16 * k + s.val) i
      * ((if s.val ≤ t then ∑ p, (c0 p * l0 p ^ (t - s.val) * b0 p i).re else 0)
        + (if t ≤ s.val then ∑ p, (c1 p * l1 p ^ (s.val - t) * b1 p i).re else 0)
        + (if s.val = t ∧ i = o then d else 0)))
      + ∑ p, (st (l0 p) (drive (b0 p) x) (16 * k) * (c0 p * l0 p ^ (t + 1))).re
      + ∑ p, (st (l1 p) (drive (b1 p) (rev x)) (16 * (255 - k)) * (c1 p * l1 p ^ (16 - t))).re
    = ∑ p, (c0 p * st (l0 p) (drive (b0 p) x) (16 * k + t + 1)).re
      + ∑ p, (c1 p * st (l1 p) (drive (b1 p) (rev x)) (4095 - (16 * k + t) + 1)).re
      + d * x (16 * k + t) o := by
  have e1 : 4095 - (16 * k + t) + 1 = 16 * (255 - k) + (15 - t) + 1 := by omega
  rw [e1, dir_out c0 l0 b0 x _ _ ht, dir_out c1 l1 b1 (rev x) _ _ (by omega : 15 - t < 16)]
  have e2 : 15 - t + 1 = 16 - t := by omega
  rw [e2]
  have hrev : (∑ s : Fin 16, ∑ i : Fin 16, rev x (16 * (255 - k) + s.val) i
      * (if s.val ≤ 15 - t then ∑ p, (c1 p * l1 p ^ (15 - t - s.val) * b1 p i).re else 0))
      = ∑ s : Fin 16, ∑ i : Fin 16, x (16 * k + s.val) i
      * (if t ≤ s.val then ∑ p, (c1 p * l1 p ^ (s.val - t) * b1 p i).re else 0) := by
    rw [← Equiv.sum_comp Fin.revPerm]
    refine sum_congr rfl fun s _ => sum_congr rfl fun i _ => ?_
    have hs : (Fin.revPerm s).val = 15 - s.val := by simp [Fin.val_rev]
    have hs' := s.isLt
    rw [hs, rev, show 4095 - (16 * (255 - k) + (15 - s.val)) = 16 * k + s.val by omega,
      show 15 - t - (15 - s.val) = s.val - t by omega]
    congr 1
    exact if_congr (by omega) rfl rfl
  have hd : (∑ s : Fin 16, ∑ i : Fin 16, x (16 * k + s.val) i * (if s.val = t ∧ i = o then d else 0))
      = d * x (16 * k + t) o := by
    rw [Finset.sum_eq_single (⟨t, ht⟩ : Fin 16), Finset.sum_eq_single o]
    · simp [mul_comm]
    · intro i _ hi; simp [hi]
    · simp
    · intro s _ hs
      have : s.val ≠ t := fun h => hs (Fin.ext h)
      simp [this]
    · simp
  rw [hrev, ← hd]
  simp only [mul_add, sum_add_distrib]
  ring

end Cert.Scan

end
-- ==== Proof.Model.lean ====
/- The layer's arrays as real numbers, and the S5 coefficients and result over them. An argument array of extended
   reals that is finite everywhere is the array of the real numbers here. -/
module

public import proofs.«01_k».proof.Proof.Scan
public import Idealize.ShloMosaic.Lib.Pointwise

@[expose] public section

noncomputable section

namespace Cert.Model

open Idealize.ShloMosaic

/-- The arguments, as reals; no eigenvalue is zero. -/
structure Par where
  are : Fin 2 → Fin 32 → Fin 64 → ℝ
  aim : Fin 2 → Fin 32 → Fin 64 → ℝ
  ls : Fin 2 → Fin 32 → ℝ
  bre : Fin 2 → Fin 32 → Fin 64 → Fin 16 → ℝ
  bim : Fin 2 → Fin 32 → Fin 64 → Fin 16 → ℝ
  cre : Fin 2 → Fin 32 → Fin 16 → Fin 64 → ℝ
  cim : Fin 2 → Fin 32 → Fin 16 → Fin 64 → ℝ
  dsk : Fin 32 → Fin 16 → ℝ
  u : Fin 16 → Fin 4096 → Fin 512 → ℝ
  nz : ∀ d g p, are d g p * are d g p + aim d g p * aim d g p ≠ 0

variable (P : Par)

/-- The exponent of one step, real part. -/
def zre (d : Fin 2) (g : Fin 32) (p : Fin 64) : ℝ := P.are d g p * Real.exp (P.ls d g)

/-- The exponent of one step, imaginary part. -/
def zim (d : Fin 2) (g : Fin 32) (p : Fin 64) : ℝ := P.aim d g p * Real.exp (P.ls d g)

/-- The factor of one step. -/
def lam (d : Fin 2) (g : Fin 32) (p : Fin 64) : ℂ := Complex.exp ⟨zre P d g p, zim P d g p⟩

/-- The scale of the input matrix. -/
def q (d : Fin 2) (g : Fin 32) (p : Fin 64) : ℂ := (lam P d g p - 1) / ⟨P.are d g p, P.aim d g p⟩

/-- The input matrix of one step. -/
def bb (d : Fin 2) (g : Fin 32) (p : Fin 64) (i : Fin 16) : ℂ := q P d g p * ⟨P.bre d g p i, P.bim d g p i⟩

/-- The output matrix. -/
def cc (d : Fin 2) (g : Fin 32) (o : Fin 16) (p : Fin 64) : ℂ := ⟨P.cre d g o p, P.cim d g o p⟩

/-- The sequence of one batch row and one group, zero past its end. -/
def xs (b : Fin 16) (g : Fin 32) (n : ℕ) (i : Fin 16) : ℝ :=
  if h : n < 4096 then P.u b ⟨n, h⟩ ⟨16 * g.val + i.val, by omega⟩ else 0

/-- The sequence in the direction's order of time. -/
def xd (d : Fin 2) (b : Fin 16) (g : Fin 32) : ℕ → Fin 16 → ℝ :=
  if d = 0 then xs P b g else Scan.rev (xs P b g)

/-- The state of one direction before its step `n`. -/
def hs (d : Fin 2) (b : Fin 16) (g : Fin 32) (p : Fin 64) (n : ℕ) : ℂ :=
  Scan.st (lam P d g p) (Scan.drive (bb P d g p) (xd P d b g)) n

/-- The result at one position of the sequence and one channel. -/
def y (b : Fin 16) (g : Fin 32) (n : ℕ) (o : Fin 16) : ℝ :=
  ∑ p, (cc P 0 g o p * hs P 0 b g p (n + 1)).re + ∑ p, (cc P 1 g o p * hs P 1 b g p (4095 - n + 1)).re
    + P.dsk g o * xs P b g n o

theorem lam_pow (d g p) (n : ℕ) :
    lam P d g p ^ n = Complex.exp ⟨zre P d g p * n, zim P d g p * n⟩ := by
  unfold lam
  rw [← Complex.exp_nat_mul]
  congr 1
  apply Complex.ext <;> simp [mul_comm]

theorem lam_pow_re (d g p) (n : ℕ) :
    (lam P d g p ^ n).re = Real.exp (zre P d g p * n) * Real.cos (zim P d g p * n) := by
  rw [lam_pow, Complex.exp_re]

theorem lam_pow_im (d g p) (n : ℕ) :
    (lam P d g p ^ n).im = Real.exp (zre P d g p * n) * Real.sin (zim P d g p * n) := by
  rw [lam_pow, Complex.exp_im]

theorem lam_re (d g p) : (lam P d g p).re = Real.exp (zre P d g p) * Real.cos (zim P d g p) := Complex.exp_re _

theorem lam_im (d g p) : (lam P d g p).im = Real.exp (zre P d g p) * Real.sin (zim P d g p) := Complex.exp_im _

theorem q_re (d g p) : (q P d g p).re
    = (((lam P d g p).re - 1) * P.are d g p + (lam P d g p).im * P.aim d g p)
      / (P.are d g p * P.are d g p + P.aim d g p * P.aim d g p) := by
  unfold q
  rw [Complex.div_re, Complex.normSq_mk, ← add_div]
  simp

theorem q_im (d g p) : (q P d g p).im
    = ((lam P d g p).im * P.are d g p - ((lam P d g p).re - 1) * P.aim d g p)
      / (P.are d g p * P.are d g p + P.aim d g p * P.aim d g p) := by
  unfold q
  rw [Complex.div_im, Complex.normSq_mk, ← sub_div]
  simp

theorem bb_re (d g p i) : (bb P d g p i).re
    = (q P d g p).re * P.bre d g p i - (q P d g p).im * P.bim d g p i := by
  unfold bb; rw [Complex.mul_re]

theorem bb_im (d g p i) : (bb P d g p i).im
    = (q P d g p).re * P.bim d g p i + (q P d g p).im * P.bre d g p i := by
  unfold bb; rw [Complex.mul_im]

/-! Real numbers among the extended ones. -/

theorem div_coe (x y : ℝ) (h : y ≠ 0) : Ideal.div (x : EReal) (y : EReal) = ((x / y : ℝ) : EReal) := by
  unfold Ideal.div
  rw [if_neg (by simpa using h), ← EReal.coe_inv, ← EReal.coe_mul, div_eq_mul_inv]

theorem sum_coe {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

theorem exp_coe (x : ℝ) : Ideal.exp (x : EReal) = ((Real.exp x : ℝ) : EReal) := rfl

theorem cos_coe (x : ℝ) : Ideal.cos (x : EReal) = ((Real.cos x : ℝ) : EReal) := rfl

theorem sin_coe (x : ℝ) : Ideal.sin (x : EReal) = ((Real.sin x : ℝ) : EReal) := rfl

end Cert.Model

end
-- ==== Proof.RefValue.lean ====
/- The value of the reference: its set-up values, its loop state and its result, entry by entry, over the real numbers
   of the model. -/
module

public import proofs.«01_k».proof.Proof.RefRun
public import proofs.«01_k».proof.Proof.Model

@[expose] public section

set_option maxRecDepth 16384

noncomputable section

namespace Cert.RefValue

open Idealize.ShloMosaic Cert.ReferenceIdeal Cert.ReferenceIdeal.Gen Cert.ReferenceIdeal.Step Cert.Model

/-- The argument arrays are the model's reals. -/
structure Reads (P : Par) (a0 : FVec Ideal S16x4096x512 .f32) (a1 a2 : FVec Ideal S1x2x32x64 .f32)
    (a3 : FVec Ideal S1x2x32 .f32) (a4 a5 : FVec Ideal S1x2x32x64x16 .f32) (a6 a7 : FVec Ideal S1x2x32x16x64 .f32)
    (a8 : FVec Ideal S1x32x16 .f32) : Prop where
  h0 : ∀ b n f, a0 (ix3 b n f) = (P.u b n f : EReal)
  h1 : ∀ d g p, a1 (ix4 0 d g p) = (P.are d g p : EReal)
  h2 : ∀ d g p, a2 (ix4 0 d g p) = (P.aim d g p : EReal)
  h3 : ∀ d g, a3 (ix3 0 d g) = (P.ls d g : EReal)
  h4 : ∀ d g p i, a4 (ix5 0 d g p i) = (P.bre d g p i : EReal)
  h5 : ∀ d g p i, a5 (ix5 0 d g p i) = (P.bim d g p i : EReal)
  h6 : ∀ d g o p, a6 (ix5 0 d g o p) = (P.cre d g o p : EReal)
  h7 : ∀ d g o p, a7 (ix5 0 d g o p) = (P.cim d g o p : EReal)
  h8 : ∀ g o, a8 (ix3 0 g o) = (P.dsk g o : EReal)

variable {P : Par} {a0 : FVec Ideal S16x4096x512 .f32} {a1 a2 : FVec Ideal S1x2x32x64 .f32}
    {a3 : FVec Ideal S1x2x32 .f32} {a4 a5 : FVec Ideal S1x2x32x64x16 .f32} {a6 a7 : FVec Ideal S1x2x32x16x64 .f32}
    {a8 : FVec Ideal S1x32x16 .f32}

theorem lamRe (H : Reads P a0 a1 a2 a3 a4 a5 a6 a7 a8) (d : Fin 2) (g : Fin 32) (p : Fin 64) :
    A_main_v15 (F := Ideal) a0 a1 a2 a3 a4 a5 (ix3 d g p) = ((lam P d g p).re : EReal) := by
  pointwise [A_main_v15, A_main_v11, A_main_v10, A_main_v9, A_main_v8, A_main_v7, A_main_v6, A_main_v0, A_main_v14,
    A_main_v13, A_main_v12, A_main_v1]
  simp only [H.h1, H.h2, H.h3, exp_coe, cos_coe, ← EReal.coe_mul, lam_re, zre, zim]

theorem lamIm (H : Reads P a0 a1 a2 a3 a4 a5 a6 a7 a8) (d : Fin 2) (g : Fin 32) (p : Fin 64) :
    A_main_v19 (F := Ideal) a0 a1 a2 a3 a4 a5 (ix3 d g p) = ((lam P d g p).im : EReal) := by
  pointwise [A_main_v19, A_main_v11, A_main_v10, A_main_v9, A_main_v8, A_main_v7, A_main_v6, A_main_v0, A_main_v18,
    A_main_v17, A_main_v16, A_main_v1]
  simp only [H.h1, H.h2, H.h3, exp_coe, sin_coe, ← EReal.coe_mul, lam_im, zre, zim]

theorem qRe (H : Reads P a0 a1 a2 a3 a4 a5 a6 a7 a8) (d : Fin 2) (g : Fin 32) (p : Fin 64) :
    A_main_v28 (F := Ideal) a0 a1 a2 a3 a4 a5 (ix3 d g p) = ((q P d g p).re : EReal) := by
  pointwise [A_main_v28, A_main_v27, A_main_v26, A_main_v25, A_main_v24, A_main_v22, A_main_v21, A_main_v20,
    A_main_v0, A_main_v1, K_main_v23, K_main_cst]
  simp only [lamRe H, lamIm H, H.h1, H.h2, ← EReal.coe_mul, ← EReal.coe_add, ← EReal.coe_sub, ← EReal.coe_one,
    div_coe _ _ (P.nz d g p), q_re]

theorem qIm (H : Reads P a0 a1 a2 a3 a4 a5 a6 a7 a8) (d : Fin 2) (g : Fin 32) (p : Fin 64) :
    A_main_v34 (F := Ideal) a0 a1 a2 a3 a4 a5 (ix3 d g p) = ((q P d g p).im : EReal) := by
  pointwise [A_main_v34, A_main_v33, A_main_v32, A_main_v31, A_main_v29, A_main_v22, A_main_v21, A_main_v20,
    A_main_v0, A_main_v1, K_main_v30, K_main_cst_0]
  simp only [lamRe H, lamIm H, H.h1, H.h2, ← EReal.coe_mul, ← EReal.coe_add, ← EReal.coe_sub, ← EReal.coe_one,
    div_coe _ _ (P.nz d g p), q_im]

theorem bbRe (H : Reads P a0 a1 a2 a3 a4 a5 a6 a7 a8) (d : Fin 2) (g : Fin 32) (p : Fin 64) (i : Fin 16) :
    A_main_v41 (F := Ideal) a0 a1 a2 a3 a4 a5 (ix4 d g p i) = ((bb P d g p i).re : EReal) := by
  pointwise [A_main_v41, A_main_v40, A_main_v39, A_main_v38, A_main_v37, A_main_v36, A_main_v35, A_main_v2, A_main_v3]
  simp only [qRe H, qIm H, H.h4, H.h5, ← EReal.coe_mul, ← EReal.coe_sub, bb_re]

theorem bbIm (H : Reads P a0 a1 a2 a3 a4 a5 a6 a7 a8) (d : Fin 2) (g : Fin 32) (p : Fin 64) (i : Fin 16) :
    A_main_v48 (F := Ideal) a0 a1 a2 a3 a4 a5 (ix4 d g p i) = ((bb P d g p i).im : EReal) := by
  pointwise [A_main_v48, A_main_v47, A_main_v46, A_main_v45, A_main_v44, A_main_v43, A_main_v42, A_main_v2, A_main_v3]
  simp only [qRe H, qIm H, H.h4, H.h5, ← EReal.coe_mul, ← EReal.coe_add, bb_im]

theorem seq (H : Reads P a0 a1 a2 a3 a4 a5 a6 a7 a8) (d : Fin 2) (n : Fin 4096) (b : Fin 16) (g : Fin 32)
    (i : Fin 16) :
    A_main_v52 (F := Ideal) a0 a1 a2 a3 a4 a5 (ix5 d n b g i) = (xd P d b g n.val i : EReal) := by
  pointwise [A_main_v52, A_main_v51, A_main_v50, A_main_v49, A_main_v5, A_main_v4]
  fin_cases d
  · simp only [Fin.zero_eta, Fin.val_zero, Nat.lt_one_iff, ↓reduceIte, ↓reduceDIte]
    rw [H.h0, xd, if_pos rfl, xs, dif_pos n.isLt]
    simp only [mul_comm]
  · simp (config := { decide := true }) only [Fin.mk_one, ↓reduceIte, ↓reduceDIte]
    rw [H.h0, xd, if_neg (by decide), Scan.rev, xs, dif_pos (by omega)]
    simp only [mul_comm, Fin.rev]
    congr 2
    exact Fin.ext (by show 4096 - (n.val + 1) = 4095 - n.val; omega)

theorem buRe (H : Reads P a0 a1 a2 a3 a4 a5 a6 a7 a8) (n : Fin 4096) (d : Fin 2) (b : Fin 16) (g : Fin 32)
    (p : Fin 64) : A_main_v54 (F := Ideal) a0 a1 a2 a3 a4 a5 (ix5 n d b g p)
      = ((Scan.drive (bb P d g p) (xd P d b g) n.val).re : EReal) := by
  pointwise [A_main_v54, A_main_v53]
  simp only [seq H, bbRe H, ← EReal.coe_mul, sum_coe, Scan.drive, Complex.re_sum, Complex.mul_re, Complex.ofReal_re,
    Complex.ofReal_im, mul_zero, sub_zero]
  simp only [mul_comm]

theorem buIm (H : Reads P a0 a1 a2 a3 a4 a5 a6 a7 a8) (n : Fin 4096) (d : Fin 2) (b : Fin 16) (g : Fin 32)
    (p : Fin 64) : A_main_v56 (F := Ideal) a0 a1 a2 a3 a4 a5 (ix5 n d b g p)
      = ((Scan.drive (bb P d g p) (xd P d b g) n.val).im : EReal) := by
  pointwise [A_main_v56, A_main_v55]
  simp only [seq H, bbIm H, ← EReal.coe_mul, sum_coe, Scan.drive, Complex.im_sum, Complex.mul_im, Complex.ofReal_re,
    Complex.ofReal_im, mul_zero, zero_add]
  simp only [mul_comm]

/-- The loop's state before trip `n`: the scan's state, the rows already emitted, and the set-up values. -/
structure Inv (P : Par) (s : State Ideal) (n : ℕ) : Prop where
  re : ∀ d b g p, s.main_v62_5 (ix4 d b g p) = ((hs P d b g p n).re : EReal)
  im : ∀ d b g p, s.main_v62_6 (ix4 d b g p) = ((hs P d b g p n).im : EReal)
  ore : ∀ (k : Fin 4096) d b g p, k.val < n → s.main_v62_7 (ix5 k d b g p) = ((hs P d b g p (k.val + 1)).re : EReal)
  oim : ∀ (k : Fin 4096) d b g p, k.val < n → s.main_v62_8 (ix5 k d b g p) = ((hs P d b g p (k.val + 1)).im : EReal)
  dre : ∀ (k : Fin 4096) d b g p, s.main_v62_0 (ix5 k d b g p)
    = ((Scan.drive (bb P d g p) (xd P d b g) k.val).re : EReal)
  dim : ∀ (k : Fin 4096) d b g p, s.main_v62_1 (ix5 k d b g p)
    = ((Scan.drive (bb P d g p) (xd P d b g) k.val).im : EReal)
  lre : ∀ d g p, s.main_v62_2 (ix4 d 0 g p) = ((lam P d g p).re : EReal)
  lim : ∀ d g p, s.main_v62_3 (ix4 d 0 g p) = ((lam P d g p).im : EReal)

theorem inv_init (H : Reads P a0 a1 a2 a3 a4 a5 a6 a7 a8) : Inv P (init (F := Ideal) a0 a1 a2 a3 a4 a5) 0 where
  re d b g p := by
    simp only [init]
    pointwise [K_main_v59, K_main_cst_1]
    simp [hs, Scan.st]
  im d b g p := by
    simp only [init]
    pointwise [K_main_v59, K_main_cst_1]
    simp [hs, Scan.st]
  ore k d b g p h := absurd h (Nat.not_lt_zero _)
  oim k d b g p h := absurd h (Nat.not_lt_zero _)
  dre k d b g p := buRe H k d b g p
  dim k d b g p := buIm H k d b g p
  lre d g p := by
    simp only [init]
    pointwise [A_main_v57]
    exact lamRe H d g p
  lim d g p := by
    simp only [init]
    pointwise [A_main_v58]
    exact lamIm H d g p

theorem toInt_small {n : ℕ} (hn : n < 4096) : (BitVec.ofNat 32 n).toInt = (n : Int) := by
  rw [BitVec.toInt_eq_toNat_of_lt] <;> rw [BitVec.toNat_ofNat] <;> omega

theorem clamp_row {n : ℕ} (hn : n < 4096) (ht) (start : Fin 5 → Int) (h : start 0 = (n : Int)) :
    Host.clampedStart S4096x2x16x32x64 S1x2x16x32x64 ht start 0 = n :=
  Host.clampedStart_of_le ht start 0 n h (by show n + 1 ≤ 4096; omega)

theorem clamp_rest (ht) (start : Fin 5 → Int) (a : Fin 5) (ha : a ≠ 0) (h : start a = 0) :
    Host.clampedStart S4096x2x16x32x64 S1x2x16x32x64 ht start a = 0 :=
  Host.clampedStart_of_le ht start a 0 h (by
    fin_cases a
    · exact absurd rfl ha
    all_goals exact Nat.le_of_eq rfl)

theorem rowSlice (x : FVec Ideal S4096x2x16x32x64 .f32) {n : ℕ} (hn : n < 4096) (start : Fin 5 → Int)
    (hs : start = ![(n : Int), 0, 0, 0, 0]) (h) (d : Fin 2) (b : Fin 16) (g : Fin 32) (p : Fin 64) :
    Host.dynamicSlice S1x2x16x32x64 x start h (ix5 0 d b g p) = x (ix5 ⟨n, hn⟩ d b g p) := by
  subst hs
  have c0 := clamp_row hn h.1 ![(n : Int), 0, 0, 0, 0] rfl
  have c1 := clamp_rest h.1 ![(n : Int), 0, 0, 0, 0] 1 (by decide) rfl
  have c2 := clamp_rest h.1 ![(n : Int), 0, 0, 0, 0] 2 (by decide) rfl
  have c3 := clamp_rest h.1 ![(n : Int), 0, 0, 0, 0] 3 (by decide) rfl
  have c4 := clamp_rest h.1 ![(n : Int), 0, 0, 0, 0] 4 (by decide) rfl
  pointwise []
  simp only [c0, c1, c2, c3, c4, Nat.zero_add, Nat.add_zero, Fin.eta, Fin.val_zero]

theorem starts_eq {n : ℕ} (hn : n < 4096) (z1 z2 z3 z4 : (⟨S_, .i32⟩ : BufTy).Contents (Elt Ideal))
    (h1 : z1 = constantI S_ 32 0#32) (h2 : z2 = constantI S_ 32 0#32) (h3 : z3 = constantI S_ 32 0#32)
    (h4 : z4 = constantI S_ 32 0#32) :
    (fun k => (((![(constantI S_ 32 (BitVec.ofNat 32 n) : (⟨S_, .i32⟩ : BufTy).Contents (Elt Ideal)), z1, z2, z3, z4] :
      Fin 5 → (⟨S_, .i32⟩ : BufTy).Contents (Elt Ideal))) k (Shape.Idx.first h_S_)).toInt) = ![(n : Int), 0, 0, 0, 0] := by
  subst h1; subst h2; subst h3; subst h4
  funext k
  fin_cases k
  · exact toInt_small hn
  all_goals rfl

theorem rowUpdate (x : FVec Ideal S4096x2x16x32x64 .f32) (v : FVec Ideal S1x2x16x32x64 .f32) {n : ℕ} (hn : n < 4096)
    (start : Fin 5 → Int) (hs : start = ![(n : Int), 0, 0, 0, 0]) (h) (k : Fin 4096) (d : Fin 2) (b : Fin 16)
    (g : Fin 32) (p : Fin 64) :
    Host.dynamicUpdateSlice x v start h (ix5 k d b g p) = if k.val = n then v (ix5 0 d b g p) else x (ix5 k d b g p) := by
  subst hs
  have c0 := clamp_row hn h.1 ![(n : Int), 0, 0, 0, 0] rfl
  have c1 := clamp_rest h.1 ![(n : Int), 0, 0, 0, 0] 1 (by decide) rfl
  have c2 := clamp_rest h.1 ![(n : Int), 0, 0, 0, 0] 2 (by decide) rfl
  have c3 := clamp_rest h.1 ![(n : Int), 0, 0, 0, 0] 3 (by decide) rfl
  have c4 := clamp_rest h.1 ![(n : Int), 0, 0, 0, 0] 4 (by decide) rfl
  pointwise []
  simp only [c0, c1, c2, c3, c4, Nat.sub_zero, Fin.eta, Nat.zero_le, and_true]
  by_cases e : k.val = n
  · rw [dif_pos (by omega), if_pos e]
    congr 2
    exact Fin.ext (by simp [e])
  · rw [dif_neg (by omega), if_neg e]

theorem next_re {s : State Ideal} {n : ℕ} (hn : n < 4096) (I : Inv P s n) (d : Fin 2) (b : Fin 16) (g : Fin 32)
    (p : Fin 64) : b17 n s (ix4 d b g p) = ((hs P d b g p (n + 1)).re : EReal) := by
  have e : b5 n s (ix4 d b g p) = ((Scan.drive (bb P d g p) (xd P d b g) n).re : EReal) := by
    unfold b5
    rw [show shapeCast S2x16x32x64 (b4 n s) shapeCasts_S1x2x16x32x64_S2x16x32x64 (ix4 d b g p) = b4 n s (ix5 0 d b g p) by
      pointwise []]
    exact (rowSlice _ hn _ (starts_eq hn _ _ _ _ rfl rfl rfl rfl) _ d b g p).trans (I.dre ⟨n, hn⟩ d b g p)
  pointwise [b17, b16, b15, b14, b13, b12]
  rw [e, I.lre, I.lim, I.re, I.im, ← EReal.coe_mul, ← EReal.coe_mul, ← EReal.coe_sub, ← EReal.coe_add]
  simp only [hs, Scan.st, Complex.add_re, Complex.mul_re]

theorem next_im {s : State Ideal} {n : ℕ} (hn : n < 4096) (I : Inv P s n) (d : Fin 2) (b : Fin 16) (g : Fin 32)
    (p : Fin 64) : b23 n s (ix4 d b g p) = ((hs P d b g p (n + 1)).im : EReal) := by
  have e : b11 n s (ix4 d b g p) = ((Scan.drive (bb P d g p) (xd P d b g) n).im : EReal) := by
    unfold b11
    rw [show shapeCast S2x16x32x64 (b10 n s) shapeCasts_S1x2x16x32x64_S2x16x32x64 (ix4 d b g p) = b10 n s (ix5 0 d b g p) by
      pointwise []]
    exact (rowSlice _ hn _ (starts_eq hn _ _ _ _ rfl rfl rfl rfl) _ d b g p).trans (I.dim ⟨n, hn⟩ d b g p)
  pointwise [b23, b22, b21, b20, b19, b18]
  rw [e, I.lre, I.lim, I.re, I.im, ← EReal.coe_mul, ← EReal.coe_mul, ← EReal.coe_add, ← EReal.coe_add]
  simp only [hs, Scan.st, Complex.add_im, Complex.mul_im]

theorem inv_step {s : State Ideal} {n : ℕ} (hn : n < 4096) (I : Inv P s n) : Inv P (step n s) (n + 1) where
  re d b g p := next_re hn I d b g p
  im d b g p := next_im hn I d b g p
  ore k d b g p h := by
    show b29 n s (ix5 k d b g p) = _
    unfold b29
    rw [rowUpdate _ _ hn _ (starts_eq hn (b25 n s) (b26 n s) (b27 n s) (b28 n s) rfl rfl rfl rfl)]
    split
    · next e =>
      rw [show b24 n s (ix5 0 d b g p) = b17 n s (ix4 d b g p) by pointwise [b24], next_re hn I, e]
    · exact I.ore k d b g p (by omega)
  oim k d b g p h := by
    show b35 n s (ix5 k d b g p) = _
    unfold b35
    rw [rowUpdate _ _ hn _ (starts_eq hn (b31 n s) (b32 n s) (b33 n s) (b34 n s) rfl rfl rfl rfl)]
    split
    · next e =>
      rw [show b30 n s (ix5 0 d b g p) = b23 n s (ix4 d b g p) by pointwise [b30], next_im hn I, e]
    · exact I.oim k d b g p (by omega)
  dre := I.dre
  dim := I.dim
  lre := I.lre
  lim := I.lim

/-- The result at a position, spelt by the real and imaginary parts of the two directions' states. -/
theorem y_parts (b : Fin 16) (g : Fin 32) (o : Fin 16) (n n' j : ℕ) (i : Fin 4096) (u : Fin 512) (hn : n' = n)
    (hi : i.val = n) (hj : j = 4095 - n + 1) (hu : u.val = 16 * g.val + o.val) :
    ∑ p, (hs P 0 b g p (n + 1)).re * P.cre 0 g o p - ∑ p, (hs P 0 b g p (n + 1)).im * P.cim 0 g o p
      + (∑ p, (hs P 1 b g p j).re * P.cre 1 g o p - ∑ p, (hs P 1 b g p j).im * P.cim 1 g o p)
      + P.dsk g o * P.u b i u = y P b g n' o := by
  subst hn hi hj
  have hx : xs P b g i.val o = P.u b i u := by
    rw [xs, dif_pos i.isLt]
    exact congrArg _ (Fin.ext hu.symm)
  rw [y, hx, ← Finset.sum_sub_distrib, ← Finset.sum_sub_distrib]
  simp only [cc, Complex.mul_re, mul_comm]

theorem rev_val {n : ℕ} (hn : n < 4096) : 4096 - (n + 1) = 4095 - n := by omega

theorem block_pos (a b : ℕ) : 16 * a + b = a * 16 + b := by omega

/-- The reference's result at group `g`, chunk and batch row `r`, position and channel `l`, from a state that holds all
    the rows. -/
theorem tail (H : Reads P a0 a1 a2 a3 a4 a5 a6 a7 a8) {s : State Ideal} {N : ℕ} (hN : N = 4096) (I : Inv P s N)
    (g : Fin 32) (r : Fin 4096) (l : Fin 256) :
    R_main_v86 s a0 a6 a7 a8 (ix3 g r l)
      = (y P ⟨r.val % 16, by omega⟩ g (16 * (r.val / 16) + l.val / 16) ⟨l.val % 16, by omega⟩ : EReal) := by
  pointwise [R_main_v86]
  simp (config := { decide := true }) only [↓reduceIte]
  have hn : r.val / 16 * 16 + l.val / 16 < 4096 := by omega
  have ho : ∀ k d b g p, _ := fun k d b g p => I.ore k d b g p (hN ▸ k.isLt)
  have hi : ∀ k d b g p, _ := fun k d b g p => I.oim k d b g p (hN ▸ k.isLt)
  simp only [ho, hi, H.h0, H.h6, H.h7, H.h8, ← EReal.coe_mul,
    sum_coe, ← EReal.coe_add, ← EReal.coe_sub]
  have hj : (⟨r.val / 16 * 16 + l.val / 16, hn⟩ : Fin 4096).rev.val + 1 = 4095 - (r.val / 16 * 16 + l.val / 16) + 1 := by
    rw [Fin.val_rev]
    exact congrArg (· + 1) (rev_val hn)
  refine congrArg _ (y_parts _ g _ _ _ _ _ _ ?_ rfl hj ?_)
  · exact block_pos _ _
  · exact congrArg (· + _) (mul_comm _ _)

/-- The reference's result after its last trip. -/
theorem value (H : Reads P a0 a1 a2 a3 a4 a5 a6 a7 a8) {it : ℕ → State Ideal}
    (h0 : it 0 = init (F := Ideal) a0 a1 a2 a3 a4 a5) (hstep : ∀ n, it (n + 1) = step n (it n)) {N : ℕ}
    (hN : N = 4096) (g : Fin 32) (r : Fin 4096) (l : Fin 256) :
    R_main_v86 (it N) a0 a6 a7 a8 (ix3 g r l)
      = (y P ⟨r.val % 16, by omega⟩ g (16 * (r.val / 16) + l.val / 16) ⟨l.val % 16, by omega⟩ : EReal) := by
  have I : ∀ n, n ≤ 4096 → Inv P (it n) n := by
    intro n hn
    induction n with
    | zero => exact h0 ▸ inv_init H
    | succ n ih => exact hstep n ▸ inv_step (by omega) (ih (by omega))
  exact tail H hN (I N (le_of_eq hN)) g r l

end Cert.RefValue

end
-- ==== Proof.IdealLoops.lean ====
/- What the three loops of the kernel's body leave, index by index: the products' scratch is a matrix product,
   the carried state follows its recurrence, the two state scratches hold the state at the head of every
   block of 16 steps, and the output block is the sum of three matrix products. -/
module

public import proofs.«01_k».proof.Proof.IdealRun
public import Idealize.ShloMosaic.Lib.WholeRead
public import Idealize.ShloMosaic.Lib.Pointwise
public import Idealize.ShloMosaic.Lib.Pipeline.ValueKit.Tiles

@[expose] public section

set_option maxRecDepth 16384

noncomputable section

namespace Cert.KernelIdeal.Loops

open Cert.KernelIdeal Cert.KernelIdeal.Gen Cert.KernelIdeal.Body
open Idealize.ShloMosaic Idealize.ShloMosaic.TcCoe

/-- A load from a whole rank-two buffer, at the index it reads. -/
theorem read2 {R C : ℕ} {e : EltTy} {arg : Memref sig .tc .vmem (⟨2, ![R, C]⟩ : Shape) e} (h : arg.IsWhole)
    (X : (⟨2, ![R, C]⟩ : Shape).Idx → Elt Ideal e) (off size : Fin 2 → ℕ)
    (inb : ∀ a, off a + size a ≤ (⟨2, ![R, C]⟩ : Shape).size a)
    (x : (Rect.unit (s := (⟨2, ![R, C]⟩ : Shape)) off size inb).toLoadRect.shape.Idx) (r : Fin R) (l : Fin C)
    {o : Fin 2 → ℕ} (ho : off = o) (h0 : o 0 + (x (0 : Fin 2)).val = r.val)
    (h1 : o 1 + (x (1 : Fin 2)).val = l.val) :
    View.readAt (Elt Ideal) arg.view (Rect.unit (s := (⟨2, ![R, C]⟩ : Shape)) off size inb).toLoadRect (h.unread X) x
      = X (ix2 r l) := by
  subst ho
  refine (h.readAt_unread X _ x).trans (congrArg X ?_)
  funext a; apply Fin.ext
  fin_cases a
  · exact (congrArg (off 0 + ·) (Nat.one_mul _)).trans h0
  · exact (congrArg (off 1 + ·) (Nat.one_mul _)).trans h1

/-- A load from a whole rank-three buffer, at the index it reads. -/
theorem read3 {Q R C : ℕ} {e : EltTy} {arg : Memref sig .tc .vmem (⟨3, ![Q, R, C]⟩ : Shape) e} (h : arg.IsWhole)
    (X : (⟨3, ![Q, R, C]⟩ : Shape).Idx → Elt Ideal e) (off size : Fin 3 → ℕ)
    (inb : ∀ a, off a + size a ≤ (⟨3, ![Q, R, C]⟩ : Shape).size a)
    (x : (Rect.unit (s := (⟨3, ![Q, R, C]⟩ : Shape)) off size inb).toLoadRect.shape.Idx) (q : Fin Q) (r : Fin R)
    (l : Fin C) {o : Fin 3 → ℕ} (ho : off = o) (hq : o 0 + (x (0 : Fin 3)).val = q.val)
    (h0 : o 1 + (x (1 : Fin 3)).val = r.val) (h1 : o 2 + (x (2 : Fin 3)).val = l.val) :
    View.readAt (Elt Ideal) arg.view (Rect.unit (s := (⟨3, ![Q, R, C]⟩ : Shape)) off size inb).toLoadRect (h.unread X) x
      = X (ix3 q r l) := by
  subst ho
  refine (h.readAt_unread X _ x).trans (congrArg X ?_)
  funext a; apply Fin.ext
  fin_cases a
  · exact (congrArg (off 0 + ·) (Nat.one_mul _)).trans hq
  · exact (congrArg (off 1 + ·) (Nat.one_mul _)).trans h0
  · exact (congrArg (off 2 + ·) (Nat.one_mul _)).trans h1

theorem pay1_val (v15 : Vec Ideal S1x512x256 .bf16) (v17 : Vec Ideal S1x256x256 .bf16) (r : Fin 512) (l : Fin 256) :
    k0_pay1 (F := Ideal) v15 v17 (ix2 r l) = ∑ k : Fin 256, v15 (ix3 0 r k) * v17 (ix3 0 k l) := by
  pointwise [k0_pay1]

theorem pay12_val (v15 : Vec Ideal S1x512x256 .bf16) (v17 : Vec Ideal S1x256x256 .bf16) (v21 : Vec Ideal S512x256 .f32)
    (v23 : Vec Ideal S1x256x256 .bf16) (v28 : Vec Ideal S512x256 .f32) (v30 : Vec Ideal S1x256x256 .bf16)
    (r : Fin 512) (l : Fin 256) :
    k0_pay12 (F := Ideal) v15 v17 v21 v23 v28 v30 (ix3 0 r l)
      = ∑ k : Fin 256, v15 (ix3 0 r k) * v17 (ix3 0 k l) + ∑ k : Fin 256, v21 (ix2 r k) * v23 (ix3 0 k l)
        + ∑ k : Fin 256, v28 (ix2 r k) * v30 (ix3 0 k l) := by
  pointwise [k0_pay12]

/-- A lane mask's choice, read as a choice on the lane's number. -/
theorem lane_select (l : Fin 128) (a b : EReal) :
    Scalar.select (IntOp.cmpi CmpIPredicate.slt (BitVec.ofNat 32 l.val) 64#32) a b = if l.val < 64 then a else b := by
  have h : ∀ l : Fin 128, IntOp.cmpi CmpIPredicate.slt (BitVec.ofNat 32 l.val) 64#32
      = if l.val < 64 then 1#1 else 0#1 := by decide +kernel
  rw [h l]
  split <;> rfl

theorem pay10_val (v1 v3 : Vec Ideal S1x1x128 .f32) (hre him : FVec Ideal S16x128 .f32) (a b : Vec Ideal S16x128 .f32)
    (r : Fin 16) (l : Fin 128) :
    k0_pay10 (F := Ideal) v1 v3 hre him a b (ix2 r l)
      = v1 (ix3 0 0 l) * hre (ix2 r l) - v3 (ix3 0 0 l) * him (ix2 r l)
        + if l.val < 64 then a (ix2 r l) else b (ix2 r l) := by
  pointwise [k0_pay10, k0_pay2, k0_pay3, k0_pay4]
  rw [lane_select]

theorem pay11_val (v1 v3 : Vec Ideal S1x1x128 .f32) (hre him : FVec Ideal S16x128 .f32) (a b : Vec Ideal S16x128 .f32)
    (r : Fin 16) (l : Fin 128) :
    k0_pay11 (F := Ideal) v1 v3 hre him a b (ix2 r l)
      = v1 (ix3 0 0 l) * him (ix2 r l) + v3 (ix3 0 0 l) * hre (ix2 r l)
        + if l.val < 64 then a (ix2 r l) else b (ix2 r l) := by
  pointwise [k0_pay11, k0_pay2, k0_pay3, k0_pay4]
  rw [lane_select]

section
variable (c : Dev nD) (i : grid0.Coords)
  (arg1 : Memref sig .tc .vmem S1x4096x256 .bf16) (harg1 : arg1.IsWhole)
  (arg2 : Memref sig .tc .vmem S1x256x256 .bf16) (harg2 : arg2.IsWhole)
  (arg3 : Memref sig .tc .vmem S1x256x256 .bf16) (harg3 : arg3.IsWhole)
  (arg4 : Memref sig .tc .vmem S1x256x256 .bf16) (harg4 : arg4.IsWhole)
  (arg5 : Memref sig .tc .vmem S1x256x256 .bf16) (harg5 : arg5.IsWhole)
  (arg6 : Memref sig .tc .vmem S1x2x128 .f32) (harg6 : arg6.IsWhole)
  (arg7 : Memref sig .tc .vmem S1x4096x256 .bf16) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S4096x256 .f32) (harg10 : arg10.IsWhole)

/-- The products' scratch after the first loop. -/
theorem sums_val (x0 : Vec Ideal S1x4096x256 .bf16) (x1 : Vec Ideal S1x256x256 .bf16) (r : Fin 4096) (l : Fin 256) :
    View.canon (sums c i arg1 harg1 arg2 harg2 arg3 harg3 arg4 harg4 arg5 harg5 arg6 harg6 arg7 harg7 arg8 harg8 arg9 harg9 arg10 harg10 (harg1.unread x0) (harg2.unread x1)) (ix2 r l)
      = ∑ k : Fin 256, x0 (ix3 0 r k) * x1 (ix3 0 k l) := by
  refine View.canon_eq_of_allAt _ _ _ (sums_cover c i arg1 harg1 arg2 harg2 arg3 harg3 arg4 harg4 arg5 harg5 arg6 harg6 arg7 harg7 arg8 harg8 arg9 harg9 arg10 harg10 _ _ _) ?_
  suffices h : ∀ n, n ≤ k0_t1_loop.trips → View.AllAt (pb_k0_t1 (F := Ideal) Variants.none c none i arg1 harg1 arg2 harg2 arg3 harg3 arg4 harg4 arg5 harg5 arg6 harg6 arg7 harg7 arg8 harg8 arg9 harg9 arg10 harg10
      (harg1.unread x0) (harg2.unread x1) n) (ix2 r l) (∑ k : Fin 256, x0 (ix3 0 r k) * x1 (ix3 0 k l)) from h _ le_rfl
  intro n hn
  induction n with
  | zero => exact View.allAt_nil _ _
  | succ n ih =>
    rw [pb_k0_t1_succ Variants.none c none i arg1 harg1 arg2 harg2 arg3 harg3 arg4 harg4 arg5 harg5 arg6 harg6 arg7 harg7 arg8 harg8 arg9 harg9 arg10 harg10 _ _ ⟨n, hn⟩]
    unfold tripL_k0_t1 trip_k0_t1
    refine View.allAt_cons_unit _ _ _ _ _ ?_ (ih (by omega))
    intro x hx
    have e0 := hx 0
    have e1 := hx 1
    simp only [k0_off2_eq] at e0 e1
    obtain ⟨a, b, rfl⟩ : ∃ (a : Fin 512) (b : Fin 256), x = ix2 a b := ⟨x 0, x 1, by funext z; fin_cases z <;> rfl⟩
    refine (pay1_val _ _ a b).trans (Finset.sum_congr rfl fun k _ => ?_)
    have eb : b = l := Fin.ext (by have : l.val = 0 + b.val := e1; omega)
    have ea : r.val = 512 * n + a.val := e0
    exact congrArg₂ _ (read3 harg1 x0 _ _ _ _ 0 r k (k0_off1_eq _) (by rfl) (by exact ea.symm) (by exact Nat.zero_add _))
        (read3 harg2 x1 _ _ _ _ 0 k l rfl (by rfl) (by exact Nat.zero_add _) (by rw [eb]; exact Nat.zero_add _))

/-- The carried state before step `n` of the walk. -/
abbrev walked (v1 v3 : Vec Ideal S1x1x128 .f32) (X8 : Vec Ideal S4096x256 .f32)
    (init : FVec Ideal S16x128 .f32 × FVec Ideal S16x128 .f32) (n : ℕ) : FVec Ideal S16x128 .f32 × FVec Ideal S16x128 .f32 :=
  (st_k0_t2 (F := Ideal) Variants.none c none i arg1 harg1 arg2 harg2 arg3 harg3 arg4 harg4 arg5 harg5 arg6 harg6 arg7 harg7 arg8 harg8 arg9 harg9 arg10 harg10 v1 v3 (harg8.unread X8) init n).1

/-- The row of the products' scratch that lane `j` reads at step `n`: the forward lanes go up, the backward ones down. -/
def rowOf (n : ℕ) (hn : n < 256) (b : Fin 16) (j : Fin 128) : Fin 4096 :=
  if j.val < 64 then ⟨16 * n + b.val, by omega⟩ else ⟨4080 - 16 * n + b.val, by omega⟩

theorem walk_trips : k0_t2_loop.trips = 256 := by decide +kernel

theorem walk_re (v1 v3 : Vec Ideal S1x1x128 .f32) (X8 : Vec Ideal S4096x256 .f32)
    (init : FVec Ideal S16x128 .f32 × FVec Ideal S16x128 .f32) (n : ℕ) (hn : n < 256) (b : Fin 16) (j : Fin 128) :
    (walked c i arg1 harg1 arg2 harg2 arg3 harg3 arg4 harg4 arg5 harg5 arg6 harg6 arg7 harg7 arg8 harg8 arg9 harg9 arg10 harg10 v1 v3 X8 init (n + 1)).1 (ix2 b j)
      = v1 (ix3 0 0 j) * (walked c i arg1 harg1 arg2 harg2 arg3 harg3 arg4 harg4 arg5 harg5 arg6 harg6 arg7 harg7 arg8 harg8 arg9 harg9 arg10 harg10 v1 v3 X8 init n).1 (ix2 b j)
        - v3 (ix3 0 0 j) * (walked c i arg1 harg1 arg2 harg2 arg3 harg3 arg4 harg4 arg5 harg5 arg6 harg6 arg7 harg7 arg8 harg8 arg9 harg9 arg10 harg10 v1 v3 X8 init n).2 (ix2 b j)
        + X8 (ix2 (rowOf n hn b j) ⟨j.val, by omega⟩) := by
  have hk : n < k0_t2_loop.trips := by rw [walk_trips]; exact hn
  unfold walked
  rw [st_k0_t2_succ Variants.none c none i arg1 harg1 arg2 harg2 arg3 harg3 arg4 harg4 arg5 harg5 arg6 harg6 arg7 harg7 arg8 harg8 arg9 harg9 arg10 harg10 _ _ _ _ ⟨n, hk⟩]
  unfold tripR_k0_t2 trip_k0_t2
  dsimp only
  refine (pay10_val _ _ _ _ _ _ b j).trans (congrArg _ ?_)
  unfold rowOf
  split
  · exact read2 harg8 X8 _ _ _ _ _ _ (k0_off3_eq _) (by rfl) (by exact Nat.zero_add _)
  · exact read2 harg8 X8 _ _ _ _ _ _ (k0_off5_eq _) (by rfl) (by exact Nat.zero_add _)

theorem walk_im (v1 v3 : Vec Ideal S1x1x128 .f32) (X8 : Vec Ideal S4096x256 .f32)
    (init : FVec Ideal S16x128 .f32 × FVec Ideal S16x128 .f32) (n : ℕ) (hn : n < 256) (b : Fin 16) (j : Fin 128) :
    (walked c i arg1 harg1 arg2 harg2 arg3 harg3 arg4 harg4 arg5 harg5 arg6 harg6 arg7 harg7 arg8 harg8 arg9 harg9 arg10 harg10 v1 v3 X8 init (n + 1)).2 (ix2 b j)
      = v1 (ix3 0 0 j) * (walked c i arg1 harg1 arg2 harg2 arg3 harg3 arg4 harg4 arg5 harg5 arg6 harg6 arg7 harg7 arg8 harg8 arg9 harg9 arg10 harg10 v1 v3 X8 init n).2 (ix2 b j)
        + v3 (ix3 0 0 j) * (walked c i arg1 harg1 arg2 harg2 arg3 harg3 arg4 harg4 arg5 harg5 arg6 harg6 arg7 harg7 arg8 harg8 arg9 harg9 arg10 harg10 v1 v3 X8 init n).1 (ix2 b j)
        + X8 (ix2 (rowOf n hn b j) ⟨128 + j.val, by omega⟩) := by
  have hk : n < k0_t2_loop.trips := by rw [walk_trips]; exact hn
  unfold walked
  rw [st_k0_t2_succ Variants.none c none i arg1 harg1 arg2 harg2 arg3 harg3 arg4 harg4 arg5 harg5 arg6 harg6 arg7 harg7 arg8 harg8 arg9 harg9 arg10 harg10 _ _ _ _ ⟨n, hk⟩]
  unfold tripR_k0_t2 trip_k0_t2
  dsimp only
  refine (pay11_val _ _ _ _ _ _ b j).trans (congrArg _ ?_)
  unfold rowOf
  split
  · exact read2 harg8 X8 _ _ _ _ _ _ (k0_off4_eq _) (by rfl) (by rfl)
  · exact read2 harg8 X8 _ _ _ _ _ _ (k0_off6_eq _) (by rfl) (by rfl)

theorem pay_id (h : FVec Ideal S16x128 .f32) :
    k0_pay6 (F := Ideal) h = h ∧ k0_pay7 (F := Ideal) h = h ∧ k0_pay8 (F := Ideal) h = h ∧ k0_pay9 (F := Ideal) h = h := by
  refine ⟨?_, ?_, ?_, ?_⟩ <;> funext x <;> idx_vars x <;> pointwise [k0_pay6, k0_pay7, k0_pay8, k0_pay9]

/-- The forward scratch: rows `16n …` hold the state before step `n`. -/
theorem fwd_val (v1 v3 : Vec Ideal S1x1x128 .f32) (X8 : Vec Ideal S4096x256 .f32)
    (init : FVec Ideal S16x128 .f32 × FVec Ideal S16x128 .f32) (n : ℕ) (hn : n < 256) (b : Fin 16) (j : Fin 128) (r : Fin 4096)
    (hr : r.val = 16 * n + b.val) :
    View.canon (walk c i arg1 harg1 arg2 harg2 arg3 harg3 arg4 harg4 arg5 harg5 arg6 harg6 arg7 harg7 arg8 harg8 arg9 harg9 arg10 harg10 v1 v3 (harg8.unread X8) init).2.1 (ix2 r ⟨j.val, by omega⟩)
        = (walked c i arg1 harg1 arg2 harg2 arg3 harg3 arg4 harg4 arg5 harg5 arg6 harg6 arg7 harg7 arg8 harg8 arg9 harg9 arg10 harg10 v1 v3 X8 init n).1 (ix2 b j)
      ∧ View.canon (walk c i arg1 harg1 arg2 harg2 arg3 harg3 arg4 harg4 arg5 harg5 arg6 harg6 arg7 harg7 arg8 harg8 arg9 harg9 arg10 harg10 v1 v3 (harg8.unread X8) init).2.1 (ix2 r ⟨128 + j.val, by omega⟩)
        = (walked c i arg1 harg1 arg2 harg2 arg3 harg3 arg4 harg4 arg5 harg5 arg6 harg6 arg7 harg7 arg8 harg8 arg9 harg9 arg10 harg10 v1 v3 X8 init n).2 (ix2 b j) := by
  constructor <;> refine View.canon_eq_of_allAt _ _ _ (fwd_cover c i arg1 harg1 arg2 harg2 arg3 harg3 arg4 harg4 arg5 harg5 arg6 harg6 arg7 harg7 arg8 harg8 arg9 harg9 arg10 harg10 _ _ _ _ _) ?_
  · suffices h : ∀ m, m ≤ k0_t2_loop.trips → View.AllAt (st_k0_t2 (F := Ideal) Variants.none c none i arg1 harg1 arg2 harg2 arg3 harg3 arg4 harg4 arg5 harg5 arg6 harg6 arg7 harg7 arg8 harg8 arg9 harg9 arg10 harg10
        v1 v3 (harg8.unread X8) init m).2.1 (ix2 r ⟨j.val, by omega⟩)
        ((walked c i arg1 harg1 arg2 harg2 arg3 harg3 arg4 harg4 arg5 harg5 arg6 harg6 arg7 harg7 arg8 harg8 arg9 harg9 arg10 harg10 v1 v3 X8 init n).1 (ix2 b j)) from h _ le_rfl
    intro m hm
    induction m with
    | zero => exact View.allAt_nil _ _
    | succ m ih =>
      rw [st_k0_t2_succ Variants.none c none i arg1 harg1 arg2 harg2 arg3 harg3 arg4 harg4 arg5 harg5 arg6 harg6 arg7 harg7 arg8 harg8 arg9 harg9 arg10 harg10 _ _ _ _ ⟨m, hm⟩]
      unfold tripL_k0_t2 trip_k0_t2
      refine View.allAt_cons_unit _ _ _ _ _ ?_ (View.allAt_cons_unit _ _ _ _ _ ?_ (ih (by omega)))
      · intro x hx
        have e1 := hx 1
        simp only [k0_off4_eq] at e1
        exact absurd (show j.val = 128 + (x 1).val from e1) (by omega)
      · intro x hx
        have e0 := hx 0
        have e1 := hx 1
        simp only [k0_off3_eq] at e0 e1
        obtain ⟨a, d, rfl⟩ : ∃ (a : Fin 16) (d : Fin 128), x = ix2 a d := ⟨x 0, x 1, by funext z; fin_cases z <;> rfl⟩
        have ed : d = j := Fin.ext (by have : j.val = 0 + d.val := e1; omega)
        have ea : r.val = 16 * m + a.val := e0
        have em : m = n := by omega
        have eb : a = b := Fin.ext (by omega)
        subst em eb ed
        rw [(pay_id _).1]
  · suffices h : ∀ m, m ≤ k0_t2_loop.trips → View.AllAt (st_k0_t2 (F := Ideal) Variants.none c none i arg1 harg1 arg2 harg2 arg3 harg3 arg4 harg4 arg5 harg5 arg6 harg6 arg7 harg7 arg8 harg8 arg9 harg9 arg10 harg10
        v1 v3 (harg8.unread X8) init m).2.1 (ix2 r ⟨128 + j.val, by omega⟩)
        ((walked c i arg1 harg1 arg2 harg2 arg3 harg3 arg4 harg4 arg5 harg5 arg6 harg6 arg7 harg7 arg8 harg8 arg9 harg9 arg10 harg10 v1 v3 X8 init n).2 (ix2 b j)) from h _ le_rfl
    intro m hm
    induction m with
    | zero => exact View.allAt_nil _ _
    | succ m ih =>
      rw [st_k0_t2_succ Variants.none c none i arg1 harg1 arg2 harg2 arg3 harg3 arg4 harg4 arg5 harg5 arg6 harg6 arg7 harg7 arg8 harg8 arg9 harg9 arg10 harg10 _ _ _ _ ⟨m, hm⟩]
      unfold tripL_k0_t2 trip_k0_t2
      refine View.allAt_cons_unit _ _ _ _ _ ?_ (View.allAt_cons_unit _ _ _ _ _ ?_ (ih (by omega)))
      · intro x hx
        have e0 := hx 0
        have e1 := hx 1
        simp only [k0_off4_eq] at e0 e1
        obtain ⟨a, d, rfl⟩ : ∃ (a : Fin 16) (d : Fin 128), x = ix2 a d := ⟨x 0, x 1, by funext z; fin_cases z <;> rfl⟩
        have ed : d = j := Fin.ext (by have : 128 + j.val = 128 + d.val := e1; omega)
        have ea : r.val = 16 * m + a.val := e0
        have em : m = n := by omega
        have eb : a = b := Fin.ext (by omega)
        subst em eb ed
        rw [(pay_id _).2.1]
      · intro x hx
        have e1 := hx 1
        simp only [k0_off3_eq] at e1
        exact absurd (show 128 + j.val = 0 + (x 1).val from e1) (by have : (x 1).val < 128 := (x 1).isLt; omega)

/-- The backward scratch: rows `4080 - 16n …` hold the state before step `n`. -/
theorem bwd_val (v1 v3 : Vec Ideal S1x1x128 .f32) (X8 : Vec Ideal S4096x256 .f32)
    (init : FVec Ideal S16x128 .f32 × FVec Ideal S16x128 .f32) (n : ℕ) (hn : n < 256) (b : Fin 16) (j : Fin 128) (r : Fin 4096)
    (hr : r.val = 4080 - 16 * n + b.val) :
    View.canon (walk c i arg1 harg1 arg2 harg2 arg3 harg3 arg4 harg4 arg5 harg5 arg6 harg6 arg7 harg7 arg8 harg8 arg9 harg9 arg10 harg10 v1 v3 (harg8.unread X8) init).2.2 (ix2 r ⟨j.val, by omega⟩)
        = (walked c i arg1 harg1 arg2 harg2 arg3 harg3 arg4 harg4 arg5 harg5 arg6 harg6 arg7 harg7 arg8 harg8 arg9 harg9 arg10 harg10 v1 v3 X8 init n).1 (ix2 b j)
      ∧ View.canon (walk c i arg1 harg1 arg2 harg2 arg3 harg3 arg4 harg4 arg5 harg5 arg6 harg6 arg7 harg7 arg8 harg8 arg9 harg9 arg10 harg10 v1 v3 (harg8.unread X8) init).2.2 (ix2 r ⟨128 + j.val, by omega⟩)
        = (walked c i arg1 harg1 arg2 harg2 arg3 harg3 arg4 harg4 arg5 harg5 arg6 harg6 arg7 harg7 arg8 harg8 arg9 harg9 arg10 harg10 v1 v3 X8 init n).2 (ix2 b j) := by
  constructor <;> refine View.canon_eq_of_allAt _ _ _ (bwd_cover c i arg1 harg1 arg2 harg2 arg3 harg3 arg4 harg4 arg5 harg5 arg6 harg6 arg7 harg7 arg8 harg8 arg9 harg9 arg10 harg10 _ _ _ _ _) ?_
  · suffices h : ∀ m, m ≤ k0_t2_loop.trips → View.AllAt (st_k0_t2 (F := Ideal) Variants.none c none i arg1 harg1 arg2 harg2 arg3 harg3 arg4 harg4 arg5 harg5 arg6 harg6 arg7 harg7 arg8 harg8 arg9 harg9 arg10 harg10
        v1 v3 (harg8.unread X8) init m).2.2 (ix2 r ⟨j.val, by omega⟩)
        ((walked c i arg1 harg1 arg2 harg2 arg3 harg3 arg4 harg4 arg5 harg5 arg6 harg6 arg7 harg7 arg8 harg8 arg9 harg9 arg10 harg10 v1 v3 X8 init n).1 (ix2 b j)) from h _ le_rfl
    intro m hm
    induction m with
    | zero => exact View.allAt_nil _ _
    | succ m ih =>
      rw [st_k0_t2_succ Variants.none c none i arg1 harg1 arg2 harg2 arg3 harg3 arg4 harg4 arg5 harg5 arg6 harg6 arg7 harg7 arg8 harg8 arg9 harg9 arg10 harg10 _ _ _ _ ⟨m, hm⟩]
      rw [walk_trips] at hm
      unfold tripL_k0_t2 trip_k0_t2
      refine View.allAt_cons_unit _ _ _ _ _ ?_ (View.allAt_cons_unit _ _ _ _ _ ?_ (ih (by rw [walk_trips]; omega)))
      · intro x hx
        have e1 := hx 1
        simp only [k0_off6_eq] at e1
        exact absurd (show j.val = 128 + (x 1).val from e1) (by omega)
      · intro x hx
        have e0 := hx 0
        have e1 := hx 1
        simp only [k0_off5_eq] at e0 e1
        obtain ⟨a, d, rfl⟩ : ∃ (a : Fin 16) (d : Fin 128), x = ix2 a d := ⟨x 0, x 1, by funext z; fin_cases z <;> rfl⟩
        have ed : d = j := Fin.ext (by have : j.val = 0 + d.val := e1; omega)
        have ea : r.val = 4080 - 16 * m + a.val := e0
        have em : m = n := by omega
        have eb : a = b := Fin.ext (by omega)
        subst em eb ed
        rw [(pay_id _).2.2.1]
  · suffices h : ∀ m, m ≤ k0_t2_loop.trips → View.AllAt (st_k0_t2 (F := Ideal) Variants.none c none i arg1 harg1 arg2 harg2 arg3 harg3 arg4 harg4 arg5 harg5 arg6 harg6 arg7 harg7 arg8 harg8 arg9 harg9 arg10 harg10
        v1 v3 (harg8.unread X8) init m).2.2 (ix2 r ⟨128 + j.val, by omega⟩)
        ((walked c i arg1 harg1 arg2 harg2 arg3 harg3 arg4 harg4 arg5 harg5 arg6 harg6 arg7 harg7 arg8 harg8 arg9 harg9 arg10 harg10 v1 v3 X8 init n).2 (ix2 b j)) from h _ le_rfl
    intro m hm
    induction m with
    | zero => exact View.allAt_nil _ _
    | succ m ih =>
      rw [st_k0_t2_succ Variants.none c none i arg1 harg1 arg2 harg2 arg3 harg3 arg4 harg4 arg5 harg5 arg6 harg6 arg7 harg7 arg8 harg8 arg9 harg9 arg10 harg10 _ _ _ _ ⟨m, hm⟩]
      rw [walk_trips] at hm
      unfold tripL_k0_t2 trip_k0_t2
      refine View.allAt_cons_unit _ _ _ _ _ ?_ (View.allAt_cons_unit _ _ _ _ _ ?_ (ih (by rw [walk_trips]; omega)))
      · intro x hx
        have e0 := hx 0
        have e1 := hx 1
        simp only [k0_off6_eq] at e0 e1
        obtain ⟨a, d, rfl⟩ : ∃ (a : Fin 16) (d : Fin 128), x = ix2 a d := ⟨x 0, x 1, by funext z; fin_cases z <;> rfl⟩
        have ed : d = j := Fin.ext (by have : 128 + j.val = 128 + d.val := e1; omega)
        have ea : r.val = 4080 - 16 * m + a.val := e0
        have em : m = n := by omega
        have eb : a = b := Fin.ext (by omega)
        subst em eb ed
        rw [(pay_id _).2.2.2]
      · intro x hx
        have e1 := hx 1
        simp only [k0_off5_eq] at e1
        exact absurd (show 128 + j.val = 0 + (x 1).val from e1) (by have : (x 1).val < 128 := (x 1).isLt; omega)

/-- The output block, from the two state scratches. -/
theorem emit_val (x0 : Vec Ideal S1x4096x256 .bf16) (x2 x3 x4 : Vec Ideal S1x256x256 .bf16) (x9 x10 : Vec Ideal S4096x256 .f32)
    (hc : ∀ y, ∃ p ∈ pb_k0_t3 (F := Ideal) Variants.none c none i arg1 harg1 arg2 harg2 arg3 harg3 arg4 harg4 arg5 harg5 arg6 harg6 arg7 harg7 arg8 harg8 arg9 harg9 arg10 harg10 (harg1.unread x0) (harg3.unread x2)
      (harg4.unread x3) (harg5.unread x4) (harg9.unread x9) (harg10.unread x10) k0_t3_loop.trips, y ∈ p.1.set)
    (r : Fin 4096) (l : Fin 256) :
    View.canon (pb_k0_t3 (F := Ideal) Variants.none c none i arg1 harg1 arg2 harg2 arg3 harg3 arg4 harg4 arg5 harg5 arg6 harg6 arg7 harg7 arg8 harg8 arg9 harg9 arg10 harg10 (harg1.unread x0) (harg3.unread x2)
      (harg4.unread x3) (harg5.unread x4) (harg9.unread x9) (harg10.unread x10) k0_t3_loop.trips) (ix3 0 r l)
      = ∑ k : Fin 256, x0 (ix3 0 r k) * x2 (ix3 0 k l) + ∑ k : Fin 256, x9 (ix2 r k) * x3 (ix3 0 k l)
        + ∑ k : Fin 256, x10 (ix2 r k) * x4 (ix3 0 k l) := by
  refine View.canon_eq_of_allAt _ _ _ (hc _) ?_
  suffices h : ∀ n, n ≤ k0_t3_loop.trips → View.AllAt (pb_k0_t3 (F := Ideal) Variants.none c none i arg1 harg1 arg2 harg2 arg3 harg3 arg4 harg4 arg5 harg5 arg6 harg6 arg7 harg7 arg8 harg8 arg9 harg9 arg10 harg10
      (harg1.unread x0) (harg3.unread x2) (harg4.unread x3) (harg5.unread x4) (harg9.unread x9) (harg10.unread x10) n)
      (ix3 0 r l) (∑ k : Fin 256, x0 (ix3 0 r k) * x2 (ix3 0 k l) + ∑ k : Fin 256, x9 (ix2 r k) * x3 (ix3 0 k l)
        + ∑ k : Fin 256, x10 (ix2 r k) * x4 (ix3 0 k l)) from h _ le_rfl
  intro n hn
  induction n with
  | zero => exact View.allAt_nil _ _
  | succ n ih =>
    rw [pb_k0_t3_succ Variants.none c none i arg1 harg1 arg2 harg2 arg3 harg3 arg4 harg4 arg5 harg5 arg6 harg6 arg7 harg7 arg8 harg8 arg9 harg9 arg10 harg10 _ _ _ _ _ _ ⟨n, hn⟩]
    unfold tripL_k0_t3 trip_k0_t3
    refine View.allAt_cons_unit _ _ _ _ _ ?_ (ih (by omega))
    intro x hx
    have e0 := hx 1
    have e1 := hx 2
    simp only [k0_off7_eq] at e0 e1
    obtain ⟨z, a, b, rfl⟩ : ∃ (z : Fin 1) (a : Fin 512) (b : Fin 256), x = ix3 z a b :=
      ⟨x 0, x 1, x 2, by funext z; fin_cases z <;> rfl⟩
    obtain rfl : z = 0 := Subsingleton.elim _ _
    have eb : b = l := Fin.ext (by have : l.val = 0 + b.val := e1; omega)
    have ea : r.val = 512 * n + a.val := e0
    refine (pay12_val _ _ _ _ _ _ a b).trans ?_
    subst eb
    refine congrArg₂ _ (congrArg₂ _ ?_ ?_) ?_ <;> refine Finset.sum_congr rfl fun k _ => ?_
    · exact congrArg₂ _ (read3 harg1 x0 _ _ _ _ 0 r k (k0_off7_eq _) (by rfl) (by exact ea.symm) (by exact Nat.zero_add _))
        (read3 harg3 x2 _ _ _ _ 0 k b rfl (by rfl) (by exact Nat.zero_add _) (by exact Nat.zero_add _))
    · exact congrArg₂ _ (read2 harg9 x9 _ _ _ _ r k (k0_off8_eq _) (by exact ea.symm) (by exact Nat.zero_add _))
        (read3 harg4 x3 _ _ _ _ 0 k b rfl (by rfl) (by exact Nat.zero_add _) (by exact Nat.zero_add _))
    · exact congrArg₂ _ (read2 harg10 x10 _ _ _ _ r k (k0_off8_eq _) (by exact ea.symm) (by exact Nat.zero_add _))
        (read3 harg5 x4 _ _ _ _ 0 k b rfl (by rfl) (by exact Nat.zero_add _) (by exact Nat.zero_add _))

end

end Cert.KernelIdeal.Loops

end
-- ==== Proof.Carry.lean ====
/- The kernel's arithmetic over extended reals that hold real numbers: the chunks' input sums, the two states
   carried from chunk to chunk, and the three products that make one output element. -/
module

public import proofs.«01_k».proof.Proof.Model

@[expose] public section

noncomputable section

namespace Cert.Carry

open Cert.Model Finset

/-- A sum over 256 places as sixteen steps of sixteen channels. -/
theorem sum_steps {α : Type} [AddCommMonoid α] (f : Fin 256 → α) :
    ∑ k, f k = ∑ s : Fin 16, ∑ i : Fin 16, f ⟨16 * s.val + i.val, by omega⟩ := by
  rw [← Fintype.sum_prod_type' (f := fun s i : Fin 16 => f ⟨16 * s.val + i.val, by omega⟩)]
  rw [← (finProdFinEquiv (m := 16) (n := 16)).sum_comp f]
  refine sum_congr rfl fun x _ => congrArg f (Fin.ext ?_)
  show x.2.val + 16 * x.1.val = 16 * x.1.val + x.2.val
  omega

/-- A sum over 256 places as four groups of 64. -/
theorem sum_groups {α : Type} [AddCommMonoid α] (f : Fin 256 → α) :
    ∑ k, f k = ∑ p : Fin 64, f ⟨p.val, by omega⟩ + ∑ p : Fin 64, f ⟨64 + p.val, by omega⟩
      + ∑ p : Fin 64, f ⟨128 + p.val, by omega⟩ + ∑ p : Fin 64, f ⟨192 + p.val, by omega⟩ := by
  have h1 := Fin.sum_univ_add (a := 192) (b := 64) (fun k : Fin (192 + 64) => f k)
  have h2 := Fin.sum_univ_add (a := 128) (b := 64) (fun k : Fin (128 + 64) => f ⟨k.val, by omega⟩)
  have h3 := Fin.sum_univ_add (a := 64) (b := 64) (fun k : Fin (64 + 64) => f ⟨k.val, by omega⟩)
  refine h1.trans (congrArg₂ _ (Eq.trans ?_ (h2.trans (congrArg₂ _ (Eq.trans ?_ (h3.trans (congrArg₂ _ ?_ ?_))) ?_))) ?_) <;> rfl

/-- A chunk's weighted inputs: real and imaginary part. -/
theorem drive_re (w : Fin 16 → ℂ) (b : Fin 16 → ℂ) (x : Fin 16 → Fin 16 → ℝ) :
    (∑ s, w s * ∑ i, b i * (x s i : ℂ)).re = ∑ s, ∑ i, x s i * (w s * b i).re := by
  rw [Complex.re_sum]
  refine sum_congr rfl fun s _ => ?_
  rw [mul_sum, Complex.re_sum]
  refine sum_congr rfl fun i _ => ?_
  rw [← mul_assoc, Complex.re_mul_ofReal, mul_comm]

theorem drive_im (w : Fin 16 → ℂ) (b : Fin 16 → ℂ) (x : Fin 16 → Fin 16 → ℝ) :
    (∑ s, w s * ∑ i, b i * (x s i : ℂ)).im = ∑ s, ∑ i, x s i * (w s * b i).im := by
  rw [Complex.im_sum]
  refine sum_congr rfl fun s _ => ?_
  rw [mul_sum, Complex.im_sum]
  refine sum_congr rfl fun i _ => ?_
  rw [← mul_assoc, Complex.im_mul_ofReal, mul_comm]

variable (P : Par) (g : Fin 32)

/-- The forward state one chunk on. -/
theorem fwd_chunk (b : Fin 16) (p : Fin 64) (n : ℕ) :
    hs P 0 b g p (16 * (n + 1)) = lam P 0 g p ^ 16 * hs P 0 b g p (16 * n)
      + ∑ s : Fin 16, lam P 0 g p ^ (15 - s.val) * ∑ i, bb P 0 g p i * (xs P b g (16 * n + s.val) i : ℂ) := by
  unfold hs
  rw [Scan.st_chunk]
  rfl

/-- The backward state one chunk on: its `n`-th chunk is chunk `255 - n` of the sequence, read from its end. -/
theorem bwd_chunk (b : Fin 16) (p : Fin 64) (n : ℕ) (hn : n < 256) :
    hs P 1 b g p (16 * (n + 1)) = lam P 1 g p ^ 16 * hs P 1 b g p (16 * n)
      + ∑ s : Fin 16, lam P 1 g p ^ s.val * ∑ i, bb P 1 g p i * (xs P b g (16 * (255 - n) + s.val) i : ℂ) := by
  unfold hs
  rw [Scan.st_chunk, ← Equiv.sum_comp Fin.revPerm (fun s : Fin 16 => lam P 1 g p ^ s.val
    * ∑ i, bb P 1 g p i * (xs P b g (16 * (255 - n) + s.val) i : ℂ))]
  refine congrArg _ (sum_congr rfl fun t _ => ?_)
  have e1 : (Fin.revPerm t).val = 15 - t.val := by
    rw [Fin.revPerm_apply, Fin.val_rev]; omega
  rw [e1]
  refine congrArg _ ?_
  unfold Scan.drive
  refine sum_congr rfl fun i _ => ?_
  have e2 : xd P 1 b g (16 * n + t.val) i = xs P b g (16 * (255 - n) + (15 - t.val)) i := by
    show Scan.rev (xs P b g) (16 * n + t.val) i = _
    unfold Scan.rev
    rw [show 4095 - (16 * n + t.val) = 16 * (255 - n) + (15 - t.val) by omega]
  rw [e2]

/-- The chunks' input sums: what the kernel's first loop holds at a row and a lane. -/
structure Sums (X : Fin 4096 → Fin 256 → EReal) : Prop where
  f_re : ∀ (k : Fin 256) (b : Fin 16) (p : Fin 64), X ⟨16 * k.val + b.val, by omega⟩ ⟨p.val, by omega⟩
    = ((∑ s : Fin 16, ∑ i : Fin 16, xs P b g (16 * k.val + s.val) i * (lam P 0 g p ^ (15 - s.val) * bb P 0 g p i).re : ℝ) : EReal)
  b_re : ∀ (k : Fin 256) (b : Fin 16) (p : Fin 64), X ⟨16 * k.val + b.val, by omega⟩ ⟨64 + p.val, by omega⟩
    = ((∑ s : Fin 16, ∑ i : Fin 16, xs P b g (16 * k.val + s.val) i * (lam P 1 g p ^ s.val * bb P 1 g p i).re : ℝ) : EReal)
  f_im : ∀ (k : Fin 256) (b : Fin 16) (p : Fin 64), X ⟨16 * k.val + b.val, by omega⟩ ⟨128 + p.val, by omega⟩
    = ((∑ s : Fin 16, ∑ i : Fin 16, xs P b g (16 * k.val + s.val) i * (lam P 0 g p ^ (15 - s.val) * bb P 0 g p i).im : ℝ) : EReal)
  b_im : ∀ (k : Fin 256) (b : Fin 16) (p : Fin 64), X ⟨16 * k.val + b.val, by omega⟩ ⟨192 + p.val, by omega⟩
    = ((∑ s : Fin 16, ∑ i : Fin 16, xs P b g (16 * k.val + s.val) i * (lam P 1 g p ^ s.val * bb P 1 g p i).im : ℝ) : EReal)

/-- The factors of one chunk, as the kernel holds them: real parts in `v1`, imaginary parts in `v3`. -/
structure Factors (v1 v3 : Fin 128 → EReal) : Prop where
  f_re : ∀ p : Fin 64, v1 ⟨p.val, by omega⟩ = (((lam P 0 g p ^ 16).re : ℝ) : EReal)
  b_re : ∀ p : Fin 64, v1 ⟨64 + p.val, by omega⟩ = (((lam P 1 g p ^ 16).re : ℝ) : EReal)
  f_im : ∀ p : Fin 64, v3 ⟨p.val, by omega⟩ = (((lam P 0 g p ^ 16).im : ℝ) : EReal)
  b_im : ∀ p : Fin 64, v3 ⟨64 + p.val, by omega⟩ = (((lam P 1 g p ^ 16).im : ℝ) : EReal)

/-- The carried states before chunk `n`: lanes below 64 forward, the others backward. -/
structure States (re im : Fin 16 → Fin 128 → EReal) (n : ℕ) : Prop where
  f_re : ∀ (b : Fin 16) (p : Fin 64), re b ⟨p.val, by omega⟩ = (((hs P 0 b g p (16 * n)).re : ℝ) : EReal)
  b_re : ∀ (b : Fin 16) (p : Fin 64), re b ⟨64 + p.val, by omega⟩ = (((hs P 1 b g p (16 * n)).re : ℝ) : EReal)
  f_im : ∀ (b : Fin 16) (p : Fin 64), im b ⟨p.val, by omega⟩ = (((hs P 0 b g p (16 * n)).im : ℝ) : EReal)
  b_im : ∀ (b : Fin 16) (p : Fin 64), im b ⟨64 + p.val, by omega⟩ = (((hs P 1 b g p (16 * n)).im : ℝ) : EReal)

/-- The row of the sums that step `n` of the walk reads for batch row `b` on lane `j`. -/
def row (n : ℕ) (hn : n < 256) (b : Fin 16) (j : Fin 128) : Fin 4096 :=
  if j.val < 64 then ⟨16 * n + b.val, by omega⟩ else ⟨4080 - 16 * n + b.val, by omega⟩

theorem row_f (n : ℕ) (hn : n < 256) (b : Fin 16) (p : Fin 64) :
    row n hn b ⟨p.val, by omega⟩ = ⟨16 * n + b.val, by omega⟩ := by
  unfold row; rw [if_pos p.isLt]

theorem row_b (n : ℕ) (hn : n < 256) (b : Fin 16) (p : Fin 64) :
    row n hn b ⟨64 + p.val, by omega⟩ = ⟨16 * (255 - n) + b.val, by omega⟩ := by
  unfold row
  rw [if_neg (by show ¬ (64 + p.val < 64); omega)]
  exact Fin.ext (by show 4080 - 16 * n + b.val = 16 * (255 - n) + b.val; omega)

variable {P g}

/-- The walk carries the two recurrences. -/
theorem states {X : Fin 4096 → Fin 256 → EReal} {v1 v3 : Fin 128 → EReal} (re im : ℕ → Fin 16 → Fin 128 → EReal)
    (hX : Sums P g X) (hv : Factors P g v1 v3)
    (hr0 : ∀ b j, re 0 b j = 0) (hi0 : ∀ b j, im 0 b j = 0)
    (hr : ∀ n (hn : n < 256) b j, re (n + 1) b j
      = v1 j * re n b j - v3 j * im n b j + X (row n hn b j) ⟨j.val, by omega⟩)
    (hi : ∀ n (hn : n < 256) b j, im (n + 1) b j
      = v1 j * im n b j + v3 j * re n b j + X (row n hn b j) ⟨128 + j.val, by omega⟩) :
    ∀ n, n ≤ 256 → States P g (re n) (im n) n := by
  intro n
  induction n with
  | zero =>
    intro _
    constructor <;> intro b p <;> simp [hr0, hi0, hs, Scan.st]
  | succ n ih =>
    intro hn
    have ih := ih (by omega)
    have hn' : n < 256 := by omega
    constructor <;> intro b p
    · rw [hr n hn', hv.f_re, hv.f_im, ih.f_re, ih.f_im, row_f, hX.f_re ⟨n, hn'⟩ b p, fwd_chunk,
        Complex.add_re, Complex.mul_re, drive_re (fun s => lam P 0 g p ^ (15 - s.val)) (bb P 0 g p)
          (fun s i => xs P b g (16 * n + s.val) i), EReal.coe_add, EReal.coe_sub, EReal.coe_mul, EReal.coe_mul]
    · rw [hr n hn', hv.b_re, hv.b_im, ih.b_re, ih.b_im, row_b, hX.b_re ⟨255 - n, by omega⟩ b p, bwd_chunk P g b p n hn',
        Complex.add_re, Complex.mul_re, drive_re (fun s => lam P 1 g p ^ s.val) (bb P 1 g p)
          (fun s i => xs P b g (16 * (255 - n) + s.val) i), EReal.coe_add, EReal.coe_sub, EReal.coe_mul, EReal.coe_mul]
    · rw [hi n hn', hv.f_re, hv.f_im, ih.f_re, ih.f_im, row_f]
      have e := hX.f_im ⟨n, hn'⟩ b p
      rw [e, fwd_chunk,
        Complex.add_im, Complex.mul_im, drive_im (fun s => lam P 0 g p ^ (15 - s.val)) (bb P 0 g p)
          (fun s i => xs P b g (16 * n + s.val) i), EReal.coe_add, EReal.coe_add, EReal.coe_mul, EReal.coe_mul]
    · rw [hi n hn', hv.b_re, hv.b_im, ih.b_re, ih.b_im, row_b]
      have e := hX.b_im ⟨255 - n, by omega⟩ b p
      have e' : (⟨128 + (64 + p.val), by omega⟩ : Fin 256) = ⟨192 + p.val, by omega⟩ := Fin.ext (by show 128 + (64 + p.val) = 192 + p.val; omega)
      rw [e', e, bwd_chunk P g b p n hn',
        Complex.add_im, Complex.mul_im, drive_im (fun s => lam P 1 g p ^ s.val) (bb P 1 g p)
          (fun s i => xs P b g (16 * (255 - n) + s.val) i), EReal.coe_add, EReal.coe_add, EReal.coe_mul, EReal.coe_mul]

/-- A carried state against its output weights, real parts and imaginary parts on lanes of their own. -/
theorem out_state (h w : Fin 64 → ℂ) :
    (∑ p, ((h p).re : EReal) * (((w p).re : ℝ) : EReal)) + (∑ p, ((h p).im : EReal) * ((-(w p).im : ℝ) : EReal))
      = ((∑ p, (h p * w p).re : ℝ) : EReal) := by
  simp only [← EReal.coe_mul, sum_coe, ← EReal.coe_add]
  refine congrArg _ ?_
  rw [← sum_add_distrib]
  refine sum_congr rfl fun p _ => ?_
  rw [Complex.mul_re]
  ring

/-- One output element: the chunk's own inputs through the triangular matrix, and the two carried states. -/
theorem out {a x9 x10 w2 w3 w4 : Fin 256 → EReal} (b : Fin 16) (k : ℕ) (hk : k < 256) (t o : Fin 16)
    (ha : ∀ s i : Fin 16, a ⟨16 * s.val + i.val, by omega⟩ = ((xs P b g (16 * k + s.val) i : ℝ) : EReal))
    (hT : ∀ s i : Fin 16, w2 ⟨16 * s.val + i.val, by omega⟩
      = (((if s.val ≤ t.val then ∑ p, (cc P 0 g o p * lam P 0 g p ^ (t.val - s.val) * bb P 0 g p i).re else 0)
          + (if t.val ≤ s.val then ∑ p, (cc P 1 g o p * lam P 1 g p ^ (s.val - t.val) * bb P 1 g p i).re else 0)
          + (if s.val = t.val ∧ i = o then P.dsk g o else 0) : ℝ) : EReal))
    (hfr : ∀ p : Fin 64, x9 ⟨p.val, by omega⟩ = (((hs P 0 b g p (16 * k)).re : ℝ) : EReal))
    (hfi : ∀ p : Fin 64, x9 ⟨128 + p.val, by omega⟩ = (((hs P 0 b g p (16 * k)).im : ℝ) : EReal))
    (hbr : ∀ p : Fin 64, x10 ⟨64 + p.val, by omega⟩ = (((hs P 1 b g p (16 * (255 - k))).re : ℝ) : EReal))
    (hbi : ∀ p : Fin 64, x10 ⟨192 + p.val, by omega⟩ = (((hs P 1 b g p (16 * (255 - k))).im : ℝ) : EReal))
    (wa0 : ∀ p : Fin 64, w3 ⟨p.val, by omega⟩ = (((cc P 0 g o p * lam P 0 g p ^ (1 + t.val)).re : ℝ) : EReal))
    (wa1 : ∀ p : Fin 64, w3 ⟨64 + p.val, by omega⟩ = 0)
    (wa2 : ∀ p : Fin 64, w3 ⟨128 + p.val, by omega⟩ = ((-(cc P 0 g o p * lam P 0 g p ^ (1 + t.val)).im : ℝ) : EReal))
    (wa3 : ∀ p : Fin 64, w3 ⟨192 + p.val, by omega⟩ = 0)
    (wb0 : ∀ p : Fin 64, w4 ⟨p.val, by omega⟩ = 0)
    (wb1 : ∀ p : Fin 64, w4 ⟨64 + p.val, by omega⟩ = (((cc P 1 g o p * lam P 1 g p ^ (1 + (16 - (t.val + 1)))).re : ℝ) : EReal))
    (wb2 : ∀ p : Fin 64, w4 ⟨128 + p.val, by omega⟩ = 0)
    (wb3 : ∀ p : Fin 64, w4 ⟨192 + p.val, by omega⟩ = ((-(cc P 1 g o p * lam P 1 g p ^ (1 + (16 - (t.val + 1)))).im : ℝ) : EReal)) :
    ∑ j, a j * w2 j + ∑ j, x9 j * w3 j + ∑ j, x10 j * w4 j = ((y P b g (16 * k + t.val) o : ℝ) : EReal) := by
  rw [sum_steps (fun j => a j * w2 j), sum_groups (fun j => x9 j * w3 j), sum_groups (fun j => x10 j * w4 j)]
  simp only [ha, hT, hfr, hfi, hbr, hbi, wa0, wa1, wa2, wa3, wb0, wb1, wb2, wb3, mul_zero, sum_const_zero, add_zero, zero_add]
  rw [out_state (fun p => hs P 0 b g p (16 * k)) (fun p => cc P 0 g o p * lam P 0 g p ^ (1 + t.val)),
    out_state (fun p => hs P 1 b g p (16 * (255 - k))) (fun p => cc P 1 g o p * lam P 1 g p ^ (1 + (16 - (t.val + 1))))]
  simp only [← EReal.coe_mul, sum_coe, ← EReal.coe_add]
  refine congrArg _ ?_
  have h := Scan.out_eq (xs P b g) (cc P 0 g o) (cc P 1 g o) (lam P 0 g) (lam P 1 g) (bb P 0 g) (bb P 1 g) (P.dsk g o) o
    k t.val hk t.isLt
  rw [show 1 + t.val = t.val + 1 by omega, show 1 + (16 - (t.val + 1)) = 16 - t.val by omega]
  exact h

end Cert.Carry

end
-- ==== Proof.Blocks.lean ====
/- The blocks of the kernel's windows at coordinates: at grid point `g` every window holds slice `g` of its array,
   and the result array's slice `g` is the block the body left. -/
module

public import proofs.«01_k».proof.Proof.IdealRun
public import Idealize.ShloMosaic.Lib.Pipeline.ValueKit
public import Idealize.ShloMosaic.Lib.Pointwise

@[expose] public section

set_option maxRecDepth 16384

noncomputable section

namespace Cert.KernelIdeal.Blocks

open Cert.KernelIdeal Cert.KernelIdeal.Gen Cert.KernelIdeal.Body
open Idealize.ShloMosaic Idealize.ShloMosaic.TcCoe Idealize.ShloMosaic.Tactic

variable {F : FTy → Type} [FloatOps F]
variable (m : (ℓ : Loc nD τ sig) → Buf (Elt F) ℓ) (c : Dev nD)

/-- Every window's block number at point `t` is `(t, 0, 0)`. -/
theorem idx0 : ∀ t : Fin cfg0.N, win0_0.index t = ![t.val, 0, 0] := (by decide +kernel : ∀ t : Fin grid0.N, win0_0.index t = ![t.val, 0, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![t.val, 0, 0] := (by decide +kernel : ∀ t : Fin grid0.N, win0_2.index t = ![t.val, 0, 0])
theorem idx3 : ∀ t : Fin cfg0.N, win0_3.index t = ![t.val, 0, 0] := (by decide +kernel : ∀ t : Fin grid0.N, win0_3.index t = ![t.val, 0, 0])
theorem idx4 : ∀ t : Fin cfg0.N, win0_4.index t = ![t.val, 0, 0] := (by decide +kernel : ∀ t : Fin grid0.N, win0_4.index t = ![t.val, 0, 0])
theorem idx5 : ∀ t : Fin cfg0.N, win0_5.index t = ![t.val, 0, 0] := (by decide +kernel : ∀ t : Fin grid0.N, win0_5.index t = ![t.val, 0, 0])
theorem idx6 : ∀ t : Fin cfg0.N, win0_6.index t = ![t.val, 0, 0] := (by decide +kernel : ∀ t : Fin grid0.N, win0_6.index t = ![t.val, 0, 0])

/-- Every point's output block is written out. -/
theorem flush6 : ∀ t : Fin cfg0.N, (cfg0.win 6).flush t = true := (by decide +kernel : ∀ t : Fin grid0.N, win0_6.flush t = true)

theorem blk0 (t : Fin cfg0.N) (g : Fin 32) (hg : g.val = t.val) (r : Fin 4096) (l : Fin 256) :
    iblk m c 0 t (ix3 (0 : Fin 1) r l) = V m c main_v371 (ix3 g r l) := by
  blk_ext [iblk, idx0 t]
theorem blk1 (t : Fin cfg0.N) (g : Fin 32) (hg : g.val = t.val) (r : Fin 256) (l : Fin 256) :
    iblk m c 1 t (ix3 (0 : Fin 1) r l) = V m c main_v364 (ix3 g r l) := by
  blk_ext [iblk, idx1 t]
theorem blk2 (t : Fin cfg0.N) (g : Fin 32) (hg : g.val = t.val) (r : Fin 256) (l : Fin 256) :
    iblk m c 2 t (ix3 (0 : Fin 1) r l) = V m c main_v365 (ix3 g r l) := by
  blk_ext [iblk, idx2 t]
theorem blk3 (t : Fin cfg0.N) (g : Fin 32) (hg : g.val = t.val) (r : Fin 256) (l : Fin 256) :
    iblk m c 3 t (ix3 (0 : Fin 1) r l) = V m c main_v366 (ix3 g r l) := by
  blk_ext [iblk, idx3 t]
theorem blk4 (t : Fin cfg0.N) (g : Fin 32) (hg : g.val = t.val) (r : Fin 256) (l : Fin 256) :
    iblk m c 4 t (ix3 (0 : Fin 1) r l) = V m c main_v367 (ix3 g r l) := by
  blk_ext [iblk, idx4 t]
theorem blk5 (t : Fin cfg0.N) (g : Fin 32) (hg : g.val = t.val) (r : Fin 2) (l : Fin 128) :
    iblk m c 5 t (ix3 (0 : Fin 1) r l) = V m c main_v363 (ix3 g r l) := by
  blk_ext [iblk, idx5 t]

/-- The result array at coordinates. -/
theorem result_at (t : Fin cfg0.N) (g : Fin 32) (hg : g.val = t.val) (r : Fin 4096) (l : Fin 256) :
    (dats m 0 c).arrAt 6 cfg0.N (ix3 g r l) = blockOut m c t (ix3 (0 : Fin 1) r l) := by
  have h := congrFun (block_read m c t (flush6 t)) (ix3 (0 : Fin 1) r l)
  refine Eq.trans ?_ (h.trans ?_)
  · blk_ext [idx6 t]
  · blk_ext [idx6 t]

end Cert.KernelIdeal.Blocks

end
-- ==== Proof.Weights.lean ====
/- What the host code hands to the kernel, index by index: the sequence rearranged group by group, and the
   matrices made of the powers of one step's factor. -/
module

public import proofs.«01_k».proof.Proof.IdealRun
public import proofs.«01_k».proof.Proof.RefValue
public import Idealize.ShloMosaic.Lib.Pointwise
public import Idealize.ShloMosaic.Lib.StableHlo.RunRead

@[expose] public section

set_option maxRecDepth 16384

noncomputable section

namespace Cert.KernelIdeal.Weights

open Cert.KernelIdeal Cert.KernelIdeal.Gen Cert.Model
open Idealize.ShloMosaic Idealize.ShloMosaic.TcCoe

/-- A small natural number converted to a float is that number. -/
theorem tau_coe (k : ℕ) (hk : k < 2147483648) :
    FloatOps.sitofp (F := Ideal) .f32 (BitVec.ofNat 32 k) = (((k : ℝ)) : EReal) := by
  show (((BitVec.ofNat 32 k).toInt : ℝ) : EReal) = _
  have : (BitVec.ofNat 32 k).toInt = (k : ℤ) := by
    rw [BitVec.toInt_eq_toNat_cond, BitVec.toNat_ofNat, Nat.mod_eq_of_lt (by omega), if_pos (by omega)]
  rw [this, Int.cast_natCast]

/-- The kernel's arguments on core `c` are the reals of `P`. -/
abbrev Args (P : Par) (m : (ℓ : Loc nD τ sig) → Buf (Elt Ideal) ℓ) (c : Dev nD) : Prop :=
  RefValue.Reads P (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8))

variable {P : Par} {m : (ℓ : Loc nD τ sig) → Buf (Elt Ideal) ℓ} {c : Dev nD} (H : Args P m c)
include H

set_option maxHeartbeats 2000000 in
theorem xg_at (g : Fin 32) (r : Fin 4096) (l : Fin 256) :
    V m c main_v371 (ix3 g r l) = ((xs P ⟨r.val % 16, by omega⟩ g (r.val / 16 * 16 + l.val / 16) ⟨l.val % 16, by omega⟩ : ℝ) : EReal) := by
  unfold V
  after_reads_simp
  pointwise
  rw [H.h0]
  refine congrArg _ ?_
  unfold xs
  have hn : r.val / 16 * 16 + l.val / 16 < 4096 := by omega
  rw [dif_pos hn]
  exact congrArg (P.u _ _) (Fin.ext (by show g.val * 16 + l.val % 16 = 16 * g.val + l.val % 16; omega))

/-- The sequence: group `g`, chunk `k`, batch row `b`, step `s` of the chunk, channel `i`. -/
theorem xg_val (g : Fin 32) (k : Fin 256) (b s i : Fin 16) :
    V m c main_v371 (ix3 g (⟨16 * k.val + b.val, by omega⟩ : Fin 4096) (⟨16 * s.val + i.val, by omega⟩ : Fin 256))
      = ((xs P b g (16 * k.val + s.val) i : ℝ) : EReal) := by
  rw [xg_at H]
  have e1 : (16 * k.val + b.val) % 16 = b.val := by omega
  have e2 : (16 * k.val + b.val) / 16 * 16 + (16 * s.val + i.val) / 16 = 16 * k.val + s.val := by omega
  have e3 : (16 * s.val + i.val) % 16 = i.val := by omega
  simp only [e1, e2, e3, Fin.eta]

theorem lam_re_0 (g : Fin 32) (p : Fin 64) :
    V m c main_v363 (ix3 g (0 : Fin 2) (⟨p.val, by omega⟩ : Fin 128)) = (((lam P 0 g p ^ 16).re : ℝ) : EReal) := by
  unfold V
  after_reads_simp
  pointwise
  try after_reads_simp
  pointwise
  simp only [tau_coe 16 (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

theorem lam_re_1 (g : Fin 32) (p : Fin 64) :
    V m c main_v363 (ix3 g (0 : Fin 2) (⟨64 + p.val, by omega⟩ : Fin 128)) = (((lam P 1 g p ^ 16).re : ℝ) : EReal) := by
  unfold V
  after_reads_simp
  pointwise
  try after_reads_simp
  pointwise
  try simp only [dif_neg (show ¬ (64 + p.val < 64) by omega), show 64 + p.val - 64 = p.val by omega, Fin.eta]
  simp only [tau_coe 16 (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

theorem lam_im_0 (g : Fin 32) (p : Fin 64) :
    V m c main_v363 (ix3 g (1 : Fin 2) (⟨p.val, by omega⟩ : Fin 128)) = (((lam P 0 g p ^ 16).im : ℝ) : EReal) := by
  unfold V
  after_reads_simp
  pointwise
  try after_reads_simp
  pointwise
  simp only [tau_coe 16 (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

theorem lam_im_1 (g : Fin 32) (p : Fin 64) :
    V m c main_v363 (ix3 g (1 : Fin 2) (⟨64 + p.val, by omega⟩ : Fin 128)) = (((lam P 1 g p ^ 16).im : ℝ) : EReal) := by
  unfold V
  after_reads_simp
  pointwise
  try after_reads_simp
  pointwise
  try simp only [dif_neg (show ¬ (64 + p.val < 64) by omega), show 64 + p.val - 64 = p.val by omega, Fin.eta]
  simp only [tau_coe 16 (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

set_option maxHeartbeats 1000000 in
theorem wb_0 (g : Fin 32) (t i : Fin 16) (p : Fin 64) :
    V m c main_v364 (ix3 g (⟨16 * t.val + i.val, by omega⟩ : Fin 256) (⟨p.val, by omega⟩ : Fin 256))
      = (((lam P 0 g p ^ (15 - t.val) * bb P 0 g p i).re : ℝ) : EReal) := by
  unfold V
  after_reads_simp
  pointwise
  try after_reads_simp
  pointwise
  have e1 : (16 * t.val + i.val) / 16 = t.val := by omega
  have e2 : (16 * t.val + i.val) % 16 = i.val := by omega
  try simp (config := { decide := true }) only [e1, e2, Fin.eta, ↓reduceIte, Fin.val_rev, dif_pos p.isLt]
  simp only [tau_coe (16 - (t.val + 1)) (by omega), show 15 - t.val = 16 - (t.val + 1) by omega]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

set_option maxHeartbeats 1000000 in
theorem wb_1 (g : Fin 32) (t i : Fin 16) (p : Fin 64) :
    V m c main_v364 (ix3 g (⟨16 * t.val + i.val, by omega⟩ : Fin 256) (⟨64 + p.val, by omega⟩ : Fin 256))
      = (((lam P 1 g p ^ (t.val) * bb P 1 g p i).re : ℝ) : EReal) := by
  unfold V
  after_reads_simp
  pointwise
  try after_reads_simp
  pointwise
  have e1 : (16 * t.val + i.val) / 16 = t.val := by omega
  have e2 : (16 * t.val + i.val) % 16 = i.val := by omega
  try simp (config := { decide := true }) only [e1, e2, Fin.eta, ↓reduceIte, Fin.val_rev, dif_pos p.isLt, dif_neg (show ¬ (64 + p.val < 64) by omega), dif_pos (show 64 + p.val - 64 < 64 by omega), show 64 + p.val - 64 = p.val by omega]
  simp only [tau_coe t.val (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

set_option maxHeartbeats 1000000 in
theorem wb_2 (g : Fin 32) (t i : Fin 16) (p : Fin 64) :
    V m c main_v364 (ix3 g (⟨16 * t.val + i.val, by omega⟩ : Fin 256) (⟨128 + p.val, by omega⟩ : Fin 256))
      = (((lam P 0 g p ^ (15 - t.val) * bb P 0 g p i).im : ℝ) : EReal) := by
  unfold V
  after_reads_simp
  pointwise
  try after_reads_simp
  pointwise
  have e1 : (16 * t.val + i.val) / 16 = t.val := by omega
  have e2 : (16 * t.val + i.val) % 16 = i.val := by omega
  try simp (config := { decide := true }) only [e1, e2, Fin.eta, ↓reduceIte, Fin.val_rev, dif_pos p.isLt, dif_neg (show ¬ (128 + p.val < 64) by omega), dif_neg (show ¬ (128 + p.val - 64 < 64) by omega), dif_pos (show 128 + p.val - 64 - 64 < 64 by omega), show 128 + p.val - 64 - 64 = p.val by omega]
  simp only [tau_coe (16 - (t.val + 1)) (by omega), show 15 - t.val = 16 - (t.val + 1) by omega]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

set_option maxHeartbeats 1000000 in
theorem wb_3 (g : Fin 32) (t i : Fin 16) (p : Fin 64) :
    V m c main_v364 (ix3 g (⟨16 * t.val + i.val, by omega⟩ : Fin 256) (⟨192 + p.val, by omega⟩ : Fin 256))
      = (((lam P 1 g p ^ (t.val) * bb P 1 g p i).im : ℝ) : EReal) := by
  unfold V
  after_reads_simp
  pointwise
  try after_reads_simp
  pointwise
  have e1 : (16 * t.val + i.val) / 16 = t.val := by omega
  have e2 : (16 * t.val + i.val) % 16 = i.val := by omega
  try simp (config := { decide := true }) only [e1, e2, Fin.eta, ↓reduceIte, Fin.val_rev, dif_pos p.isLt, dif_neg (show ¬ (192 + p.val < 64) by omega), dif_neg (show ¬ (192 + p.val - 64 < 64) by omega), dif_neg (show ¬ (192 + p.val - 64 - 64 < 64) by omega), show 192 + p.val - 64 - 64 - 64 = p.val by omega]
  simp only [tau_coe t.val (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

set_option maxHeartbeats 1000000 in
theorem wca_0 (g : Fin 32) (t o : Fin 16) (p : Fin 64) :
    V m c main_v366 (ix3 g (⟨p.val, by omega⟩ : Fin 256) (⟨16 * t.val + o.val, by omega⟩ : Fin 256))
      = (((cc P 0 g o p * lam P 0 g p ^ (1 + t.val)).re : ℝ) : EReal) := by
  unfold V
  after_reads_simp
  pointwise
  try after_reads_simp
  pointwise
  have e1 : (16 * t.val + o.val) / 16 = t.val := by omega
  have e2 : (16 * t.val + o.val) % 16 = o.val := by omega
  try simp (config := { decide := true }) only [e1, e2, Fin.eta, ↓reduceIte, Fin.val_rev, dif_pos p.isLt]
  simp only [tau_coe (1 + t.val) (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

set_option maxHeartbeats 1000000 in
theorem wca_1 (g : Fin 32) (t o : Fin 16) (p : Fin 64) :
    V m c main_v366 (ix3 g (⟨64 + p.val, by omega⟩ : Fin 256) (⟨16 * t.val + o.val, by omega⟩ : Fin 256))
      = (0 : EReal) := by
  unfold V
  after_reads_simp
  pointwise
  try after_reads_simp
  pointwise

set_option maxHeartbeats 1000000 in
theorem wca_2 (g : Fin 32) (t o : Fin 16) (p : Fin 64) :
    V m c main_v366 (ix3 g (⟨128 + p.val, by omega⟩ : Fin 256) (⟨16 * t.val + o.val, by omega⟩ : Fin 256))
      = ((-(cc P 0 g o p * lam P 0 g p ^ (1 + t.val)).im : ℝ) : EReal) := by
  unfold V
  after_reads_simp
  pointwise
  try after_reads_simp
  pointwise
  have e1 : (16 * t.val + o.val) / 16 = t.val := by omega
  have e2 : (16 * t.val + o.val) % 16 = o.val := by omega
  try simp (config := { decide := true }) only [e1, e2, Fin.eta, ↓reduceIte, Fin.val_rev, dif_pos p.isLt, dif_neg (show ¬ (128 + p.val < 64) by omega), dif_neg (show ¬ (128 + p.val - 64 < 64) by omega), dif_pos (show 128 + p.val - 64 - 64 < 64 by omega), show 128 + p.val - 64 - 64 = p.val by omega]
  simp only [tau_coe (1 + t.val) (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

set_option maxHeartbeats 1000000 in
theorem wca_3 (g : Fin 32) (t o : Fin 16) (p : Fin 64) :
    V m c main_v366 (ix3 g (⟨192 + p.val, by omega⟩ : Fin 256) (⟨16 * t.val + o.val, by omega⟩ : Fin 256))
      = (0 : EReal) := by
  unfold V
  after_reads_simp
  pointwise
  try after_reads_simp
  pointwise
  have e1 : (16 * t.val + o.val) / 16 = t.val := by omega
  have e2 : (16 * t.val + o.val) % 16 = o.val := by omega
  try simp (config := { decide := true }) only [e1, e2, Fin.eta, ↓reduceIte, Fin.val_rev, dif_pos p.isLt, dif_neg (show ¬ (192 + p.val < 64) by omega), dif_neg (show ¬ (192 + p.val - 64 < 64) by omega), dif_neg (show ¬ (192 + p.val - 64 - 64 < 64) by omega), show 192 + p.val - 64 - 64 - 64 = p.val by omega]

set_option maxHeartbeats 1000000 in
theorem wcb_0 (g : Fin 32) (t o : Fin 16) (p : Fin 64) :
    V m c main_v367 (ix3 g (⟨p.val, by omega⟩ : Fin 256) (⟨16 * t.val + o.val, by omega⟩ : Fin 256))
      = (0 : EReal) := by
  unfold V
  after_reads_simp
  pointwise
  try after_reads_simp
  pointwise

set_option maxHeartbeats 1000000 in
theorem wcb_1 (g : Fin 32) (t o : Fin 16) (p : Fin 64) :
    V m c main_v367 (ix3 g (⟨64 + p.val, by omega⟩ : Fin 256) (⟨16 * t.val + o.val, by omega⟩ : Fin 256))
      = (((cc P 1 g o p * lam P 1 g p ^ (1 + (16 - (t.val + 1)))).re : ℝ) : EReal) := by
  unfold V
  after_reads_simp
  pointwise
  try after_reads_simp
  pointwise
  have e1 : (16 * t.val + o.val) / 16 = t.val := by omega
  have e2 : (16 * t.val + o.val) % 16 = o.val := by omega
  try simp (config := { decide := true }) only [e1, e2, Fin.eta, ↓reduceIte, Fin.val_rev, dif_pos p.isLt, dif_neg (show ¬ (64 + p.val < 64) by omega), dif_pos (show 64 + p.val - 64 < 64 by omega), show 64 + p.val - 64 = p.val by omega]
  simp only [tau_coe (1 + (16 - (t.val + 1))) (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

set_option maxHeartbeats 1000000 in
theorem wcb_2 (g : Fin 32) (t o : Fin 16) (p : Fin 64) :
    V m c main_v367 (ix3 g (⟨128 + p.val, by omega⟩ : Fin 256) (⟨16 * t.val + o.val, by omega⟩ : Fin 256))
      = (0 : EReal) := by
  unfold V
  after_reads_simp
  pointwise
  try after_reads_simp
  pointwise
  have e1 : (16 * t.val + o.val) / 16 = t.val := by omega
  have e2 : (16 * t.val + o.val) % 16 = o.val := by omega
  try simp (config := { decide := true }) only [e1, e2, Fin.eta, ↓reduceIte, Fin.val_rev, dif_pos p.isLt, dif_neg (show ¬ (128 + p.val < 64) by omega), dif_neg (show ¬ (128 + p.val - 64 < 64) by omega), dif_pos (show 128 + p.val - 64 - 64 < 64 by omega), show 128 + p.val - 64 - 64 = p.val by omega]

set_option maxHeartbeats 1000000 in
theorem wcb_3 (g : Fin 32) (t o : Fin 16) (p : Fin 64) :
    V m c main_v367 (ix3 g (⟨192 + p.val, by omega⟩ : Fin 256) (⟨16 * t.val + o.val, by omega⟩ : Fin 256))
      = ((-(cc P 1 g o p * lam P 1 g p ^ (1 + (16 - (t.val + 1)))).im : ℝ) : EReal) := by
  unfold V
  after_reads_simp
  pointwise
  try after_reads_simp
  pointwise
  have e1 : (16 * t.val + o.val) / 16 = t.val := by omega
  have e2 : (16 * t.val + o.val) % 16 = o.val := by omega
  try simp (config := { decide := true }) only [e1, e2, Fin.eta, ↓reduceIte, Fin.val_rev, dif_pos p.isLt, dif_neg (show ¬ (192 + p.val < 64) by omega), dif_neg (show ¬ (192 + p.val - 64 < 64) by omega), dif_neg (show ¬ (192 + p.val - 64 - 64 < 64) by omega), show 192 + p.val - 64 - 64 - 64 = p.val by omega]
  simp only [tau_coe (1 + (16 - (t.val + 1))) (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _)]
  refine congrArg _ ?_
  simp only [Complex.mul_re, Complex.mul_im, lam_pow_re, lam_pow_im, bb_re, bb_im, q_re, q_im, lam_re, lam_im, zre, zim, cc]
  try ring

end Cert.KernelIdeal.Weights

end
-- ==== Proof.Toeplitz.lean ====
/- The matrix that acts within one chunk, as the host code builds it: the impulse responses of both directions laid
   out by lag, and the skip on the diagonal. -/
module

public import proofs.«01_k».proof.Proof.IdealRun
public import proofs.«01_k».proof.Proof.RefValue
public import Idealize.ShloMosaic.Lib.Pointwise
public import Idealize.ShloMosaic.Lib.StableHlo.RunRead

@[expose] public section

set_option maxRecDepth 16384

noncomputable section

namespace Cert.KernelIdeal.Toeplitz

open Cert.KernelIdeal Cert.KernelIdeal.Gen Cert.Model
open Idealize.ShloMosaic Idealize.ShloMosaic.TcCoe
theorem gather_at (x : S16x32x16x16.Idx → EReal) (idx : IVec S16x16x1 32) (a b : Fin 16) (g : Fin 32) (o i : Fin 16) (k : Fin 16)
    (hk : min (idx (ix3 a b 0)).toInt.toNat 15 = k.val) :
    Host.gather gather_S16x32x16x16_S16x16x1_S16x16x32x16x16_234_0_n_n_0_2_1321616 x idx (ix5 a b g o i) = x (ix4 k g o i) := by
  unfold Host.gather
  congr 1
  funext z
  refine Fin.ext ?_
  show GatherDims.start gather_S16x32x16x16_S16x16x1_S16x16x32x16x16_234_0_n_n_0_2_1321616 _ idx z
    + GatherDims.batchCoord gather_S16x32x16x16_S16x16x1_S16x16x32x16x16_234_0_n_n_0_2_1321616 _ z
    + GatherDims.offCoord gather_S16x32x16x16_S16x16x1_S16x16x32x16x16_234_0_n_n_0_2_1321616 _ z = _
  rw [GatherDims.batchCoord_eq_zero _ _ _ List.not_mem_nil, Nat.add_zero]
  unfold GatherDims.start
  obtain rfl | rfl | rfl | rfl : z = 0 ∨ z = 1 ∨ z = 2 ∨ z = 3 := by revert z; decide
  · rw [GatherDims.offCoord_eq_zero _ _ _ (fun h => ((GatherDims.mem_sKept _ _).mp h).1 (List.mem_singleton.mpr rfl)),
      dif_pos (show (0 : Fin 4) ∈ gather_S16x32x16x16_S16x16x1_S16x16x32x16x16_234_0_n_n_0_2_1321616.startIndexMap from
      List.mem_singleton.mpr rfl)]
    refine Eq.trans ?_ hk
    refine congrArg (fun q => min (idx q).toInt.toNat 15) ?_
    funext q; refine Fin.ext ?_
    match q with
    | ⟨0, _⟩ => rfl
    | ⟨1, _⟩ => rfl
    | ⟨2, _⟩ => rfl
  · rw [dif_neg (by decide)]
    exact Nat.zero_add _
  · rw [dif_neg (by decide)]
    exact Nat.zero_add _
  · rw [dif_neg (by decide)]
    exact Nat.zero_add _

/-- The gather's start index made of a lag: the lag clipped to the table. -/
def startOf (v : BitVec 32) : BitVec 32 :=
  Scalar.select (IntOp.cmpi .slt (IntOp.minsi 15#32 (IntOp.maxsi 0#32 v)) 0#32)
    (IntOp.addi (IntOp.minsi 15#32 (IntOp.maxsi 0#32 v)) 16#32) (IntOp.minsi 15#32 (IntOp.maxsi 0#32 v))

theorem start_fwd : ∀ a b : Fin 16,
    min (startOf (IntOp.subi (BitVec.ofNat 32 b.val) (BitVec.ofNat 32 a.val))).toInt.toNat 15 = b.val - a.val := by
  decide +kernel

theorem start_bwd : ∀ a b : Fin 16,
    min (startOf (IntOp.subi 0#32 (IntOp.subi (BitVec.ofNat 32 b.val) (BitVec.ofNat 32 a.val)))).toInt.toNat 15 = a.val - b.val := by
  decide +kernel

theorem lag_fwd : ∀ a b : Fin 16, IntOp.cmpi .sge (IntOp.subi (BitVec.ofNat 32 b.val) (BitVec.ofNat 32 a.val)) 0#32
    = if a.val ≤ b.val then 1#1 else 0#1 := by decide +kernel

theorem lag_bwd : ∀ a b : Fin 16, IntOp.cmpi .sle (IntOp.subi (BitVec.ofNat 32 b.val) (BitVec.ofNat 32 a.val)) 0#32
    = if b.val ≤ a.val then 1#1 else 0#1 := by decide +kernel

theorem same : ∀ a b : Fin 16, IntOp.cmpi .eq (IntOp.addi (BitVec.ofNat 32 a.val) 0#32) (BitVec.ofNat 32 b.val)
    = if a = b then 1#1 else 0#1 := by decide +kernel

theorem one_bit : (FloatOps.uitofp (F := Ideal) .f32 1#1 = (1 : EReal)) ∧ (FloatOps.uitofp (F := Ideal) .f32 0#1 = (0 : EReal)) := by
  constructor
  · show (((1#1 : BitVec 1).toNat : ℝ) : EReal) = 1
    simp
  · show (((0#1 : BitVec 1).toNat : ℝ) : EReal) = 0
    simp

theorem pick (q : Prop) [Decidable q] (a b : EReal) : Scalar.select (if q then 1#1 else 0#1) a b = if q then a else b := by
  split <;> rfl

set_option maxHeartbeats 2000000 in
/-- The within-chunk matrix, from the two impulse responses and the skip. -/
theorem toeplitz (W : Valuation τ sig (Elt Ideal))
    (h194 : ∀ a b : Fin 16, W (Proc.tc.devRef main_v194) (ix2 a b) = IntOp.subi (BitVec.ofNat 32 b.val) (BitVec.ofNat 32 a.val))
    (h197 : ∀ a b : Fin 16, W (Proc.tc.devRef main_v197) (ix5 a b 0 0 0)
      = IntOp.cmpi .sge (IntOp.subi (BitVec.ofNat 32 b.val) (BitVec.ofNat 32 a.val)) 0#32)
    (hc1 : W (Proc.tc.devRef main_c_1) = constantI S_ 32 0#32) (hc2 : W (Proc.tc.devRef main_c_2) = constantI S_ 32 15#32)
    (k98 k188 : S16x32x16x16.Idx → EReal) (k7 : S32x16.Idx → EReal) (h98 : W (Proc.tc.devRef main_v98) = k98)
    (h188 : W (Proc.tc.devRef main_v188) = k188) (h7 : W (Proc.tc.devRef main_v7) = k7)
    (g : Fin 32) (t o t' i : Fin 16) :
    (StableHlo.after (List.flatten [hostOps0_1, hostOps0_2, hostOps0_3, hostOps0_4, hostOps0_5, hostOps0_6, hostOps0_7,
        hostOps0_8]) W (Proc.tc.devRef main_v365) : FVec Ideal S32x256x256 .bf16)
      (ix3 g (⟨16 * t'.val + i.val, by omega⟩ : Fin 256) (⟨16 * t.val + o.val, by omega⟩ : Fin 256))
      = ((if t'.val ≤ t.val then (k98 (ix4 ⟨t.val - t'.val, by omega⟩ g o i)) else (0 : EReal))
        + (if t.val ≤ t'.val then (k188 (ix4 ⟨t'.val - t.val, by omega⟩ g o i)) else (0 : EReal))
        + (if t' = t then 1 else 0) * (if o = i then 1 else 0) * k7 (ix2 g o) : EReal) := by
  have e1 : (16*t.val+o.val)/16 = t.val := by omega
  have e2 : (16*t.val+o.val)%16 = o.val := by omega
  have e3 : (16*t'.val+i.val)/16 = t'.val := by omega
  have e4 : (16*t'.val+i.val)%16 = i.val := by omega
  after_reads_simp
  simp only [StableHlo.TRef.ofBuf_toBuf, StableHlo.TRef.ofBuf, cast_eq, id]
  pointwise
  simp only [StableHlo.TRef.toBuf, cast_eq, e1, e2, e3, e4, Fin.eta]
  pointwise
  rw [gather_at _ _ t' t g o i ⟨t.val - t'.val, by omega⟩ ?_, gather_at _ _ t' t g o i ⟨t'.val - t.val, by omega⟩ ?_]
  · simp only [h98, h188, h7, h194, h197, lag_fwd, lag_bwd, pick, same]
    refine congrArg₂ _ rfl (congrArg₂ _ (congrArg₂ _ ?_ ?_) rfl) <;> split <;> simp only [one_bit.1, one_bit.2]
  · pointwise
    simp only [h194]
    exact start_bwd t' t
  · pointwise
    simp only [h194, hc1, hc2]
    pointwise
    exact start_fwd t' t

end Cert.KernelIdeal.Toeplitz

end
-- ==== Proof.Impulse.lean ====
/- The impulse responses of the two directions as the host code computes them, and with them the value of the
   matrix that acts within one chunk. -/
module

public import proofs.«01_k».proof.Proof.Weights
public import proofs.«01_k».proof.Proof.Toeplitz
public import Idealize.ShloMosaic.Lib.Pipeline.Frame
public import Idealize.ShloMosaic.Lib.Pointwise
public import Idealize.ShloMosaic.Lib.StableHlo.RunRead

@[expose] public section

set_option maxRecDepth 16384

noncomputable section

namespace Cert.KernelIdeal.Weights

open Cert.KernelIdeal Cert.KernelIdeal.Gen Cert.Model
open Idealize.ShloMosaic Idealize.ShloMosaic.TcCoe

variable {P : Par} {m : (ℓ : Loc nD τ sig) → Buf (Elt Ideal) ℓ} {c : Dev nD} (H : Args P m c)
include H

set_option maxHeartbeats 2000000 in
theorem fwd_resp (n : Fin 16) (g : Fin 32) (o i : Fin 16) :
    StableHlo.after hostOps0 (fun b => m (c, b)) (Proc.tc.devRef main_v98) (ix4 n g o i)
      = ((∑ p, (cc P 0 g o p * lam P 0 g p ^ n.val * bb P 0 g p i).re : ℝ) : EReal) := by
  after_reads_simp
  pointwise
  simp only [tau_coe n.val (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _), sum_coe]
  refine congrArg _ ?_
  rw [← Finset.sum_sub_distrib]
  refine Finset.sum_congr rfl fun p _ => ?_
  simp only [Complex.mul_re, Complex.mul_im, lam_pow_re, lam_pow_im, bb_re, bb_im, q_re, q_im, lam_re, lam_im, zre, zim, cc]
  ring

set_option maxHeartbeats 2000000 in
theorem bwd_resp (n : Fin 16) (g : Fin 32) (o i : Fin 16) :
    StableHlo.after hostOps0 (fun b => m (c, b)) (Proc.tc.devRef main_v188) (ix4 n g o i)
      = ((∑ p, (cc P 1 g o p * lam P 1 g p ^ n.val * bb P 1 g p i).re : ℝ) : EReal) := by
  after_reads_simp
  pointwise
  simp only [tau_coe n.val (by omega)]
  simp only [H.h1, H.h2, H.h3, H.h4, H.h5, H.h6, H.h7, exp_coe, cos_coe, sin_coe, ← EReal.coe_mul, ← EReal.coe_add,
    ← EReal.coe_sub, ← EReal.coe_one, ← EReal.coe_neg, div_coe _ _ (P.nz _ _ _), sum_coe]
  refine congrArg _ ?_
  rw [← Finset.sum_sub_distrib]
  refine Finset.sum_congr rfl fun p _ => ?_
  simp only [Complex.mul_re, Complex.mul_im, lam_pow_re, lam_pow_im, bb_re, bb_im, q_re, q_im, lam_re, lam_im, zre, zim, cc]
  ring

omit H in
theorem V_split (r : Ref sig .tc) : V m c r = StableHlo.after (List.flatten [hostOps0_1, hostOps0_2, hostOps0_3, hostOps0_4,
    hostOps0_5, hostOps0_6, hostOps0_7, hostOps0_8]) (StableHlo.after hostOps0 (fun b => m (c, b))) (Proc.tc.devRef r) :=
  congrFun (StableHlo.after_append hostOps0 (List.flatten [hostOps0_1, hostOps0_2, hostOps0_3, hostOps0_4,
    hostOps0_5, hostOps0_6, hostOps0_7, hostOps0_8]) (fun b => m (c, b))) (Proc.tc.devRef r)

/-- The within-chunk matrix: from step `s`, channel `i` to step `t`, channel `o`. -/
theorem tt_val (g : Fin 32) (t o s i : Fin 16) :
    V m c main_v365 (ix3 g (⟨16 * s.val + i.val, by omega⟩ : Fin 256) (⟨16 * t.val + o.val, by omega⟩ : Fin 256))
      = (((if s.val ≤ t.val then ∑ p, (cc P 0 g o p * lam P 0 g p ^ (t.val - s.val) * bb P 0 g p i).re else 0)
          + (if t.val ≤ s.val then ∑ p, (cc P 1 g o p * lam P 1 g p ^ (s.val - t.val) * bb P 1 g p i).re else 0)
          + (if s.val = t.val ∧ i = o then P.dsk g o else 0) : ℝ) : EReal) := by
  rw [V_split]
  refine (Toeplitz.toeplitz (StableHlo.after hostOps0 (fun b => m (c, b))) ?_ ?_ ?_ ?_ _ _ _ rfl rfl rfl g t o s i).trans ?_
  · intro a b
    after_reads_simp
    pointwise
  · intro a b
    after_reads_simp
    pointwise
  · after_reads_simp
  · after_reads_simp
  · rw [fwd_resp H, bwd_resp H]
    have h7 : StableHlo.after hostOps0 (fun b => m (c, b)) (Proc.tc.devRef main_v7) (ix2 g o) = ((P.dsk g o : ℝ) : EReal) := by
      after_reads_simp
      pointwise
      rw [H.h8]
    rw [h7, EReal.coe_add, EReal.coe_add]
    refine congrArg₂ _ (congrArg₂ _ ?_ ?_) ?_
    · split <;> simp
    · split <;> simp
    · by_cases h1 : s = t
      · by_cases h2 : i = o
        · subst h1 h2; simp
        · have h2' : ¬ o = i := fun h => h2 h.symm
          simp [h1, h2, h2']
      · have h1' : ¬ s.val = t.val := fun h => h1 (Fin.ext h)
        have h3 : ¬ t = s := fun h => h1 h.symm
        simp [h1, h1', h3, Fin.val_inj]

end Cert.KernelIdeal.Weights

end
-- ==== Proof.IdealValue.lean ====
/- What the kernel's launch leaves in the result array: at every index the layer's S5 output. -/
module

public import proofs.«01_k».proof.Proof.IdealLoops
public import proofs.«01_k».proof.Proof.Carry
public import proofs.«01_k».proof.Proof.Blocks
public import proofs.«01_k».proof.Proof.Impulse

@[expose] public section

set_option maxRecDepth 16384

noncomputable section

namespace Cert.KernelIdeal.Value

open Cert.KernelIdeal Cert.KernelIdeal.Gen Cert.KernelIdeal.Body Cert.KernelIdeal.Loops Cert.Model
open Idealize.ShloMosaic Idealize.ShloMosaic.TcCoe

/-- What the six input blocks of group `g` hold. -/
structure Holds (P : Par) (g : Fin 32) (x0 : Vec Ideal S1x4096x256 .bf16) (x1 x2 x3 x4 : Vec Ideal S1x256x256 .bf16)
    (x5 : Vec Ideal S1x2x128 .f32) : Prop where
  seq : ∀ (k : Fin 256) (b s i : Fin 16), x0 (ix3 (0 : Fin 1) (⟨16 * k.val + b.val, by omega⟩ : Fin 4096) (⟨16 * s.val + i.val, by omega⟩ : Fin 256))
    = ((xs P b g (16 * k.val + s.val) i : ℝ) : EReal)
  b0 : ∀ (t i : Fin 16) (p : Fin 64), x1 (ix3 (0 : Fin 1) (⟨16 * t.val + i.val, by omega⟩ : Fin 256) (⟨p.val, by omega⟩ : Fin 256))
    = (((lam P 0 g p ^ (15 - t.val) * bb P 0 g p i).re : ℝ) : EReal)
  b1 : ∀ (t i : Fin 16) (p : Fin 64), x1 (ix3 (0 : Fin 1) (⟨16 * t.val + i.val, by omega⟩ : Fin 256) (⟨64 + p.val, by omega⟩ : Fin 256))
    = (((lam P 1 g p ^ t.val * bb P 1 g p i).re : ℝ) : EReal)
  b2 : ∀ (t i : Fin 16) (p : Fin 64), x1 (ix3 (0 : Fin 1) (⟨16 * t.val + i.val, by omega⟩ : Fin 256) (⟨128 + p.val, by omega⟩ : Fin 256))
    = (((lam P 0 g p ^ (15 - t.val) * bb P 0 g p i).im : ℝ) : EReal)
  b3 : ∀ (t i : Fin 16) (p : Fin 64), x1 (ix3 (0 : Fin 1) (⟨16 * t.val + i.val, by omega⟩ : Fin 256) (⟨192 + p.val, by omega⟩ : Fin 256))
    = (((lam P 1 g p ^ t.val * bb P 1 g p i).im : ℝ) : EReal)
  tri : ∀ (t o s i : Fin 16), x2 (ix3 (0 : Fin 1) (⟨16 * s.val + i.val, by omega⟩ : Fin 256) (⟨16 * t.val + o.val, by omega⟩ : Fin 256))
    = (((if s.val ≤ t.val then ∑ p, (cc P 0 g o p * lam P 0 g p ^ (t.val - s.val) * bb P 0 g p i).re else 0)
          + (if t.val ≤ s.val then ∑ p, (cc P 1 g o p * lam P 1 g p ^ (s.val - t.val) * bb P 1 g p i).re else 0)
          + (if s.val = t.val ∧ i = o then P.dsk g o else 0) : ℝ) : EReal)
  wa0 : ∀ (t o : Fin 16) (p : Fin 64), x3 (ix3 (0 : Fin 1) (⟨p.val, by omega⟩ : Fin 256) (⟨16 * t.val + o.val, by omega⟩ : Fin 256))
    = (((cc P 0 g o p * lam P 0 g p ^ (1 + t.val)).re : ℝ) : EReal)
  wa1 : ∀ (t o : Fin 16) (p : Fin 64), x3 (ix3 (0 : Fin 1) (⟨64 + p.val, by omega⟩ : Fin 256) (⟨16 * t.val + o.val, by omega⟩ : Fin 256)) = (0 : EReal)
  wa2 : ∀ (t o : Fin 16) (p : Fin 64), x3 (ix3 (0 : Fin 1) (⟨128 + p.val, by omega⟩ : Fin 256) (⟨16 * t.val + o.val, by omega⟩ : Fin 256))
    = ((-(cc P 0 g o p * lam P 0 g p ^ (1 + t.val)).im : ℝ) : EReal)
  wa3 : ∀ (t o : Fin 16) (p : Fin 64), x3 (ix3 (0 : Fin 1) (⟨192 + p.val, by omega⟩ : Fin 256) (⟨16 * t.val + o.val, by omega⟩ : Fin 256)) = (0 : EReal)
  wb0 : ∀ (t o : Fin 16) (p : Fin 64), x4 (ix3 (0 : Fin 1) (⟨p.val, by omega⟩ : Fin 256) (⟨16 * t.val + o.val, by omega⟩ : Fin 256)) = (0 : EReal)
  wb1 : ∀ (t o : Fin 16) (p : Fin 64), x4 (ix3 (0 : Fin 1) (⟨64 + p.val, by omega⟩ : Fin 256) (⟨16 * t.val + o.val, by omega⟩ : Fin 256))
    = (((cc P 1 g o p * lam P 1 g p ^ (1 + (16 - (t.val + 1)))).re : ℝ) : EReal)
  wb2 : ∀ (t o : Fin 16) (p : Fin 64), x4 (ix3 (0 : Fin 1) (⟨128 + p.val, by omega⟩ : Fin 256) (⟨16 * t.val + o.val, by omega⟩ : Fin 256)) = (0 : EReal)
  wb3 : ∀ (t o : Fin 16) (p : Fin 64), x4 (ix3 (0 : Fin 1) (⟨192 + p.val, by omega⟩ : Fin 256) (⟨16 * t.val + o.val, by omega⟩ : Fin 256))
    = ((-(cc P 1 g o p * lam P 1 g p ^ (1 + (16 - (t.val + 1)))).im : ℝ) : EReal)
  l0 : ∀ p : Fin 64, x5 (ix3 (0 : Fin 1) (0 : Fin 2) (⟨p.val, by omega⟩ : Fin 128)) = (((lam P 0 g p ^ 16).re : ℝ) : EReal)
  l1 : ∀ p : Fin 64, x5 (ix3 (0 : Fin 1) (0 : Fin 2) (⟨64 + p.val, by omega⟩ : Fin 128)) = (((lam P 1 g p ^ 16).re : ℝ) : EReal)
  l2 : ∀ p : Fin 64, x5 (ix3 (0 : Fin 1) (1 : Fin 2) (⟨p.val, by omega⟩ : Fin 128)) = (((lam P 0 g p ^ 16).im : ℝ) : EReal)
  l3 : ∀ p : Fin 64, x5 (ix3 (0 : Fin 1) (1 : Fin 2) (⟨64 + p.val, by omega⟩ : Fin 128)) = (((lam P 1 g p ^ 16).im : ℝ) : EReal)

section
variable (c : Dev nD) (i : grid0.Coords)
  (arg1 : Memref sig .tc .vmem S1x4096x256 .bf16) (harg1 : arg1.IsWhole)
  (arg2 : Memref sig .tc .vmem S1x256x256 .bf16) (harg2 : arg2.IsWhole)
  (arg3 : Memref sig .tc .vmem S1x256x256 .bf16) (harg3 : arg3.IsWhole)
  (arg4 : Memref sig .tc .vmem S1x256x256 .bf16) (harg4 : arg4.IsWhole)
  (arg5 : Memref sig .tc .vmem S1x256x256 .bf16) (harg5 : arg5.IsWhole)
  (arg6 : Memref sig .tc .vmem S1x2x128 .f32) (harg6 : arg6.IsWhole)
  (arg7 : Memref sig .tc .vmem S1x4096x256 .bf16) (harg7 : arg7.IsWhole)
  (arg8 : Memref sig .tc .vmem S4096x256 .f32) (harg8 : arg8.IsWhole)
  (arg9 : Memref sig .tc .vmem S4096x256 .f32) (harg9 : arg9.IsWhole)
  (arg10 : Memref sig .tc .vmem S4096x256 .f32) (harg10 : arg10.IsWhole)
variable {P : Par} {g : Fin 32} {x0 : Vec Ideal S1x4096x256 .bf16} {x1 x2 x3 x4 : Vec Ideal S1x256x256 .bf16}
  {x5 : Vec Ideal S1x2x128 .f32} (H : Holds P g x0 x1 x2 x3 x4 x5)
include H

/-- The first loop's scratch holds the chunks' input sums. -/
theorem sums_hold : Carry.Sums P g (fun r l => View.canon (sums c i arg1 harg1 arg2 harg2 arg3 harg3 arg4 harg4 arg5 harg5 arg6 harg6 arg7 harg7 arg8 harg8 arg9 harg9 arg10 harg10 (harg1.unread x0) (harg2.unread x1)) (ix2 r l)) := by
  constructor <;> intro k b p
  · refine (sums_val c i arg1 harg1 arg2 harg2 arg3 harg3 arg4 harg4 arg5 harg5 arg6 harg6 arg7 harg7 arg8 harg8 arg9 harg9 arg10 harg10 x0 x1 _ _).trans ((Carry.sum_steps _).trans ?_)
    simp only [H.seq, H.b0, ← EReal.coe_mul, sum_coe]
  · refine (sums_val c i arg1 harg1 arg2 harg2 arg3 harg3 arg4 harg4 arg5 harg5 arg6 harg6 arg7 harg7 arg8 harg8 arg9 harg9 arg10 harg10 x0 x1 _ _).trans ((Carry.sum_steps _).trans ?_)
    simp only [H.seq, H.b1, ← EReal.coe_mul, sum_coe]
  · refine (sums_val c i arg1 harg1 arg2 harg2 arg3 harg3 arg4 harg4 arg5 harg5 arg6 harg6 arg7 harg7 arg8 harg8 arg9 harg9 arg10 harg10 x0 x1 _ _).trans ((Carry.sum_steps _).trans ?_)
    simp only [H.seq, H.b2, ← EReal.coe_mul, sum_coe]
  · refine (sums_val c i arg1 harg1 arg2 harg2 arg3 harg3 arg4 harg4 arg5 harg5 arg6 harg6 arg7 harg7 arg8 harg8 arg9 harg9 arg10 harg10 x0 x1 _ _).trans ((Carry.sum_steps _).trans ?_)
    simp only [H.seq, H.b3, ← EReal.coe_mul, sum_coe]

/-- The carried pair before step `n` holds the two states. -/
theorem states_hold (v1 v3 : Vec Ideal S1x1x128 .f32)
    (hv : Carry.Factors P g (fun j => v1 (ix3 0 0 j)) (fun j => v3 (ix3 0 0 j))) (n : ℕ) (hn : n ≤ 256) :
    Carry.States P g
      (fun b j => (walked c i arg1 harg1 arg2 harg2 arg3 harg3 arg4 harg4 arg5 harg5 arg6 harg6 arg7 harg7 arg8 harg8 arg9 harg9 arg10 harg10 v1 v3 (View.canon (sums c i arg1 harg1 arg2 harg2 arg3 harg3 arg4 harg4 arg5 harg5 arg6 harg6 arg7 harg7 arg8 harg8 arg9 harg9 arg10 harg10 (harg1.unread x0) (harg2.unread x1))) (k0_pay5, k0_pay5) n).1 (ix2 b j))
      (fun b j => (walked c i arg1 harg1 arg2 harg2 arg3 harg3 arg4 harg4 arg5 harg5 arg6 harg6 arg7 harg7 arg8 harg8 arg9 harg9 arg10 harg10 v1 v3 (View.canon (sums c i arg1 harg1 arg2 harg2 arg3 harg3 arg4 harg4 arg5 harg5 arg6 harg6 arg7 harg7 arg8 harg8 arg9 harg9 arg10 harg10 (harg1.unread x0) (harg2.unread x1))) (k0_pay5, k0_pay5) n).2 (ix2 b j)) n := by
  refine Carry.states
    (fun n b j => (walked c i arg1 harg1 arg2 harg2 arg3 harg3 arg4 harg4 arg5 harg5 arg6 harg6 arg7 harg7 arg8 harg8 arg9 harg9 arg10 harg10 v1 v3 (View.canon (sums c i arg1 harg1 arg2 harg2 arg3 harg3 arg4 harg4 arg5 harg5 arg6 harg6 arg7 harg7 arg8 harg8 arg9 harg9 arg10 harg10 (harg1.unread x0) (harg2.unread x1))) (k0_pay5, k0_pay5) n).1 (ix2 b j))
    (fun n b j => (walked c i arg1 harg1 arg2 harg2 arg3 harg3 arg4 harg4 arg5 harg5 arg6 harg6 arg7 harg7 arg8 harg8 arg9 harg9 arg10 harg10 v1 v3 (View.canon (sums c i arg1 harg1 arg2 harg2 arg3 harg3 arg4 harg4 arg5 harg5 arg6 harg6 arg7 harg7 arg8 harg8 arg9 harg9 arg10 harg10 (harg1.unread x0) (harg2.unread x1))) (k0_pay5, k0_pay5) n).2 (ix2 b j))
    (sums_hold c i arg1 harg1 arg2 harg2 arg3 harg3 arg4 harg4 arg5 harg5 arg6 harg6 arg7 harg7 arg8 harg8 arg9 harg9 arg10 harg10 H) hv ?_ ?_ ?_ ?_ n hn
  · intro b j
    show k0_pay5 (F := Ideal) (ix2 b j) = 0
    pointwise [k0_pay5]
  · intro b j
    show k0_pay5 (F := Ideal) (ix2 b j) = 0
    pointwise [k0_pay5]
  · intro n hn b j
    exact walk_re c i arg1 harg1 arg2 harg2 arg3 harg3 arg4 harg4 arg5 harg5 arg6 harg6 arg7 harg7 arg8 harg8 arg9 harg9 arg10 harg10 v1 v3 _ _ n hn b j
  · intro n hn b j
    exact walk_im c i arg1 harg1 arg2 harg2 arg3 harg3 arg4 harg4 arg5 harg5 arg6 harg6 arg7 harg7 arg8 harg8 arg9 harg9 arg10 harg10 v1 v3 _ _ n hn b j

/-- The output block: the layer's output of group `g`. -/
theorem block_val (v1 v3 : Vec Ideal S1x1x128 .f32)
    (hv : Carry.Factors P g (fun j => v1 (ix3 0 0 j)) (fun j => v3 (ix3 0 0 j)))
    (hc : ∀ y, ∃ p ∈ pb_k0_t3 (F := Ideal) Variants.none c none i arg1 harg1 arg2 harg2 arg3 harg3 arg4 harg4 arg5 harg5 arg6 harg6 arg7 harg7 arg8 harg8 arg9 harg9 arg10 harg10 (harg1.unread x0) (harg3.unread x2)
      (harg4.unread x3) (harg5.unread x4)
      (harg9.unread (View.canon (walk c i arg1 harg1 arg2 harg2 arg3 harg3 arg4 harg4 arg5 harg5 arg6 harg6 arg7 harg7 arg8 harg8 arg9 harg9 arg10 harg10 v1 v3 (harg8.unread (View.canon (sums c i arg1 harg1 arg2 harg2 arg3 harg3 arg4 harg4 arg5 harg5 arg6 harg6 arg7 harg7 arg8 harg8 arg9 harg9 arg10 harg10 (harg1.unread x0) (harg2.unread x1)))) (k0_pay5, k0_pay5)).2.1))
      (harg10.unread (View.canon (walk c i arg1 harg1 arg2 harg2 arg3 harg3 arg4 harg4 arg5 harg5 arg6 harg6 arg7 harg7 arg8 harg8 arg9 harg9 arg10 harg10 v1 v3 (harg8.unread (View.canon (sums c i arg1 harg1 arg2 harg2 arg3 harg3 arg4 harg4 arg5 harg5 arg6 harg6 arg7 harg7 arg8 harg8 arg9 harg9 arg10 harg10 (harg1.unread x0) (harg2.unread x1)))) (k0_pay5, k0_pay5)).2.2))
      k0_t3_loop.trips, y ∈ p.1.set) (k : Fin 256) (b t o : Fin 16) :
    View.canon (pb_k0_t3 (F := Ideal) Variants.none c none i arg1 harg1 arg2 harg2 arg3 harg3 arg4 harg4 arg5 harg5 arg6 harg6 arg7 harg7 arg8 harg8 arg9 harg9 arg10 harg10 (harg1.unread x0) (harg3.unread x2)
      (harg4.unread x3) (harg5.unread x4)
      (harg9.unread (View.canon (walk c i arg1 harg1 arg2 harg2 arg3 harg3 arg4 harg4 arg5 harg5 arg6 harg6 arg7 harg7 arg8 harg8 arg9 harg9 arg10 harg10 v1 v3 (harg8.unread (View.canon (sums c i arg1 harg1 arg2 harg2 arg3 harg3 arg4 harg4 arg5 harg5 arg6 harg6 arg7 harg7 arg8 harg8 arg9 harg9 arg10 harg10 (harg1.unread x0) (harg2.unread x1)))) (k0_pay5, k0_pay5)).2.1))
      (harg10.unread (View.canon (walk c i arg1 harg1 arg2 harg2 arg3 harg3 arg4 harg4 arg5 harg5 arg6 harg6 arg7 harg7 arg8 harg8 arg9 harg9 arg10 harg10 v1 v3 (harg8.unread (View.canon (sums c i arg1 harg1 arg2 harg2 arg3 harg3 arg4 harg4 arg5 harg5 arg6 harg6 arg7 harg7 arg8 harg8 arg9 harg9 arg10 harg10 (harg1.unread x0) (harg2.unread x1)))) (k0_pay5, k0_pay5)).2.2))
      k0_t3_loop.trips) (ix3 (0 : Fin 1) (⟨16 * k.val + b.val, by omega⟩ : Fin 4096) (⟨16 * t.val + o.val, by omega⟩ : Fin 256))
      = ((y P b g (16 * k.val + t.val) o : ℝ) : EReal) := by
  refine (emit_val c i arg1 harg1 arg2 harg2 arg3 harg3 arg4 harg4 arg5 harg5 arg6 harg6 arg7 harg7 arg8 harg8 arg9 harg9 arg10 harg10 x0 x2 x3 x4 _ _ hc _ _).trans ?_
  have hf := states_hold c i arg1 harg1 arg2 harg2 arg3 harg3 arg4 harg4 arg5 harg5 arg6 harg6 arg7 harg7 arg8 harg8 arg9 harg9 arg10 harg10 H v1 v3 hv k.val (by omega)
  have hb := states_hold c i arg1 harg1 arg2 harg2 arg3 harg3 arg4 harg4 arg5 harg5 arg6 harg6 arg7 harg7 arg8 harg8 arg9 harg9 arg10 harg10 H v1 v3 hv (255 - k.val) (by omega)
  have rf := fun j => fwd_val c i arg1 harg1 arg2 harg2 arg3 harg3 arg4 harg4 arg5 harg5 arg6 harg6 arg7 harg7 arg8 harg8 arg9 harg9 arg10 harg10 v1 v3 (View.canon (sums c i arg1 harg1 arg2 harg2 arg3 harg3 arg4 harg4 arg5 harg5 arg6 harg6 arg7 harg7 arg8 harg8 arg9 harg9 arg10 harg10 (harg1.unread x0) (harg2.unread x1))) (k0_pay5, k0_pay5)
    k.val k.isLt b j (⟨16 * k.val + b.val, by omega⟩ : Fin 4096) rfl
  have rb := fun j => bwd_val c i arg1 harg1 arg2 harg2 arg3 harg3 arg4 harg4 arg5 harg5 arg6 harg6 arg7 harg7 arg8 harg8 arg9 harg9 arg10 harg10 v1 v3 (View.canon (sums c i arg1 harg1 arg2 harg2 arg3 harg3 arg4 harg4 arg5 harg5 arg6 harg6 arg7 harg7 arg8 harg8 arg9 harg9 arg10 harg10 (harg1.unread x0) (harg2.unread x1))) (k0_pay5, k0_pay5)
    (255 - k.val) (by omega) b j (⟨16 * k.val + b.val, by omega⟩ : Fin 4096)
    (by show 16 * k.val + b.val = 4080 - 16 * (255 - k.val) + b.val; omega)
  refine Carry.out b k.val k.isLt t o (fun s i => H.seq k b s i) (fun s i => H.tri t o s i)
    (fun p => ((rf ⟨p.val, by omega⟩).1).trans (hf.f_re b p)) (fun p => ((rf ⟨p.val, by omega⟩).2).trans (hf.f_im b p))
    (fun p => ((rb ⟨64 + p.val, by omega⟩).1).trans (hb.b_re b p)) (fun p => ?_)
    (H.wa0 t o) (H.wa1 t o) (H.wa2 t o) (H.wa3 t o) (H.wb0 t o) (H.wb1 t o) (H.wb2 t o) (H.wb3 t o)
  have e : (⟨192 + p.val, by omega⟩ : Fin 256) = ⟨128 + (64 + p.val), by omega⟩ := Fin.ext (by show 192 + p.val = 128 + (64 + p.val); omega)
  rw [e]
  exact ((rb ⟨64 + p.val, by omega⟩).2).trans (hb.b_im b p)

end

section
variable {P : Par} {m : (ℓ : Loc nD τ sig) → Buf (Elt Ideal) ℓ} {c : Dev nD} (H : Weights.Args P m c)
include H

/-- The blocks at grid point `g` hold group `g`'s slices of what the host code prepared. -/
theorem holds (t : Fin cfg0.N) (g : Fin 32) (hg : g.val = t.val) :
    Holds P g (iblk m c 0 t) (iblk m c 1 t) (iblk m c 2 t) (iblk m c 3 t) (iblk m c 4 t) (iblk m c 5 t) where
  seq k b s i := (Blocks.blk0 m c t g hg _ _).trans (Weights.xg_val H g k b s i)
  b0 s i p := (Blocks.blk1 m c t g hg _ _).trans (Weights.wb_0 H g s i p)
  b1 s i p := (Blocks.blk1 m c t g hg _ _).trans (Weights.wb_1 H g s i p)
  b2 s i p := (Blocks.blk1 m c t g hg _ _).trans (Weights.wb_2 H g s i p)
  b3 s i p := (Blocks.blk1 m c t g hg _ _).trans (Weights.wb_3 H g s i p)
  tri s o s' i := (Blocks.blk2 m c t g hg _ _).trans (Weights.tt_val H g s o s' i)
  wa0 s o p := (Blocks.blk3 m c t g hg _ _).trans (Weights.wca_0 H g s o p)
  wa1 s o p := (Blocks.blk3 m c t g hg _ _).trans (Weights.wca_1 H g s o p)
  wa2 s o p := (Blocks.blk3 m c t g hg _ _).trans (Weights.wca_2 H g s o p)
  wa3 s o p := (Blocks.blk3 m c t g hg _ _).trans (Weights.wca_3 H g s o p)
  wb0 s o p := (Blocks.blk4 m c t g hg _ _).trans (Weights.wcb_0 H g s o p)
  wb1 s o p := (Blocks.blk4 m c t g hg _ _).trans (Weights.wcb_1 H g s o p)
  wb2 s o p := (Blocks.blk4 m c t g hg _ _).trans (Weights.wcb_2 H g s o p)
  wb3 s o p := (Blocks.blk4 m c t g hg _ _).trans (Weights.wcb_3 H g s o p)
  l0 p := (Blocks.blk5 m c t g hg _ _).trans (Weights.lam_re_0 H g p)
  l1 p := (Blocks.blk5 m c t g hg _ _).trans (Weights.lam_re_1 H g p)
  l2 p := (Blocks.blk5 m c t g hg _ _).trans (Weights.lam_im_0 H g p)
  l3 p := (Blocks.blk5 m c t g hg _ _).trans (Weights.lam_im_1 H g p)

/-- What the body leaves at grid point `g`. -/
theorem out_val (t : Fin cfg0.N) (g : Fin 32) (hg : g.val = t.val) (k : Fin 256) (b s o : Fin 16) :
    blockOut m c t (ix3 (0 : Fin 1) (⟨16 * k.val + b.val, by omega⟩ : Fin 4096) (⟨16 * s.val + o.val, by omega⟩ : Fin 256))
      = ((y P b g (16 * k.val + s.val) o : ℝ) : EReal) := by
  have hH := holds H t g hg
  refine block_val c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _) scM0_1 (Memref.isWhole_whole _)
    scM0_2 (Memref.isWhole_whole _) hH
    (View.readAt (Elt Ideal) (ms0_5 t).view (Rect.unit (s := S1x2x128) ![0, 0, 0] ![1, 1, 128] (by decide +kernel)).toLoadRect ((hs0_5 t).unread (iblk m c 5 t)))
    (View.readAt (Elt Ideal) (ms0_5 t).view (Rect.unit (s := S1x2x128) ![0, 1, 0] ![1, 1, 128] (by decide +kernel)).toLoadRect ((hs0_5 t).unread (iblk m c 5 t)))
    ?_ ?_ k b s o
  · constructor <;> intro p
    · exact (read3 (hs0_5 t) (iblk m c 5 t) _ _ _ _ 0 0 _ rfl rfl rfl (Nat.zero_add _)).trans (hH.l0 p)
    · exact (read3 (hs0_5 t) (iblk m c 5 t) _ _ _ _ 0 0 _ rfl rfl rfl (Nat.zero_add _)).trans (hH.l1 p)
    · exact (read3 (hs0_5 t) (iblk m c 5 t) _ _ _ _ 0 1 _ rfl rfl rfl (Nat.zero_add _)).trans (hH.l2 p)
    · exact (read3 (hs0_5 t) (iblk m c 5 t) _ _ _ _ 0 1 _ rfl rfl rfl (Nat.zero_add _)).trans (hH.l3 p)
  · exact out_cover c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _) scM0_1 (Memref.isWhole_whole _)
      scM0_2 (Memref.isWhole_whole _) (iblk m c 0 t) (iblk m c 1 t) (iblk m c 2 t) (iblk m c 3 t) (iblk m c 4 t) (iblk m c 5 t)

/-- The result array: the layer's output at every index. -/
theorem result_val (g : Fin 32) (r : Fin 4096) (l : Fin 256) :
    (dats m 0 c).arrAt 6 cfg0.N (ix3 g r l)
      = ((y P ⟨r.val % 16, by omega⟩ g (16 * (r.val / 16) + l.val / 16) ⟨l.val % 16, by omega⟩ : ℝ) : EReal) := by
  have hg : g.val < cfg0.N := lt_of_lt_of_eq g.isLt (by decide +kernel)
  refine (Blocks.result_at m c ⟨g.val, hg⟩ g rfl r l).trans ?_
  have h := out_val H ⟨g.val, hg⟩ g rfl ⟨r.val / 16, by omega⟩ ⟨r.val % 16, by omega⟩ ⟨l.val / 16, by omega⟩ ⟨l.val % 16, by omega⟩
  have er : (⟨16 * (r.val / 16) + r.val % 16, by omega⟩ : Fin 4096) = r := Fin.ext (by show 16 * (r.val / 16) + r.val % 16 = r.val; omega)
  have el : (⟨16 * (l.val / 16) + l.val % 16, by omega⟩ : Fin 256) = l := Fin.ext (by show 16 * (l.val / 16) + l.val % 16 = l.val; omega)
  exact (congrArg (blockOut m c ⟨g.val, hg⟩) (congrArg₂ (ix3 (0 : Fin 1)) er.symm el.symm)).trans h

end

end Cert.KernelIdeal.Value

end
-- ==== Proof.Pre.lean ====
/- The precondition read back: where it holds, every argument array is finite, no eigenvalue is zero, and so the
   arrays are arrays of real numbers. -/
module

public import proofs.«01_k».proof.Pre_finite_and_nonzero
public import proofs.«01_k».proof.Proof.RefValue
public import Idealize.ShloMosaic.Lib.ReduceAll
public import Idealize.ShloMosaic.Lib.Pointwise

@[expose] public section

set_option maxRecDepth 16384

noncomputable section

namespace Cert.Pre

open Cert.Model
open Idealize.ShloMosaic

/-- The shape relations the predicate takes. -/
theorem facts : Cert.Pre_finite_and_nonzero.Facts := by
  constructor <;> decide +kernel

/-- An element whose magnitude is below some bound is a real number. -/
theorem finite_of_lt (x B : EReal) (h : Ideal.cmp .olt (max x (-x)) B = 1#1) : x = ((x.toReal : ℝ) : EReal) := by
  have h' : max x (-x) < B := by
    by_contra hn
    have e : Ideal.cmp .olt (max x (-x)) B = 0#1 := by
      show BitVec.ofBool (decide (max x (-x) < B)) = 0#1
      rw [decide_eq_false hn]; rfl
    rw [e] at h
    exact absurd h (by decide)
  symm
  apply EReal.coe_toReal
  · rintro rfl
    exact not_top_lt (lt_of_le_of_lt (le_max_left _ _) h')
  · rintro rfl
    exact not_top_lt (lt_of_le_of_lt (le_max_right _ _) h')

/-- Unequal to zero, of an element that is a real number. -/
theorem ne_of_une (x : EReal) (h : Ideal.cmp .une x (Ideal.ofBits .f32 0x00000000#32) = 1#1) : x ≠ 0 := by
  have e0 : Ideal.ofBits .f32 0x00000000#32 = (0 : EReal) := by
    have h0 : (constant (F := Ideal) ⟨1, ![1]⟩ .f32 0x00000000#32) (ix1 0) = 0 := by pointwise
    exact h0
  rw [e0] at h
  rintro rfl
  have e : Ideal.cmp .une (0 : EReal) 0 = 0#1 := by
    show BitVec.ofBool (decide ((0 : EReal) ≠ 0)) = 0#1
    simp
  rw [e] at h
  exact absurd h (by decide)

section
open Cert.Pre_finite_and_nonzero Cert.Pre_finite_and_nonzero.Facts
variable [Cert.Pre_finite_and_nonzero.Facts]
variable (a0 : FVec Ideal S16x4096x512 .f32) (a1 a2 : FVec Ideal S1x2x32x64 .f32)
    (a3 : FVec Ideal S1x2x32 .f32) (a4 a5 : FVec Ideal S1x2x32x64x16 .f32) (a6 a7 : FVec Ideal S1x2x32x16x64 .f32)
    (a8 : FVec Ideal S1x32x16 .f32)

instance : Subsingleton S_.Idx := ⟨fun i j => funext fun a => a.elim0⟩

/-- The predicate's meaning, array by array. -/
theorem meaning (h : fn (F := Ideal) a0 a1 a2 a3 a4 a5 a6 a7 a8 = fun _ => 1#1) :
    (∀ x, a1 x ≠ 0 ∨ a2 x ≠ 0) ∧ (∀ x, a0 x = (((a0 x).toReal : ℝ) : EReal)) ∧ (∀ x, a1 x = (((a1 x).toReal : ℝ) : EReal))
    ∧ (∀ x, a2 x = (((a2 x).toReal : ℝ) : EReal)) ∧ (∀ x, a3 x = (((a3 x).toReal : ℝ) : EReal))
    ∧ (∀ x, a4 x = (((a4 x).toReal : ℝ) : EReal)) ∧ (∀ x, a5 x = (((a5 x).toReal : ℝ) : EReal))
    ∧ (∀ x, a6 x = (((a6 x).toReal : ℝ) : EReal)) ∧ (∀ x, a7 x = (((a7 x).toReal : ℝ) : EReal))
    ∧ (∀ x, a8 x = (((a8 x).toReal : ℝ) : EReal)) := by
  have h1 := congrFun h (fun a => a.elim0)
  obtain ⟨h1, r8⟩ := IntOp.andi_eq_one.1 h1
  obtain ⟨h1, r7⟩ := IntOp.andi_eq_one.1 h1
  obtain ⟨h1, r6⟩ := IntOp.andi_eq_one.1 h1
  obtain ⟨h1, r5⟩ := IntOp.andi_eq_one.1 h1
  obtain ⟨h1, r4⟩ := IntOp.andi_eq_one.1 h1
  obtain ⟨h1, r3⟩ := IntOp.andi_eq_one.1 h1
  obtain ⟨h1, r2⟩ := IntOp.andi_eq_one.1 h1
  obtain ⟨h1, r1⟩ := IntOp.andi_eq_one.1 h1
  obtain ⟨rz, r0⟩ := IntOp.andi_eq_one.1 h1
  refine ⟨fun x => ?_, fun x => finite_of_lt _ _ (Host.reduce_andi_all _ _ _ _ _ r0 x),
    fun x => finite_of_lt _ _ (Host.reduce_andi_all _ _ _ _ _ r1 x), fun x => finite_of_lt _ _ (Host.reduce_andi_all _ _ _ _ _ r2 x),
    fun x => finite_of_lt _ _ (Host.reduce_andi_all _ _ _ _ _ r3 x), fun x => finite_of_lt _ _ (Host.reduce_andi_all _ _ _ _ _ r4 x),
    fun x => finite_of_lt _ _ (Host.reduce_andi_all _ _ _ _ _ r5 x), fun x => finite_of_lt _ _ (Host.reduce_andi_all _ _ _ _ _ r6 x),
    fun x => finite_of_lt _ _ (Host.reduce_andi_all _ _ _ _ _ r7 x), fun x => finite_of_lt _ _ (Host.reduce_andi_all _ _ _ _ _ r8 x)⟩
  have e : IntOp.ori (Ideal.cmp .une (a1 x) (Ideal.ofBits .f32 0x00000000#32)) (Ideal.cmp .une (a2 x) (Ideal.ofBits .f32 0x00000000#32)) = 1#1 :=
    Host.reduce_andi_all _ _ _ _ _ rz x
  have o : ∀ u v : BitVec 1, IntOp.ori u v = 1#1 → u = 1#1 ∨ v = 1#1 := by decide
  exact (o _ _ e).imp (ne_of_une _) (ne_of_une _)

/-- The arguments as real numbers. -/
theorem reads (h : fn (F := Ideal) a0 a1 a2 a3 a4 a5 a6 a7 a8 = fun _ => 1#1) :
    ∃ P : Par, RefValue.Reads P a0 a1 a2 a3 a4 a5 a6 a7 a8 := by
  obtain ⟨hz, r0, r1, r2, r3, r4, r5, r6, r7, r8⟩ := meaning a0 a1 a2 a3 a4 a5 a6 a7 a8 h
  refine ⟨⟨fun d g p => (a1 (ix4 0 d g p)).toReal, fun d g p => (a2 (ix4 0 d g p)).toReal, fun d g => (a3 (ix3 0 d g)).toReal,
    fun d g p i => (a4 (ix5 0 d g p i)).toReal, fun d g p i => (a5 (ix5 0 d g p i)).toReal,
    fun d g o p => (a6 (ix5 0 d g o p)).toReal, fun d g o p => (a7 (ix5 0 d g o p)).toReal,
    fun g o => (a8 (ix3 0 g o)).toReal, fun b n f => (a0 (ix3 b n f)).toReal, fun d g p e => ?_⟩, ?_⟩
  · rcases hz (ix4 0 d g p) with hn | hn
    · have e1 : (a1 (ix4 0 d g p)).toReal = 0 := by
        have h1 := mul_self_nonneg (a1 (ix4 0 d g p)).toReal
        have h2 := mul_self_nonneg (a2 (ix4 0 d g p)).toReal
        exact mul_self_eq_zero.1 (by linarith)
      refine hn ?_
      rw [r1, e1, EReal.coe_zero]
    · have e2 : (a2 (ix4 0 d g p)).toReal = 0 := by
        have h1 := mul_self_nonneg (a1 (ix4 0 d g p)).toReal
        have h2 := mul_self_nonneg (a2 (ix4 0 d g p)).toReal
        exact mul_self_eq_zero.1 (by linarith)
      refine hn ?_
      rw [r2, e2, EReal.coe_zero]
  · exact ⟨fun b n f => r0 _, fun d g p => r1 _, fun d g p => r2 _, fun d g => r3 _, fun d g p i => r4 _, fun d g p i => r5 _,
      fun d g o p => r6 _, fun d g o p => r7 _, fun g o => r8 _⟩

end

end Cert.Pre

end
-- ==== Proof.MergeModel.lean ====
/- One token's way through the mixer's tail, over the extended reals: the gated linear unit, the output projection with
   the residual, the normalization, and the scores against the product keys. Where the arrays are arrays of real
   numbers every stage is one too, and the scores may be taken against keys already projected by the query weights. -/
module

public import Idealize.ShloMosaic.Lib.Pointwise
public import proofs.«01_k».proof.Proof.Model

@[expose] public section

noncomputable section

namespace Cert.Merge

open Idealize.ShloMosaic

/-- The Gaussian error linear unit. -/
def gel (y : EReal) : EReal :=
  Ideal.ofBits .f32 0x3F000000#32 * y * (1 + Ideal.erf (y * Ideal.ofBits .f32 0x3F3504F3#32))

/-- The gated linear unit of one token's features. -/
def gated (y : Fin 512 → EReal) (G : Fin 512 → Fin 512 → EReal) (l : Fin 512) : EReal :=
  gel (y l) * Ideal.logistic (∑ k, gel (y k) * G k l)

/-- The residual stream after the mixer. -/
def mixed (X : Fin 1024 → EReal) (y f : Fin 512 → EReal) (G : Fin 512 → Fin 512 → EReal) (O : Fin 1024 → Fin 1024 → EReal)
    (d : Fin 1024) : EReal :=
  X d + (∑ k : Fin 512, gated y G k * O ⟨k.val, by omega⟩ d + ∑ k : Fin 512, f k * O ⟨512 + k.val, by omega⟩ d)

/-- The root-mean-square normalization with its gain. -/
def normed (x g : Fin 1024 → EReal) (d : Fin 1024) : EReal :=
  x d * Ideal.rsqrt (Ideal.div (∑ e, x e * x e) (Ideal.ofBits .f32 0x44800000#32) + Ideal.ofBits .f32 0x358637BD#32) * g d

/-- The score of one key: the query is projected first. -/
def scored (h : Fin 1024 → EReal) (Q : Fin 1024 → Fin 2048 → EReal) (K : Fin 8 → Fin 2 → Fin 128 → Fin 128 → EReal)
    (n : Fin 2048) : EReal :=
  ∑ e : Fin 128, K ⟨n.val / 256, by omega⟩ ⟨n.val / 128 % 2, by omega⟩ ⟨n.val % 128, by omega⟩ e
    * ∑ d : Fin 1024, h d * Q d ⟨n.val / 256 * 256 + n.val / 128 % 2 * 128 + e.val, by omega⟩

/-- A key projected by the query weights. -/
def keyed (Q : Fin 1024 → Fin 2048 → EReal) (K : Fin 8 → Fin 2 → Fin 128 → Fin 128 → EReal) (n : Fin 2048) (d : Fin 1024) : EReal :=
  ∑ e : Fin 128, Q d ⟨n.val / 256 * 256 + n.val / 128 % 2 * 128 + e.val, by omega⟩
    * K ⟨n.val / 256, by omega⟩ ⟨n.val / 128 % 2, by omega⟩ ⟨n.val % 128, by omega⟩ e

/-- Being a real number. -/
def Real1 (x : EReal) : Prop := ∃ r : ℝ, x = (r : EReal)

theorem Real1.add {x y : EReal} (hx : Real1 x) (hy : Real1 y) : Real1 (x + y) := by
  obtain ⟨a, rfl⟩ := hx
  obtain ⟨b, rfl⟩ := hy
  exact ⟨a + b, (EReal.coe_add a b).symm⟩

theorem Real1.mul {x y : EReal} (hx : Real1 x) (hy : Real1 y) : Real1 (x * y) := by
  obtain ⟨a, rfl⟩ := hx
  obtain ⟨b, rfl⟩ := hy
  exact ⟨a * b, (EReal.coe_mul a b).symm⟩

theorem Real1.sum {ι : Type} [Fintype ι] {f : ι → EReal} (h : ∀ i, Real1 (f i)) : Real1 (∑ i, f i) := by
  choose a ha using h
  refine ⟨∑ i, a i, ?_⟩
  simp only [ha, Model.sum_coe]

theorem Real1.erf {x : EReal} (hx : Real1 x) : Real1 (Ideal.erf x) := by
  obtain ⟨a, rfl⟩ := hx
  exact ⟨_, Ideal.erf_coe a⟩

theorem Real1.logistic {x : EReal} (hx : Real1 x) : Real1 (Ideal.logistic x) := by
  obtain ⟨a, rfl⟩ := hx
  exact ⟨_, Ideal.logistic_coe a⟩

theorem half_eq : Ideal.ofBits .f32 0x3F000000#32 = ((1 / 2 : ℝ) : EReal) := by
  simp [Ideal.ofBits, Ideal.ieee, -EReal.coe_mul]; norm_num

theorem root_real : Real1 (Ideal.ofBits .f32 0x3F3504F3#32) := by
  simp only [Ideal.ofBits, Ideal.ieee]
  norm_num [-EReal.coe_mul]
  exact ⟨_, rfl⟩

theorem width_eq : Ideal.ofBits .f32 0x44800000#32 = ((1024 : ℝ) : EReal) := by
  simp [Ideal.ofBits, Ideal.ieee, -EReal.coe_mul]; norm_num

/-- The normalization's guard is a positive number. -/
theorem eps_pos : ∃ r : ℝ, 0 < r ∧ Ideal.ofBits .f32 0x358637BD#32 = (r : EReal) := by
  refine ⟨8796093 * (2 : ℝ) ^ (-43 : ℤ), by positivity, ?_⟩
  simp [Ideal.ofBits, Ideal.ieee, -EReal.coe_mul]

theorem Real1.gel {y : EReal} (hy : Real1 y) : Real1 (gel y) := by
  refine Real1.mul (Real1.mul ⟨_, half_eq⟩ hy) (Real1.add ⟨1, EReal.coe_one.symm⟩ (Real1.erf (hy.mul root_real)))

theorem Real1.gated {y : Fin 512 → EReal} {G : Fin 512 → Fin 512 → EReal} (hy : ∀ l, Real1 (y l)) (hG : ∀ k l, Real1 (G k l)) (l : Fin 512) :
    Real1 (gated y G l) :=
  (hy l).gel.mul (Real1.logistic (Real1.sum fun k => (hy k).gel.mul (hG k l)))

theorem Real1.mixed {X : Fin 1024 → EReal} {y f : Fin 512 → EReal} {G : Fin 512 → Fin 512 → EReal} {O : Fin 1024 → Fin 1024 → EReal}
    (hX : ∀ d, Real1 (X d)) (hy : ∀ l, Real1 (y l)) (hf : ∀ l, Real1 (f l)) (hG : ∀ k l, Real1 (G k l)) (hO : ∀ k d, Real1 (O k d))
    (d : Fin 1024) : Real1 (mixed X y f G O d) :=
  (hX d).add ((Real1.sum fun k => (Real1.gated hy hG k).mul (hO _ d)).add (Real1.sum fun k => (hf k).mul (hO _ d)))

theorem Real1.normed {x g : Fin 1024 → EReal} (hx : ∀ d, Real1 (x d)) (hg : ∀ d, Real1 (g d)) (d : Fin 1024) : Real1 (normed x g d) := by
  refine ((hx d).mul ?_).mul (hg d)
  choose a ha using hx
  obtain ⟨r, hr, he⟩ := eps_pos
  have e : Ideal.div (∑ k, x k * x k) (Ideal.ofBits .f32 0x44800000#32) + Ideal.ofBits .f32 0x358637BD#32
      = (((∑ k, a k * a k) / 1024 + r : ℝ) : EReal) := by
    rw [width_eq, he]
    simp only [ha, ← EReal.coe_mul, Model.sum_coe]
    rw [Model.div_coe _ _ (by norm_num), ← EReal.coe_add]
  have h : 0 < (∑ k, a k * a k) / 1024 + r := by
    have : 0 ≤ ∑ k, a k * a k := Finset.sum_nonneg fun k _ => mul_self_nonneg _
    positivity
  rw [e, Ideal.rsqrt_coe, if_neg (not_lt.2 h.le), if_neg h.ne']
  exact ⟨_, rfl⟩

/-- Projecting the query first or the key first: the same score, for real numbers. -/
theorem scored_eq {h : Fin 1024 → EReal} {Q : Fin 1024 → Fin 2048 → EReal} {K : Fin 8 → Fin 2 → Fin 128 → Fin 128 → EReal}
    (hh : ∀ d, Real1 (h d)) (hQ : ∀ d n, Real1 (Q d n)) (hK : ∀ a p k e, Real1 (K a p k e)) (n : Fin 2048) :
    ∑ d, keyed Q K n d * h d = scored h Q K n := by
  choose h' eh using hh
  choose Q' eQ using hQ
  choose K' eK using hK
  simp only [keyed, scored, eh, eQ, eK, ← EReal.coe_mul, Model.sum_coe]
  refine congrArg _ ?_
  simp only [Finset.sum_mul, Finset.mul_sum]
  rw [Finset.sum_comm]
  refine Finset.sum_congr rfl fun e _ => Finset.sum_congr rfl fun d _ => ?_
  ring

end Cert.Merge

end
-- ==== Proof.MergeBody.lean ====
/- The merge kernel's body at its blocks: the staged S5 rows are stored with stride 32 so that row `32 b + s` of the
   scratch holds batch `b` at position `s` of the block. -/
module

public import proofs.«01_k».proof.Proof.Gen.Kernel2Ideal.Frame
public import proofs.«01_k».proof.Proof.MergeModel
public import Idealize.ShloMosaic.Lib.WholeRead
public import Idealize.ShloMosaic.Lib.Pipeline.ValueKit.Tiles

@[expose] public section

set_option maxRecDepth 16384

noncomputable section

namespace Cert.Merge.Body

open Cert.Kernel2Ideal Cert.Kernel2Ideal.Gen
open Idealize.ShloMosaic Idealize.ShloMosaic.TcCoe Idealize.ShloMosaic.Tactic

/-- What the scratch holds once every row is staged. -/
def plane (x1 : Vec Ideal S16x2x16x512 .bf16) (y : S4x512x128.Idx) : EReal :=
  x1 (ix4 (⟨(y 1).val % 32 % 16, by omega⟩ : Fin 16) (⟨(y 1).val % 32 / 16, by omega⟩ : Fin 2)
    (⟨(y 1).val / 32, by have : (y 1).val < 512 := (y 1).isLt; omega⟩ : Fin 16)
    (⟨128 * (y 0).val + (y 2).val, by have : (y 0).val < 4 := (y 0).isLt; have : (y 2).val < 128 := (y 2).isLt; omega⟩ : Fin 512))

/-- A store that agrees with `plane` and covers every row it strides over. -/
def Good (x1 : Vec Ideal S16x2x16x512 .bf16) (p : View.Piece (Elt Ideal) S4x512x128 .f32) : Prop :=
  (∀ y, p.2 y = plane x1 (p.1.emb y)) ∧
    ∀ i : S4x512x128.Idx, (i 0).val = p.1.off 0 → (i 1).val % 32 = p.1.off 1 → i ∈ p.1.set

/-- A load from a whole rank-four buffer, at the index it reads. -/
theorem read4 {P Q R C : ℕ} {e : EltTy} {arg : Memref sig .tc .vmem (⟨4, ![P, Q, R, C]⟩ : Shape) e} (h : arg.IsWhole)
    (X : (⟨4, ![P, Q, R, C]⟩ : Shape).Idx → Elt Ideal e) (off size : Fin 4 → ℕ)
    (inb : ∀ a, off a + size a ≤ (⟨4, ![P, Q, R, C]⟩ : Shape).size a)
    (x : (Rect.unit (s := (⟨4, ![P, Q, R, C]⟩ : Shape)) off size inb).toLoadRect.shape.Idx) (p : Fin P) (q : Fin Q) (r : Fin R)
    (l : Fin C) (hp : off 0 + (x (0 : Fin 4)).val = p.val) (hq : off 1 + (x (1 : Fin 4)).val = q.val)
    (h0 : off 2 + (x (2 : Fin 4)).val = r.val) (h1 : off 3 + (x (3 : Fin 4)).val = l.val) :
    View.readAt (Elt Ideal) arg.view (Rect.unit (s := (⟨4, ![P, Q, R, C]⟩ : Shape)) off size inb).toLoadRect (h.unread X) x
      = X (ix4 p q r l) := by
  refine (h.readAt_unread X _ x).trans (congrArg X ?_)
  funext a; apply Fin.ext
  fin_cases a
  · exact (congrArg (off 0 + ·) (Nat.one_mul _)).trans hp
  · exact (congrArg (off 1 + ·) (Nat.one_mul _)).trans hq
  · exact (congrArg (off 2 + ·) (Nat.one_mul _)).trans h0
  · exact (congrArg (off 3 + ·) (Nat.one_mul _)).trans h1

/-- A staged store's payload at coordinates. -/
theorem slice_val (W : FVec Ideal S16x512 .f32) (o : ℕ) (h : S16x512.Slices ![0, o] S16x128) (h' : S16x128.ShapeCasts S1x16x128)
    (z : Fin 1) (b : Fin 16) (l : Fin 128) (ho : o + l.val < 512) :
    shapeCast S1x16x128 (extractStridedSlice S16x128 ![0, o] W h) h' (ix3 z b l) = W (ix2 b ⟨o + l.val, ho⟩) := by
  pointwise

theorem widened_val (v : Vec Ideal S1x1x16x512 .bf16) (h : S1x1x16x512.ShapeCasts S16x512) (h' : FTy.bf16.bits < FTy.f32.bits)
    (b : Fin 16) (l : Fin 512) :
    (extf .f32 (shapeCast S16x512 v h : FVec Ideal S16x512 .bf16) h' : FVec Ideal S16x512 .f32) (ix2 b l) = v (ix4 (0 : Fin 1) (0 : Fin 1) b l) := by
  pointwise

/-- A store of the block's rows `(t, cl)` and lane group `j` at stride 32 is good. -/
theorem goodOf (x1 : Vec Ideal S16x2x16x512 .bf16) (j s t cl : ℕ) (inb spos) (hj : j < 4) (ht : t < 16) (hcl : cl < 2) (hs : s = cl * 16 + t)
    (w : S1x16x128.Idx → EReal)
    (hw : ∀ (b : Fin 16) (l : Fin 128), w (ix3 (0 : Fin 1) b l) = x1 (ix4 (⟨t, ht⟩ : Fin 16) (⟨cl, hcl⟩ : Fin 2) b (⟨128 * j + l.val, by omega⟩ : Fin 512))) :
    Good x1 ⟨⟨⟨![j, s, 0], S1x16x128.size, ![1, 32, 1], inb⟩, spos⟩, w⟩ := by
  subst hs
  refine ⟨fun y => ?_, fun i h0 h1 => ?_⟩
  · have y0 : (y (0 : Fin 3)).val < 1 := (y (0 : Fin 3)).isLt
    have y1 : (y (1 : Fin 3)).val < 16 := (y (1 : Fin 3)).isLt
    have y2 : (y (2 : Fin 3)).val < 128 := (y (2 : Fin 3)).isLt
    have hy : y = ix3 (0 : Fin 1) (⟨_, y1⟩ : Fin 16) (⟨_, y2⟩ : Fin 128) := by
      funext a; apply Fin.ext
      fin_cases a
      · exact Nat.lt_one_iff.1 y0
      · rfl
      · rfl
    refine (congrArg w hy).trans ((hw _ _).trans ?_)
    refine congrArg x1 ?_
    funext a; apply Fin.ext
    fin_cases a
    · show t = (cl * 16 + t + 32 * (y (1 : Fin 3)).val) % 32 % 16
      omega
    · show cl = (cl * 16 + t + 32 * (y (1 : Fin 3)).val) % 32 / 16
      omega
    · show (y (1 : Fin 3)).val = (cl * 16 + t + 32 * (y (1 : Fin 3)).val) / 32
      omega
    · show 128 * j + (y (2 : Fin 3)).val = 128 * (j + 1 * (y (0 : Fin 3)).val) + (0 + 1 * (y (2 : Fin 3)).val)
      omega
  · have i1 : (i (1 : Fin 3)).val < 512 := (i (1 : Fin 3)).isLt
    have i2 : (i (2 : Fin 3)).val < 128 := (i (2 : Fin 3)).isLt
    have e0 : (i (0 : Fin 3)).val = j := h0
    have e1 : (i (1 : Fin 3)).val % 32 = cl * 16 + t := h1
    refine (LoadRect.mem_set _).2 fun a => ?_
    fin_cases a
    · exact ⟨0, Nat.one_pos, e0⟩
    · exact ⟨(i (1 : Fin 3)).val / 32, by show _ < 16; omega, by show (i (1 : Fin 3)).val = cl * 16 + t + 32 * ((i (1 : Fin 3)).val / 32); omega⟩
    · exact ⟨(i (2 : Fin 3)).val, i2, by show (i (2 : Fin 3)).val = 0 + 1 * (i (2 : Fin 3)).val; omega⟩

section
variable (x1 : Vec Ideal S16x2x16x512 .bf16) (arg2 : Memref sig .tc .vmem S16x2x16x512 .bf16) (harg2 : arg2.IsWhole)

/-- Every staged store is good. -/
theorem good (j s t cl o : ℕ) (inb spos inb2) (h1 h2 h3 h4) (hj : j < 4) (ht : t < 16) (hcl : cl < 2) (hs : s = cl * 16 + t) (ho : o = 128 * j) :
    Good x1 ⟨⟨⟨![j, s, 0], S1x16x128.size, ![1, 32, 1], inb⟩, spos⟩,
      shapeCast S1x16x128 (extractStridedSlice S16x128 ![0, o] (extf .f32 (shapeCast S16x512
        (View.readAt (Elt Ideal) arg2.view (Rect.unit (s := S16x2x16x512) ![t, cl, 0, 0] S1x1x16x512.size inb2).toLoadRect (harg2.unread x1)) h1 : FVec Ideal S16x512 .bf16) h2 : FVec Ideal S16x512 .f32) h3) h4⟩ := by
  subst ho
  refine goodOf x1 j s t cl inb spos hj ht hcl hs _ fun b l => ?_
  generalize hv : View.readAt (Elt Ideal) arg2.view (Rect.unit (s := S16x2x16x512) ![t, cl, 0, 0] S1x1x16x512.size inb2).toLoadRect (harg2.unread x1) = v
  refine (slice_val _ _ h3 h4 0 b l (by omega)).trans ((widened_val v h1 h2 b _).trans ?_)
  subst hv
  exact read4 harg2 x1 _ _ inb2 _ ⟨t, ht⟩ ⟨cl, hcl⟩ b _ rfl rfl (Nat.zero_add _) (Nat.zero_add _)

/-- All of the stores are good. -/
theorem all_good (c : Dev nD) : ∀ p ∈ kernelRun0_A.sl.HS0_128 (F := Ideal) c arg2 harg2 x1, Good x1 p := by
  unfold kernelRun0_A.sl.HS0_128
  repeat refine List.forall_mem_cons.2 ⟨by apply good <;> decide, ?_⟩
  exact List.forall_mem_nil _

/-- Every row of every lane group is stored. -/
theorem staged (c : Dev nD) : ∀ (j : Fin 4) (s : Fin 32),
    (j.val, s.val) ∈ (kernelRun0_A.sl.HS0_128 (F := Ideal) c arg2 harg2 x1).map (fun p => (p.1.off 0, p.1.off 1)) := by
  have e : (kernelRun0_A.sl.HS0_128 (F := Ideal) c arg2 harg2 x1).map (fun p => (p.1.off 0, p.1.off 1))
      = ((List.range 128).map fun k => (k % 4, k / 4 % 2 * 16 + k / 8)).reverse := by rfl
  rw [e]
  decide +kernel

/-- A lane group read back from the scratch. -/
theorem read_val (c : Dev nD) (arg11 : Memref sig .tc .vmem S4x512x128 .f32) (j : ℕ) (hj : j < 4) (inb)
    (r : Fin 512) (l : Fin 128) :
    arg11.view.readCov (kernelRun0_A.sl.HS0_128 (F := Ideal) c arg2 harg2 x1) (Rect.unit (s := S4x512x128) ![j, 0, 0] S1x512x128.size inb).toLoadRect (ix3 (0 : Fin 1) r l)
      = x1 (ix4 (⟨r.val % 32 % 16, by omega⟩ : Fin 16) (⟨r.val % 32 / 16, by omega⟩ : Fin 2) (⟨r.val / 32, by omega⟩ : Fin 16)
          (⟨128 * j + l.val, by omega⟩ : Fin 512)) := by
  refine (congrFun (View.readCov_eq_canon' arg11.view _ _) _).trans ?_
  refine (View.canon_apply_of_pieces (plane x1) _ (fun p hp => (all_good x1 arg2 harg2 c p hp).1) _ ?_).trans ?_
  · obtain ⟨p, hp, he⟩ := List.mem_map.1 (staged x1 arg2 harg2 c ⟨j, hj⟩ ⟨r.val % 32, by omega⟩)
    refine ⟨p, hp, (all_good x1 arg2 harg2 c p hp).2 _ ?_ ?_⟩
    · exact (Nat.add_zero j).trans (congrArg Prod.fst he).symm
    · exact (congrArg (· % 32) (by show 0 + 1 * r.val = r.val; omega)).trans (congrArg Prod.snd he).symm
  · refine congrArg x1 ?_
    funext a; apply Fin.ext
    fin_cases a
    · show (0 + 1 * r.val) % 32 % 16 = r.val % 32 % 16
      omega
    · show (0 + 1 * r.val) % 32 / 16 = r.val % 32 / 16
      omega
    · show (0 + 1 * r.val) / 32 = r.val / 32
      omega
    · show 128 * (j + 1 * 0) + (0 + 1 * l.val) = 128 * j + l.val
      omega

end

/-- The stream's payload: the mixer's tail of row `r`. -/
theorem mix_pay (v609 v611 : FVec Ideal S512x128 .f32) (v612 v614 : Vec Ideal S1x512x128 .f32) (v626 : Vec Ideal S512x512 .bf16)
    (v632 : Vec Ideal S512x1024 .bf16) (v635 : Vec Ideal S16x32x512 .bf16) (v638 : Vec Ideal S512x1024 .bf16) (v642 : Vec Ideal S16x32x1024 .f32)
    (r : Fin 512) (d : Fin 1024) (Y : Fin 512 → EReal) (G : Fin 512 → Fin 512 → EReal) (O : Fin 1024 → Fin 1024 → EReal)
    (h0 : ∀ l : Fin 128, v609 (ix2 r l) = Y ⟨128 * 0 + l.val, by omega⟩) (h1 : ∀ l : Fin 128, v611 (ix2 r l) = Y ⟨128 * 1 + l.val, by omega⟩)
    (h2 : ∀ l : Fin 128, v612 (ix3 (0 : Fin 1) r l) = Y ⟨128 * 2 + l.val, by omega⟩)
    (h3 : ∀ l : Fin 128, v614 (ix3 (0 : Fin 1) r l) = Y ⟨128 * 3 + l.val, by omega⟩)
    (hG : ∀ k l, v626 (ix2 k l) = G k l) (hO : ∀ k : Fin 512, v632 (ix2 k d) = O ⟨k.val, by omega⟩ d)
    (hO' : ∀ k : Fin 512, v638 (ix2 k d) = O ⟨512 + k.val, by omega⟩ d) :
    k0_pay177 v609 v611 v612 v614 v626 v632 v635 v638 v642 (ix2 r d)
      = mixed (fun e => v642 (ix3 (⟨r.val / 32, by omega⟩ : Fin 16) (⟨r.val % 32, by omega⟩ : Fin 32) e)) Y
          (fun k => v635 (ix3 (⟨r.val / 32, by omega⟩ : Fin 16) (⟨r.val % 32, by omega⟩ : Fin 32) k)) G O d := by
  unfold k0_pay177
  generalize hC : concatenate S512x512 1 [⟨S512x128, v609⟩, ⟨S512x128, v611⟩, ⟨S512x128, shapeCast S512x128 v612 shapeCasts_S1x512x128_S512x128⟩, ⟨S512x128, shapeCast S512x128 v614 shapeCasts_S1x512x128_S512x128⟩] concatenates_S512x128_S512x128_S512x128_S512x128_S512x512_d1 = C
  have hY : ∀ x : Fin 512, C (ix2 r x) = Y x := by
    intro x
    subst hC
    pointwise
    by_cases a : x.val < 128
    · rw [dif_pos a, h0]
      exact congrArg Y (Fin.ext (Nat.zero_add _))
    rw [dif_neg a]
    by_cases b : x.val - 128 < 128
    · rw [dif_pos b, h1]
      exact congrArg Y (Fin.ext (by show 128 * 1 + (x.val - 128) = x.val; omega))
    rw [dif_neg b]
    by_cases e : x.val - 128 - 128 < 128
    · rw [dif_pos e, h2]
      exact congrArg Y (Fin.ext (by show 128 * 2 + (x.val - 128 - 128) = x.val; omega))
    rw [dif_neg e, h3]
    exact congrArg Y (Fin.ext (by show 128 * 3 + (x.val - 128 - 128 - 128) = x.val; omega))
  pointwise
  simp only [hY, hG, hO, hO']
  rfl

theorem norm_pay (v644 : FVec Ideal S512x1024 .f32) (v647 : Vec Ideal S1x1024 .f32) (d : Fin 1024) (r : Fin 512) :
    k0_pay1 v644 v647 (ix2 d r) = normed (fun e => v644 (ix2 r e)) (fun e => v647 (ix2 (0 : Fin 1) e)) d := by
  pointwise [k0_pay1]
  rfl

theorem score_pay (v644 : FVec Ideal S512x1024 .f32) (v647 : Vec Ideal S1x1024 .f32) (w : Vec Ideal S2048x1024 .bf16) (n : Fin 2048) (r : Fin 512) :
    k0_pay2 v644 v647 w (ix2 n r) = ∑ d : Fin 1024, w (ix2 n d) * normed (fun e => v644 (ix2 r e)) (fun e => v647 (ix2 (0 : Fin 1) e)) d := by
  pointwise [k0_pay2]
  exact Finset.sum_congr rfl fun d _ => congrArg (w (ix2 n d) * ·) (norm_pay v644 v647 d r)

/-- A whole rank-2 buffer read back. -/
theorem whole2 {R C : ℕ} {e : EltTy} {arg : Memref sig .tc .vmem (⟨2, ![R, C]⟩ : Shape) e} (h : arg.IsWhole)
    (X : (⟨2, ![R, C]⟩ : Shape).Idx → Elt Ideal e) (inb) (r : Fin R) (l : Fin C) :
    View.readAt (Elt Ideal) arg.view (Rect.unit (s := (⟨2, ![R, C]⟩ : Shape)) ![0, 0] (⟨2, ![R, C]⟩ : Shape).size inb).toLoadRect (h.unread X) (ix2 r l)
      = X (ix2 r l) := by
  refine (h.readAt_unread X _ _).trans (congrArg X ?_)
  funext a; apply Fin.ext
  fin_cases a
  · exact (Nat.zero_add _).trans (Nat.one_mul _)
  · exact (Nat.zero_add _).trans (Nat.one_mul _)

/-- A row block of a rank-2 buffer read back. -/
theorem rows2 {R R' C : ℕ} {e : EltTy} {arg : Memref sig .tc .vmem (⟨2, ![R, C]⟩ : Shape) e} (h : arg.IsWhole)
    (X : (⟨2, ![R, C]⟩ : Shape).Idx → Elt Ideal e) (o : ℕ) (inb) (r : Fin R') (l : Fin C) (q : Fin R) (hq : q.val = o + r.val) :
    View.readAt (Elt Ideal) arg.view (Rect.unit (s := (⟨2, ![R, C]⟩ : Shape)) ![o, 0] (⟨2, ![R', C]⟩ : Shape).size inb).toLoadRect (h.unread X) (ix2 r l)
      = X (ix2 q l) := by
  refine (h.readAt_unread X _ _).trans (congrArg X ?_)
  funext a; apply Fin.ext
  fin_cases a
  · exact (congrArg (o + ·) (Nat.one_mul _)).trans hq.symm
  · exact (Nat.zero_add _).trans (Nat.one_mul _)

/-- A whole rank-3 buffer read back. -/
theorem whole3 {Q R C : ℕ} {e : EltTy} {arg : Memref sig .tc .vmem (⟨3, ![Q, R, C]⟩ : Shape) e} (h : arg.IsWhole)
    (X : (⟨3, ![Q, R, C]⟩ : Shape).Idx → Elt Ideal e) (inb) (q : Fin Q) (r : Fin R) (l : Fin C) :
    View.readAt (Elt Ideal) arg.view (Rect.unit (s := (⟨3, ![Q, R, C]⟩ : Shape)) ![0, 0, 0] (⟨3, ![Q, R, C]⟩ : Shape).size inb).toLoadRect (h.unread X) (ix3 q r l)
      = X (ix3 q r l) := by
  refine (h.readAt_unread X _ _).trans (congrArg X ?_)
  funext a; apply Fin.ext
  fin_cases a
  · exact (Nat.zero_add _).trans (Nat.one_mul _)
  · exact (Nat.zero_add _).trans (Nat.one_mul _)
  · exact (Nat.zero_add _).trans (Nat.one_mul _)

section
variable (c : Dev nD) (i : grid0.Coords) (arg1 : Memref sig .tc .vmem S16x32x1024 .f32) (harg1 : arg1.IsWhole)
    (arg2 : Memref sig .tc .vmem S16x2x16x512 .bf16) (harg2 : arg2.IsWhole)
    (arg3 : Memref sig .tc .vmem S16x32x512 .bf16) (harg3 : arg3.IsWhole)
    (arg4 : Memref sig .tc .vmem S512x512 .bf16) (harg4 : arg4.IsWhole)
    (arg5 : Memref sig .tc .vmem S1024x1024 .bf16) (harg5 : arg5.IsWhole)
    (arg11 : Memref sig .tc .vmem S4x512x128 .f32)
    (x0 : Vec Ideal S16x32x1024 .f32) (x1 : Vec Ideal S16x2x16x512 .bf16) (x2 : Vec Ideal S16x32x512 .bf16)
    (x3 : Vec Ideal S512x512 .bf16) (x4 : Vec Ideal S1024x1024 .bf16)

/-- Row `r` of the block's stream: the token at batch `r / 32`, position `r % 32` of the block. -/
def stream (r : Fin 512) (d : Fin 1024) : EReal :=
  mixed (fun e => x0 (ix3 (⟨r.val / 32, by omega⟩ : Fin 16) (⟨r.val % 32, by omega⟩ : Fin 32) e))
    (fun l => x1 (ix4 (⟨r.val % 32 % 16, by omega⟩ : Fin 16) (⟨r.val % 32 / 16, by omega⟩ : Fin 2) (⟨r.val / 32, by omega⟩ : Fin 16) l))
    (fun k => x2 (ix3 (⟨r.val / 32, by omega⟩ : Fin 16) (⟨r.val % 32, by omega⟩ : Fin 32) k))
    (fun k l => x3 (ix2 k l)) (fun k l => x4 (ix2 k l)) d

theorem r31_val (r : Fin 512) (d : Fin 1024) :
    kernelRun0_A.sl.r_31 (F := Ideal) c arg1 harg1 arg2 harg2 arg3 harg3 arg4 harg4 arg5 harg5 arg11 x0 x1 x2 x3 x4 (ix2 r d)
      = stream x0 x1 x2 x3 x4 r d := by
  unfold kernelRun0_A.sl.r_31
  refine (mix_pay _ _ _ _ _ _ _ _ _ r d
    (fun l => x1 (ix4 (⟨r.val % 32 % 16, by omega⟩ : Fin 16) (⟨r.val % 32 / 16, by omega⟩ : Fin 2) (⟨r.val / 32, by omega⟩ : Fin 16) l))
    (fun k l => x3 (ix2 k l)) (fun k l => x4 (ix2 k l)) ?_ ?_ ?_ ?_ ?_ ?_ ?_).trans ?_
  · intro l
    unfold kernelRun0_A.sl.r_29 k0_pay175
    refine Eq.trans ?_ (read_val x1 arg2 harg2 c arg11 0 (by decide) inb_S4x512x128_S1x512x128_0_0_0 r l)
    unfold kernelRun0_A.sl.v608
    generalize arg11.view.readCov (kernelRun0_A.sl.HS0_128 (F := Ideal) c arg2 harg2 x1) _ = v
    pointwise
  · intro l
    unfold kernelRun0_A.sl.r_30 k0_pay176
    refine Eq.trans ?_ (read_val x1 arg2 harg2 c arg11 1 (by decide) inb_S4x512x128_S1x512x128_1_0_0 r l)
    unfold kernelRun0_A.sl.v610
    generalize arg11.view.readCov (kernelRun0_A.sl.HS0_128 (F := Ideal) c arg2 harg2 x1) _ = v
    pointwise
  · intro l
    exact read_val x1 arg2 harg2 c arg11 2 (by decide) inb_S4x512x128_S1x512x128_2_0_0 r l
  · intro l
    exact read_val x1 arg2 harg2 c arg11 3 (by decide) inb_S4x512x128_S1x512x128_3_0_0 r l
  · exact fun k l => whole2 harg4 x3 _ k l
  · exact fun k => rows2 harg5 x4 0 _ k d _ (Nat.zero_add _).symm
  · exact fun k => rows2 harg5 x4 512 _ k d _ rfl
  · unfold stream
    congr 1
    · exact funext fun e => whole3 harg1 x0 _ _ _ e
    · exact funext fun e => whole3 harg3 x2 _ _ _ e

end

section
variable (c : Dev nD) (i : grid0.Coords) (arg1 : Memref sig .tc .vmem S16x32x1024 .f32) (harg1 : arg1.IsWhole)
    (arg2 : Memref sig .tc .vmem S16x2x16x512 .bf16) (harg2 : arg2.IsWhole)
    (arg3 : Memref sig .tc .vmem S16x32x512 .bf16) (harg3 : arg3.IsWhole)
    (arg4 : Memref sig .tc .vmem S512x512 .bf16) (harg4 : arg4.IsWhole)
    (arg5 : Memref sig .tc .vmem S1024x1024 .bf16) (harg5 : arg5.IsWhole)
    (arg6 : Memref sig .tc .vmem S1x1024 .f32) (harg6 : arg6.IsWhole)
    (arg7 : Memref sig .tc .vmem S2048x1024 .bf16) (harg7 : arg7.IsWhole)
    (arg8 : Memref sig .tc .vmem S16x32x1024 .f32) (harg8 : arg8.IsWhole)
    (arg9 : Memref sig .tc .vmem S1024x512 .bf16) (harg9 : arg9.IsWhole)
    (arg10 : Memref sig .tc .vmem S2048x512 .f32) (harg10 : arg10.IsWhole)
    (arg11 : Memref sig .tc .vmem S4x512x128 .f32) (harg11 : arg11.IsWhole)
    (x0 : Vec Ideal S16x32x1024 .f32) (x1 : Vec Ideal S16x2x16x512 .bf16) (x2 : Vec Ideal S16x32x512 .bf16)
    (x3 : Vec Ideal S512x512 .bf16) (x4 : Vec Ideal S1024x1024 .bf16) (x5 : Vec Ideal S1x1024 .f32) (x6 : Vec Ideal S2048x1024 .bf16)

/-- The stored stream is the stream's payload, its rows split by batch. -/
theorem folded (v609 v611 : FVec Ideal S512x128 .f32) (v612 v614 : Vec Ideal S1x512x128 .f32) (v626 : Vec Ideal S512x512 .bf16)
    (v632 : Vec Ideal S512x1024 .bf16) (v635 : Vec Ideal S16x32x512 .bf16) (v638 : Vec Ideal S512x1024 .bf16) (v642 : Vec Ideal S16x32x1024 .f32)
    (b : Fin 16) (s : Fin 32) (d : Fin 1024) :
    k0_pay178 v609 v611 v612 v614 v626 v632 v635 v638 v642 (ix3 b s d)
      = k0_pay177 v609 v611 v612 v614 v626 v632 v635 v638 v642 (ix2 (⟨32 * b.val + s.val, by omega⟩ : Fin 512) d) := by
  change shapeCast S16x32x1024 (k0_pay177 v609 v611 v612 v614 v626 v632 v635 v638 v642) _ (ix3 b s d) = _
  generalize k0_pay177 v609 v611 v612 v614 v626 v632 v635 v638 v642 = v
  pointwise
  exact congrArg (fun q => v (ix2 q d)) (Fin.ext (by show b.val * 32 + s.val = 32 * b.val + s.val; omega))

/-- The block of the stream. -/
theorem out7_val (b : Fin 16) (s : Fin 32) (d : Fin 1024) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 (ix3 b s d)
      = stream x0 x1 x2 x3 x4 ⟨32 * b.val + s.val, by omega⟩ d := by
  refine Eq.trans ?_ (r31_val c arg1 harg1 arg2 harg2 arg3 harg3 arg4 harg4 arg5 harg5 arg11 x0 x1 x2 x3 x4 ⟨32 * b.val + s.val, by omega⟩ d)
  unfold out0_A_7 kernelRun0_A
  dsimp only
  rw [View.read_writes_junk_eq_canon]
  refine (congrFun (View.canon_cons_unit_lit' _ _ _ (by decide)) _).trans ?_
  unfold kernelRun0_A.sl.r_32 kernelRun0_A.sl.r_31
  exact folded _ _ _ _ _ _ _ _ _ b s d

/-- The block of the normalized stream, a token per column. -/
theorem out8_val (d : Fin 1024) (r : Fin 512) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 d r)
      = normed (stream x0 x1 x2 x3 x4 r) (fun e => x5 (ix2 (0 : Fin 1) e)) d := by
  unfold out0_A_8 kernelRun0_A
  dsimp only
  rw [View.read_writes_junk_eq_canon]
  refine (congrFun (View.canon_cons_unit_lit' _ _ _ (by decide)) _).trans ((norm_pay _ _ d r).trans ?_)
  exact congrArg₂ (fun x g => normed x g d) (funext fun e => r31_val c arg1 harg1 arg2 harg2 arg3 harg3 arg4 harg4 arg5 harg5 arg11 x0 x1 x2 x3 x4 r e)
    (funext fun e => whole2 harg6 x5 _ 0 e)

/-- The block of the scores, a token per column. -/
theorem out9_val (n : Fin 2048) (r : Fin 512) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 (ix2 n r)
      = ∑ d : Fin 1024, x6 (ix2 n d) * normed (stream x0 x1 x2 x3 x4 r) (fun e => x5 (ix2 (0 : Fin 1) e)) d := by
  unfold out0_A_9 kernelRun0_A
  dsimp only
  rw [View.read_writes_junk_eq_canon]
  refine (congrFun (View.canon_cons_unit_lit' _ _ _ (by decide)) _).trans ((score_pay _ _ _ n r).trans ?_)
  refine Finset.sum_congr rfl fun d _ => congrArg₂ (· * ·) (whole2 harg7 x6 _ n d) ?_
  exact congrArg₂ (fun x g => normed x g d) (funext fun e => r31_val c arg1 harg1 arg2 harg2 arg3 harg3 arg4 harg4 arg5 harg5 arg11 x0 x1 x2 x3 x4 r e)
    (funext fun e => whole2 harg6 x5 _ 0 e)

end

end Cert.Merge.Body

end
-- ==== Proof.MergeHost.lean ====
/- The arrays the merge call's host code prepares, and the blocks of them that a grid point holds, at coordinates. -/
module

public import proofs.«01_k».proof.Proof.Gen.Kernel2Ideal.Value
public import proofs.«01_k».proof.Proof.MergeModel
public import Idealize.ShloMosaic.Lib.StableHlo.RunRead
public import Idealize.ShloMosaic.Lib.Pipeline.ValueKit

@[expose] public section

set_option maxRecDepth 16384

noncomputable section

namespace Cert.Merge.Host

open Cert.Kernel2Ideal Cert.Kernel2Ideal.Gen Cert.Kernel2Ideal.Value
open Idealize.ShloMosaic Idealize.ShloMosaic.TcCoe Idealize.ShloMosaic.Tactic

variable (m : (ℓ : Loc nD τ sig) → Buf (Elt Ideal) ℓ) (c : Dev nD)

/-- The argument arrays. -/
abbrev A0 : FVec Ideal S16x4096x1024 .f32 := m ((c.tc : Thread nD τ).loc main_arg0)
abbrev A1 : FVec Ideal S16x4096x512 .f32 := m ((c.tc : Thread nD τ).loc main_arg1)
abbrev A2 : FVec Ideal S16x4096x512 .f32 := m ((c.tc : Thread nD τ).loc main_arg2)
abbrev A3 : FVec Ideal S1x512x512 .f32 := m ((c.tc : Thread nD τ).loc main_arg3)
abbrev A4 : FVec Ideal S1x1024x1024 .f32 := m ((c.tc : Thread nD τ).loc main_arg4)
abbrev A5 : FVec Ideal S1x1024 .f32 := m ((c.tc : Thread nD τ).loc main_arg5)
abbrev A6 : FVec Ideal S1x1024x2048 .f32 := m ((c.tc : Thread nD τ).loc main_arg6)
abbrev A7 : FVec Ideal S1x8x2x128x128 .f32 := m ((c.tc : Thread nD τ).loc main_arg7)

theorem v0_val (b : Fin 16) (s : Fin 4096) (d : Fin 1024) : V m c main_arg0 (ix3 b s d) = A0 m c (ix3 b s d) := by
  unfold V
  after_reads_simp

theorem v8_val (t : Fin 16) (k : Fin 256) (b : Fin 16) (l : Fin 512) :
    V m c main_v8 (ix4 t k b l) = A1 m c (ix3 b (⟨k.val * 16 + t.val, by omega⟩ : Fin 4096) l) := by
  unfold V
  after_reads_simp
  pointwise

theorem v9_val (b : Fin 16) (s : Fin 4096) (l : Fin 512) : V m c main_v9 (ix3 b s l) = A2 m c (ix3 b s l) := by
  unfold V
  after_reads_simp
  pointwise

theorem v11_val (k l : Fin 512) : V m c main_v11 (ix2 k l) = A3 m c (ix3 (0 : Fin 1) k l) := by
  unfold V
  after_reads_simp
  pointwise

theorem v13_val (k l : Fin 1024) : V m c main_v13 (ix2 k l) = A4 m c (ix3 (0 : Fin 1) k l) := by
  unfold V
  after_reads_simp
  pointwise

theorem v15_val (d : Fin 1024) : V m c main_v15 (ix2 (0 : Fin 1) d) = A5 m c (ix2 (0 : Fin 1) d) := by
  unfold V
  after_reads_simp
  pointwise

theorem v5_val (n : Fin 2048) (d : Fin 1024) : V m c main_v5 (ix2 n d)
    = keyed (fun d l => A6 m c (ix3 (0 : Fin 1) d l)) (fun h p k e => A7 m c (ix5 (0 : Fin 1) h p k e)) n d := by
  unfold V
  after_reads_simp
  pointwise
  unfold keyed
  refine Finset.sum_congr (M := EReal) rfl fun x _ => ?_
  exact EReal.mul_comm _ _

theorem idx0 : ∀ t : Fin cfg0.N, win0_0.index t = ![0, t.val, 0] := (by decide +kernel : ∀ t : Fin grid0.N, win0_0.index t = ![0, t.val, 0])
theorem idx1 : ∀ t : Fin cfg0.N, win0_1.index t = ![0, t.val, 0, 0] := (by decide +kernel : ∀ t : Fin grid0.N, win0_1.index t = ![0, t.val, 0, 0])
theorem idx2 : ∀ t : Fin cfg0.N, win0_2.index t = ![0, t.val, 0] := (by decide +kernel : ∀ t : Fin grid0.N, win0_2.index t = ![0, t.val, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![0, 0] := (by decide +kernel : ∀ t : Fin grid0.N, win0_6.index t = ![0, 0])
theorem idx7 : ∀ t : Fin cfg0.N, win0_7.index t = ![0, t.val, 0] := (by decide +kernel : ∀ t : Fin grid0.N, win0_7.index t = ![0, t.val, 0])
theorem idx8 : ∀ t : Fin cfg0.N, win0_8.index t = ![0, t.val] := (by decide +kernel : ∀ t : Fin grid0.N, win0_8.index t = ![0, t.val])
theorem idx9 : ∀ t : Fin cfg0.N, win0_9.index t = ![0, t.val] := (by decide +kernel : ∀ t : Fin grid0.N, win0_9.index t = ![0, t.val])

theorem flush7 : ∀ t : Fin cfg0.N, (cfg0.win 7).flush t = true := (by decide +kernel : ∀ t : Fin grid0.N, win0_7.flush t = true)
theorem flush8 : ∀ t : Fin cfg0.N, (cfg0.win 8).flush t = true := (by decide +kernel : ∀ t : Fin grid0.N, win0_8.flush t = true)
theorem flush9 : ∀ t : Fin cfg0.N, (cfg0.win 9).flush t = true := (by decide +kernel : ∀ t : Fin grid0.N, win0_9.flush t = true)

section
variable (t : Fin cfg0.N) (q : Fin 128) (hq : q.val = t.val)
include hq

theorem blk0 (b : Fin 16) (s : Fin 32) (d : Fin 1024) :
    iblk m c 0 t (ix3 b s d) = V m c main_arg0 (ix3 b (⟨q.val * 32 + s.val, by omega⟩ : Fin 4096) d) := by
  blk_ext [iblk, idx0 t]
theorem blk1 (r : Fin 16) (k : Fin 2) (b : Fin 16) (l : Fin 512) :
    iblk m c 1 t (ix4 r k b l) = V m c main_v8 (ix4 r (⟨q.val * 2 + k.val, by omega⟩ : Fin 256) b l) := by
  blk_ext [iblk, idx1 t]
theorem blk2 (b : Fin 16) (s : Fin 32) (l : Fin 512) :
    iblk m c 2 t (ix3 b s l) = V m c main_v9 (ix3 b (⟨q.val * 32 + s.val, by omega⟩ : Fin 4096) l) := by
  blk_ext [iblk, idx2 t]
omit hq
theorem blk3 (k l : Fin 512) : iblk m c 3 t (ix2 k l) = V m c main_v11 (ix2 k l) := by
  blk_ext [iblk, idx3 t]
theorem blk4 (k l : Fin 1024) : iblk m c 4 t (ix2 k l) = V m c main_v13 (ix2 k l) := by
  blk_ext [iblk, idx4 t]
theorem blk5 (k : Fin 1) (l : Fin 1024) : iblk m c 5 t (ix2 k l) = V m c main_v15 (ix2 k l) := by
  blk_ext [iblk, idx5 t]
theorem blk6 (k : Fin 2048) (l : Fin 1024) : iblk m c 6 t (ix2 k l) = V m c main_v5 (ix2 k l) := by
  blk_ext [iblk, idx6 t]

end

end Cert.Merge.Host

end
-- ==== Proof.MergeValue.lean ====
/- The merge call's results at coordinates: each is the model's value of its token. -/
module

public import proofs.«01_k».proof.Proof.MergeBody
public import proofs.«01_k».proof.Proof.MergeHost

@[expose] public section

set_option maxRecDepth 16384

noncomputable section

namespace Cert.Merge.Value

open Cert.Kernel2Ideal Cert.Kernel2Ideal.Gen Cert.Kernel2Ideal.Value Cert.Merge.Body Cert.Merge.Host
open Idealize.ShloMosaic Idealize.ShloMosaic.TcCoe Idealize.ShloMosaic.Tactic

variable (m : (ℓ : Loc nD τ sig) → Buf (Elt Ideal) ℓ) (c : Dev nD)

/-- The stream of the token at batch `b`, position `s`. -/
def tok (b : Fin 16) (s : Fin 4096) (d : Fin 1024) : EReal :=
  mixed (fun e => A0 m c (ix3 b s e)) (fun k => A1 m c (ix3 b s k)) (fun k => A2 m c (ix3 b s k))
    (fun k l => A3 m c (ix3 (0 : Fin 1) k l)) (fun k l => A4 m c (ix3 (0 : Fin 1) k l)) d

/-- The same, normalized. -/
def unit (b : Fin 16) (s : Fin 4096) (d : Fin 1024) : EReal := normed (tok m c b s) (fun e => A5 m c (ix2 (0 : Fin 1) e)) d

section
variable (t : Fin cfg0.N) (q : Fin 128) (hq : q.val = t.val)
include hq

theorem stream_val (r : Fin 512) (d : Fin 1024) (b : Fin 16) (s : Fin 4096) (hb : b.val = r.val / 32) (hs : s.val = q.val * 32 + r.val % 32) :
    stream (iblk m c 0 t) (iblk m c 1 t) (iblk m c 2 t) (iblk m c 3 t) (iblk m c 4 t) r d = tok m c b s d := by
  unfold stream tok
  have eb : (⟨r.val / 32, by omega⟩ : Fin 16) = b := Fin.ext hb.symm
  rw [eb]
  congr 1
  · funext e
    rw [blk0 m c t q hq, v0_val]
    exact congrArg (fun s => A0 m c (ix3 b s e)) (Fin.ext hs.symm)
  · funext l
    rw [blk1 m c t q hq, v8_val]
    exact congrArg (fun s => A1 m c (ix3 b s l)) (Fin.ext (by show (q.val * 2 + r.val % 32 / 16) * 16 + r.val % 32 % 16 = s.val; omega))
  · funext l
    rw [blk2 m c t q hq, v9_val]
    exact congrArg (fun s => A2 m c (ix3 b s l)) (Fin.ext hs.symm)
  · funext k l
    rw [blk3 m c t, v11_val]
  · funext k l
    rw [blk4 m c t, v13_val]

theorem at7 (X : FVec Ideal S16x4096x1024 .f32) (b : Fin 16) (s : Fin 32) (d : Fin 1024) :
    X (ix3 b (⟨q.val * 32 + s.val, by omega⟩ : Fin 4096) d) = ((cfg0.win 7).blk t).view.read (Elt Ideal) X (ix3 b s d) := by
  blk_ext [idx7 t]

omit hq in
theorem cut7 (Y : FVec Ideal S16x32x1024 .f32) (b : Fin 16) (s : Fin 32) (d : Fin 1024) :
    (cfg0.win 7).cut (grid0.coords t) Y (ix3 b s d) = Y (ix3 b s d) := by
  blk_ext [idx7 t]

theorem res7 (b : Fin 16) (s : Fin 32) (d : Fin 1024) :
    (dats m 0 c).arrAt 7 cfg0.N (ix3 b (⟨q.val * 32 + s.val, by omega⟩ : Fin 4096) d) = tok m c b ⟨q.val * 32 + s.val, by omega⟩ d := by
  have e := out7_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) b s d
  have h := congrFun ((blocks7 m c t (flush7 t)).trans (flushed7_A m c t)) (ix3 b s d)
  refine Eq.trans ?_ (h.trans (Eq.trans ?_ (e.trans
    (stream_val m c t q hq ⟨32 * b.val + s.val, by omega⟩ d b ⟨q.val * 32 + s.val, by omega⟩ (by show b.val = (32 * b.val + s.val) / 32; omega) (by show q.val * 32 + s.val = q.val * 32 + (32 * b.val + s.val) % 32; omega)))))
  · exact at7 t q hq _ b s d
  · exact cut7 t _ b s d

theorem res8 (d : Fin 1024) (r : Fin 512) (b : Fin 16) (s : Fin 4096) (hb : b.val = r.val / 32) (hs : s.val = q.val * 32 + r.val % 32) :
    (dats m 0 c).arrAt 8 cfg0.N (ix2 d (⟨q.val * 512 + r.val, by omega⟩ : Fin 65536)) = unit m c b s d := by
  have h := congrFun ((blocks8 m c t (flush8 t)).trans (flushed8_A m c t)) (ix2 d r)
  refine Eq.trans ?_ (h.trans (Eq.trans ?_ ((out8_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) d r).trans ?_)))
  · blk_ext [idx8 t]
  · blk_ext [idx8 t]
  · refine congrArg₂ (fun x g => normed x g d) (funext fun e => stream_val m c t q hq r e b s hb hs) (funext fun e => ?_)
    rw [blk5 m c t, v15_val]

theorem res9 (n : Fin 2048) (r : Fin 512) (b : Fin 16) (s : Fin 4096) (hb : b.val = r.val / 32) (hs : s.val = q.val * 32 + r.val % 32) :
    (dats m 0 c).arrAt 9 cfg0.N (ix2 n (⟨q.val * 512 + r.val, by omega⟩ : Fin 65536))
      = ∑ d, keyed (fun d l => A6 m c (ix3 (0 : Fin 1) d l)) (fun h p k e => A7 m c (ix5 (0 : Fin 1) h p k e)) n d * unit m c b s d := by
  have h := congrFun ((blocks9 m c t (flush9 t)).trans (flushed9_A m c t)) (ix2 n r)
  refine Eq.trans ?_ (h.trans (Eq.trans ?_ ((out9_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) n r).trans ?_)))
  · blk_ext [idx9 t]
  · blk_ext [idx9 t]
  · refine Finset.sum_congr rfl fun d _ => congrArg₂ (· * ·) ?_ ?_
    · rw [blk6 m c t, v5_val]
    · refine congrArg₂ (fun x g => normed x g d) (funext fun e => stream_val m c t q hq r e b s hb hs) (funext fun e => ?_)
      rw [blk5 m c t, v15_val]

end

/-- The point that holds block `q`. -/
def point (q : Fin 128) : Fin cfg0.N := Fin.cast (by decide +kernel : 128 = grid0.N) q

theorem result7 (b : Fin 16) (s : Fin 4096) (d : Fin 1024) : (dats m 0 c).arrAt 7 cfg0.N (ix3 b s d) = tok m c b s d := by
  have e : s = ⟨(⟨s.val / 32, by omega⟩ : Fin 128).val * 32 + (⟨s.val % 32, by omega⟩ : Fin 32).val, by show s.val / 32 * 32 + s.val % 32 < 4096; omega⟩ :=
    Fin.ext (by show s.val = s.val / 32 * 32 + s.val % 32; omega)
  rw [e]
  exact res7 m c (point ⟨s.val / 32, by omega⟩) ⟨s.val / 32, by omega⟩ rfl b ⟨s.val % 32, by omega⟩ d

theorem result8 (d : Fin 1024) (n : Fin 65536) : (dats m 0 c).arrAt 8 cfg0.N (ix2 d n)
    = unit m c ⟨n.val / 32 % 16, by omega⟩ ⟨n.val / 512 * 32 + n.val % 32, by omega⟩ d := by
  have e : n = ⟨(⟨n.val / 512, by omega⟩ : Fin 128).val * 512 + (⟨n.val % 512, by omega⟩ : Fin 512).val, by show n.val / 512 * 512 + n.val % 512 < 65536; omega⟩ :=
    Fin.ext (by show n.val = n.val / 512 * 512 + n.val % 512; omega)
  refine (congrArg (fun n => (dats m 0 c).arrAt 8 cfg0.N (ix2 d n)) e).trans ?_
  exact res8 m c (point ⟨n.val / 512, by omega⟩) ⟨n.val / 512, by omega⟩ rfl d ⟨n.val % 512, by omega⟩ _ _
    (by show n.val / 32 % 16 = n.val % 512 / 32; omega) (by show n.val / 512 * 32 + n.val % 32 = n.val / 512 * 32 + n.val % 512 % 32; omega)

theorem result9 (k : Fin 2048) (n : Fin 65536) : (dats m 0 c).arrAt 9 cfg0.N (ix2 k n)
    = ∑ d, keyed (fun d l => A6 m c (ix3 (0 : Fin 1) d l)) (fun h p k e => A7 m c (ix5 (0 : Fin 1) h p k e)) k d
        * unit m c ⟨n.val / 32 % 16, by omega⟩ ⟨n.val / 512 * 32 + n.val % 32, by omega⟩ d := by
  have e : n = ⟨(⟨n.val / 512, by omega⟩ : Fin 128).val * 512 + (⟨n.val % 512, by omega⟩ : Fin 512).val, by show n.val / 512 * 512 + n.val % 512 < 65536; omega⟩ :=
    Fin.ext (by show n.val = n.val / 512 * 512 + n.val % 512; omega)
  refine (congrArg (fun n => (dats m 0 c).arrAt 9 cfg0.N (ix2 k n)) e).trans ?_
  exact res9 m c (point ⟨n.val / 512, by omega⟩) ⟨n.val / 512, by omega⟩ rfl k ⟨n.val % 512, by omega⟩ _ _
    (by show n.val / 32 % 16 = n.val % 512 / 32; omega) (by show n.val / 512 * 32 + n.val % 32 = n.val / 512 * 32 + n.val % 512 % 32; omega)

end Cert.Merge.Value

end
-- ==== Proof.MergeRef.lean ====
/- The reference of the mixer's tail at coordinates: each of its results is the model's value of the token. -/
module

public import proofs.«01_k».proof.Proof.Gen.Reference2Ideal.Run
public import proofs.«01_k».proof.Proof.MergeModel

@[expose] public section

set_option maxRecDepth 16384

noncomputable section
namespace Cert.Merge.Ref

open Cert.Reference2Ideal Cert.Reference2Ideal.Gen Idealize.ShloMosaic Idealize.ShloMosaic.TcCoe

variable {F : FTy → Type} [FloatOps F]

/-- gelu of the S5 group's sum. -/
def gl (a1 : FVec F S16x4096x512 .f32) : FVec F S16x4096x512 .f32 :=
  mulf (mulf (broadcastInDim S16x4096x512 ![] bcast_S_S16x4096x512 (constant S_ .f32 0x3F000000#32)) a1)
    (addf (broadcastInDim S16x4096x512 ![] bcast_S_S16x4096x512 (constant S_ .f32 0x3F800000#32))
      (Host.erf (mulf a1 (broadcastInDim S16x4096x512 ![] bcast_S_S16x4096x512 (constant S_ .f32 0x3F3504F3#32)))))

/-- The GLU's result. -/
def glu (a1 : FVec F S16x4096x512 .f32) (a3 : FVec F S1x512x512 .f32) : FVec F S16x4096x512 .f32 :=
  mulf (gl a1) (Host.divf (broadcastInDim S16x4096x512 ![] bcast_S_S16x4096x512 (constant S_ .f32 0x3F800000#32))
    (addf (broadcastInDim S16x4096x512 ![] bcast_S_S16x4096x512 (constant S_ .f32 0x3F800000#32))
      (Host.exp (Host.negf (Host.dotGeneral dot_S16x4096x512_S512x512_S16x4096x512_2_0_01_1_n_n none (gl a1)
        (shapeCast S512x512 a3 shapeCasts_S1x512x512_S512x512))))))

/-- The stream after the mixer. -/
def mix (a0 : FVec F S16x4096x1024 .f32) (a1 a2 : FVec F S16x4096x512 .f32) (a3 : FVec F S1x512x512 .f32)
    (a4 : FVec F S1x1024x1024 .f32) : FVec F S16x4096x1024 .f32 :=
  addf a0 (Host.dotGeneral dot_S16x4096x1024_S1024x1024_S16x4096x1024_2_0_01_1_n_n none
    (concatenate S16x4096x1024 2 [⟨S16x4096x512, glu a1 a3⟩, ⟨S16x4096x512, a2⟩] concatenates_S16x4096x512_S16x4096x512_S16x4096x1024_d2)
    (shapeCast S1024x1024 a4 shapeCasts_S1x1024x1024_S1024x1024))

/-- Its normalization. -/
def norm (x : FVec F S16x4096x1024 .f32) (a5 : FVec F S1x1024 .f32) : FVec F S16x4096x1024 .f32 :=
  mulf (mulf x (broadcastInDim S16x4096x1024 ![0, 1, 2] bcast_S16x4096x1_S16x4096x1024_0_1_2
    (Host.rsqrt (addf (Host.divf (broadcastInDim S16x4096x1 ![0, 1] bcast_S16x4096_S16x4096x1_0_1
        (Host.reduceAdd (mulf x x) (constant S_ .f32 0x00000000#32) reducesTo_S16x4096x1024_S16x4096_d2 h_S_))
      (broadcastInDim S16x4096x1 ![] bcast_S_S16x4096x1 (constant S_ .f32 0x44800000#32)))
      (broadcastInDim S16x4096x1 ![] bcast_S_S16x4096x1 (constant S_ .f32 0x358637BD#32))))))
    (broadcastInDim S16x4096x1024 ![0, 1, 2] bcast_S1x1x1024_S16x4096x1024_0_1_2
      (broadcastInDim S1x1x1024 ![2] bcast_S1024_S1x1x1024_2 (shapeCast S1024 a5 shapeCasts_S1x1024_S1024)))

/-- The scores. -/
def score (h : FVec F S16x4096x1024 .f32) (a6 : FVec F S1x1024x2048 .f32) (a7 : FVec F S1x8x2x128x128 .f32) : FVec F S16x4096x8x2x128 .f32 :=
  transpose S16x4096x8x2x128 [3, 4, 0, 1, 2] (Host.dotGeneral dot_S8x2x128x128_S16x4096x8x2x128_S8x2x128x16x4096_3_4_2_01_01_23 none
    (shapeCast S8x2x128x128 a7 shapeCasts_S1x8x2x128x128_S8x2x128x128)
    (shapeCast S16x4096x8x2x128 (Host.dotGeneral dot_S16x4096x1024_S1024x2048_S16x4096x2048_2_0_01_1_n_n none h
      (shapeCast S1024x2048 a6 shapeCasts_S1x1024x2048_S1024x2048)) shapeCasts_S16x4096x2048_S16x4096x8x2x128))
    transposes_S8x2x128x16x4096_S16x4096x8x2x128_3_4_0_1_2

/-- A token per column, in blocks of 32 positions. -/
def colsH (h : FVec F S16x4096x1024 .f32) : FVec F S1024x65536 .bf16 :=
  truncf .bf16 (shapeCast S1024x65536 (transpose S1024x128x16x32 [3, 1, 0, 2] (shapeCast S16x128x32x1024 h shapeCasts_S16x4096x1024_S16x128x32x1024)
    transposes_S16x128x32x1024_S1024x128x16x32_3_1_0_2) shapeCasts_S1024x128x16x32_S1024x65536) bitsLt_bf16_f32

/-- The same of the scores. -/
def colsS (h : FVec F S16x4096x8x2x128 .f32) : FVec F S2048x65536 .f32 :=
  shapeCast S2048x65536 (transpose S2048x128x16x32 [3, 1, 0, 2] (shapeCast S16x128x32x2048 h shapeCasts_S16x4096x8x2x128_S16x128x32x2048)
    transposes_S16x128x32x2048_S2048x128x16x32_3_1_0_2) shapeCasts_S2048x128x16x32_S2048x65536

theorem v44_eq (m : (ℓ : Loc nD τ sig) → Buf (Elt F) ℓ) (c : Dev nD) : Value.res_main_v44 m c
    = colsH (norm (mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        (m ((c.tc : Thread nD τ).loc main_arg5))) := rfl
theorem v47_eq (m : (ℓ : Loc nD τ sig) → Buf (Elt F) ℓ) (c : Dev nD) : Value.res_main_v47 m c
    = colsS (score (norm (mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        (m ((c.tc : Thread nD τ).loc main_arg5))) (m ((c.tc : Thread nD τ).loc main_arg6)) (m ((c.tc : Thread nD τ).loc main_arg7))) := rfl

section
variable (a0 : FVec Ideal S16x4096x1024 .f32) (a1 a2 : FVec Ideal S16x4096x512 .f32) (a3 : FVec Ideal S1x512x512 .f32)
    (a4 : FVec Ideal S1x1024x1024 .f32) (a5 : FVec Ideal S1x1024 .f32) (a6 : FVec Ideal S1x1024x2048 .f32)
    (a7 : FVec Ideal S1x8x2x128x128 .f32)

theorem gl_val (b : Fin 16) (s : Fin 4096) (l : Fin 512) : gl a1 (ix3 b s l) = gel (a1 (ix3 b s l)) := by
  pointwise [gl]
  rfl

theorem glu_val (b : Fin 16) (s : Fin 4096) (l : Fin 512) :
    glu a1 a3 (ix3 b s l) = gated (fun k => a1 (ix3 b s k)) (fun k l => a3 (ix3 (0 : Fin 1) k l)) l := by
  pointwise [glu]
  simp only [gl_val]
  rfl

theorem mix_val (b : Fin 16) (s : Fin 4096) (d : Fin 1024) :
    mix a0 a1 a2 a3 a4 (ix3 b s d) = mixed (fun e => a0 (ix3 b s e)) (fun k => a1 (ix3 b s k)) (fun k => a2 (ix3 b s k))
      (fun k l => a3 (ix3 (0 : Fin 1) k l)) (fun k l => a4 (ix3 (0 : Fin 1) k l)) d := by
  pointwise [mix]
  simp only [glu_val]
  rfl

theorem norm_val (x : FVec Ideal S16x4096x1024 .f32) (b : Fin 16) (s : Fin 4096) (d : Fin 1024) :
    norm x a5 (ix3 b s d) = normed (fun e => x (ix3 b s e)) (fun e => a5 (ix2 (0 : Fin 1) e)) d := by
  pointwise [norm]
  rfl

theorem colsH_val (x : FVec Ideal S16x4096x1024 .f32) (d : Fin 1024) (n : Fin 65536) :
    colsH x (ix2 d n) = x (ix3 (⟨n.val / 32 % 16, by omega⟩ : Fin 16) (⟨n.val / 512 * 32 + n.val % 32, by omega⟩ : Fin 4096) d) := by
  pointwise [colsH]

theorem colsS_val (x : FVec Ideal S16x4096x1024 .f32) (k : Fin 2048) (n : Fin 65536) :
    colsS (score x a6 a7) (ix2 k n)
      = scored (fun d => x (ix3 (⟨n.val / 32 % 16, by omega⟩ : Fin 16) (⟨n.val / 512 * 32 + n.val % 32, by omega⟩ : Fin 4096) d))
          (fun d l => a6 (ix3 (0 : Fin 1) d l)) (fun h p k e => a7 (ix5 (0 : Fin 1) h p k e)) k := by
  pointwise [colsS]
  pointwise [score]
  rfl

end

end Cert.Merge.Ref

end
-- ==== Proof.MergePre.lean ====
/- The second precondition read back: where it holds, every argument array of the merge call is an array of reals. -/
module

public import proofs.«01_k».proof.Pre_finite
public import proofs.«01_k».proof.Proof.Pre
public import proofs.«01_k».proof.Proof.MergeModel

@[expose] public section

set_option maxRecDepth 16384

noncomputable section

namespace Cert.Merge.Pre

open Idealize.ShloMosaic
open Cert.Pre_finite Cert.Pre_finite.Facts

/-- The shape relations the predicate takes. -/
theorem facts : Cert.Pre_finite.Facts := by
  constructor <;> decide +kernel

instance : Subsingleton S_.Idx := ⟨fun i j => funext fun a => a.elim0⟩

variable [Cert.Pre_finite.Facts]
variable (a0 : FVec Ideal S16x4096x1024 .f32) (a1 a2 : FVec Ideal S16x4096x512 .f32) (a3 : FVec Ideal S1x512x512 .f32)
    (a4 : FVec Ideal S1x1024x1024 .f32) (a5 : FVec Ideal S1x1024 .f32) (a6 : FVec Ideal S1x1024x2048 .f32)
    (a7 : FVec Ideal S1x8x2x128x128 .f32)

/-- The predicate's meaning, array by array. -/
theorem reals (h : fn (F := Ideal) a0 a1 a2 a3 a4 a5 a6 a7 = fun _ => 1#1) :
    (∀ x, Real1 (a0 x)) ∧ (∀ x, Real1 (a1 x)) ∧ (∀ x, Real1 (a2 x)) ∧ (∀ x, Real1 (a3 x)) ∧ (∀ x, Real1 (a4 x))
    ∧ (∀ x, Real1 (a5 x)) ∧ (∀ x, Real1 (a6 x)) ∧ (∀ x, Real1 (a7 x)) := by
  have h1 := congrFun h (fun a => a.elim0)
  obtain ⟨h1, r7⟩ := IntOp.andi_eq_one.1 h1
  obtain ⟨h1, r6⟩ := IntOp.andi_eq_one.1 h1
  obtain ⟨h1, r5⟩ := IntOp.andi_eq_one.1 h1
  obtain ⟨h1, r4⟩ := IntOp.andi_eq_one.1 h1
  obtain ⟨h1, r3⟩ := IntOp.andi_eq_one.1 h1
  obtain ⟨h1, r2⟩ := IntOp.andi_eq_one.1 h1
  obtain ⟨r0, r1⟩ := IntOp.andi_eq_one.1 h1
  exact ⟨fun x => ⟨_, Cert.Pre.finite_of_lt _ _ (Host.reduce_andi_all _ _ _ _ _ r0 x)⟩,
    fun x => ⟨_, Cert.Pre.finite_of_lt _ _ (Host.reduce_andi_all _ _ _ _ _ r1 x)⟩,
    fun x => ⟨_, Cert.Pre.finite_of_lt _ _ (Host.reduce_andi_all _ _ _ _ _ r2 x)⟩,
    fun x => ⟨_, Cert.Pre.finite_of_lt _ _ (Host.reduce_andi_all _ _ _ _ _ r3 x)⟩,
    fun x => ⟨_, Cert.Pre.finite_of_lt _ _ (Host.reduce_andi_all _ _ _ _ _ r4 x)⟩,
    fun x => ⟨_, Cert.Pre.finite_of_lt _ _ (Host.reduce_andi_all _ _ _ _ _ r5 x)⟩,
    fun x => ⟨_, Cert.Pre.finite_of_lt _ _ (Host.reduce_andi_all _ _ _ _ _ r6 x)⟩,
    fun x => ⟨_, Cert.Pre.finite_of_lt _ _ (Host.reduce_andi_all _ _ _ _ _ r7 x)⟩⟩

end Cert.Merge.Pre

end
-- ==== Proof.MergeEqual.lean ====
/- The merge call against its reference: where every argument is finite, the three results agree. -/
module

public import proofs.«01_k».proof.Proof.MergeValue
public import proofs.«01_k».proof.Proof.MergeRef
public import proofs.«01_k».proof.Proof.MergePre

@[expose] public section

set_option maxRecDepth 16384

noncomputable section

namespace Cert.Merge

open Cert.Kernel2Ideal Cert.Merge.Host
open Idealize.ShloMosaic

variable (m : (ℓ : Loc nD τ sig) → Buf (Elt Ideal) ℓ) (c : Dev nD)

/-- The residual stream. -/
theorem equal7 : Ref.mix (A0 m c) (A1 m c) (A2 m c) (A3 m c) (A4 m c) = (Gen.dats m 0 c).arrAt 7 cfg0.N := by
  funext x
  have hx : x = ix3 (x 0) (x 1) (x 2) := by
    funext a
    fin_cases a <;> rfl
  rw [hx]
  exact (Ref.mix_val _ _ _ _ _ (x 0) (x 1) (x 2)).trans (Value.result7 m c (x 0) (x 1) (x 2)).symm

theorem norm_tok (b : Fin 16) (s : Fin 4096) (d : Fin 1024) :
    Ref.norm (Ref.mix (A0 m c) (A1 m c) (A2 m c) (A3 m c) (A4 m c)) (A5 m c) (ix3 b s d) = Value.unit m c b s d :=
  (Ref.norm_val _ _ b s d).trans (congrArg (fun x => normed x _ d) (funext fun e => Ref.mix_val _ _ _ _ _ b s e))

/-- The normalized stream, a token per column. -/
theorem equal8 : Ref.colsH (Ref.norm (Ref.mix (A0 m c) (A1 m c) (A2 m c) (A3 m c) (A4 m c)) (A5 m c)) = (Gen.dats m 0 c).arrAt 8 cfg0.N := by
  funext x
  have hx : x = ix2 (x 0) (x 1) := by
    funext a
    fin_cases a <;> rfl
  rw [hx]
  exact ((Ref.colsH_val _ (x 0) (x 1)).trans (norm_tok m c _ _ (x 0))).trans (Value.result8 m c (x 0) (x 1)).symm

/-- The scores, a token per column: the keys are multiplied into the query projection first in the one and last in the other. -/
theorem equal9 (h0 : ∀ x, Real1 (A0 m c x)) (h1 : ∀ x, Real1 (A1 m c x)) (h2 : ∀ x, Real1 (A2 m c x)) (h3 : ∀ x, Real1 (A3 m c x))
    (h4 : ∀ x, Real1 (A4 m c x)) (h5 : ∀ x, Real1 (A5 m c x)) (h6 : ∀ x, Real1 (A6 m c x)) (h7 : ∀ x, Real1 (A7 m c x)) :
    Ref.colsS (Ref.score (Ref.norm (Ref.mix (A0 m c) (A1 m c) (A2 m c) (A3 m c) (A4 m c)) (A5 m c)) (A6 m c) (A7 m c))
      = (Gen.dats m 0 c).arrAt 9 cfg0.N := by
  funext x
  have hx : x = ix2 (x 0) (x 1) := by
    funext a
    fin_cases a <;> rfl
  rw [hx]
  refine (Ref.colsS_val _ _ _ (x 0) (x 1)).trans (Eq.trans ?_ (Value.result9 m c (x 0) (x 1)).symm)
  refine Eq.trans ?_ (scored_eq (fun d => ?_) (fun d n => h6 _) (fun a p k e => h7 _) (x 0)).symm
  · exact congrArg (fun h => scored h _ _ (x 0)) (funext fun d => norm_tok m c _ _ d)
  · exact Real1.normed (fun d => Real1.mixed (fun d => h0 _) (fun l => h1 _) (fun l => h2 _) (fun k l => h3 _) (fun k d => h4 _) d) (fun d => h5 _) d

end Cert.Merge

end
-- ==== Proof.ProjModel.lean ====
/- One token's way through the input projection, over the extended reals. The Fourier group's channel transform and its
   linear map may be applied to the projected token or multiplied into the projection's columns beforehand: where the
   arrays are arrays of real numbers the two agree. -/
module

public import proofs.«01_k».proof.Proof.MergeModel

@[expose] public section

noncomputable section

namespace Cert.Proj

open Idealize.ShloMosaic Cert.Merge

/-- One feature of the projected token. -/
def proj (h : Fin 1024 → EReal) (W : Fin 1024 → Fin 1024 → EReal) (l : Fin 1024) : EReal := ∑ e, h e * W e l

/-- The Fourier group's feature `d` of group `g`: the channels are transformed by the table `T`, scaled, and mapped. -/
def mapped (h : Fin 1024 → EReal) (W : Fin 1024 → Fin 1024 → EReal) (T : Fin 128 → Fin 128 → EReal) (s : EReal)
    (M : Fin 4 → Fin 128 → Fin 128 → EReal) (g : Fin 4) (d : Fin 128) : EReal :=
  ∑ k : Fin 128, M g k d * ((∑ n : Fin 128, proj h W ⟨512 + (g.val * 128 + n.val), by omega⟩ * T n k) * s)

/-- A column of the projection with the transform and the map multiplied in. -/
def fused (W : Fin 1024 → Fin 1024 → EReal) (T : Fin 128 → Fin 128 → EReal) (s : EReal)
    (M : Fin 4 → Fin 128 → Fin 128 → EReal) (g : Fin 4) (d : Fin 128) (e : Fin 1024) : EReal :=
  ∑ n : Fin 128, ((∑ k : Fin 128, M g k d * T n k) * s) * W e ⟨512 + (g.val * 128 + n.val), by omega⟩

theorem fused_eq {h : Fin 1024 → EReal} {W : Fin 1024 → Fin 1024 → EReal} {T : Fin 128 → Fin 128 → EReal} {s : EReal}
    {M : Fin 4 → Fin 128 → Fin 128 → EReal} (hh : ∀ e, Real1 (h e)) (hW : ∀ e l, Real1 (W e l)) (hT : ∀ n k, Real1 (T n k))
    (hs : Real1 s) (hM : ∀ g k d, Real1 (M g k d)) (g : Fin 4) (d : Fin 128) :
    ∑ e, h e * fused W T s M g d e = mapped h W T s M g d := by
  choose h' eh using hh
  choose W' eW using hW
  choose T' eT using hT
  choose M' eM using hM
  obtain ⟨s', es⟩ := hs
  simp only [mapped, fused, proj, eh, eW, eT, eM, es, ← EReal.coe_mul, Model.sum_coe]
  refine congrArg _ ?_
  simp only [Finset.sum_mul, Finset.mul_sum]
  rw [Finset.sum_comm]
  refine Eq.trans (Finset.sum_congr rfl fun n _ => Finset.sum_comm) ?_
  rw [Finset.sum_comm]
  refine Finset.sum_congr rfl fun k _ => Finset.sum_congr rfl fun n _ => Finset.sum_congr rfl fun e _ => ?_
  ring

theorem scale_real : Real1 (Ideal.ofBits .f32 0x3AB504F3#32) := by
  simp only [Ideal.ofBits, Ideal.ieee]
  norm_num [-EReal.coe_mul]
  exact ⟨_, rfl⟩

theorem turn_real : Real1 (Ideal.ofBits .f32 0x3D490FDB#32) := by
  simp only [Ideal.ofBits, Ideal.ieee]
  norm_num [-EReal.coe_mul]
  exact ⟨_, rfl⟩

theorem Real1.cos {x : EReal} (hx : Real1 x) : Real1 (Ideal.cos x) := by
  obtain ⟨a, rfl⟩ := hx
  exact ⟨_, rfl⟩

theorem Real1.sin {x : EReal} (hx : Real1 x) : Real1 (Ideal.sin x) := by
  obtain ⟨a, rfl⟩ := hx
  exact ⟨_, rfl⟩

end Cert.Proj

end
-- ==== Proof.ProjBody.lean ====
/- The projection kernel's body at its blocks: one product of 512 rows, row `32 b + s` being batch `b` at position `s` of
   the block. The Fourier features are stored a batch at a time; the rest goes through the scratch, whose rows are read
   back with stride 32. -/
module

public import proofs.«01_k».proof.Proof.Gen.Kernel3Ideal.Frame
public import proofs.«01_k».proof.Proof.ProjModel
public import Idealize.ShloMosaic.Lib.WholeRead
public import Idealize.ShloMosaic.Lib.Pipeline.ValueKit.Tiles

@[expose] public section

set_option maxRecDepth 16384

noncomputable section

namespace Cert.Proj.Body

open Cert.Kernel3Ideal Cert.Kernel3Ideal.Gen
open Idealize.ShloMosaic Idealize.ShloMosaic.TcCoe Idealize.ShloMosaic.Tactic Cert.Merge

/-- The product at coordinates. -/
theorem pay_val (v0 : Vec Ideal S16x32x1024 .f32) (v2 : Vec Ideal S1x1024 .f32) (w : Vec Ideal S1024x1536 .bf16) (r : Fin 512) (l : Fin 1536) :
    k0_pay2 v0 v2 w (ix2 r l)
      = ∑ e : Fin 1024, normed (fun e => v0 (ix3 (⟨r.val / 32, by omega⟩ : Fin 16) (⟨r.val % 32, by omega⟩ : Fin 32) e))
          (fun e => v2 (ix2 (0 : Fin 1) e)) e * w (ix2 e l) := by
  pointwise [k0_pay2]
  rfl

/-- A whole rank-2 buffer read back. -/
theorem whole2 {R C : ℕ} {e : EltTy} {arg : Memref sig .tc .vmem (⟨2, ![R, C]⟩ : Shape) e} (h : arg.IsWhole)
    (X : (⟨2, ![R, C]⟩ : Shape).Idx → Elt Ideal e) (inb) (r : Fin R) (l : Fin C) :
    View.readAt (Elt Ideal) arg.view (Rect.unit (s := (⟨2, ![R, C]⟩ : Shape)) ![0, 0] (⟨2, ![R, C]⟩ : Shape).size inb).toLoadRect (h.unread X) (ix2 r l)
      = X (ix2 r l) := by
  refine (h.readAt_unread X _ _).trans (congrArg X ?_)
  funext a; apply Fin.ext
  fin_cases a
  · exact (Nat.zero_add _).trans (Nat.one_mul _)
  · exact (Nat.zero_add _).trans (Nat.one_mul _)

/-- A whole rank-3 buffer read back. -/
theorem whole3 {Q R C : ℕ} {e : EltTy} {arg : Memref sig .tc .vmem (⟨3, ![Q, R, C]⟩ : Shape) e} (h : arg.IsWhole)
    (X : (⟨3, ![Q, R, C]⟩ : Shape).Idx → Elt Ideal e) (inb) (q : Fin Q) (r : Fin R) (l : Fin C) :
    View.readAt (Elt Ideal) arg.view (Rect.unit (s := (⟨3, ![Q, R, C]⟩ : Shape)) ![0, 0, 0] (⟨3, ![Q, R, C]⟩ : Shape).size inb).toLoadRect (h.unread X) (ix3 q r l)
      = X (ix3 q r l) := by
  refine (h.readAt_unread X _ _).trans (congrArg X ?_)
  funext a; apply Fin.ext
  fin_cases a
  · exact (Nat.zero_add _).trans (Nat.one_mul _)
  · exact (Nat.zero_add _).trans (Nat.one_mul _)
  · exact (Nat.zero_add _).trans (Nat.one_mul _)

section
variable (Z : FVec Ideal S512x1536 .f32)

/-- What a block of Fourier features holds: the product's columns from `o` on, a batch per 512 columns. -/
def feat (o : ℕ) (ho : o ≤ 1024) (y : S32x8192.Idx) : EReal :=
  Z (ix2 (⟨32 * ((y 1).val / 512) + (y 0).val, by
      have : (y 0).val < 32 := (y 0).isLt
      have : (y 1).val < 8192 := (y 1).isLt
      omega⟩ : Fin 512) (⟨o + (y 1).val % 512, by omega⟩ : Fin 1536))

/-- A store that agrees with `feat` and covers its batch. -/
def GoodF (o : ℕ) (ho : o ≤ 1024) (p : View.Piece (Elt Ideal) S32x8192 .bf16) : Prop :=
  (∀ y, p.2 y = feat Z o ho (p.1.emb y)) ∧ ∀ i : S32x8192.Idx, (i 1).val / 512 * 512 = p.1.off 1 → i ∈ p.1.set

theorem slice_val (a o : ℕ) (h : S512x1536.Slices ![a, o] S32x512) (h' : FTy.bf16.bits < FTy.f32.bits) (s : Fin 32) (l : Fin 512)
    (ha : a + s.val < 512) (ho : o + l.val < 1536) :
    truncf .bf16 (extractStridedSlice S32x512 ![a, o] Z h : FVec Ideal S32x512 .f32) h' (ix2 s l) = Z (ix2 ⟨a + s.val, ha⟩ ⟨o + l.val, ho⟩) := by
  pointwise

theorem goodF (o : ℕ) (ho : o ≤ 1024) (b a k : ℕ) (hb : b < 16) (ha : a = 32 * b) (hk : k = 512 * b) (inb)
    (h : S512x1536.Slices ![a, o] S32x512) (h' : FTy.bf16.bits < FTy.f32.bits) :
    GoodF Z o ho ⟨Rect.unit (s := S32x8192) ![0, k] S32x512.size inb, truncf .bf16 (extractStridedSlice S32x512 ![a, o] Z h : FVec Ideal S32x512 .f32) h'⟩ := by
  subst ha hk
  refine ⟨fun y => ?_, fun i h1 => ?_⟩
  · have y0 : (y (0 : Fin 2)).val < 32 := (y (0 : Fin 2)).isLt
    have y1 : (y (1 : Fin 2)).val < 512 := (y (1 : Fin 2)).isLt
    have hy : y = ix2 (⟨_, y0⟩ : Fin 32) (⟨_, y1⟩ : Fin 512) := by
      funext a; apply Fin.ext
      fin_cases a
      · rfl
      · rfl
    refine (congrArg (truncf .bf16 (extractStridedSlice S32x512 ![32 * b, o] Z h : FVec Ideal S32x512 .f32) h') hy).trans
      ((slice_val Z (32 * b) o h h' _ _ (by show 32 * b + (y (0 : Fin 2)).val < 512; omega) (by show o + (y (1 : Fin 2)).val < 1536; omega)).trans ?_)
    refine congrArg Z ?_
    funext a; apply Fin.ext
    fin_cases a
    · show 32 * b + (y (0 : Fin 2)).val = 32 * ((512 * b + 1 * (y (1 : Fin 2)).val) / 512) + (0 + 1 * (y (0 : Fin 2)).val)
      omega
    · show o + (y (1 : Fin 2)).val = o + (512 * b + 1 * (y (1 : Fin 2)).val) % 512
      omega
  · have i0 : (i (0 : Fin 2)).val < 32 := (i (0 : Fin 2)).isLt
    have i1 : (i (1 : Fin 2)).val < 8192 := (i (1 : Fin 2)).isLt
    have e1 : (i (1 : Fin 2)).val / 512 * 512 = 512 * b := h1
    refine (LoadRect.mem_set _).2 fun a => ?_
    fin_cases a
    · exact ⟨(i (0 : Fin 2)).val, i0, by show (i (0 : Fin 2)).val = 0 + 1 * (i (0 : Fin 2)).val; omega⟩
    · exact ⟨(i (1 : Fin 2)).val % 512, by show _ < 512; omega, by show (i (1 : Fin 2)).val = 512 * b + 1 * ((i (1 : Fin 2)).val % 512); omega⟩

/-- What the scratch holds. -/
def plane (y : S4x512x128.Idx) : EReal :=
  Z (ix2 (⟨(y 1).val, (y 1).isLt⟩ : Fin 512) (⟨128 * (y 0).val + (y 2).val, by
      have : (y 0).val < 4 := (y 0).isLt
      have : (y 2).val < 128 := (y 2).isLt
      omega⟩ : Fin 1536))

/-- A store of a whole lane group. -/
def GoodP (p : View.Piece (Elt Ideal) S4x512x128 .f32) : Prop :=
  (∀ y, p.2 y = plane Z (p.1.emb y)) ∧ ∀ i : S4x512x128.Idx, (i 0).val = p.1.off 0 → i ∈ p.1.set

theorem lane_val (o : ℕ) (h : S512x1536.Slices ![0, o] S512x128) (h' : S512x128.ShapeCasts S1x512x128) (z : Fin 1) (r : Fin 512) (l : Fin 128)
    (ho : o + l.val < 1536) :
    shapeCast S1x512x128 (extractStridedSlice S512x128 ![0, o] Z h) h' (ix3 z r l) = Z (ix2 r ⟨o + l.val, ho⟩) := by
  pointwise

theorem goodP (j o : ℕ) (hj : j < 4) (ho : o = 128 * j) (inb) (h : S512x1536.Slices ![0, o] S512x128) (h' : S512x128.ShapeCasts S1x512x128) :
    GoodP Z ⟨Rect.unit (s := S4x512x128) ![j, 0, 0] S1x512x128.size inb, shapeCast S1x512x128 (extractStridedSlice S512x128 ![0, o] Z h) h'⟩ := by
  subst ho
  refine ⟨fun y => ?_, fun i h0 => ?_⟩
  · have y0 : (y (0 : Fin 3)).val < 1 := (y (0 : Fin 3)).isLt
    have y1 : (y (1 : Fin 3)).val < 512 := (y (1 : Fin 3)).isLt
    have y2 : (y (2 : Fin 3)).val < 128 := (y (2 : Fin 3)).isLt
    have hy : y = ix3 (0 : Fin 1) (⟨_, y1⟩ : Fin 512) (⟨_, y2⟩ : Fin 128) := by
      funext a; apply Fin.ext
      fin_cases a
      · exact Nat.lt_one_iff.1 y0
      · rfl
      · rfl
    refine (congrArg (shapeCast S1x512x128 (extractStridedSlice S512x128 ![0, 128 * j] Z h) h') hy).trans
      ((lane_val Z (128 * j) h h' _ _ _ (by show 128 * j + (y (2 : Fin 3)).val < 1536; omega)).trans ?_)
    refine congrArg Z ?_
    funext a; apply Fin.ext
    fin_cases a
    · show (y (1 : Fin 3)).val = 0 + 1 * (y (1 : Fin 3)).val
      omega
    · show 128 * j + (y (2 : Fin 3)).val = 128 * (j + 1 * (y (0 : Fin 3)).val) + (0 + 1 * (y (2 : Fin 3)).val)
      omega
  · have i1 : (i (1 : Fin 3)).val < 512 := (i (1 : Fin 3)).isLt
    have i2 : (i (2 : Fin 3)).val < 128 := (i (2 : Fin 3)).isLt
    have e0 : (i (0 : Fin 3)).val = j := h0
    refine (LoadRect.mem_set _).2 fun a => ?_
    fin_cases a
    · exact ⟨0, Nat.one_pos, e0⟩
    · exact ⟨(i (1 : Fin 3)).val, i1, by show (i (1 : Fin 3)).val = 0 + 1 * (i (1 : Fin 3)).val; omega⟩
    · exact ⟨(i (2 : Fin 3)).val, i2, by show (i (2 : Fin 3)).val = 0 + 1 * (i (2 : Fin 3)).val; omega⟩

/-- Four lane groups of one position, side by side. -/
def gather (v0 v1 v2 v3 : Vec Ideal S1x16x128 .f32) : FVec Ideal S1x1x16x512 .bf16 :=
  shapeCast S1x1x16x512 (truncf .bf16 (concatenate S16x512 1 [⟨S16x128, (shapeCast S16x128 v0 shapeCasts_S1x16x128_S16x128 : FVec Ideal S16x128 .f32)⟩,
    ⟨S16x128, (shapeCast S16x128 v1 shapeCasts_S1x16x128_S16x128 : FVec Ideal S16x128 .f32)⟩, ⟨S16x128, (shapeCast S16x128 v2 shapeCasts_S1x16x128_S16x128 : FVec Ideal S16x128 .f32)⟩,
    ⟨S16x128, (shapeCast S16x128 v3 shapeCasts_S1x16x128_S16x128 : FVec Ideal S16x128 .f32)⟩] concatenates_S16x128_S16x128_S16x128_S16x128_S16x512_d1 : FVec Ideal S16x512 .f32) bitsLt_bf16_f32) shapeCasts_S16x512_S1x1x16x512

theorem gather_val (v0 v1 v2 v3 : Vec Ideal S1x16x128 .f32) (b : Fin 16) (Y : Fin 512 → EReal)
    (h0 : ∀ l : Fin 128, v0 (ix3 (0 : Fin 1) b l) = Y ⟨128 * 0 + l.val, by omega⟩) (h1 : ∀ l : Fin 128, v1 (ix3 (0 : Fin 1) b l) = Y ⟨128 * 1 + l.val, by omega⟩)
    (h2 : ∀ l : Fin 128, v2 (ix3 (0 : Fin 1) b l) = Y ⟨128 * 2 + l.val, by omega⟩)
    (h3 : ∀ l : Fin 128, v3 (ix3 (0 : Fin 1) b l) = Y ⟨128 * 3 + l.val, by omega⟩) (x : Fin 512) :
    gather v0 v1 v2 v3 (ix4 (0 : Fin 1) (0 : Fin 1) b x) = Y x := by
  pointwise [gather]
  by_cases a : x.val < 128
  · rw [dif_pos a, h0]
    exact congrArg Y (Fin.ext (Nat.zero_add _))
  rw [dif_neg a]
  by_cases b : x.val - 128 < 128
  · rw [dif_pos b, h1]
    exact congrArg Y (Fin.ext (by show 128 * 1 + (x.val - 128) = x.val; omega))
  rw [dif_neg b]
  by_cases e : x.val - 128 - 128 < 128
  · rw [dif_pos e, h2]
    exact congrArg Y (Fin.ext (by show 128 * 2 + (x.val - 128 - 128) = x.val; omega))
  rw [dif_neg e, h3]
  exact congrArg Y (Fin.ext (by show 128 * 3 + (x.val - 128 - 128 - 128) = x.val; omega))

/-- What the block of S5 features holds. -/
def feed (y : S16x2x16x512.Idx) : EReal :=
  Z (ix2 (⟨32 * (y 2).val + (y 1).val * 16 + (y 0).val, by
      have : (y 0).val < 16 := (y 0).isLt
      have : (y 1).val < 2 := (y 1).isLt
      have : (y 2).val < 16 := (y 2).isLt
      omega⟩ : Fin 512) (⟨(y 3).val, by have : (y 3).val < 512 := (y 3).isLt; omega⟩ : Fin 1536))

/-- A store of one position of the block. -/
def GoodU (p : View.Piece (Elt Ideal) S16x2x16x512 .bf16) : Prop :=
  (∀ y, p.2 y = feed Z (p.1.emb y)) ∧ ∀ i : S16x2x16x512.Idx, (i 0).val = p.1.off 0 → (i 1).val = p.1.off 1 → i ∈ p.1.set

/-- A strided read of the scratch's rows of position `s` is right. -/
def Picks (j s : ℕ) (hj : j < 4) (hs : s < 32) (v : Vec Ideal S1x16x128 .f32) : Prop :=
  ∀ (b : Fin 16) (l : Fin 128), v (ix3 (0 : Fin 1) b l) = Z (ix2 (⟨32 * b.val + s, by omega⟩ : Fin 512) (⟨128 * j + l.val, by omega⟩ : Fin 1536))

theorem goodU (t cl : ℕ) (ht : t < 16) (hcl : cl < 2) (inb) (v0 v1 v2 v3 : Vec Ideal S1x16x128 .f32)
    (h0 : Picks Z 0 (cl * 16 + t) (by omega) (by omega) v0) (h1 : Picks Z 1 (cl * 16 + t) (by omega) (by omega) v1)
    (h2 : Picks Z 2 (cl * 16 + t) (by omega) (by omega) v2) (h3 : Picks Z 3 (cl * 16 + t) (by omega) (by omega) v3) :
    GoodU Z ⟨Rect.unit (s := S16x2x16x512) ![t, cl, 0, 0] S1x1x16x512.size inb, gather v0 v1 v2 v3⟩ := by
  refine ⟨fun y => ?_, fun i e0 e1 => ?_⟩
  · have y0 : (y (0 : Fin 4)).val < 1 := (y (0 : Fin 4)).isLt
    have y1 : (y (1 : Fin 4)).val < 1 := (y (1 : Fin 4)).isLt
    have y2 : (y (2 : Fin 4)).val < 16 := (y (2 : Fin 4)).isLt
    have y3 : (y (3 : Fin 4)).val < 512 := (y (3 : Fin 4)).isLt
    have hy : y = ix4 (0 : Fin 1) (0 : Fin 1) (⟨_, y2⟩ : Fin 16) (⟨_, y3⟩ : Fin 512) := by
      funext a; apply Fin.ext
      fin_cases a
      · exact Nat.lt_one_iff.1 y0
      · exact Nat.lt_one_iff.1 y1
      · rfl
      · rfl
    refine (congrArg (gather v0 v1 v2 v3) hy).trans ((gather_val v0 v1 v2 v3 ⟨_, y2⟩
      (fun x => Z (ix2 (⟨32 * (y (2 : Fin 4)).val + (cl * 16 + t), by omega⟩ : Fin 512) (⟨x.val, by omega⟩ : Fin 1536)))
      (fun l => h0 _ l) (fun l => h1 _ l) (fun l => h2 _ l) (fun l => h3 _ l) _).trans ?_)
    refine congrArg Z ?_
    funext a; apply Fin.ext
    fin_cases a
    · show 32 * (y (2 : Fin 4)).val + (cl * 16 + t) = 32 * (0 + 1 * (y (2 : Fin 4)).val) + (cl + 1 * (y (1 : Fin 4)).val) * 16 + (t + 1 * (y (0 : Fin 4)).val)
      omega
    · show (y (3 : Fin 4)).val = 0 + 1 * (y (3 : Fin 4)).val
      omega
  · have i2 : (i (2 : Fin 4)).val < 16 := (i (2 : Fin 4)).isLt
    have i3 : (i (3 : Fin 4)).val < 512 := (i (3 : Fin 4)).isLt
    refine (LoadRect.mem_set _).2 fun a => ?_
    fin_cases a
    · exact ⟨0, Nat.one_pos, e0⟩
    · exact ⟨0, Nat.one_pos, e1⟩
    · exact ⟨(i (2 : Fin 4)).val, i2, by show (i (2 : Fin 4)).val = 0 + 1 * (i (2 : Fin 4)).val; omega⟩
    · exact ⟨(i (3 : Fin 4)).val, i3, by show (i (3 : Fin 4)).val = 0 + 1 * (i (3 : Fin 4)).val; omega⟩

end

section
variable (c : Dev nD) (i : grid0.Coords) (arg1 : Memref sig .tc .vmem S16x32x1024 .f32) (harg1 : arg1.IsWhole)
    (arg2 : Memref sig .tc .vmem S1x1024 .f32) (harg2 : arg2.IsWhole) (arg3 : Memref sig .tc .vmem S1024x1536 .bf16) (harg3 : arg3.IsWhole)
    (arg4 : Memref sig .tc .vmem S16x2x16x512 .bf16) (harg4 : arg4.IsWhole) (arg5 : Memref sig .tc .vmem S32x8192 .bf16) (harg5 : arg5.IsWhole)
    (arg6 : Memref sig .tc .vmem S32x8192 .bf16) (harg6 : arg6.IsWhole) (arg7 : Memref sig .tc .vmem S4x512x128 .f32) (harg7 : arg7.IsWhole)
    (x0 : Vec Ideal S16x32x1024 .f32) (x1 : Vec Ideal S1x1024 .f32) (x2 : Vec Ideal S1024x1536 .bf16)

/-- The block's product. -/
abbrev prod : FVec Ideal S512x1536 .f32 := kernelRun0_A.sl.r (F := Ideal) c arg1 harg1 arg2 harg2 arg3 harg3 x0 x1 x2

theorem prod_val (r : Fin 512) (l : Fin 1536) : prod c arg1 harg1 arg2 harg2 arg3 harg3 x0 x1 x2 (ix2 r l)
      = ∑ e : Fin 1024, normed (fun e => x0 (ix3 (⟨r.val / 32, by omega⟩ : Fin 16) (⟨r.val % 32, by omega⟩ : Fin 32) e))
          (fun e => x1 (ix2 (0 : Fin 1) e)) e * x2 (ix2 e l) := by
  unfold prod kernelRun0_A.sl.r
  refine (pay_val _ _ _ r l).trans ?_
  refine Finset.sum_congr rfl fun e _ => congrArg₂ (· * ·) ?_ (whole2 harg3 x2 _ e l)
  exact congrArg₂ (fun x g => normed x g e) (funext fun e => whole3 harg1 x0 _ _ _ e) (funext fun e => whole2 harg2 x1 _ 0 e)

theorem all4 : ∀ p ∈ (kernelRun0_A (F := Ideal) c i arg1 harg1 arg2 harg2 arg3 harg3 arg4 harg4 arg5 harg5 arg6 harg6 arg7 harg7 x0 x1 x2).2.1,
    GoodF (prod c arg1 harg1 arg2 harg2 arg3 harg3 x0 x1 x2) 512 (by decide) p := by
  unfold kernelRun0_A
  dsimp only
  refine List.forall_mem_cons.2 ⟨goodF _ 512 _ 15 480 7680 (by decide) (by decide) (by decide) _ _ _, ?_⟩
  refine List.forall_mem_cons.2 ⟨goodF _ 512 _ 14 448 7168 (by decide) (by decide) (by decide) _ _ _, ?_⟩
  refine List.forall_mem_cons.2 ⟨goodF _ 512 _ 13 416 6656 (by decide) (by decide) (by decide) _ _ _, ?_⟩
  refine List.forall_mem_cons.2 ⟨goodF _ 512 _ 12 384 6144 (by decide) (by decide) (by decide) _ _ _, ?_⟩
  refine List.forall_mem_cons.2 ⟨goodF _ 512 _ 11 352 5632 (by decide) (by decide) (by decide) _ _ _, ?_⟩
  refine List.forall_mem_cons.2 ⟨goodF _ 512 _ 10 320 5120 (by decide) (by decide) (by decide) _ _ _, ?_⟩
  refine List.forall_mem_cons.2 ⟨goodF _ 512 _ 9 288 4608 (by decide) (by decide) (by decide) _ _ _, ?_⟩
  refine List.forall_mem_cons.2 ⟨goodF _ 512 _ 8 256 4096 (by decide) (by decide) (by decide) _ _ _, ?_⟩
  refine List.forall_mem_cons.2 ⟨goodF _ 512 _ 7 224 3584 (by decide) (by decide) (by decide) _ _ _, ?_⟩
  refine List.forall_mem_cons.2 ⟨goodF _ 512 _ 6 192 3072 (by decide) (by decide) (by decide) _ _ _, ?_⟩
  refine List.forall_mem_cons.2 ⟨goodF _ 512 _ 5 160 2560 (by decide) (by decide) (by decide) _ _ _, ?_⟩
  refine List.forall_mem_cons.2 ⟨goodF _ 512 _ 4 128 2048 (by decide) (by decide) (by decide) _ _ _, ?_⟩
  refine List.forall_mem_cons.2 ⟨goodF _ 512 _ 3 96 1536 (by decide) (by decide) (by decide) _ _ _, ?_⟩
  refine List.forall_mem_cons.2 ⟨goodF _ 512 _ 2 64 1024 (by decide) (by decide) (by decide) _ _ _, ?_⟩
  refine List.forall_mem_cons.2 ⟨goodF _ 512 _ 1 32 512 (by decide) (by decide) (by decide) _ _ _, ?_⟩
  refine List.forall_mem_cons.2 ⟨goodF _ 512 _ 0 0 0 (by decide) (by decide) (by decide) _ _ _, ?_⟩
  exact List.forall_mem_nil _

theorem all5 : ∀ p ∈ (kernelRun0_A (F := Ideal) c i arg1 harg1 arg2 harg2 arg3 harg3 arg4 harg4 arg5 harg5 arg6 harg6 arg7 harg7 x0 x1 x2).2.2.1,
    GoodF (prod c arg1 harg1 arg2 harg2 arg3 harg3 x0 x1 x2) 1024 (by decide) p := by
  unfold kernelRun0_A
  dsimp only
  refine List.forall_mem_cons.2 ⟨goodF _ 1024 _ 15 480 7680 (by decide) (by decide) (by decide) _ _ _, ?_⟩
  refine List.forall_mem_cons.2 ⟨goodF _ 1024 _ 14 448 7168 (by decide) (by decide) (by decide) _ _ _, ?_⟩
  refine List.forall_mem_cons.2 ⟨goodF _ 1024 _ 13 416 6656 (by decide) (by decide) (by decide) _ _ _, ?_⟩
  refine List.forall_mem_cons.2 ⟨goodF _ 1024 _ 12 384 6144 (by decide) (by decide) (by decide) _ _ _, ?_⟩
  refine List.forall_mem_cons.2 ⟨goodF _ 1024 _ 11 352 5632 (by decide) (by decide) (by decide) _ _ _, ?_⟩
  refine List.forall_mem_cons.2 ⟨goodF _ 1024 _ 10 320 5120 (by decide) (by decide) (by decide) _ _ _, ?_⟩
  refine List.forall_mem_cons.2 ⟨goodF _ 1024 _ 9 288 4608 (by decide) (by decide) (by decide) _ _ _, ?_⟩
  refine List.forall_mem_cons.2 ⟨goodF _ 1024 _ 8 256 4096 (by decide) (by decide) (by decide) _ _ _, ?_⟩
  refine List.forall_mem_cons.2 ⟨goodF _ 1024 _ 7 224 3584 (by decide) (by decide) (by decide) _ _ _, ?_⟩
  refine List.forall_mem_cons.2 ⟨goodF _ 1024 _ 6 192 3072 (by decide) (by decide) (by decide) _ _ _, ?_⟩
  refine List.forall_mem_cons.2 ⟨goodF _ 1024 _ 5 160 2560 (by decide) (by decide) (by decide) _ _ _, ?_⟩
  refine List.forall_mem_cons.2 ⟨goodF _ 1024 _ 4 128 2048 (by decide) (by decide) (by decide) _ _ _, ?_⟩
  refine List.forall_mem_cons.2 ⟨goodF _ 1024 _ 3 96 1536 (by decide) (by decide) (by decide) _ _ _, ?_⟩
  refine List.forall_mem_cons.2 ⟨goodF _ 1024 _ 2 64 1024 (by decide) (by decide) (by decide) _ _ _, ?_⟩
  refine List.forall_mem_cons.2 ⟨goodF _ 1024 _ 1 32 512 (by decide) (by decide) (by decide) _ _ _, ?_⟩
  refine List.forall_mem_cons.2 ⟨goodF _ 1024 _ 0 0 0 (by decide) (by decide) (by decide) _ _ _, ?_⟩
  exact List.forall_mem_nil _

theorem scratch : ∀ p ∈ kernelRun0_A.sl.HS0_4 (F := Ideal) c arg1 harg1 arg2 harg2 arg3 harg3 x0 x1 x2,
    GoodP (prod c arg1 harg1 arg2 harg2 arg3 harg3 x0 x1 x2) p := by
  unfold kernelRun0_A.sl.HS0_4
  refine List.forall_mem_cons.2 ⟨goodP _ 3 384 (by decide) (by decide) _ _ _, ?_⟩
  refine List.forall_mem_cons.2 ⟨goodP _ 2 256 (by decide) (by decide) _ _ _, ?_⟩
  refine List.forall_mem_cons.2 ⟨goodP _ 1 128 (by decide) (by decide) _ _ _, ?_⟩
  refine List.forall_mem_cons.2 ⟨goodP _ 0 0 (by decide) (by decide) _ _ _, ?_⟩
  exact List.forall_mem_nil _

theorem picks (j s : ℕ) (hj : j < 4) (hs : s < 32) (inb) :
    Picks (prod c arg1 harg1 arg2 harg2 arg3 harg3 x0 x1 x2) j s hj hs
      (arg7.view.readCov (kernelRun0_A.sl.HS0_4 (F := Ideal) c arg1 harg1 arg2 harg2 arg3 harg3 x0 x1 x2)
        (⟨![j, s, 0], S1x16x128.size, ![1, 32, 1], inb⟩ : LoadRect S4x512x128)) := by
  intro b l
  refine (congrFun (View.readCov_eq_canon' arg7.view _ _) _).trans ?_
  refine (View.canon_apply_of_pieces (plane (prod c arg1 harg1 arg2 harg2 arg3 harg3 x0 x1 x2)) _ (fun p hp => (scratch c arg1 harg1 arg2 harg2 arg3 harg3 x0 x1 x2 p hp).1) _ ?_).trans ?_
  · have e : (kernelRun0_A.sl.HS0_4 (F := Ideal) c arg1 harg1 arg2 harg2 arg3 harg3 x0 x1 x2).map (fun p => p.1.off 0) = [3, 2, 1, 0] := by rfl
    have hm : j ∈ (kernelRun0_A.sl.HS0_4 (F := Ideal) c arg1 harg1 arg2 harg2 arg3 harg3 x0 x1 x2).map (fun p => p.1.off 0) := by
      rw [e]
      simp only [List.mem_cons, List.not_mem_nil, or_false]
      omega
    obtain ⟨p, hp, he⟩ := List.mem_map.1 hm
    exact ⟨p, hp, (scratch c arg1 harg1 arg2 harg2 arg3 harg3 x0 x1 x2 p hp).2 _ ((Nat.add_zero j).trans he.symm)⟩
  · refine congrArg (prod c arg1 harg1 arg2 harg2 arg3 harg3 x0 x1 x2) ?_
    funext a; apply Fin.ext
    fin_cases a
    · show s + 32 * b.val = 32 * b.val + s
      omega
    · show 128 * (j + 1 * 0) + (0 + 1 * l.val) = 128 * j + l.val
      omega

theorem all3 : ∀ p ∈ (kernelRun0_A (F := Ideal) c i arg1 harg1 arg2 harg2 arg3 harg3 arg4 harg4 arg5 harg5 arg6 harg6 arg7 harg7 x0 x1 x2).1,
    GoodU (prod c arg1 harg1 arg2 harg2 arg3 harg3 x0 x1 x2) p := by
  unfold kernelRun0_A
  dsimp only
  refine List.forall_mem_cons.2 ⟨?_, ?_⟩
  · exact goodU _ 15 1 (by decide) (by decide) _ (kernelRun0_A.sl.v535 c arg1 harg1 arg2 harg2 arg3 harg3 arg7 x0 x1 x2) (kernelRun0_A.sl.v537 c arg1 harg1 arg2 harg2 arg3 harg3 arg7 x0 x1 x2) (kernelRun0_A.sl.v539 c arg1 harg1 arg2 harg2 arg3 harg3 arg7 x0 x1 x2) (kernelRun0_A.sl.v541 c arg1 harg1 arg2 harg2 arg3 harg3 arg7 x0 x1 x2) (picks c arg1 harg1 arg2 harg2 arg3 harg3 arg7 x0 x1 x2 0 31 _ _ _) (picks c arg1 harg1 arg2 harg2 arg3 harg3 arg7 x0 x1 x2 1 31 _ _ _) (picks c arg1 harg1 arg2 harg2 arg3 harg3 arg7 x0 x1 x2 2 31 _ _ _) (picks c arg1 harg1 arg2 harg2 arg3 harg3 arg7 x0 x1 x2 3 31 _ _ _)
  refine List.forall_mem_cons.2 ⟨?_, ?_⟩
  · exact goodU _ 15 0 (by decide) (by decide) _ (kernelRun0_A.sl.v522 c arg1 harg1 arg2 harg2 arg3 harg3 arg7 x0 x1 x2) (kernelRun0_A.sl.v524 c arg1 harg1 arg2 harg2 arg3 harg3 arg7 x0 x1 x2) (kernelRun0_A.sl.v526 c arg1 harg1 arg2 harg2 arg3 harg3 arg7 x0 x1 x2) (kernelRun0_A.sl.v528 c arg1 harg1 arg2 harg2 arg3 harg3 arg7 x0 x1 x2) (picks c arg1 harg1 arg2 harg2 arg3 harg3 arg7 x0 x1 x2 0 15 _ _ _) (picks c arg1 harg1 arg2 harg2 arg3 harg3 arg7 x0 x1 x2 1 15 _ _ _) (picks c arg1 harg1 arg2 harg2 arg3 harg3 arg7 x0 x1 x2 2 15 _ _ _) (picks c arg1 harg1 arg2 harg2 arg3 harg3 arg7 x0 x1 x2 3 15 _ _ _)
  refine List.forall_mem_cons.2 ⟨?_, ?_⟩
  · exact goodU _ 14 1 (by decide) (by decide) _ (kernelRun0_A.sl.v509 c arg1 harg1 arg2 harg2 arg3 harg3 arg7 x0 x1 x2) (kernelRun0_A.sl.v511 c arg1 harg1 arg2 harg2 arg3 harg3 arg7 x0 x1 x2) (kernelRun0_A.sl.v513 c arg1 harg1 arg2 harg2 arg3 harg3 arg7 x0 x1 x2) (kernelRun0_A.sl.v515 c arg1 harg1 arg2 harg2 arg3 harg3 arg7 x0 x1 x2) (picks c arg1 harg1 arg2 harg2 arg3 harg3 arg7 x0 x1 x2 0 30 _ _ _) (picks c arg1 harg1 arg2 harg2 arg3 harg3 arg7 x0 x1 x2 1 30 _ _ _) (picks c arg1 harg1 arg2 harg2 arg3 harg3 arg7 x0 x1 x2 2 30 _ _ _) (picks c arg1 harg1 arg2 harg2 arg3 harg3 arg7 x0 x1 x2 3 30 _ _ _)
  refine List.forall_mem_cons.2 ⟨?_, ?_⟩
  · exact goodU _ 14 0 (by decide) (by decide) _ (kernelRun0_A.sl.v496 c arg1 harg1 arg2 harg2 arg3 harg3 arg7 x0 x1 x2) (kernelRun0_A.sl.v498 c arg1 harg1 arg2 harg2 arg3 harg3 arg7 x0 x1 x2) (kernelRun0_A.sl.v500 c arg1 harg1 arg2 harg2 arg3 harg3 arg7 x0 x1 x2) (kernelRun0_A.sl.v502 c arg1 harg1 arg2 harg2 arg3 harg3 arg7 x0 x1 x2) (picks c arg1 harg1 arg2 harg2 arg3 harg3 arg7 x0 x1 x2 0 14 _ _ _) (picks c arg1 harg1 arg2 harg2 arg3 harg3 arg7 x0 x1 x2 1 14 _ _ _) (picks c arg1 harg1 arg2 harg2 arg3 harg3 arg7 x0 x1 x2 2 14 _ _ _) (picks c arg1 harg1 arg2 harg2 arg3 harg3 arg7 x0 x1 x2 3 14 _ _ _)
  refine List.forall_mem_cons.2 ⟨?_, ?_⟩
  · exact goodU _ 13 1 (by decide) (by decide) _ (kernelRun0_A.sl.v483 c arg1 harg1 arg2 harg2 arg3 harg3 arg7 x0 x1 x2) (kernelRun0_A.sl.v485 c arg1 harg1 arg2 harg2 arg3 harg3 arg7 x0 x1 x2) (kernelRun0_A.sl.v487 c arg1 harg1 arg2 harg2 arg3 harg3 arg7 x0 x1 x2) (kernelRun0_A.sl.v489 c arg1 harg1 arg2 harg2 arg3 harg3 arg7 x0 x1 x2) (picks c arg1 harg1 arg2 harg2 arg3 harg3 arg7 x0 x1 x2 0 29 _ _ _) (picks c arg1 harg1 arg2 harg2 arg3 harg3 arg7 x0 x1 x2 1 29 _ _ _) (picks c arg1 harg1 arg2 harg2 arg3 harg3 arg7 x0 x1 x2 2 29 _ _ _) (picks c arg1 harg1 arg2 harg2 arg3 harg3 arg7 x0 x1 x2 3 29 _ _ _)
  refine List.forall_mem_cons.2 ⟨?_, ?_⟩
  · exact goodU _ 13 0 (by decide) (by decide) _ (kernelRun0_A.sl.v470 c arg1 harg1 arg2 harg2 arg3 harg3 arg7 x0 x1 x2) (kernelRun0_A.sl.v472 c arg1 harg1 arg2 harg2 arg3 harg3 arg7 x0 x1 x2) (kernelRun0_A.sl.v474 c arg1 harg1 arg2 harg2 arg3 harg3 arg7 x0 x1 x2) (kernelRun0_A.sl.v476 c arg1 harg1 arg2 harg2 arg3 harg3 arg7 x0 x1 x2) (picks c arg1 harg1 arg2 harg2 arg3 harg3 arg7 x0 x1 x2 0 13 _ _ _) (picks c arg1 harg1 arg2 harg2 arg3 harg3 arg7 x0 x1 x2 1 13 _ _ _) (picks c arg1 harg1 arg2 harg2 arg3 harg3 arg7 x0 x1 x2 2 13 _ _ _) (picks c arg1 harg1 arg2 harg2 arg3 harg3 arg7 x0 x1 x2 3 13 _ _ _)
  refine List.forall_mem_cons.2 ⟨?_, ?_⟩
  · exact goodU _ 12 1 (by decide) (by decide) _ (kernelRun0_A.sl.v457 c arg1 harg1 arg2 harg2 arg3 harg3 arg7 x0 x1 x2) (kernelRun0_A.sl.v459 c arg1 harg1 arg2 harg2 arg3 harg3 arg7 x0 x1 x2) (kernelRun0_A.sl.v461 c arg1 harg1 arg2 harg2 arg3 harg3 arg7 x0 x1 x2) (kernelRun0_A.sl.v463 c arg1 harg1 arg2 harg2 arg3 harg3 arg7 x0 x1 x2) (picks c arg1 harg1 arg2 harg2 arg3 harg3 arg7 x0 x1 x2 0 28 _ _ _) (picks c arg1 harg1 arg2 harg2 arg3 harg3 arg7 x0 x1 x2 1 28 _ _ _) (picks c arg1 harg1 arg2 harg2 arg3 harg3 arg7 x0 x1 x2 2 28 _ _ _) (picks c arg1 harg1 arg2 harg2 arg3 harg3 arg7 x0 x1 x2 3 28 _ _ _)
  refine List.forall_mem_cons.2 ⟨?_, ?_⟩
  · exact goodU _ 12 0 (by decide) (by decide) _ (kernelRun0_A.sl.v444 c arg1 harg1 arg2 harg2 arg3 harg3 arg7 x0 x1 x2) (kernelRun0_A.sl.v446 c arg1 harg1 arg2 harg2 arg3 harg3 arg7 x0 x1 x2) (kernelRun0_A.sl.v448 c arg1 harg1 arg2 harg2 arg3 harg3 arg7 x0 x1 x2) (kernelRun0_A.sl.v450 c arg1 harg1 arg2 harg2 arg3 harg3 arg7 x0 x1 x2) (picks c arg1 harg1 arg2 harg2 arg3 harg3 arg7 x0 x1 x2 0 12 _ _ _) (picks c arg1 harg1 arg2 harg2 arg3 harg3 arg7 x0 x1 x2 1 12 _ _ _) (picks c arg1 harg1 arg2 harg2 arg3 harg3 arg7 x0 x1 x2 2 12 _ _ _) (picks c arg1 harg1 arg2 harg2 arg3 harg3 arg7 x0 x1 x2 3 12 _ _ _)
  refine List.forall_mem_cons.2 ⟨?_, ?_⟩
  · exact goodU _ 11 1 (by decide) (by decide) _ (kernelRun0_A.sl.v431 c arg1 harg1 arg2 harg2 arg3 harg3 arg7 x0 x1 x2) (kernelRun0_A.sl.v433 c arg1 harg1 arg2 harg2 arg3 harg3 arg7 x0 x1 x2) (kernelRun0_A.sl.v435 c arg1 harg1 arg2 harg2 arg3 harg3 arg7 x0 x1 x2) (kernelRun0_A.sl.v437 c arg1 harg1 arg2 harg2 arg3 harg3 arg7 x0 x1 x2) (picks c arg1 harg1 arg2 harg2 arg3 harg3 arg7 x0 x1 x2 0 27 _ _ _) (picks c arg1 harg1 arg2 harg2 arg3 harg3 arg7 x0 x1 x2 1 27 _ _ _) (picks c arg1 harg1 arg2 harg2 arg3 harg3 arg7 x0 x1 x2 2 27 _ _ _) (picks c arg1 harg1 arg2 harg2 arg3 harg3 arg7 x0 x1 x2 3 27 _ _ _)
  refine List.forall_mem_cons.2 ⟨?_, ?_⟩
  · exact goodU _ 11 0 (by decide) (by decide) _ (kernelRun0_A.sl.v418 c arg1 harg1 arg2 harg2 arg3 harg3 arg7 x0 x1 x2) (kernelRun0_A.sl.v420 c arg1 harg1 arg2 harg2 arg3 harg3 arg7 x0 x1 x2) (kernelRun0_A.sl.v422 c arg1 harg1 arg2 harg2 arg3 harg3 arg7 x0 x1 x2) (kernelRun0_A.sl.v424 c arg1 harg1 arg2 harg2 arg3 harg3 arg7 x0 x1 x2) (picks c arg1 harg1 arg2 harg2 arg3 harg3 arg7 x0 x1 x2 0 11 _ _ _) (picks c arg1 harg1 arg2 harg2 arg3 harg3 arg7 x0 x1 x2 1 11 _ _ _) (picks c arg1 harg1 arg2 harg2 arg3 harg3 arg7 x0 x1 x2 2 11 _ _ _) (picks c arg1 harg1 arg2 harg2 arg3 harg3 arg7 x0 x1 x2 3 11 _ _ _)
  refine List.forall_mem_cons.2 ⟨?_, ?_⟩
  · exact goodU _ 10 1 (by decide) (by decide) _ (kernelRun0_A.sl.v405 c arg1 harg1 arg2 harg2 arg3 harg3 arg7 x0 x1 x2) (kernelRun0_A.sl.v407 c arg1 harg1 arg2 harg2 arg3 harg3 arg7 x0 x1 x2) (kernelRun0_A.sl.v409 c arg1 harg1 arg2 harg2 arg3 harg3 arg7 x0 x1 x2) (kernelRun0_A.sl.v411 c arg1 harg1 arg2 harg2 arg3 harg3 arg7 x0 x1 x2) (picks c arg1 harg1 arg2 harg2 arg3 harg3 arg7 x0 x1 x2 0 26 _ _ _) (picks c arg1 harg1 arg2 harg2 arg3 harg3 arg7 x0 x1 x2 1 26 _ _ _) (picks c arg1 harg1 arg2 harg2 arg3 harg3 arg7 x0 x1 x2 2 26 _ _ _) (picks c arg1 harg1 arg2 harg2 arg3 harg3 arg7 x0 x1 x2 3 26 _ _ _)
  refine List.forall_mem_cons.2 ⟨?_, ?_⟩
  · exact goodU _ 10 0 (by decide) (by decide) _ (kernelRun0_A.sl.v392 c arg1 harg1 arg2 harg2 arg3 harg3 arg7 x0 x1 x2) (kernelRun0_A.sl.v394 c arg1 harg1 arg2 harg2 arg3 harg3 arg7 x0 x1 x2) (kernelRun0_A.sl.v396 c arg1 harg1 arg2 harg2 arg3 harg3 arg7 x0 x1 x2) (kernelRun0_A.sl.v398 c arg1 harg1 arg2 harg2 arg3 harg3 arg7 x0 x1 x2) (picks c arg1 harg1 arg2 harg2 arg3 harg3 arg7 x0 x1 x2 0 10 _ _ _) (picks c arg1 harg1 arg2 harg2 arg3 harg3 arg7 x0 x1 x2 1 10 _ _ _) (picks c arg1 harg1 arg2 harg2 arg3 harg3 arg7 x0 x1 x2 2 10 _ _ _) (picks c arg1 harg1 arg2 harg2 arg3 harg3 arg7 x0 x1 x2 3 10 _ _ _)
  refine List.forall_mem_cons.2 ⟨?_, ?_⟩
  · exact goodU _ 9 1 (by decide) (by decide) _ (kernelRun0_A.sl.v379 c arg1 harg1 arg2 harg2 arg3 harg3 arg7 x0 x1 x2) (kernelRun0_A.sl.v381 c arg1 harg1 arg2 harg2 arg3 harg3 arg7 x0 x1 x2) (kernelRun0_A.sl.v383 c arg1 harg1 arg2 harg2 arg3 harg3 arg7 x0 x1 x2) (kernelRun0_A.sl.v385 c arg1 harg1 arg2 harg2 arg3 harg3 arg7 x0 x1 x2) (picks c arg1 harg1 arg2 harg2 arg3 harg3 arg7 x0 x1 x2 0 25 _ _ _) (picks c arg1 harg1 arg2 harg2 arg3 harg3 arg7 x0 x1 x2 1 25 _ _ _) (picks c arg1 harg1 arg2 harg2 arg3 harg3 arg7 x0 x1 x2 2 25 _ _ _) (picks c arg1 harg1 arg2 harg2 arg3 harg3 arg7 x0 x1 x2 3 25 _ _ _)
  refine List.forall_mem_cons.2 ⟨?_, ?_⟩
  · exact goodU _ 9 0 (by decide) (by decide) _ (kernelRun0_A.sl.v366 c arg1 harg1 arg2 harg2 arg3 harg3 arg7 x0 x1 x2) (kernelRun0_A.sl.v368 c arg1 harg1 arg2 harg2 arg3 harg3 arg7 x0 x1 x2) (kernelRun0_A.sl.v370 c arg1 harg1 arg2 harg2 arg3 harg3 arg7 x0 x1 x2) (kernelRun0_A.sl.v372 c arg1 harg1 arg2 harg2 arg3 harg3 arg7 x0 x1 x2) (picks c arg1 harg1 arg2 harg2 arg3 harg3 arg7 x0 x1 x2 0 9 _ _ _) (picks c arg1 harg1 arg2 harg2 arg3 harg3 arg7 x0 x1 x2 1 9 _ _ _) (picks c arg1 harg1 arg2 harg2 arg3 harg3 arg7 x0 x1 x2 2 9 _ _ _) (picks c arg1 harg1 arg2 harg2 arg3 harg3 arg7 x0 x1 x2 3 9 _ _ _)
  refine List.forall_mem_cons.2 ⟨?_, ?_⟩
  · exact goodU _ 8 1 (by decide) (by decide) _ (kernelRun0_A.sl.v353 c arg1 harg1 arg2 harg2 arg3 harg3 arg7 x0 x1 x2) (kernelRun0_A.sl.v355 c arg1 harg1 arg2 harg2 arg3 harg3 arg7 x0 x1 x2) (kernelRun0_A.sl.v357 c arg1 harg1 arg2 harg2 arg3 harg3 arg7 x0 x1 x2) (kernelRun0_A.sl.v359 c arg1 harg1 arg2 harg2 arg3 harg3 arg7 x0 x1 x2) (picks c arg1 harg1 arg2 harg2 arg3 harg3 arg7 x0 x1 x2 0 24 _ _ _) (picks c arg1 harg1 arg2 harg2 arg3 harg3 arg7 x0 x1 x2 1 24 _ _ _) (picks c arg1 harg1 arg2 harg2 arg3 harg3 arg7 x0 x1 x2 2 24 _ _ _) (picks c arg1 harg1 arg2 harg2 arg3 harg3 arg7 x0 x1 x2 3 24 _ _ _)
  refine List.forall_mem_cons.2 ⟨?_, ?_⟩
  · exact goodU _ 8 0 (by decide) (by decide) _ (kernelRun0_A.sl.v340 c arg1 harg1 arg2 harg2 arg3 harg3 arg7 x0 x1 x2) (kernelRun0_A.sl.v342 c arg1 harg1 arg2 harg2 arg3 harg3 arg7 x0 x1 x2) (kernelRun0_A.sl.v344 c arg1 harg1 arg2 harg2 arg3 harg3 arg7 x0 x1 x2) (kernelRun0_A.sl.v346 c arg1 harg1 arg2 harg2 arg3 harg3 arg7 x0 x1 x2) (picks c arg1 harg1 arg2 harg2 arg3 harg3 arg7 x0 x1 x2 0 8 _ _ _) (picks c arg1 harg1 arg2 harg2 arg3 harg3 arg7 x0 x1 x2 1 8 _ _ _) (picks c arg1 harg1 arg2 harg2 arg3 harg3 arg7 x0 x1 x2 2 8 _ _ _) (picks c arg1 harg1 arg2 harg2 arg3 harg3 arg7 x0 x1 x2 3 8 _ _ _)
  refine List.forall_mem_cons.2 ⟨?_, ?_⟩
  · exact goodU _ 7 1 (by decide) (by decide) _ (kernelRun0_A.sl.v327 c arg1 harg1 arg2 harg2 arg3 harg3 arg7 x0 x1 x2) (kernelRun0_A.sl.v329 c arg1 harg1 arg2 harg2 arg3 harg3 arg7 x0 x1 x2) (kernelRun0_A.sl.v331 c arg1 harg1 arg2 harg2 arg3 harg3 arg7 x0 x1 x2) (kernelRun0_A.sl.v333 c arg1 harg1 arg2 harg2 arg3 harg3 arg7 x0 x1 x2) (picks c arg1 harg1 arg2 harg2 arg3 harg3 arg7 x0 x1 x2 0 23 _ _ _) (picks c arg1 harg1 arg2 harg2 arg3 harg3 arg7 x0 x1 x2 1 23 _ _ _) (picks c arg1 harg1 arg2 harg2 arg3 harg3 arg7 x0 x1 x2 2 23 _ _ _) (picks c arg1 harg1 arg2 harg2 arg3 harg3 arg7 x0 x1 x2 3 23 _ _ _)
  refine List.forall_mem_cons.2 ⟨?_, ?_⟩
  · exact goodU _ 7 0 (by decide) (by decide) _ (kernelRun0_A.sl.v314 c arg1 harg1 arg2 harg2 arg3 harg3 arg7 x0 x1 x2) (kernelRun0_A.sl.v316 c arg1 harg1 arg2 harg2 arg3 harg3 arg7 x0 x1 x2) (kernelRun0_A.sl.v318 c arg1 harg1 arg2 harg2 arg3 harg3 arg7 x0 x1 x2) (kernelRun0_A.sl.v320 c arg1 harg1 arg2 harg2 arg3 harg3 arg7 x0 x1 x2) (picks c arg1 harg1 arg2 harg2 arg3 harg3 arg7 x0 x1 x2 0 7 _ _ _) (picks c arg1 harg1 arg2 harg2 arg3 harg3 arg7 x0 x1 x2 1 7 _ _ _) (picks c arg1 harg1 arg2 harg2 arg3 harg3 arg7 x0 x1 x2 2 7 _ _ _) (picks c arg1 harg1 arg2 harg2 arg3 harg3 arg7 x0 x1 x2 3 7 _ _ _)
  refine List.forall_mem_cons.2 ⟨?_, ?_⟩
  · exact goodU _ 6 1 (by decide) (by decide) _ (kernelRun0_A.sl.v301 c arg1 harg1 arg2 harg2 arg3 harg3 arg7 x0 x1 x2) (kernelRun0_A.sl.v303 c arg1 harg1 arg2 harg2 arg3 harg3 arg7 x0 x1 x2) (kernelRun0_A.sl.v305 c arg1 harg1 arg2 harg2 arg3 harg3 arg7 x0 x1 x2) (kernelRun0_A.sl.v307 c arg1 harg1 arg2 harg2 arg3 harg3 arg7 x0 x1 x2) (picks c arg1 harg1 arg2 harg2 arg3 harg3 arg7 x0 x1 x2 0 22 _ _ _) (picks c arg1 harg1 arg2 harg2 arg3 harg3 arg7 x0 x1 x2 1 22 _ _ _) (picks c arg1 harg1 arg2 harg2 arg3 harg3 arg7 x0 x1 x2 2 22 _ _ _) (picks c arg1 harg1 arg2 harg2 arg3 harg3 arg7 x0 x1 x2 3 22 _ _ _)
  refine List.forall_mem_cons.2 ⟨?_, ?_⟩
  · exact goodU _ 6 0 (by decide) (by decide) _ (kernelRun0_A.sl.v288 c arg1 harg1 arg2 harg2 arg3 harg3 arg7 x0 x1 x2) (kernelRun0_A.sl.v290 c arg1 harg1 arg2 harg2 arg3 harg3 arg7 x0 x1 x2) (kernelRun0_A.sl.v292 c arg1 harg1 arg2 harg2 arg3 harg3 arg7 x0 x1 x2) (kernelRun0_A.sl.v294 c arg1 harg1 arg2 harg2 arg3 harg3 arg7 x0 x1 x2) (picks c arg1 harg1 arg2 harg2 arg3 harg3 arg7 x0 x1 x2 0 6 _ _ _) (picks c arg1 harg1 arg2 harg2 arg3 harg3 arg7 x0 x1 x2 1 6 _ _ _) (picks c arg1 harg1 arg2 harg2 arg3 harg3 arg7 x0 x1 x2 2 6 _ _ _) (picks c arg1 harg1 arg2 harg2 arg3 harg3 arg7 x0 x1 x2 3 6 _ _ _)
  refine List.forall_mem_cons.2 ⟨?_, ?_⟩
  · exact goodU _ 5 1 (by decide) (by decide) _ (kernelRun0_A.sl.v275 c arg1 harg1 arg2 harg2 arg3 harg3 arg7 x0 x1 x2) (kernelRun0_A.sl.v277 c arg1 harg1 arg2 harg2 arg3 harg3 arg7 x0 x1 x2) (kernelRun0_A.sl.v279 c arg1 harg1 arg2 harg2 arg3 harg3 arg7 x0 x1 x2) (kernelRun0_A.sl.v281 c arg1 harg1 arg2 harg2 arg3 harg3 arg7 x0 x1 x2) (picks c arg1 harg1 arg2 harg2 arg3 harg3 arg7 x0 x1 x2 0 21 _ _ _) (picks c arg1 harg1 arg2 harg2 arg3 harg3 arg7 x0 x1 x2 1 21 _ _ _) (picks c arg1 harg1 arg2 harg2 arg3 harg3 arg7 x0 x1 x2 2 21 _ _ _) (picks c arg1 harg1 arg2 harg2 arg3 harg3 arg7 x0 x1 x2 3 21 _ _ _)
  refine List.forall_mem_cons.2 ⟨?_, ?_⟩
  · exact goodU _ 5 0 (by decide) (by decide) _ (kernelRun0_A.sl.v262 c arg1 harg1 arg2 harg2 arg3 harg3 arg7 x0 x1 x2) (kernelRun0_A.sl.v264 c arg1 harg1 arg2 harg2 arg3 harg3 arg7 x0 x1 x2) (kernelRun0_A.sl.v266 c arg1 harg1 arg2 harg2 arg3 harg3 arg7 x0 x1 x2) (kernelRun0_A.sl.v268 c arg1 harg1 arg2 harg2 arg3 harg3 arg7 x0 x1 x2) (picks c arg1 harg1 arg2 harg2 arg3 harg3 arg7 x0 x1 x2 0 5 _ _ _) (picks c arg1 harg1 arg2 harg2 arg3 harg3 arg7 x0 x1 x2 1 5 _ _ _) (picks c arg1 harg1 arg2 harg2 arg3 harg3 arg7 x0 x1 x2 2 5 _ _ _) (picks c arg1 harg1 arg2 harg2 arg3 harg3 arg7 x0 x1 x2 3 5 _ _ _)
  refine List.forall_mem_cons.2 ⟨?_, ?_⟩
  · exact goodU _ 4 1 (by decide) (by decide) _ (kernelRun0_A.sl.v249 c arg1 harg1 arg2 harg2 arg3 harg3 arg7 x0 x1 x2) (kernelRun0_A.sl.v251 c arg1 harg1 arg2 harg2 arg3 harg3 arg7 x0 x1 x2) (kernelRun0_A.sl.v253 c arg1 harg1 arg2 harg2 arg3 harg3 arg7 x0 x1 x2) (kernelRun0_A.sl.v255 c arg1 harg1 arg2 harg2 arg3 harg3 arg7 x0 x1 x2) (picks c arg1 harg1 arg2 harg2 arg3 harg3 arg7 x0 x1 x2 0 20 _ _ _) (picks c arg1 harg1 arg2 harg2 arg3 harg3 arg7 x0 x1 x2 1 20 _ _ _) (picks c arg1 harg1 arg2 harg2 arg3 harg3 arg7 x0 x1 x2 2 20 _ _ _) (picks c arg1 harg1 arg2 harg2 arg3 harg3 arg7 x0 x1 x2 3 20 _ _ _)
  refine List.forall_mem_cons.2 ⟨?_, ?_⟩
  · exact goodU _ 4 0 (by decide) (by decide) _ (kernelRun0_A.sl.v236 c arg1 harg1 arg2 harg2 arg3 harg3 arg7 x0 x1 x2) (kernelRun0_A.sl.v238 c arg1 harg1 arg2 harg2 arg3 harg3 arg7 x0 x1 x2) (kernelRun0_A.sl.v240 c arg1 harg1 arg2 harg2 arg3 harg3 arg7 x0 x1 x2) (kernelRun0_A.sl.v242 c arg1 harg1 arg2 harg2 arg3 harg3 arg7 x0 x1 x2) (picks c arg1 harg1 arg2 harg2 arg3 harg3 arg7 x0 x1 x2 0 4 _ _ _) (picks c arg1 harg1 arg2 harg2 arg3 harg3 arg7 x0 x1 x2 1 4 _ _ _) (picks c arg1 harg1 arg2 harg2 arg3 harg3 arg7 x0 x1 x2 2 4 _ _ _) (picks c arg1 harg1 arg2 harg2 arg3 harg3 arg7 x0 x1 x2 3 4 _ _ _)
  refine List.forall_mem_cons.2 ⟨?_, ?_⟩
  · exact goodU _ 3 1 (by decide) (by decide) _ (kernelRun0_A.sl.v223 c arg1 harg1 arg2 harg2 arg3 harg3 arg7 x0 x1 x2) (kernelRun0_A.sl.v225 c arg1 harg1 arg2 harg2 arg3 harg3 arg7 x0 x1 x2) (kernelRun0_A.sl.v227 c arg1 harg1 arg2 harg2 arg3 harg3 arg7 x0 x1 x2) (kernelRun0_A.sl.v229 c arg1 harg1 arg2 harg2 arg3 harg3 arg7 x0 x1 x2) (picks c arg1 harg1 arg2 harg2 arg3 harg3 arg7 x0 x1 x2 0 19 _ _ _) (picks c arg1 harg1 arg2 harg2 arg3 harg3 arg7 x0 x1 x2 1 19 _ _ _) (picks c arg1 harg1 arg2 harg2 arg3 harg3 arg7 x0 x1 x2 2 19 _ _ _) (picks c arg1 harg1 arg2 harg2 arg3 harg3 arg7 x0 x1 x2 3 19 _ _ _)
  refine List.forall_mem_cons.2 ⟨?_, ?_⟩
  · exact goodU _ 3 0 (by decide) (by decide) _ (kernelRun0_A.sl.v210 c arg1 harg1 arg2 harg2 arg3 harg3 arg7 x0 x1 x2) (kernelRun0_A.sl.v212 c arg1 harg1 arg2 harg2 arg3 harg3 arg7 x0 x1 x2) (kernelRun0_A.sl.v214 c arg1 harg1 arg2 harg2 arg3 harg3 arg7 x0 x1 x2) (kernelRun0_A.sl.v216 c arg1 harg1 arg2 harg2 arg3 harg3 arg7 x0 x1 x2) (picks c arg1 harg1 arg2 harg2 arg3 harg3 arg7 x0 x1 x2 0 3 _ _ _) (picks c arg1 harg1 arg2 harg2 arg3 harg3 arg7 x0 x1 x2 1 3 _ _ _) (picks c arg1 harg1 arg2 harg2 arg3 harg3 arg7 x0 x1 x2 2 3 _ _ _) (picks c arg1 harg1 arg2 harg2 arg3 harg3 arg7 x0 x1 x2 3 3 _ _ _)
  refine List.forall_mem_cons.2 ⟨?_, ?_⟩
  · exact goodU _ 2 1 (by decide) (by decide) _ (kernelRun0_A.sl.v197 c arg1 harg1 arg2 harg2 arg3 harg3 arg7 x0 x1 x2) (kernelRun0_A.sl.v199 c arg1 harg1 arg2 harg2 arg3 harg3 arg7 x0 x1 x2) (kernelRun0_A.sl.v201 c arg1 harg1 arg2 harg2 arg3 harg3 arg7 x0 x1 x2) (kernelRun0_A.sl.v203 c arg1 harg1 arg2 harg2 arg3 harg3 arg7 x0 x1 x2) (picks c arg1 harg1 arg2 harg2 arg3 harg3 arg7 x0 x1 x2 0 18 _ _ _) (picks c arg1 harg1 arg2 harg2 arg3 harg3 arg7 x0 x1 x2 1 18 _ _ _) (picks c arg1 harg1 arg2 harg2 arg3 harg3 arg7 x0 x1 x2 2 18 _ _ _) (picks c arg1 harg1 arg2 harg2 arg3 harg3 arg7 x0 x1 x2 3 18 _ _ _)
  refine List.forall_mem_cons.2 ⟨?_, ?_⟩
  · exact goodU _ 2 0 (by decide) (by decide) _ (kernelRun0_A.sl.v184 c arg1 harg1 arg2 harg2 arg3 harg3 arg7 x0 x1 x2) (kernelRun0_A.sl.v186 c arg1 harg1 arg2 harg2 arg3 harg3 arg7 x0 x1 x2) (kernelRun0_A.sl.v188 c arg1 harg1 arg2 harg2 arg3 harg3 arg7 x0 x1 x2) (kernelRun0_A.sl.v190 c arg1 harg1 arg2 harg2 arg3 harg3 arg7 x0 x1 x2) (picks c arg1 harg1 arg2 harg2 arg3 harg3 arg7 x0 x1 x2 0 2 _ _ _) (picks c arg1 harg1 arg2 harg2 arg3 harg3 arg7 x0 x1 x2 1 2 _ _ _) (picks c arg1 harg1 arg2 harg2 arg3 harg3 arg7 x0 x1 x2 2 2 _ _ _) (picks c arg1 harg1 arg2 harg2 arg3 harg3 arg7 x0 x1 x2 3 2 _ _ _)
  refine List.forall_mem_cons.2 ⟨?_, ?_⟩
  · exact goodU _ 1 1 (by decide) (by decide) _ (kernelRun0_A.sl.v171 c arg1 harg1 arg2 harg2 arg3 harg3 arg7 x0 x1 x2) (kernelRun0_A.sl.v173 c arg1 harg1 arg2 harg2 arg3 harg3 arg7 x0 x1 x2) (kernelRun0_A.sl.v175 c arg1 harg1 arg2 harg2 arg3 harg3 arg7 x0 x1 x2) (kernelRun0_A.sl.v177 c arg1 harg1 arg2 harg2 arg3 harg3 arg7 x0 x1 x2) (picks c arg1 harg1 arg2 harg2 arg3 harg3 arg7 x0 x1 x2 0 17 _ _ _) (picks c arg1 harg1 arg2 harg2 arg3 harg3 arg7 x0 x1 x2 1 17 _ _ _) (picks c arg1 harg1 arg2 harg2 arg3 harg3 arg7 x0 x1 x2 2 17 _ _ _) (picks c arg1 harg1 arg2 harg2 arg3 harg3 arg7 x0 x1 x2 3 17 _ _ _)
  refine List.forall_mem_cons.2 ⟨?_, ?_⟩
  · exact goodU _ 1 0 (by decide) (by decide) _ (kernelRun0_A.sl.v158 c arg1 harg1 arg2 harg2 arg3 harg3 arg7 x0 x1 x2) (kernelRun0_A.sl.v160 c arg1 harg1 arg2 harg2 arg3 harg3 arg7 x0 x1 x2) (kernelRun0_A.sl.v162 c arg1 harg1 arg2 harg2 arg3 harg3 arg7 x0 x1 x2) (kernelRun0_A.sl.v164 c arg1 harg1 arg2 harg2 arg3 harg3 arg7 x0 x1 x2) (picks c arg1 harg1 arg2 harg2 arg3 harg3 arg7 x0 x1 x2 0 1 _ _ _) (picks c arg1 harg1 arg2 harg2 arg3 harg3 arg7 x0 x1 x2 1 1 _ _ _) (picks c arg1 harg1 arg2 harg2 arg3 harg3 arg7 x0 x1 x2 2 1 _ _ _) (picks c arg1 harg1 arg2 harg2 arg3 harg3 arg7 x0 x1 x2 3 1 _ _ _)
  refine List.forall_mem_cons.2 ⟨?_, ?_⟩
  · exact goodU _ 0 1 (by decide) (by decide) _ (kernelRun0_A.sl.v145 c arg1 harg1 arg2 harg2 arg3 harg3 arg7 x0 x1 x2) (kernelRun0_A.sl.v147 c arg1 harg1 arg2 harg2 arg3 harg3 arg7 x0 x1 x2) (kernelRun0_A.sl.v149 c arg1 harg1 arg2 harg2 arg3 harg3 arg7 x0 x1 x2) (kernelRun0_A.sl.v151 c arg1 harg1 arg2 harg2 arg3 harg3 arg7 x0 x1 x2) (picks c arg1 harg1 arg2 harg2 arg3 harg3 arg7 x0 x1 x2 0 16 _ _ _) (picks c arg1 harg1 arg2 harg2 arg3 harg3 arg7 x0 x1 x2 1 16 _ _ _) (picks c arg1 harg1 arg2 harg2 arg3 harg3 arg7 x0 x1 x2 2 16 _ _ _) (picks c arg1 harg1 arg2 harg2 arg3 harg3 arg7 x0 x1 x2 3 16 _ _ _)
  refine List.forall_mem_cons.2 ⟨?_, ?_⟩
  · exact goodU _ 0 0 (by decide) (by decide) _ (kernelRun0_A.sl.v132 c arg1 harg1 arg2 harg2 arg3 harg3 arg7 x0 x1 x2) (kernelRun0_A.sl.v134 c arg1 harg1 arg2 harg2 arg3 harg3 arg7 x0 x1 x2) (kernelRun0_A.sl.v136 c arg1 harg1 arg2 harg2 arg3 harg3 arg7 x0 x1 x2) (kernelRun0_A.sl.v138 c arg1 harg1 arg2 harg2 arg3 harg3 arg7 x0 x1 x2) (picks c arg1 harg1 arg2 harg2 arg3 harg3 arg7 x0 x1 x2 0 0 _ _ _) (picks c arg1 harg1 arg2 harg2 arg3 harg3 arg7 x0 x1 x2 1 0 _ _ _) (picks c arg1 harg1 arg2 harg2 arg3 harg3 arg7 x0 x1 x2 2 0 _ _ _) (picks c arg1 harg1 arg2 harg2 arg3 harg3 arg7 x0 x1 x2 3 0 _ _ _)
  exact List.forall_mem_nil _

theorem out4_val (s : Fin 32) (n : Fin 8192) : out0_A_4 (F := Ideal) c i arg1 harg1 arg2 harg2 arg3 harg3 arg4 harg4 arg5 harg5 arg6 harg6 arg7 harg7 x0 x1 x2 (ix2 s n)
      = prod c arg1 harg1 arg2 harg2 arg3 harg3 x0 x1 x2 (ix2 (⟨32 * (n.val / 512) + s.val, by omega⟩ : Fin 512) (⟨512 + n.val % 512, by omega⟩ : Fin 1536)) := by
  unfold out0_A_4
  rw [View.read_writes_junk_eq_canon]
  refine View.canon_apply_of_pieces (feat (prod c arg1 harg1 arg2 harg2 arg3 harg3 x0 x1 x2) 512 (by decide)) _ (fun p hp => (all4 c i arg1 harg1 arg2 harg2 arg3 harg3 arg4 harg4 arg5 harg5 arg6 harg6 arg7 harg7 x0 x1 x2 p hp).1) _ ?_
  have e : (kernelRun0_A (F := Ideal) c i arg1 harg1 arg2 harg2 arg3 harg3 arg4 harg4 arg5 harg5 arg6 harg6 arg7 harg7 x0 x1 x2).2.1.map (fun p => p.1.off 1) = ((List.range 16).map fun k => k * 512).reverse := by rfl
  have hm : n.val / 512 * 512 ∈ (kernelRun0_A (F := Ideal) c i arg1 harg1 arg2 harg2 arg3 harg3 arg4 harg4 arg5 harg5 arg6 harg6 arg7 harg7 x0 x1 x2).2.1.map (fun p => p.1.off 1) := by
    rw [e]
    exact List.mem_reverse.2 (List.mem_map.2 ⟨n.val / 512, List.mem_range.2 (by omega), rfl⟩)
  obtain ⟨p, hp, he⟩ := List.mem_map.1 hm
  exact ⟨p, hp, (all4 c i arg1 harg1 arg2 harg2 arg3 harg3 arg4 harg4 arg5 harg5 arg6 harg6 arg7 harg7 x0 x1 x2 p hp).2 _ he.symm⟩

theorem out5_val (s : Fin 32) (n : Fin 8192) : out0_A_5 (F := Ideal) c i arg1 harg1 arg2 harg2 arg3 harg3 arg4 harg4 arg5 harg5 arg6 harg6 arg7 harg7 x0 x1 x2 (ix2 s n)
      = prod c arg1 harg1 arg2 harg2 arg3 harg3 x0 x1 x2 (ix2 (⟨32 * (n.val / 512) + s.val, by omega⟩ : Fin 512) (⟨1024 + n.val % 512, by omega⟩ : Fin 1536)) := by
  unfold out0_A_5
  rw [View.read_writes_junk_eq_canon]
  refine View.canon_apply_of_pieces (feat (prod c arg1 harg1 arg2 harg2 arg3 harg3 x0 x1 x2) 1024 (by decide)) _ (fun p hp => (all5 c i arg1 harg1 arg2 harg2 arg3 harg3 arg4 harg4 arg5 harg5 arg6 harg6 arg7 harg7 x0 x1 x2 p hp).1) _ ?_
  have e : (kernelRun0_A (F := Ideal) c i arg1 harg1 arg2 harg2 arg3 harg3 arg4 harg4 arg5 harg5 arg6 harg6 arg7 harg7 x0 x1 x2).2.2.1.map (fun p => p.1.off 1) = ((List.range 16).map fun k => k * 512).reverse := by rfl
  have hm : n.val / 512 * 512 ∈ (kernelRun0_A (F := Ideal) c i arg1 harg1 arg2 harg2 arg3 harg3 arg4 harg4 arg5 harg5 arg6 harg6 arg7 harg7 x0 x1 x2).2.2.1.map (fun p => p.1.off 1) := by
    rw [e]
    exact List.mem_reverse.2 (List.mem_map.2 ⟨n.val / 512, List.mem_range.2 (by omega), rfl⟩)
  obtain ⟨p, hp, he⟩ := List.mem_map.1 hm
  exact ⟨p, hp, (all5 c i arg1 harg1 arg2 harg2 arg3 harg3 arg4 harg4 arg5 harg5 arg6 harg6 arg7 harg7 x0 x1 x2 p hp).2 _ he.symm⟩

theorem out3_val (t : Fin 16) (cl : Fin 2) (b : Fin 16) (l : Fin 512) : out0_A_3 (F := Ideal) c i arg1 harg1 arg2 harg2 arg3 harg3 arg4 harg4 arg5 harg5 arg6 harg6 arg7 harg7 x0 x1 x2 (ix4 t cl b l)
      = prod c arg1 harg1 arg2 harg2 arg3 harg3 x0 x1 x2 (ix2 (⟨32 * b.val + cl.val * 16 + t.val, by omega⟩ : Fin 512) (⟨l.val, by omega⟩ : Fin 1536)) := by
  unfold out0_A_3
  rw [View.read_writes_junk_eq_canon]
  refine View.canon_apply_of_pieces (feed (prod c arg1 harg1 arg2 harg2 arg3 harg3 x0 x1 x2)) _ (fun p hp => (all3 c i arg1 harg1 arg2 harg2 arg3 harg3 arg4 harg4 arg5 harg5 arg6 harg6 arg7 harg7 x0 x1 x2 p hp).1) _ ?_
  have e : (kernelRun0_A (F := Ideal) c i arg1 harg1 arg2 harg2 arg3 harg3 arg4 harg4 arg5 harg5 arg6 harg6 arg7 harg7 x0 x1 x2).1.map (fun p => (p.1.off 0, p.1.off 1)) = ((List.range 32).map fun k => (k / 2, k % 2)).reverse := by rfl
  have hm : (t.val, cl.val) ∈ (kernelRun0_A (F := Ideal) c i arg1 harg1 arg2 harg2 arg3 harg3 arg4 harg4 arg5 harg5 arg6 harg6 arg7 harg7 x0 x1 x2).1.map (fun p => (p.1.off 0, p.1.off 1)) := by
    rw [e]
    exact List.mem_reverse.2 (List.mem_map.2 ⟨t.val * 2 + cl.val, List.mem_range.2 (by omega), Prod.ext (by show (t.val * 2 + cl.val) / 2 = t.val; omega) (by show (t.val * 2 + cl.val) % 2 = cl.val; omega)⟩)
  obtain ⟨p, hp, he⟩ := List.mem_map.1 hm
  exact ⟨p, hp, (all3 c i arg1 harg1 arg2 harg2 arg3 harg3 arg4 harg4 arg5 harg5 arg6 harg6 arg7 harg7 x0 x1 x2 p hp).2 _ (congrArg Prod.fst he).symm (congrArg Prod.snd he).symm⟩

end

end Cert.Proj.Body

end
-- ==== Proof.ProjRef.lean ====
/- The reference of the input projection at coordinates: each of its results is the model's value of the token. -/
module

public import proofs.«01_k».proof.Proof.Gen.Reference3Ideal.Run
public import proofs.«01_k».proof.Proof.ProjModel

@[expose] public section

set_option maxRecDepth 16384

noncomputable section
namespace Cert.Proj.Ref

open Cert.Reference3Ideal Cert.Reference3Ideal.Gen Idealize.ShloMosaic Idealize.ShloMosaic.TcCoe Cert.Merge

variable {F : FTy → Type} [FloatOps F]

/-- The normalized stream. -/
def norm (a0 : FVec F S16x4096x1024 .f32) (a1 : FVec F S1x1024 .f32) : FVec F S16x4096x1024 .f32 :=
  mulf (mulf a0 (broadcastInDim S16x4096x1024 ![0, 1, 2] bcast_S16x4096x1_S16x4096x1024_0_1_2
    (Host.rsqrt (addf (Host.divf (broadcastInDim S16x4096x1 ![0, 1] bcast_S16x4096_S16x4096x1_0_1
        (Host.reduceAdd (mulf a0 a0) (constant S_ .f32 0x00000000#32) reducesTo_S16x4096x1024_S16x4096_d2 h_S_))
      (broadcastInDim S16x4096x1 ![] bcast_S_S16x4096x1 (constant S_ .f32 0x44800000#32)))
      (broadcastInDim S16x4096x1 ![] bcast_S_S16x4096x1 (constant S_ .f32 0x358637BD#32))))))
    (broadcastInDim S16x4096x1024 ![0, 1, 2] bcast_S1x1x1024_S16x4096x1024_0_1_2
      (broadcastInDim S1x1x1024 ![2] bcast_S1024_S1x1x1024_2 (shapeCast S1024 a1 shapeCasts_S1x1024_S1024)))

/-- The projected stream. -/
def pr (a0 : FVec F S16x4096x1024 .f32) (a1 : FVec F S1x1024 .f32) (a2 : FVec F S1x1024x1024 .f32) : FVec F S16x4096x1024 .f32 :=
  Host.dotGeneral dot_S16x4096x1024_S1024x1024_S16x4096x1024_2_0_01_1_n_n none (norm a0 a1)
    (shapeCast S1024x1024 a2 shapeCasts_S1x1024x1024_S1024x1024)

/-- The transform's angles: the product of the two channel numbers, reduced, in turns of a 128th of the circle. -/
def angle : FVec F S128x128 .f32 :=
  mulf (broadcastInDim S128x128 ![] bcast_S_S128x128 (constant S_ .f32 0x3D490FDB#32)) (sitofp .f32 (select (andi (cmpi .ne (cmpi .slt (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))) (broadcastInDim S128x128 ![] bcast_S_S128x128 (constantI S_ 32 0#32))) (broadcastInDim S128x128 ![] bcast_S_S128x128 (cmpi .slt (select (cmpi .eq (id (constantI S_ 32 128#32)) (constantI S_ 32 0#32)) (constantI S_ 32 1#32) (id (constantI S_ 32 128#32))) (constantI S_ 32 0#32)))) (cmpi .ne (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))) (broadcastInDim S128x128 ![] bcast_S_S128x128 (constantI S_ 32 0#32)))) (addi (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32))))) (broadcastInDim S128x128 ![] bcast_S_S128x128 (select (cmpi .eq (id (constantI S_ 32 128#32)) (constantI S_ 32 0#32)) (constantI S_ 32 1#32) (id (constantI S_ 32 128#32))))) (Host.remsi (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))) (broadcastInDim S128x128 ![] bcast_S_S128x128 (select (cmpi .eq (id (constantI S_ 32 128#32)) (constantI S_ 32 0#32)) (constantI S_ 32 1#32) (id (constantI S_ 32 128#32)))))))

/-- The Fourier group's features by a table. -/
def four (T : FVec F S128x128 .f32) (z : FVec F S16x4096x1024 .f32) (a3 : FVec F S1x4x128x128 .f32) : FVec F S16x4096x4x128 .f32 :=
  transpose S16x4096x4x128 [2, 3, 0, 1] (Host.dotGeneral dot_S4x128x128_S16x4096x4x128_S4x128x16x4096_1_3_2_01_0_2 none
    (shapeCast S4x128x128 a3 shapeCasts_S1x4x128x128_S4x128x128)
    (mulf (Host.dotGeneral dot_S16x4096x4x128_S128x128_S16x4096x4x128_3_0_012_1_n_n none
      (shapeCast S16x4096x4x128 (extractStridedSlice S16x4096x512 ![0, 0, 512] z slices_S16x4096x1024_S16x4096x512_0_0_512) shapeCasts_S16x4096x512_S16x4096x4x128) T)
      (broadcastInDim S16x4096x4x128 ![] bcast_S_S16x4096x4x128 (constant S_ .f32 0x3AB504F3#32)))) transposes_S4x128x16x4096_S16x4096x4x128_2_3_0_1

/-- A position per row. -/
def rows (f : FVec F S16x4096x4x128 .f32) : FVec F S4096x8192 .bf16 :=
  truncf .bf16 (shapeCast S4096x8192 (transpose S4096x16x4x128 [1, 0, 2, 3] f transposes_S16x4096x4x128_S4096x16x4x128_1_0_2_3)
    shapeCasts_S4096x16x4x128_S4096x8192) bitsLt_bf16_f32

/-- The S5 group's features: a position per chunk first. -/
def feed (z : FVec F S16x4096x1024 .f32) : FVec F S16x256x16x512 .bf16 :=
  truncf .bf16 (transpose S16x256x16x512 [2, 1, 0, 3] (shapeCast S16x256x16x512 (extractStridedSlice S16x4096x512 ![0, 0, 0] z
    slices_S16x4096x1024_S16x4096x512_0_0_0) shapeCasts_S16x4096x512_S16x256x16x512) transposes_S16x256x16x512_S16x256x16x512_2_1_0_3) bitsLt_bf16_f32

theorem v50_eq (m : (ℓ : Loc nD τ sig) → Buf (Elt F) ℓ) (c : Dev nD) : Value.res_main_v50 m c
    = rows (four (Host.cos angle) (pr (m ((c.tc : Thread nD τ).loc main_arg0)) (m ((c.tc : Thread nD τ).loc main_arg1)) (m ((c.tc : Thread nD τ).loc main_arg2)))
        (m ((c.tc : Thread nD τ).loc main_arg3))) := rfl
theorem v51_eq (m : (ℓ : Loc nD τ sig) → Buf (Elt F) ℓ) (c : Dev nD) : Value.res_main_v51 m c
    = rows (four (Host.sin angle) (pr (m ((c.tc : Thread nD τ).loc main_arg0)) (m ((c.tc : Thread nD τ).loc main_arg1)) (m ((c.tc : Thread nD τ).loc main_arg2)))
        (m ((c.tc : Thread nD τ).loc main_arg3))) := rfl

section
variable (a0 : FVec Ideal S16x4096x1024 .f32) (a1 : FVec Ideal S1x1024 .f32) (a2 : FVec Ideal S1x1024x1024 .f32)
    (a3 : FVec Ideal S1x4x128x128 .f32)

theorem norm_val (b : Fin 16) (s : Fin 4096) (d : Fin 1024) :
    norm a0 a1 (ix3 b s d) = normed (fun e => a0 (ix3 b s e)) (fun e => a1 (ix2 (0 : Fin 1) e)) d := by
  pointwise [norm]
  rfl

theorem pr_val (b : Fin 16) (s : Fin 4096) (l : Fin 1024) :
    pr a0 a1 a2 (ix3 b s l) = proj (normed (fun e => a0 (ix3 b s e)) (fun e => a1 (ix2 (0 : Fin 1) e)))
      (fun e l => a2 (ix3 (0 : Fin 1) e l)) l := by
  pointwise [pr]
  simp only [norm_val]
  rfl

theorem angle_real (n k : Fin 128) : Real1 ((angle : FVec Ideal S128x128 .f32) (ix2 n k)) := by
  unfold angle
  generalize select _ _ _ = v
  pointwise
  exact turn_real.mul ⟨_, rfl⟩

theorem cos_real (n k : Fin 128) : Real1 (Host.cos (angle : FVec Ideal S128x128 .f32) (ix2 n k)) := Proj.Real1.cos (angle_real n k)
theorem sin_real (n k : Fin 128) : Real1 (Host.sin (angle : FVec Ideal S128x128 .f32) (ix2 n k)) := Proj.Real1.sin (angle_real n k)

theorem four_val (T : FVec Ideal S128x128 .f32) (b : Fin 16) (s : Fin 4096) (g : Fin 4) (d : Fin 128) :
    four T (pr a0 a1 a2) a3 (ix4 b s g d) = mapped (normed (fun e => a0 (ix3 b s e)) (fun e => a1 (ix2 (0 : Fin 1) e)))
      (fun e l => a2 (ix3 (0 : Fin 1) e l)) (fun n k => T (ix2 n k)) (Ideal.ofBits .f32 0x3AB504F3#32)
      (fun g k d => a3 (ix4 (0 : Fin 1) g k d)) g d := by
  pointwise [four]
  simp only [pr_val]
  unfold mapped
  rfl

theorem feed_val (z : FVec Ideal S16x4096x1024 .f32) (t : Fin 16) (k : Fin 256) (b : Fin 16) (l : Fin 512) :
    feed z (ix4 t k b l) = z (ix3 b (⟨k.val * 16 + t.val, by omega⟩ : Fin 4096) (⟨l.val, by omega⟩ : Fin 1024)) := by
  pointwise [feed]

theorem rows_val (f : FVec Ideal S16x4096x4x128 .f32) (s : Fin 4096) (n : Fin 8192) :
    rows f (ix2 s n) = f (ix4 (⟨n.val / 512, by omega⟩ : Fin 16) s (⟨n.val / 128 % 4, by omega⟩ : Fin 4) (⟨n.val % 128, by omega⟩ : Fin 128)) := by
  pointwise [rows]

end

end Cert.Proj.Ref

end
-- ==== Proof.ProjHost.lean ====
/- The arrays the projection call's host code prepares, and the blocks of them that a grid point holds, at coordinates. -/
module

public import proofs.«01_k».proof.Proof.Gen.Kernel3Ideal.Value
public import proofs.«01_k».proof.Proof.ProjRef
public import Idealize.ShloMosaic.Lib.StableHlo.RunRead
public import Idealize.ShloMosaic.Lib.Pipeline.ValueKit

@[expose] public section

set_option maxRecDepth 16384

noncomputable section

namespace Cert.Proj.Host

open Cert.Kernel3Ideal Cert.Kernel3Ideal.Gen Cert.Kernel3Ideal.Value
open Idealize.ShloMosaic Idealize.ShloMosaic.TcCoe Idealize.ShloMosaic.Tactic

variable (m : (ℓ : Loc nD τ sig) → Buf (Elt Ideal) ℓ) (c : Dev nD)

/-- The argument arrays. -/
abbrev A0 : FVec Ideal S16x4096x1024 .f32 := m ((c.tc : Thread nD τ).loc main_arg0)
abbrev A1 : FVec Ideal S1x1024 .f32 := m ((c.tc : Thread nD τ).loc main_arg1)
abbrev A2 : FVec Ideal S1x1024x1024 .f32 := m ((c.tc : Thread nD τ).loc main_arg2)
abbrev A3 : FVec Ideal S1x4x128x128 .f32 := m ((c.tc : Thread nD τ).loc main_arg3)

theorem v0_val (b : Fin 16) (s : Fin 4096) (d : Fin 1024) : V m c main_arg0 (ix3 b s d) = A0 m c (ix3 b s d) := by
  unfold V
  after_reads_simp

theorem v35_val (d : Fin 1024) : V m c main_v35 (ix2 (0 : Fin 1) d) = A1 m c (ix2 (0 : Fin 1) d) := by
  unfold V
  after_reads_simp
  pointwise

/-- A column block of the weights with the transform by the table `T` and the map multiplied in. -/
def cols (T : FVec Ideal S128x128 .f32) (a2 : FVec Ideal S1x1024x1024 .f32) (a3 : FVec Ideal S1x4x128x128 .f32) : FVec Ideal S1024x512 .f32 :=
  shapeCast S1024x512 (transpose S1024x4x128 [2, 0, 1] (Host.dotGeneral dot_S4x128x128_S1024x4x128_S4x128x1024_1_2_2_0_0_1 (some .fp32)
    (mulf (transpose S4x128x128 [0, 2, 1] (Host.dotGeneral dot_S4x128x128_S128x128_S4x128x128_1_1_02_0_n_n (some .fp32)
        (shapeCast S4x128x128 a3 shapeCasts_S1x4x128x128_S4x128x128) T) transposes_S4x128x128_S4x128x128_0_2_1)
      (broadcastInDim S4x128x128 ![] bcast_S_S4x128x128 (constant S_ .f32 0x3AB504F3#32)))
    (shapeCast S1024x4x128 (extractStridedSlice S1024x512 ![0, 512] (shapeCast S1024x1024 a2 shapeCasts_S1x1024x1024_S1024x1024) slices_S1024x1024_S1024x512_0_512) shapeCasts_S1024x512_S1024x4x128))
    transposes_S4x128x1024_S1024x4x128_2_0_1) shapeCasts_S1024x4x128_S1024x512

/-- The call's weights. -/
def weights (a2 : FVec Ideal S1x1024x1024 .f32) (a3 : FVec Ideal S1x4x128x128 .f32) : FVec Ideal S1024x1536 .bf16 :=
  truncf .bf16 (concatenate S1024x1536 1 [⟨S1024x512, extractStridedSlice S1024x512 ![0, 0] (shapeCast S1024x1024 a2 shapeCasts_S1x1024x1024_S1024x1024) slices_S1024x1024_S1024x512_0_0⟩,
    ⟨S1024x512, cols (Host.cos (Ref.angle : FVec Ideal S128x128 .f32)) a2 a3⟩, ⟨S1024x512, cols (Host.sin (Ref.angle : FVec Ideal S128x128 .f32)) a2 a3⟩]
    concatenates_S1024x512_S1024x512_S1024x512_S1024x1536_d1 : FVec Ideal S1024x1536 .f32) bitsLt_bf16_f32

theorem join {a a' b b' d d' : FVec Ideal S1024x512 .f32} (ha : a = a') (hb : b = b') (hd : d = d') :
    (truncf .bf16 (concatenate S1024x1536 1 [⟨S1024x512, a⟩, ⟨S1024x512, b⟩, ⟨S1024x512, d⟩]
      concatenates_S1024x512_S1024x512_S1024x512_S1024x1536_d1 : FVec Ideal S1024x1536 .f32) bitsLt_bf16_f32 : FVec Ideal S1024x1536 .bf16)
      = truncf .bf16 (concatenate S1024x1536 1 [⟨S1024x512, a'⟩, ⟨S1024x512, b'⟩, ⟨S1024x512, d'⟩]
      concatenates_S1024x512_S1024x512_S1024x512_S1024x1536_d1 : FVec Ideal S1024x1536 .f32) bitsLt_bf16_f32 := by
  subst ha hb hd
  rfl

theorem v33_eq : V m c main_v33 = weights (A2 m c) (A3 m c) := by
  unfold V
  after_reads_simp
  unfold weights
  refine join ?_ ?_ ?_
  · change StableHlo.upto _ _ 56 (Proc.devRef .tc main_v31) = _
    after_reads_simp
    rfl
  · change StableHlo.upto _ _ 56 (Proc.devRef .tc main_v26) = _
    after_reads_simp
    simp only [StableHlo.TRef.toBuf, StableHlo.TRef.ofBuf, cast_eq]
    unfold cols Ref.angle
    rfl
  · change StableHlo.upto _ _ 56 (Proc.devRef .tc main_v29) = _
    after_reads_simp
    simp only [StableHlo.TRef.toBuf, StableHlo.TRef.ofBuf, cast_eq]
    unfold cols Ref.angle
    rfl

theorem cols_val (T : FVec Ideal S128x128 .f32) (a2 : FVec Ideal S1x1024x1024 .f32) (a3 : FVec Ideal S1x4x128x128 .f32) (e : Fin 1024) (g : Fin 4) (d : Fin 128) :
    cols T a2 a3 (ix2 e (⟨128 * g.val + d.val, by omega⟩ : Fin 512))
      = fused (fun e l => a2 (ix3 (0 : Fin 1) e l)) (fun n k => T (ix2 n k)) (Ideal.ofBits .f32 0x3AB504F3#32) (fun g k d => a3 (ix4 (0 : Fin 1) g k d)) g d e := by
  have e1 : (128 * g.val + d.val) / 128 = g.val := by omega
  have e2 : (128 * g.val + d.val) % 128 = d.val := by omega
  pointwise [cols]
  rfl

theorem idx0 : ∀ t : Fin cfg0.N, win0_0.index t = ![0, t.val, 0] := (by decide +kernel : ∀ t : Fin grid0.N, win0_0.index t = ![0, t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, t.val, 0, 0] := (by decide +kernel : ∀ t : Fin grid0.N, win0_3.index t = ![0, t.val, 0, 0])
theorem idx4 : ∀ t : Fin cfg0.N, win0_4.index t = ![t.val, 0] := (by decide +kernel : ∀ t : Fin grid0.N, win0_4.index t = ![t.val, 0])
theorem idx5 : ∀ t : Fin cfg0.N, win0_5.index t = ![t.val, 0] := (by decide +kernel : ∀ t : Fin grid0.N, win0_5.index t = ![t.val, 0])

theorem flush3 : ∀ t : Fin cfg0.N, (cfg0.win 3).flush t = true := (by decide +kernel : ∀ t : Fin grid0.N, win0_3.flush t = true)
theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)

section
variable (t : Fin cfg0.N) (q : Fin 128) (hq : q.val = t.val)
include hq

theorem blk0 (b : Fin 16) (s : Fin 32) (d : Fin 1024) :
    iblk m c 0 t (ix3 b s d) = V m c main_arg0 (ix3 b (⟨q.val * 32 + s.val, by omega⟩ : Fin 4096) d) := by
  blk_ext [iblk, idx0 t]
omit hq
theorem blk1 (k : Fin 1) (l : Fin 1024) : iblk m c 1 t (ix2 k l) = V m c main_v35 (ix2 k l) := by
  blk_ext [iblk, idx1 t]
theorem blk2 (k : Fin 1024) (l : Fin 1536) : iblk m c 2 t (ix2 k l) = V m c main_v33 (ix2 k l) := by
  blk_ext [iblk, idx2 t]

end

end Cert.Proj.Host

end
-- ==== Proof.ProjValue.lean ====
/- The projection call's results at coordinates: each is the model's value of its token. -/
module

public import proofs.«01_k».proof.Proof.ProjBody
public import proofs.«01_k».proof.Proof.ProjHost

@[expose] public section

set_option maxRecDepth 16384

noncomputable section

namespace Cert.Proj.Value

open Cert.Kernel3Ideal Cert.Kernel3Ideal.Gen Cert.Kernel3Ideal.Value Cert.Proj.Body Cert.Proj.Host
open Idealize.ShloMosaic Idealize.ShloMosaic.TcCoe Idealize.ShloMosaic.Tactic Cert.Merge

variable (m : (ℓ : Loc nD τ sig) → Buf (Elt Ideal) ℓ) (c : Dev nD)

/-- The normalized token at batch `b`, position `s`. -/
def unit (b : Fin 16) (s : Fin 4096) (d : Fin 1024) : EReal := normed (fun e => A0 m c (ix3 b s e)) (fun e => A1 m c (ix2 (0 : Fin 1) e)) d

/-- A column of the weights with a table multiplied in. -/
def col (T : FVec Ideal S128x128 .f32) (g : Fin 4) (d : Fin 128) (e : Fin 1024) : EReal :=
  fused (fun e l => A2 m c (ix3 (0 : Fin 1) e l)) (fun n k => T (ix2 n k)) (Ideal.ofBits .f32 0x3AB504F3#32) (fun g k d => A3 m c (ix4 (0 : Fin 1) g k d)) g d e

theorem plain_val (a2 : FVec Ideal S1x1024x1024 .f32) (a3 : FVec Ideal S1x4x128x128 .f32) (e : Fin 1024) (l : Fin 512) :
    weights a2 a3 (ix2 e (⟨l.val, by omega⟩ : Fin 1536)) = a2 (ix3 (0 : Fin 1) e (⟨l.val, by omega⟩ : Fin 1024)) := by
  unfold weights
  generalize cols (Host.cos (Ref.angle : FVec Ideal S128x128 .f32)) a2 a3 = p
  generalize cols (Host.sin (Ref.angle : FVec Ideal S128x128 .f32)) a2 a3 = q
  pointwise

theorem cos_val (a2 : FVec Ideal S1x1024x1024 .f32) (a3 : FVec Ideal S1x4x128x128 .f32) (e : Fin 1024) (l : Fin 512) :
    weights a2 a3 (ix2 e (⟨512 + l.val, by omega⟩ : Fin 1536)) = cols (Host.cos (Ref.angle : FVec Ideal S128x128 .f32)) a2 a3 (ix2 e l) := by
  unfold weights
  generalize cols (Host.cos (Ref.angle : FVec Ideal S128x128 .f32)) a2 a3 = p
  generalize cols (Host.sin (Ref.angle : FVec Ideal S128x128 .f32)) a2 a3 = q
  pointwise

theorem sin_val (a2 : FVec Ideal S1x1024x1024 .f32) (a3 : FVec Ideal S1x4x128x128 .f32) (e : Fin 1024) (l : Fin 512) :
    weights a2 a3 (ix2 e (⟨1024 + l.val, by omega⟩ : Fin 1536)) = cols (Host.sin (Ref.angle : FVec Ideal S128x128 .f32)) a2 a3 (ix2 e l) := by
  unfold weights
  generalize cols (Host.cos (Ref.angle : FVec Ideal S128x128 .f32)) a2 a3 = p
  generalize cols (Host.sin (Ref.angle : FVec Ideal S128x128 .f32)) a2 a3 = q
  pointwise
  rw [dif_neg (by omega), dif_neg (by omega)]
  exact congrArg (fun l => q (ix2 e l)) (Fin.ext (by show 1024 + l.val - 512 - 512 = l.val; omega))

theorem col_val (T : FVec Ideal S128x128 .f32) (e : Fin 1024) (l : Fin 512) (g : Fin 4) (d : Fin 128) (h : l.val = 128 * g.val + d.val) :
    cols T (A2 m c) (A3 m c) (ix2 e l) = col m c T g d e :=
  (congrArg (fun l => cols T (A2 m c) (A3 m c) (ix2 e l)) (Fin.ext h)).trans (cols_val T _ _ e g d)

section
variable (t : Fin cfg0.N) (q : Fin 128) (hq : q.val = t.val)
include hq

/-- The block's product at coordinates. -/
theorem prod_at (arg1 : Memref sig .tc .vmem S16x32x1024 .f32) (harg1 : arg1.IsWhole)
    (arg2 : Memref sig .tc .vmem S1x1024 .f32) (harg2 : arg2.IsWhole) (arg3 : Memref sig .tc .vmem S1024x1536 .bf16) (harg3 : arg3.IsWhole)
    (r : Fin 512) (l : Fin 1536) (b : Fin 16) (s : Fin 4096) (hb : b.val = r.val / 32) (hs : s.val = q.val * 32 + r.val % 32) :
    prod c arg1 harg1 arg2 harg2 arg3 harg3 (iblk m c 0 t) (iblk m c 1 t) (iblk m c 2 t) (ix2 r l)
      = ∑ e : Fin 1024, unit m c b s e * weights (A2 m c) (A3 m c) (ix2 e l) := by
  refine (prod_val c arg1 harg1 arg2 harg2 arg3 harg3 _ _ _ r l).trans ?_
  have eb : (⟨r.val / 32, by omega⟩ : Fin 16) = b := Fin.ext hb.symm
  refine Finset.sum_congr rfl fun e _ => congrArg₂ (· * ·) (congrArg₂ (fun x g => normed x g e) (funext fun e => ?_) (funext fun e => ?_)) ?_
  · rw [eb, blk0 m c t q hq, v0_val]
    exact congrArg (fun s => A0 m c (ix3 b s e)) (Fin.ext hs.symm)
  · rw [blk1 m c t, v35_val]
  · rw [blk2 m c t, v33_eq]

theorem at3 (X : FVec Ideal S16x256x16x512 .bf16) (r : Fin 16) (cl : Fin 2) (b : Fin 16) (l : Fin 512) :
    X (ix4 r (⟨q.val * 2 + cl.val, by omega⟩ : Fin 256) b l) = ((cfg0.win 3).blk t).view.read (Elt Ideal) X (ix4 r cl b l) := by
  blk_ext [idx3 t]
omit hq in
theorem cut3 (Y : FVec Ideal S16x2x16x512 .bf16) (r : Fin 16) (cl : Fin 2) (b : Fin 16) (l : Fin 512) :
    (cfg0.win 3).cut (grid0.coords t) Y (ix4 r cl b l) = Y (ix4 r cl b l) := by
  blk_ext [idx3 t]
theorem at4 (X : FVec Ideal S4096x8192 .bf16) (s : Fin 32) (n : Fin 8192) :
    X (ix2 (⟨q.val * 32 + s.val, by omega⟩ : Fin 4096) n) = ((cfg0.win 4).blk t).view.read (Elt Ideal) X (ix2 s n) := by
  blk_ext [idx4 t]
omit hq in
theorem cut4 (Y : FVec Ideal S32x8192 .bf16) (s : Fin 32) (n : Fin 8192) :
    (cfg0.win 4).cut (grid0.coords t) Y (ix2 s n) = Y (ix2 s n) := by
  blk_ext [idx4 t]
theorem at5 (X : FVec Ideal S4096x8192 .bf16) (s : Fin 32) (n : Fin 8192) :
    X (ix2 (⟨q.val * 32 + s.val, by omega⟩ : Fin 4096) n) = ((cfg0.win 5).blk t).view.read (Elt Ideal) X (ix2 s n) := by
  blk_ext [idx5 t]
omit hq in
theorem cut5 (Y : FVec Ideal S32x8192 .bf16) (s : Fin 32) (n : Fin 8192) :
    (cfg0.win 5).cut (grid0.coords t) Y (ix2 s n) = Y (ix2 s n) := by
  blk_ext [idx5 t]

theorem res3 (r : Fin 16) (cl : Fin 2) (b : Fin 16) (l : Fin 512) (s : Fin 4096) (hs : s.val = q.val * 32 + cl.val * 16 + r.val) :
    (dats m 0 c).arrAt 3 cfg0.N (ix4 r (⟨q.val * 2 + cl.val, by omega⟩ : Fin 256) b l)
      = proj (unit m c b s) (fun e l => A2 m c (ix3 (0 : Fin 1) e l)) ⟨l.val, by omega⟩ := by
  have e := out3_val c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) r cl b l
  have h := congrFun ((blocks3 m c t (flush3 t)).trans (flushed3_A m c t)) (ix4 r cl b l)
  refine (at3 t q hq _ r cl b l).trans (h.trans ((cut3 t _ r cl b l).trans (e.trans ((prod_at m c t q hq _ _ _ _ _ _ _ _ b s ?_ ?_).trans ?_))))
  · show b.val = (32 * b.val + cl.val * 16 + r.val) / 32
    omega
  · show s.val = q.val * 32 + (32 * b.val + cl.val * 16 + r.val) % 32
    omega
  · exact Finset.sum_congr rfl fun e _ => congrArg (unit m c b s e * ·) (plain_val _ _ e l)

theorem res4 (s : Fin 32) (n : Fin 8192) :
    (dats m 0 c).arrAt 4 cfg0.N (ix2 (⟨q.val * 32 + s.val, by omega⟩ : Fin 4096) n)
      = ∑ e, unit m c ⟨n.val / 512, by omega⟩ ⟨q.val * 32 + s.val, by omega⟩ e * col m c (Host.cos (Ref.angle : FVec Ideal S128x128 .f32)) ⟨n.val / 128 % 4, by omega⟩ ⟨n.val % 128, by omega⟩ e := by
  have e := out4_val c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) s n
  have h := congrFun ((blocks4 m c t (flush4 t)).trans (flushed4_A m c t)) (ix2 s n)
  refine (at4 t q hq _ s n).trans (h.trans ((cut4 t _ s n).trans (e.trans ((prod_at m c t q hq _ _ _ _ _ _ _ _ ⟨n.val / 512, by omega⟩ ⟨q.val * 32 + s.val, by omega⟩ ?_ ?_).trans ?_))))
  · show n.val / 512 = (32 * (n.val / 512) + s.val) / 32
    omega
  · show q.val * 32 + s.val = q.val * 32 + (32 * (n.val / 512) + s.val) % 32
    omega
  · refine Finset.sum_congr rfl fun e _ => congrArg (unit m c _ _ e * ·) ((cos_val _ _ e ⟨n.val % 512, by omega⟩).trans (col_val m c _ e _ _ _ ?_))
    show n.val % 512 = 128 * (n.val / 128 % 4) + n.val % 128
    omega

theorem res5 (s : Fin 32) (n : Fin 8192) :
    (dats m 0 c).arrAt 5 cfg0.N (ix2 (⟨q.val * 32 + s.val, by omega⟩ : Fin 4096) n)
      = ∑ e, unit m c ⟨n.val / 512, by omega⟩ ⟨q.val * 32 + s.val, by omega⟩ e * col m c (Host.sin (Ref.angle : FVec Ideal S128x128 .f32)) ⟨n.val / 128 % 4, by omega⟩ ⟨n.val % 128, by omega⟩ e := by
  have e := out5_val c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk m c 0 t) (iblk m c 1 t) (iblk m c 2 t) s n
  have h := congrFun ((blocks5 m c t (flush5 t)).trans (flushed5_A m c t)) (ix2 s n)
  refine (at5 t q hq _ s n).trans (h.trans ((cut5 t _ s n).trans (e.trans ((prod_at m c t q hq _ _ _ _ _ _ _ _ ⟨n.val / 512, by omega⟩ ⟨q.val * 32 + s.val, by omega⟩ ?_ ?_).trans ?_))))
  · show n.val / 512 = (32 * (n.val / 512) + s.val) / 32
    omega
  · show q.val * 32 + s.val = q.val * 32 + (32 * (n.val / 512) + s.val) % 32
    omega
  · refine Finset.sum_congr rfl fun e _ => congrArg (unit m c _ _ e * ·) ((sin_val _ _ e ⟨n.val % 512, by omega⟩).trans (col_val m c _ e _ _ _ ?_))
    show n.val % 512 = 128 * (n.val / 128 % 4) + n.val % 128
    omega

end

/-- The point that holds block `q`. -/
def point (q : Fin 128) : Fin cfg0.N := Fin.cast (by decide +kernel : 128 = grid0.N) q

theorem result3 (r : Fin 16) (k : Fin 256) (b : Fin 16) (l : Fin 512) : (dats m 0 c).arrAt 3 cfg0.N (ix4 r k b l)
    = proj (unit m c b ⟨k.val * 16 + r.val, by omega⟩) (fun e l => A2 m c (ix3 (0 : Fin 1) e l)) ⟨l.val, by omega⟩ := by
  have e : k = ⟨(⟨k.val / 2, by omega⟩ : Fin 128).val * 2 + (⟨k.val % 2, by omega⟩ : Fin 2).val, by show k.val / 2 * 2 + k.val % 2 < 256; omega⟩ :=
    Fin.ext (by show k.val = k.val / 2 * 2 + k.val % 2; omega)
  refine (congrArg (fun k => (dats m 0 c).arrAt 3 cfg0.N (ix4 r k b l)) e).trans ?_
  exact res3 m c (point ⟨k.val / 2, by omega⟩) ⟨k.val / 2, by omega⟩ rfl r ⟨k.val % 2, by omega⟩ b l _
    (by show k.val * 16 + r.val = k.val / 2 * 32 + k.val % 2 * 16 + r.val; omega)

theorem result4 (s : Fin 4096) (n : Fin 8192) : (dats m 0 c).arrAt 4 cfg0.N (ix2 s n)
    = ∑ e, unit m c ⟨n.val / 512, by omega⟩ s e * col m c (Host.cos (Ref.angle : FVec Ideal S128x128 .f32)) ⟨n.val / 128 % 4, by omega⟩ ⟨n.val % 128, by omega⟩ e := by
  have e : s = ⟨(⟨s.val / 32, by omega⟩ : Fin 128).val * 32 + (⟨s.val % 32, by omega⟩ : Fin 32).val, by show s.val / 32 * 32 + s.val % 32 < 4096; omega⟩ :=
    Fin.ext (by show s.val = s.val / 32 * 32 + s.val % 32; omega)
  rw [e]
  exact res4 m c (point ⟨s.val / 32, by omega⟩) ⟨s.val / 32, by omega⟩ rfl ⟨s.val % 32, by omega⟩ n

theorem result5 (s : Fin 4096) (n : Fin 8192) : (dats m 0 c).arrAt 5 cfg0.N (ix2 s n)
    = ∑ e, unit m c ⟨n.val / 512, by omega⟩ s e * col m c (Host.sin (Ref.angle : FVec Ideal S128x128 .f32)) ⟨n.val / 128 % 4, by omega⟩ ⟨n.val % 128, by omega⟩ e := by
  have e : s = ⟨(⟨s.val / 32, by omega⟩ : Fin 128).val * 32 + (⟨s.val % 32, by omega⟩ : Fin 32).val, by show s.val / 32 * 32 + s.val % 32 < 4096; omega⟩ :=
    Fin.ext (by show s.val = s.val / 32 * 32 + s.val % 32; omega)
  rw [e]
  exact res5 m c (point ⟨s.val / 32, by omega⟩) ⟨s.val / 32, by omega⟩ rfl ⟨s.val % 32, by omega⟩ n

end Cert.Proj.Value

end
-- ==== Proof.ProjPre.lean ====
/- The third precondition read back: where it holds, every argument array of the projection call is an array of reals. -/
module

public import proofs.«01_k».proof.Pre_finite3
public import proofs.«01_k».proof.Proof.Pre
public import proofs.«01_k».proof.Proof.MergeModel

@[expose] public section

set_option maxRecDepth 16384

noncomputable section

namespace Cert.Proj.Pre

open Idealize.ShloMosaic Cert.Merge
open Cert.Pre_finite3 Cert.Pre_finite3.Facts

/-- The shape relations the predicate takes. -/
theorem facts : Cert.Pre_finite3.Facts := by
  constructor <;> decide +kernel

instance : Subsingleton S_.Idx := ⟨fun i j => funext fun a => a.elim0⟩

variable [Cert.Pre_finite3.Facts]
variable (a0 : FVec Ideal S16x4096x1024 .f32) (a1 : FVec Ideal S1x1024 .f32) (a2 : FVec Ideal S1x1024x1024 .f32)
    (a3 : FVec Ideal S1x4x128x128 .f32)

/-- The predicate's meaning, array by array. -/
theorem reals (h : fn (F := Ideal) a0 a1 a2 a3 = fun _ => 1#1) :
    (∀ x, Real1 (a0 x)) ∧ (∀ x, Real1 (a1 x)) ∧ (∀ x, Real1 (a2 x)) ∧ (∀ x, Real1 (a3 x)) := by
  have h1 := congrFun h (fun a => a.elim0)
  obtain ⟨h1, r3⟩ := IntOp.andi_eq_one.1 h1
  obtain ⟨h1, r2⟩ := IntOp.andi_eq_one.1 h1
  obtain ⟨r0, r1⟩ := IntOp.andi_eq_one.1 h1
  exact ⟨fun x => ⟨_, Cert.Pre.finite_of_lt _ _ (Host.reduce_andi_all _ _ _ _ _ r0 x)⟩,
    fun x => ⟨_, Cert.Pre.finite_of_lt _ _ (Host.reduce_andi_all _ _ _ _ _ r1 x)⟩,
    fun x => ⟨_, Cert.Pre.finite_of_lt _ _ (Host.reduce_andi_all _ _ _ _ _ r2 x)⟩,
    fun x => ⟨_, Cert.Pre.finite_of_lt _ _ (Host.reduce_andi_all _ _ _ _ _ r3 x)⟩⟩

end Cert.Proj.Pre

end
-- ==== Proof.ProjEqual.lean ====
/- The projection call against its reference: where every argument is finite, the three results agree. -/
module

public import proofs.«01_k».proof.Proof.ProjValue
public import proofs.«01_k».proof.Proof.ProjRef
public import proofs.«01_k».proof.Proof.ProjPre

@[expose] public section

set_option maxRecDepth 16384

noncomputable section

namespace Cert.Proj

open Cert.Kernel3Ideal Cert.Proj.Host
open Idealize.ShloMosaic Cert.Merge

variable (m : (ℓ : Loc nD τ sig) → Buf (Elt Ideal) ℓ) (c : Dev nD)

/-- The S5 group's features. -/
theorem equal3 : Ref.feed (Ref.pr (A0 m c) (A1 m c) (A2 m c)) = (Gen.dats m 0 c).arrAt 3 cfg0.N := by
  funext x
  have hx : x = ix4 (x 0) (x 1) (x 2) (x 3) := by
    funext a
    fin_cases a <;> rfl
  rw [hx]
  exact ((Ref.feed_val _ (x 0) (x 1) (x 2) (x 3)).trans (Ref.pr_val _ _ _ _ _ _)).trans (Value.result3 m c (x 0) (x 1) (x 2) (x 3)).symm

section
variable (h0 : ∀ x, Real1 (A0 m c x)) (h1 : ∀ x, Real1 (A1 m c x)) (h2 : ∀ x, Real1 (A2 m c x)) (h3 : ∀ x, Real1 (A3 m c x))
include h0 h1 h2 h3

/-- The Fourier group's features by a table of reals: the table and the map are applied last in the one and first in the other. -/
theorem equalT (T : FVec Ideal S128x128 .f32) (hT : ∀ n k : Fin 128, Real1 (T (ix2 n k))) (s : Fin 4096) (n : Fin 8192) :
    Ref.rows (Ref.four T (Ref.pr (A0 m c) (A1 m c) (A2 m c)) (A3 m c)) (ix2 s n)
      = ∑ e, Value.unit m c ⟨n.val / 512, by omega⟩ s e * Value.col m c T ⟨n.val / 128 % 4, by omega⟩ ⟨n.val % 128, by omega⟩ e := by
  refine (Ref.rows_val _ s n).trans ((Ref.four_val _ _ _ _ T _ _ _ _).trans (Eq.symm ?_))
  exact fused_eq (fun e => Real1.normed (fun e => h0 _) (fun e => h1 _) e) (fun e l => h2 _) (fun n k => hT n k) scale_real (fun g k d => h3 _) _ _

/-- With the cosines. -/
theorem equal4 : Ref.rows (Ref.four (Host.cos Ref.angle) (Ref.pr (A0 m c) (A1 m c) (A2 m c)) (A3 m c)) = (Gen.dats m 0 c).arrAt 4 cfg0.N := by
  funext x
  have hx : x = ix2 (x 0) (x 1) := by
    funext a
    fin_cases a <;> rfl
  rw [hx]
  exact (equalT m c h0 h1 h2 h3 _ Ref.cos_real (x 0) (x 1)).trans (Value.result4 m c (x 0) (x 1)).symm

/-- With the sines. -/
theorem equal5 : Ref.rows (Ref.four (Host.sin Ref.angle) (Ref.pr (A0 m c) (A1 m c) (A2 m c)) (A3 m c)) = (Gen.dats m 0 c).arrAt 5 cfg0.N := by
  funext x
  have hx : x = ix2 (x 0) (x 1) := by
    funext a
    fin_cases a <;> rfl
  rw [hx]
  exact (equalT m c h0 h1 h2 h3 _ Ref.sin_real (x 0) (x 1)).trans (Value.result5 m c (x 0) (x 1)).symm

end

end Cert.Proj

end
-- ==== Proof.Tables.lean ====
/- The two casts of the expert tables: each array is the reference's, the second with an expert per column. -/
module

public import proofs.«01_k».proof.Proof.Gen.Kernel4Ideal.Value
public import proofs.«01_k».proof.Proof.Gen.Kernel5Ideal.Value
public import Idealize.ShloMosaic.Lib.StableHlo.RunRead
public import Idealize.ShloMosaic.Lib.Pipeline.ValueKit
public import Idealize.ShloMosaic.Lib.Pointwise

@[expose] public section

set_option maxRecDepth 16384

noncomputable section

namespace Cert.Table4

open Cert.Kernel4Ideal Cert.Kernel4Ideal.Gen Cert.Kernel4Ideal.Value
open Idealize.ShloMosaic Idealize.ShloMosaic.TcCoe Idealize.ShloMosaic.Tactic

variable (m : (ℓ : Loc nD τ sig) → Buf (Elt Ideal) ℓ) (c : Dev nD)

/-- The argument. -/
abbrev A : FVec Ideal S1x16384x1024 .f32 := m ((c.tc : Thread nD τ).loc main_arg0)

/-- The table, rounded. -/
def table (a : FVec Ideal S1x16384x1024 .f32) : FVec Ideal S16384x1024 .bf16 := truncf .bf16 (shapeCast S16384x1024 a shapeCasts_S1x16384x1024_S16384x1024) bitsLt_bf16_f32

theorem table_val (a : FVec Ideal S1x16384x1024 .f32) (e : Fin 16384) (d : Fin 1024) : table a (ix2 e d) = a (ix3 (0 : Fin 1) e d) := by
  pointwise [table]

theorem v_val (e : Fin 16384) (d : Fin 1024) : V m c main_v0 (ix2 e d) = A m c (ix3 (0 : Fin 1) e d) := by
  unfold V
  after_reads_simp
  pointwise

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem flush1 : ∀ t : Fin cfg0.N, (cfg0.win 1).flush t = true := (by decide +kernel : ∀ t : Fin grid0.N, win0_1.flush t = true)

/-- What a grid point stores, at coordinates. -/
theorem out_val (x : Vec Ideal S2048x1024 .f32) (s : Fin 2048) (d : Fin 1024) : out0_1 x (ix2 s d) = x (ix2 s d) := by
  unfold out0_1
  refine (canon1_eq _ _).trans (congrArg x ?_)
  funext a; apply Fin.ext
  fin_cases a
  · exact (Nat.zero_add _).trans (Nat.one_mul _)
  · exact (Nat.zero_add _).trans (Nat.one_mul _)

section
variable (t : Fin cfg0.N) (q : Fin 8) (hq : q.val = t.val)
include hq

theorem blk0 (s : Fin 2048) (d : Fin 1024) :
    iblk m c 0 t (ix2 s d) = V m c main_v0 (ix2 (⟨q.val * 2048 + s.val, by omega⟩ : Fin 16384) d) := by
  blk_ext [iblk, idx0 t]
theorem at1 (X : FVec Ideal S16384x1024 .bf16) (s : Fin 2048) (d : Fin 1024) :
    X (ix2 (⟨q.val * 2048 + s.val, by omega⟩ : Fin 16384) d) = ((cfg0.win 1).blk t).view.read (Elt Ideal) X (ix2 s d) := by
  blk_ext [idx1 t]
omit hq in
theorem cut1 (Y : FVec Ideal S2048x1024 .bf16) (s : Fin 2048) (d : Fin 1024) :
    (cfg0.win 1).cut (grid0.coords t) Y (ix2 s d) = Y (ix2 s d) := by
  blk_ext [idx1 t]

theorem res1 (s : Fin 2048) (d : Fin 1024) :
    (dats m 0 c).arrAt 1 cfg0.N (ix2 (⟨q.val * 2048 + s.val, by omega⟩ : Fin 16384) d) = A m c (ix3 (0 : Fin 1) (⟨q.val * 2048 + s.val, by omega⟩ : Fin 16384) d) :=
  (at1 t q hq _ s d).trans ((congrFun ((blocks1 m c t (flush1 t)).trans (flushed1 m c t)) (ix2 s d)).trans
    ((cut1 t _ s d).trans ((out_val _ s d).trans ((blk0 m c t q hq s d).trans (v_val m c _ d)))))

end

/-- The point that holds block `q`. -/
def point (q : Fin 8) : Fin cfg0.N := Fin.cast (by decide +kernel : 8 = grid0.N) q

/-- The call's array is the reference's. -/
theorem equal : table (A m c) = (dats m 0 c).arrAt 1 cfg0.N := by
  funext x
  obtain ⟨e, d, rfl⟩ : ∃ (e : Fin 16384) (d : Fin 1024), x = ix2 e d := ⟨x 0, x 1, by funext a; fin_cases a <;> rfl⟩
  have h : e = ⟨(⟨e.val / 2048, by omega⟩ : Fin 8).val * 2048 + (⟨e.val % 2048, by omega⟩ : Fin 2048).val, by show e.val / 2048 * 2048 + e.val % 2048 < 16384; omega⟩ :=
    Fin.ext (by show e.val = e.val / 2048 * 2048 + e.val % 2048; omega)
  rw [h]
  exact (table_val _ _ d).trans (res1 m c (point ⟨e.val / 2048, by omega⟩) ⟨e.val / 2048, by omega⟩ rfl ⟨e.val % 2048, by omega⟩ d).symm

end Cert.Table4

namespace Cert.Table5

open Cert.Kernel5Ideal Cert.Kernel5Ideal.Gen Cert.Kernel5Ideal.Value
open Idealize.ShloMosaic Idealize.ShloMosaic.TcCoe Idealize.ShloMosaic.Tactic

variable (m : (ℓ : Loc nD τ sig) → Buf (Elt Ideal) ℓ) (c : Dev nD)

/-- The argument. -/
abbrev A : FVec Ideal S1x16384x1024 .f32 := m ((c.tc : Thread nD τ).loc main_arg0)

/-- The table, rounded, with an expert per column. -/
def table (a : FVec Ideal S1x16384x1024 .f32) : FVec Ideal S1024x16384 .bf16 := truncf .bf16 (transpose S1024x16384 [1, 0] (shapeCast S16384x1024 a shapeCasts_S1x16384x1024_S16384x1024) (by decide)) bitsLt_bf16_f32

theorem table_val (a : FVec Ideal S1x16384x1024 .f32) (e : Fin 16384) (d : Fin 1024) : table a (ix2 d e) = a (ix3 (0 : Fin 1) e d) := by
  pointwise [table]

theorem v_val (e : Fin 16384) (d : Fin 1024) : V m c main_v0 (ix2 e d) = A m c (ix3 (0 : Fin 1) e d) := by
  unfold V
  after_reads_simp
  pointwise

theorem idx0 : ∀ t : Fin cfg0.N, win0_0.index t = ![t.val, 0] := (by decide +kernel : ∀ t : Fin grid0.N, win0_0.index t = ![t.val, 0])
theorem idx1 : ∀ t : Fin cfg0.N, win0_1.index t = ![0, t.val] := (by decide +kernel : ∀ t : Fin grid0.N, win0_1.index t = ![0, t.val])
theorem flush1 : ∀ t : Fin cfg0.N, (cfg0.win 1).flush t = true := (by decide +kernel : ∀ t : Fin grid0.N, win0_1.flush t = true)

/-- What a grid point stores, at coordinates. -/
theorem out_val (x : Vec Ideal S2048x1024 .f32) (s : Fin 2048) (d : Fin 1024) : out0_1 x (ix2 d s) = x (ix2 s d) := by
  unfold out0_1
  refine (canon1_eq _ _).trans (congrArg x ?_)
  funext a; apply Fin.ext
  fin_cases a
  · exact (Nat.zero_add _).trans (Nat.one_mul _)
  · exact (Nat.zero_add _).trans (Nat.one_mul _)

section
variable (t : Fin cfg0.N) (q : Fin 8) (hq : q.val = t.val)
include hq

theorem blk0 (s : Fin 2048) (d : Fin 1024) :
    iblk m c 0 t (ix2 s d) = V m c main_v0 (ix2 (⟨q.val * 2048 + s.val, by omega⟩ : Fin 16384) d) := by
  blk_ext [iblk, idx0 t]
theorem at1 (X : FVec Ideal S1024x16384 .bf16) (s : Fin 2048) (d : Fin 1024) :
    X (ix2 d (⟨q.val * 2048 + s.val, by omega⟩ : Fin 16384)) = ((cfg0.win 1).blk t).view.read (Elt Ideal) X (ix2 d s) := by
  blk_ext [idx1 t]
omit hq in
theorem cut1 (Y : FVec Ideal S1024x2048 .bf16) (s : Fin 2048) (d : Fin 1024) :
    (cfg0.win 1).cut (grid0.coords t) Y (ix2 d s) = Y (ix2 d s) := by
  blk_ext [idx1 t]

theorem res1 (s : Fin 2048) (d : Fin 1024) :
    (dats m 0 c).arrAt 1 cfg0.N (ix2 d (⟨q.val * 2048 + s.val, by omega⟩ : Fin 16384)) = A m c (ix3 (0 : Fin 1) (⟨q.val * 2048 + s.val, by omega⟩ : Fin 16384) d) :=
  (at1 t q hq _ s d).trans ((congrFun ((blocks1 m c t (flush1 t)).trans (flushed1 m c t)) (ix2 d s)).trans
    ((cut1 t _ s d).trans ((out_val _ s d).trans ((blk0 m c t q hq s d).trans (v_val m c _ d)))))

end

/-- The point that holds block `q`. -/
def point (q : Fin 8) : Fin cfg0.N := Fin.cast (by decide +kernel : 8 = grid0.N) q

/-- The call's array is the reference's. -/
theorem equal : table (A m c) = (dats m 0 c).arrAt 1 cfg0.N := by
  funext x
  obtain ⟨e, d, rfl⟩ : ∃ (e : Fin 16384) (d : Fin 1024), x = ix2 d e := ⟨x 1, x 0, by funext a; fin_cases a <;> rfl⟩
  have h : e = ⟨(⟨e.val / 2048, by omega⟩ : Fin 8).val * 2048 + (⟨e.val % 2048, by omega⟩ : Fin 2048).val, by show e.val / 2048 * 2048 + e.val % 2048 < 16384; omega⟩ :=
    Fin.ext (by show e.val = e.val / 2048 * 2048 + e.val % 2048; omega)
  rw [h]
  exact (table_val _ _ d).trans (res1 m c (point ⟨e.val / 2048, by omega⟩) ⟨e.val / 2048, by omega⟩ rfl ⟨e.val % 2048, by omega⟩ d).symm

end Cert.Table5

end
-- ==== Proof.Groups.lean ====
/- The regrouping of the sequence by channel group: eight groups of lanes change places with eight steps of time. -/
module

public import proofs.«01_k».proof.Proof.Gen.Kernel6Ideal.Value
public import Idealize.ShloMosaic.Lib.StableHlo.RunRead
public import Idealize.ShloMosaic.Lib.Pipeline.ValueKit
public import Idealize.ShloMosaic.Lib.Pointwise

@[expose] public section

set_option maxRecDepth 16384

noncomputable section

namespace Cert.Groups

open Cert.Kernel6Ideal Cert.Kernel6Ideal.Gen Cert.Kernel6Ideal.Value
open Idealize.ShloMosaic Idealize.ShloMosaic.TcCoe Idealize.ShloMosaic.Tactic

/-! ## One exchange of lane groups -/

/-- Whether a lane's group of sixteen has the bit `n` clear. -/
def clear (n : BitVec 32) : IVec S256x128 1 :=
  cmpi .eq (andi k0_pay28 (broadcast S256x128 n)) (broadcast S256x128 0#32)

/-- The lower array of a pair after the exchange over the bit `n`, the other moved up by `d` lanes. -/
def low (n d : BitVec 32) (a b : FVec Ideal S256x128 .bf16) : FVec Ideal S256x128 .bf16 :=
  select (clear n) a (dynamicRotate 1 d none b rotates_S256x128_d1)
/-- The upper array of a pair after the exchange over the bit `n`, the other moved up by `d` lanes. -/
def high (n d : BitVec 32) (a b : FVec Ideal S256x128 .bf16) : FVec Ideal S256x128 .bf16 :=
  select (clear n) (dynamicRotate 1 d none a rotates_S256x128_d1) b

/-- The exchange over the bit 4, of eight arrays. -/
def net4 (W : Fin 8 → FVec Ideal S256x128 .bf16) : Fin 8 → FVec Ideal S256x128 .bf16 :=
  ![low 4#32 64#32 (W 0) (W 4), low 4#32 64#32 (W 1) (W 5), low 4#32 64#32 (W 2) (W 6), low 4#32 64#32 (W 3) (W 7),
    high 4#32 64#32 (W 0) (W 4), high 4#32 64#32 (W 1) (W 5), high 4#32 64#32 (W 2) (W 6), high 4#32 64#32 (W 3) (W 7)]
/-- The exchange over the bit 2. -/
def net2 (W : Fin 8 → FVec Ideal S256x128 .bf16) : Fin 8 → FVec Ideal S256x128 .bf16 :=
  ![low 2#32 32#32 (W 0) (W 2), low 2#32 32#32 (W 1) (W 3), high 2#32 96#32 (W 0) (W 2), high 2#32 96#32 (W 1) (W 3),
    low 2#32 32#32 (W 4) (W 6), low 2#32 32#32 (W 5) (W 7), high 2#32 96#32 (W 4) (W 6), high 2#32 96#32 (W 5) (W 7)]
/-- The exchange over the bit 1. -/
def net1 (W : Fin 8 → FVec Ideal S256x128 .bf16) : Fin 8 → FVec Ideal S256x128 .bf16 :=
  ![low 1#32 16#32 (W 0) (W 1), high 1#32 112#32 (W 0) (W 1), low 1#32 16#32 (W 2) (W 3), high 1#32 112#32 (W 2) (W 3),
    low 1#32 16#32 (W 4) (W 5), high 1#32 112#32 (W 4) (W 5), low 1#32 16#32 (W 6) (W 7), high 1#32 112#32 (W 6) (W 7)]
/-- The three exchanges. -/
def net (W : Fin 8 → FVec Ideal S256x128 .bf16) : Fin 8 → FVec Ideal S256x128 .bf16 := net1 (net2 (net4 W))

/-- The rows of one parity of a loaded step of time. -/
def rows (p : Fin 2) (v : FVec Ideal S1x32x16x128 .bf16) : FVec Ideal S256x128 .bf16 :=
  rowsOfParity p S256x128 (k0_pay4 v) bitcasts_S512x128_w16_S256x128_w32

/-- The stored piece of lane group `g`, from the sixteen steps of time in two lots of eight. -/
def piece (X Y : Fin 8 → FVec Ideal S1x32x16x128 .bf16) (g : Fin 8) : FVec Ideal S1x512x256 .bf16 :=
  k0_pay3 (net (fun p => rows 0 (X p)) g) (net (fun p => rows 1 (X p)) g) (net (fun p => rows 0 (Y p)) g) (net (fun p => rows 1 (Y p)) g)

/-- The first eight steps of time, loaded. -/
def lotX (x0 : Vec Ideal S16x32x16x128 .bf16) : Fin 8 → FVec Ideal S1x32x16x128 .bf16 :=
  ![View.ld x0 r0_0, View.ld x0 r0_1, View.ld x0 r0_2, View.ld x0 r0_3, View.ld x0 r0_4, View.ld x0 r0_5, View.ld x0 r0_6, View.ld x0 r0_7]
/-- The last eight steps of time, loaded. -/
def lotY (x0 : Vec Ideal S16x32x16x128 .bf16) : Fin 8 → FVec Ideal S1x32x16x128 .bf16 :=
  ![View.ld x0 r0_8, View.ld x0 r0_9, View.ld x0 r0_10, View.ld x0 r0_11, View.ld x0 r0_12, View.ld x0 r0_13, View.ld x0 r0_14, View.ld x0 r0_15]

/-- What a grid point stores is the eight pieces. -/
theorem out_eq (x0 : Vec Ideal S16x32x16x128 .bf16) : out0_1 x0 = View.canon
    [⟨r0_23, piece (lotX x0) (lotY x0) 7⟩, ⟨r0_22, piece (lotX x0) (lotY x0) 6⟩, ⟨r0_21, piece (lotX x0) (lotY x0) 5⟩, ⟨r0_20, piece (lotX x0) (lotY x0) 4⟩,
     ⟨r0_19, piece (lotX x0) (lotY x0) 3⟩, ⟨r0_18, piece (lotX x0) (lotY x0) 2⟩, ⟨r0_17, piece (lotX x0) (lotY x0) 1⟩, ⟨r0_16, piece (lotX x0) (lotY x0) 0⟩] := by
  rfl

/-! ## Values -/

/-- Lane `k` of group `q`. -/
abbrev lane (q : Fin 8) (k : Fin 16) : Fin 128 := ⟨16 * q.val + k.val, by omega⟩

theorem group_val (r : Fin 256) (l : Fin 128) : k0_pay28 (ix2 r l) = BitVec.ofNat 32 (l.val / 16) := by
  pointwise [k0_pay28]
  revert l
  decide

theorem clear_val (n : BitVec 32) (r : Fin 256) (q : Fin 8) (k : Fin 16) : clear n (ix2 r (lane q k)) =
    BitVec.ofBool (BitVec.ofNat 32 q.val &&& n == 0#32) := by
  pointwise [clear, group_val]
  rw [show (16 * q.val + k.val) / 16 = q.val by omega]
  rfl

section
variable (n d : BitVec 32) (a b : FVec Ideal S256x128 .bf16) (r : Fin 256) (q q' : Fin 8) (k : Fin 16)

theorem turn_val (h : (16 * q.val + 128 - d.toNat % 128) % 128 = 16 * q'.val) :
    dynamicRotate 1 d none b rotates_S256x128_d1 (ix2 r (lane q k)) = b (ix2 r (lane q' k)) := by
  pointwise
  congr 2
  apply Fin.ext
  show (16 * q.val + k.val + 128 - (d.toNat + 0) % 128) % 128 = 16 * q'.val + k.val
  omega

theorem low_clear (h : (BitVec.ofNat 32 q.val &&& n == 0#32) = true) : low n d a b (ix2 r (lane q k)) = a (ix2 r (lane q k)) := by
  unfold low
  rw [select, clear_val, h]; rfl
theorem low_set (h : (BitVec.ofNat 32 q.val &&& n == 0#32) = false) (h' : (16 * q.val + 128 - d.toNat % 128) % 128 = 16 * q'.val) :
    low n d a b (ix2 r (lane q k)) = b (ix2 r (lane q' k)) := by
  unfold low
  rw [select, clear_val, h, turn_val d b r q q' k h']; rfl
theorem high_clear (h : (BitVec.ofNat 32 q.val &&& n == 0#32) = true) (h' : (16 * q.val + 128 - d.toNat % 128) % 128 = 16 * q'.val) :
    high n d a b (ix2 r (lane q k)) = a (ix2 r (lane q' k)) := by
  unfold high
  rw [select, clear_val, h, turn_val d a r q q' k h']; rfl
theorem high_set (h : (BitVec.ofNat 32 q.val &&& n == 0#32) = false) : high n d a b (ix2 r (lane q k)) = b (ix2 r (lane q k)) := by
  unfold high
  rw [select, clear_val, h]; rfl

end

/-- Two numbers below eight with the bit `s` exchanged. -/
def flip (s : Fin 8) (x : Fin 8 × Fin 8) : Fin 8 × Fin 8 :=
  if x.1.val / s.val % 2 = x.2.val / s.val % 2 then x
  else if x.1.val / s.val % 2 = 0 then (x.1 + s, x.2 - s) else (x.1 - s, x.2 + s)

section
variable (W : Fin 8 → FVec Ideal S256x128 .bf16) (r : Fin 256) (k : Fin 16)

set_option maxHeartbeats 4000000 in
theorem net4_val (p q : Fin 8) : net4 W p (ix2 r (lane q k)) = W (flip 4 (p, q)).1 (ix2 r (lane (flip 4 (p, q)).2 k)) := by
  fin_cases p <;> fin_cases q <;>
    first
    | exact low_clear _ _ _ _ _ _ _ (by decide) | exact low_set _ _ _ _ _ _ _ _ (by decide) (by decide)
    | exact high_set _ _ _ _ _ _ _ (by decide) | exact high_clear _ _ _ _ _ _ _ _ (by decide) (by decide)
set_option maxHeartbeats 4000000 in
theorem net2_val (p q : Fin 8) : net2 W p (ix2 r (lane q k)) = W (flip 2 (p, q)).1 (ix2 r (lane (flip 2 (p, q)).2 k)) := by
  fin_cases p <;> fin_cases q <;>
    first
    | exact low_clear _ _ _ _ _ _ _ (by decide) | exact low_set _ _ _ _ _ _ _ _ (by decide) (by decide)
    | exact high_set _ _ _ _ _ _ _ (by decide) | exact high_clear _ _ _ _ _ _ _ _ (by decide) (by decide)
set_option maxHeartbeats 4000000 in
theorem net1_val (p q : Fin 8) : net1 W p (ix2 r (lane q k)) = W (flip 1 (p, q)).1 (ix2 r (lane (flip 1 (p, q)).2 k)) := by
  fin_cases p <;> fin_cases q <;>
    first
    | exact low_clear _ _ _ _ _ _ _ (by decide) | exact low_set _ _ _ _ _ _ _ _ (by decide) (by decide)
    | exact high_set _ _ _ _ _ _ _ (by decide) | exact high_clear _ _ _ _ _ _ _ _ (by decide) (by decide)

theorem flips : ∀ p q : Fin 8, flip 4 (flip 2 (flip 1 (p, q))) = (q, p) := by decide

/-- The three exchanges together: array `p` at lane group `q` is array `q` at lane group `p`. -/
theorem net_val (p q : Fin 8) : net W p (ix2 r (lane q k)) = W q (ix2 r (lane p k)) := by
  unfold net
  rw [net1_val, net2_val, net4_val, flips]

end

theorem rows_val (p : Fin 2) (v : FVec Ideal S1x32x16x128 .bf16) (r : Fin 256) (l : Fin 128) :
    rows p v (ix2 r l) = v (ix4 (0 : Fin 1) (⟨(2 * r.val + p.val) / 16, by omega⟩ : Fin 32) (⟨(2 * r.val + p.val) % 16, by omega⟩ : Fin 16) l) := by
  pointwise [rows, k0_pay4]

section
variable (X Y : Fin 8 → FVec Ideal S1x32x16x128 .bf16) (g : Fin 8) (c : Fin 32) (b : Fin 16) (q : Fin 8) (k : Fin 16)

theorem pieceX : piece X Y g (ix3 (0 : Fin 1) (⟨16 * c.val + b.val, by omega⟩ : Fin 512) (⟨16 * q.val + k.val, by omega⟩ : Fin 256)) =
    X q (ix4 (0 : Fin 1) c b (lane g k)) := by
  pointwise [piece, k0_pay3]
  rw [dif_pos (by omega), dif_pos (by omega)]
  have e (p : Fin 2) (hp : (16 * c.val + b.val) % 2 = p.val) :
      net (fun p' => rows p (X p')) g (ix2 ⟨(16 * c.val + b.val) / 2, by omega⟩ (lane q k)) = X q (ix4 (0 : Fin 1) c b (lane g k)) := by
    rw [net_val, rows_val]
    congr 2 <;> apply Fin.ext
    · show (2 * ((16 * c.val + b.val) / 2) + p.val) / 16 = c.val
      omega
    · show (2 * ((16 * c.val + b.val) / 2) + p.val) % 16 = b.val
      omega
  split
  · next h => exact e 0 h
  · next h => exact e 1 (by show _ = 1; omega)

theorem pieceY : piece X Y g (ix3 (0 : Fin 1) (⟨16 * c.val + b.val, by omega⟩ : Fin 512) (⟨16 * (8 + q.val) + k.val, by omega⟩ : Fin 256)) =
    Y q (ix4 (0 : Fin 1) c b (lane g k)) := by
  pointwise [piece, k0_pay3]
  rw [dif_neg (by omega), dif_neg (by omega)]
  have e (p : Fin 2) (hp : (16 * c.val + b.val) % 2 = p.val) :
      net (fun p' => rows p (Y p')) g (ix2 ⟨(16 * c.val + b.val) / 2, by omega⟩ ⟨16 * (8 + q.val) + k.val - 128, by omega⟩) = Y q (ix4 (0 : Fin 1) c b (lane g k)) := by
    rw [show (⟨16 * (8 + q.val) + k.val - 128, by omega⟩ : Fin 128) = lane q k from Fin.ext (by show 16 * (8 + q.val) + k.val - 128 = 16 * q.val + k.val; omega)]
    rw [net_val, rows_val]
    congr 2 <;> apply Fin.ext
    · show (2 * ((16 * c.val + b.val) / 2) + p.val) / 16 = c.val
      omega
    · show (2 * ((16 * c.val + b.val) / 2) + p.val) % 16 = b.val
      omega
  split
  · next h => exact e 0 h
  · next h => exact e 1 (by show _ = 1; omega)

end

theorem lotX_val (x0 : Vec Ideal S16x32x16x128 .bf16) (q : Fin 8) (c : Fin 32) (b : Fin 16) (l : Fin 128) :
    lotX x0 q (ix4 (0 : Fin 1) c b l) = x0 (ix4 (⟨q.val, by omega⟩ : Fin 16) c b l) := by
  fin_cases q <;> refine congrArg x0 ?_ <;> funext z <;> apply Fin.ext <;> fin_cases z <;>
    first | rfl | exact (Nat.zero_add _).trans (Nat.one_mul _)
theorem lotY_val (x0 : Vec Ideal S16x32x16x128 .bf16) (q : Fin 8) (c : Fin 32) (b : Fin 16) (l : Fin 128) :
    lotY x0 q (ix4 (0 : Fin 1) c b l) = x0 (ix4 (⟨8 + q.val, by omega⟩ : Fin 16) c b l) := by
  fin_cases q <;> refine congrArg x0 ?_ <;> funext z <;> apply Fin.ext <;> fin_cases z <;>
    first | rfl | exact (Nat.zero_add _).trans (Nat.one_mul _)

/-- A grid point's block as one function of the block it reads. -/
def G (x0 : Vec Ideal S16x32x16x128 .bf16) : FVec Ideal S8x512x256 .bf16 := fun y =>
  x0 (ix4 (⟨(y 2).val / 16, by have := (y 2).isLt; exact Nat.div_lt_of_lt_mul this⟩ : Fin 16)
    (⟨(y 1).val / 16, by have := (y 1).isLt; exact Nat.div_lt_of_lt_mul this⟩ : Fin 32)
    (⟨(y 1).val % 16, Nat.mod_lt _ (by decide)⟩ : Fin 16)
    (⟨16 * (y 0).val + (y 2).val % 16, by have : (y 0).val < 8 := (y 0).isLt; omega⟩ : Fin 128))

theorem piece_G (x0 : Vec Ideal S16x32x16x128 .bf16) (g : Fin 8) (z : Fin 1) (e : Fin 512) (l : Fin 256) :
    piece (lotX x0) (lotY x0) g (ix3 z e l) = G x0 (ix3 g e l) := by
  obtain rfl : z = 0 := Subsingleton.elim _ _
  have he : e = ⟨16 * (⟨e.val / 16, by omega⟩ : Fin 32).val + (⟨e.val % 16, by omega⟩ : Fin 16).val, by show 16 * (e.val / 16) + e.val % 16 < 512; omega⟩ :=
    Fin.ext (by show e.val = 16 * (e.val / 16) + e.val % 16; omega)
  by_cases h : l.val < 128
  · have hl : l = ⟨16 * (⟨l.val / 16, by omega⟩ : Fin 8).val + (⟨l.val % 16, by omega⟩ : Fin 16).val, by show 16 * (l.val / 16) + l.val % 16 < 256; omega⟩ :=
      Fin.ext (by show l.val = 16 * (l.val / 16) + l.val % 16; omega)
    conv_lhs => rw [he, hl]
    rw [pieceX, lotX_val]
    rfl
  · have hl : l = ⟨16 * (8 + (⟨l.val / 16 - 8, by omega⟩ : Fin 8).val) + (⟨l.val % 16, by omega⟩ : Fin 16).val, by show 16 * (8 + (l.val / 16 - 8)) + l.val % 16 < 256; omega⟩ :=
      Fin.ext (by show l.val = 16 * (8 + (l.val / 16 - 8)) + l.val % 16; omega)
    conv_lhs => rw [he, hl]
    rw [pieceY, lotY_val]
    refine congrArg (fun t : Fin 16 => x0 (ix4 t _ _ _)) (Fin.ext ?_)
    show 8 + (l.val / 16 - 8) = l.val / 16
    omega

theorem out_val (x0 : Vec Ideal S16x32x16x128 .bf16) : out0_1 x0 = G x0 := by
  rw [out_eq]
  funext y
  refine View.canon_apply_of_pieces (Val := Elt Ideal) (e := .bf16) (G x0) _ ?_ y (cover0_1 _ _ _ _ _ _ _ _ y)
  intro p hp
  simp only [List.mem_cons, List.not_mem_nil, or_false] at hp
  rcases hp with rfl | rfl | rfl | rfl | rfl | rfl | rfl | rfl <;> intro x
  all_goals
    obtain ⟨z, e, l, rfl⟩ : ∃ (z : Fin 1) (e : Fin 512) (l : Fin 256), x = ix3 z e l := ⟨x 0, x 1, x 2, by funext a; fin_cases a <;> rfl⟩
    refine (piece_G x0 _ z e l).trans (congrArg (G x0) ?_)
    obtain rfl : z = 0 := Subsingleton.elim _ _
    funext a; apply Fin.ext
    fin_cases a <;> first | rfl | exact ((Nat.zero_add _).trans (Nat.one_mul _)).symm

/-! ## The array -/

/-- The reference's array: by channel group, then chunk and batch, then position in the chunk and channel. -/
def groups (a : FVec Ideal S16x4096x512 .f32) : FVec Ideal S32x4096x256 .bf16 :=
  truncf .bf16 (shapeCast S32x4096x256 (transpose ⟨5, ![32, 256, 16, 16, 16]⟩ [3, 1, 0, 2, 4]
    (shapeCast ⟨5, ![16, 256, 16, 32, 16]⟩ (shapeCast ⟨4, ![16, 4096, 32, 16]⟩ a (by decide)) (by decide)) (by decide)) (by decide)) bitsLt_bf16_f32

theorem groups_val (a : FVec Ideal S16x4096x512 .f32) (g : Fin 32) (c : Fin 256) (b t k : Fin 16) :
    groups a (ix3 g (⟨16 * c.val + b.val, by omega⟩ : Fin 4096) (⟨16 * t.val + k.val, by omega⟩ : Fin 256))
      = a (ix3 b (⟨16 * c.val + t.val, by omega⟩ : Fin 4096) (⟨16 * g.val + k.val, by omega⟩ : Fin 512)) := by
  pointwise [groups]
  simp only [Nat.mul_comm 16]

variable (m : (ℓ : Loc nD τ sig) → Buf (Elt Ideal) ℓ) (c : Dev nD)

/-- The argument. -/
abbrev A : FVec Ideal S16x4096x512 .f32 := m ((c.tc : Thread nD τ).loc main_arg0)

theorem v_val (t : Fin 16) (k : Fin 256) (b : Fin 16) (d : Fin 512) :
    V m c main_v2 (ix4 t k b d) = A m c (ix3 b (⟨16 * k.val + t.val, by omega⟩ : Fin 4096) d) := by
  unfold V
  after_reads_simp
  pointwise
  simp only [Nat.mul_comm 16]

theorem idx0 : ∀ t : Fin cfg0.N, win0_0.index t = ![0, t.val / 4, 0, t.val % 4] := (by decide +kernel : ∀ t : Fin grid0.N, win0_0.index t = ![0, t.val / 4, 0, t.val % 4])
theorem idx1 : ∀ t : Fin cfg0.N, win0_1.index t = ![t.val % 4, t.val / 4, 0] := (by decide +kernel : ∀ t : Fin grid0.N, win0_1.index t = ![t.val % 4, t.val / 4, 0])
theorem flush1 : ∀ t : Fin cfg0.N, (cfg0.win 1).flush t = true := (by decide +kernel : ∀ t : Fin grid0.N, win0_1.flush t = true)

section
variable (t : Fin cfg0.N) (i : Fin 8) (j : Fin 4) (hi : t.val / 4 = i.val) (hj : t.val % 4 = j.val)
include hi hj

theorem blk0 (s : Fin 16) (k : Fin 32) (b : Fin 16) (d : Fin 128) :
    iblk m c 0 t (ix4 s k b d) = V m c main_v2 (ix4 s (⟨i.val * 32 + k.val, by omega⟩ : Fin 256) b (⟨j.val * 128 + d.val, by omega⟩ : Fin 512)) := by
  blk_ext [iblk, idx0 t, hi, hj]
theorem at1 (X : FVec Ideal S32x4096x256 .bf16) (g : Fin 8) (e : Fin 512) (l : Fin 256) :
    X (ix3 (⟨j.val * 8 + g.val, by omega⟩ : Fin 32) (⟨i.val * 512 + e.val, by omega⟩ : Fin 4096) l) = ((cfg0.win 1).blk t).view.read (Elt Ideal) X (ix3 g e l) := by
  blk_ext [idx1 t, hi, hj]
omit hi hj in
theorem cut1 (Y : FVec Ideal S8x512x256 .bf16) (g : Fin 8) (e : Fin 512) (l : Fin 256) :
    (cfg0.win 1).cut (grid0.coords t) Y (ix3 g e l) = Y (ix3 g e l) := by
  blk_ext [idx1 t]

theorem res1 (g : Fin 8) (k : Fin 32) (b s n : Fin 16) :
    (dats m 0 c).arrAt 1 cfg0.N (ix3 (⟨j.val * 8 + g.val, by omega⟩ : Fin 32) (⟨i.val * 512 + (16 * k.val + b.val), by omega⟩ : Fin 4096) (⟨16 * s.val + n.val, by omega⟩ : Fin 256))
      = A m c (ix3 b (⟨16 * (i.val * 32 + k.val) + s.val, by omega⟩ : Fin 4096) (⟨j.val * 128 + (16 * g.val + n.val), by omega⟩ : Fin 512)) := by
  refine (at1 t i j hi hj _ g ⟨16 * k.val + b.val, by omega⟩ _).trans
    ((congrFun ((blocks1 m c t (flush1 t)).trans (flushed1 m c t)) _).trans ((cut1 t _ _ _ _).trans ((congrFun (out_val _) _).trans ?_)))
  have h : G (iblk m c 0 t) (ix3 g (⟨16 * k.val + b.val, by omega⟩ : Fin 512) (⟨16 * s.val + n.val, by omega⟩ : Fin 256)) = iblk m c 0 t (ix4 s k b (lane g n)) := by
    refine congrArg (iblk m c 0 t) ?_
    funext a; apply Fin.ext
    fin_cases a
    · show (16 * s.val + n.val) / 16 = s.val
      omega
    · show (16 * k.val + b.val) / 16 = k.val
      omega
    · show (16 * k.val + b.val) % 16 = b.val
      omega
    · show 16 * g.val + (16 * s.val + n.val) % 16 = 16 * g.val + n.val
      omega
  exact h.trans ((blk0 m c t i j hi hj s k b _).trans (v_val m c _ _ _ _))

end

/-- The point of chunk block `i` and lane block `j`. -/
def point (i : Fin 8) (j : Fin 4) : Fin cfg0.N := Fin.cast (by decide +kernel : 32 = grid0.N) ⟨i.val * 4 + j.val, by omega⟩

/-- The call's array is the reference's. -/
theorem equal : groups (A m c) = (dats m 0 c).arrAt 1 cfg0.N := by
  funext x
  obtain ⟨g, e, l, rfl⟩ : ∃ (g : Fin 32) (e : Fin 4096) (l : Fin 256), x = ix3 g e l := ⟨x 0, x 1, x 2, by funext a; fin_cases a <;> rfl⟩
  obtain ⟨j, g, rfl⟩ : ∃ (j : Fin 4) (g' : Fin 8), g = ⟨j.val * 8 + g'.val, by omega⟩ :=
    ⟨⟨g.val / 8, by omega⟩, ⟨g.val % 8, by omega⟩, Fin.ext (by show g.val = g.val / 8 * 8 + g.val % 8; omega)⟩
  obtain ⟨i, k, b, rfl⟩ : ∃ (i : Fin 8) (k : Fin 32) (b : Fin 16), e = ⟨i.val * 512 + (16 * k.val + b.val), by omega⟩ :=
    ⟨⟨e.val / 512, by omega⟩, ⟨e.val % 512 / 16, by omega⟩, ⟨e.val % 16, by omega⟩, Fin.ext (by show e.val = e.val / 512 * 512 + (16 * (e.val % 512 / 16) + e.val % 16); omega)⟩
  obtain ⟨s, n, rfl⟩ : ∃ s n : Fin 16, l = ⟨16 * s.val + n.val, by omega⟩ :=
    ⟨⟨l.val / 16, by omega⟩, ⟨l.val % 16, by omega⟩, Fin.ext (by show l.val = 16 * (l.val / 16) + l.val % 16; omega)⟩
  refine Eq.trans ?_ (res1 m c (point i j) i j (by show (i.val * 4 + j.val) / 4 = i.val; omega) (by show (i.val * 4 + j.val) % 4 = j.val; omega) g k b s n).symm
  have h := groups_val (A m c) ⟨j.val * 8 + g.val, by omega⟩ ⟨i.val * 32 + k.val, by omega⟩ b s n
  refine Eq.trans (congrArg (groups (A m c)) ?_) (h.trans (congrArg (A m c) ?_))
  · funext a; apply Fin.ext
    fin_cases a
    · rfl
    · show i.val * 512 + (16 * k.val + b.val) = 16 * (i.val * 32 + k.val) + b.val
      omega
    · rfl
  · funext a; apply Fin.ext
    fin_cases a
    · rfl
    · rfl
    · show 16 * (j.val * 8 + g.val) + n.val = j.val * 128 + (16 * g.val + n.val)
      omega

end Cert.Groups

end
-- ==== Proof.Ungroup.lean ====
/- The regrouping of the result by step of time: eight steps of time change places with eight groups of lanes. -/
module

public import proofs.«01_k».proof.Proof.Gen.Kernel7Ideal.Value
public import Idealize.ShloMosaic.Lib.StableHlo.RunRead
public import Idealize.ShloMosaic.Lib.Pipeline.ValueKit
public import Idealize.ShloMosaic.Lib.Pointwise

@[expose] public section

set_option maxRecDepth 16384

noncomputable section

namespace Cert.Ungroup

open Cert.Kernel7Ideal Cert.Kernel7Ideal.Gen Cert.Kernel7Ideal.Value
open Idealize.ShloMosaic Idealize.ShloMosaic.TcCoe Idealize.ShloMosaic.Tactic

/-! ## One exchange of lane groups -/

/-- Whether a lane's group of sixteen has the bit `n` clear. -/
def clear (n : BitVec 32) : IVec S256x128 1 :=
  cmpi .eq (andi k0_pay46 (broadcast S256x128 n)) (broadcast S256x128 0#32)

/-- The lower array of a pair after the exchange over the bit `n`, the other moved up by `d` lanes. -/
def low (n d : BitVec 32) (a b : FVec Ideal S256x128 .bf16) : FVec Ideal S256x128 .bf16 :=
  select (clear n) a (dynamicRotate 1 d none b rotates_S256x128_d1)
/-- The upper array of a pair after the exchange over the bit `n`, the other moved up by `d` lanes. -/
def high (n d : BitVec 32) (a b : FVec Ideal S256x128 .bf16) : FVec Ideal S256x128 .bf16 :=
  select (clear n) (dynamicRotate 1 d none a rotates_S256x128_d1) b

/-- The exchange over the bit 4, of eight arrays. -/
def net4 (W : Fin 8 → FVec Ideal S256x128 .bf16) : Fin 8 → FVec Ideal S256x128 .bf16 :=
  ![low 4#32 64#32 (W 0) (W 4), low 4#32 64#32 (W 1) (W 5), low 4#32 64#32 (W 2) (W 6), low 4#32 64#32 (W 3) (W 7),
    high 4#32 64#32 (W 0) (W 4), high 4#32 64#32 (W 1) (W 5), high 4#32 64#32 (W 2) (W 6), high 4#32 64#32 (W 3) (W 7)]
/-- The exchange over the bit 2. -/
def net2 (W : Fin 8 → FVec Ideal S256x128 .bf16) : Fin 8 → FVec Ideal S256x128 .bf16 :=
  ![low 2#32 32#32 (W 0) (W 2), low 2#32 32#32 (W 1) (W 3), high 2#32 96#32 (W 0) (W 2), high 2#32 96#32 (W 1) (W 3),
    low 2#32 32#32 (W 4) (W 6), low 2#32 32#32 (W 5) (W 7), high 2#32 96#32 (W 4) (W 6), high 2#32 96#32 (W 5) (W 7)]
/-- The exchange over the bit 1. -/
def net1 (W : Fin 8 → FVec Ideal S256x128 .bf16) : Fin 8 → FVec Ideal S256x128 .bf16 :=
  ![low 1#32 16#32 (W 0) (W 1), high 1#32 112#32 (W 0) (W 1), low 1#32 16#32 (W 2) (W 3), high 1#32 112#32 (W 2) (W 3),
    low 1#32 16#32 (W 4) (W 5), high 1#32 112#32 (W 4) (W 5), low 1#32 16#32 (W 6) (W 7), high 1#32 112#32 (W 6) (W 7)]
/-- The three exchanges. -/
def net (W : Fin 8 → FVec Ideal S256x128 .bf16) : Fin 8 → FVec Ideal S256x128 .bf16 := net1 (net2 (net4 W))

/-- The rows of one parity of a loaded channel group, its first eight steps of time. -/
def rowsX (p : Fin 2) (v : FVec Ideal S1x512x256 .bf16) : FVec Ideal S256x128 .bf16 :=
  extractStridedSlice S256x128 ![0, 0] (rowsOfParity p S256x256 (k0_pay6 v) bitcasts_S512x256_w16_S256x256_w32) slices_S256x256_o0_0_S256x128
/-- The rows of one parity of a loaded channel group, its last eight steps of time. -/
def rowsY (p : Fin 2) (v : FVec Ideal S1x512x256 .bf16) : FVec Ideal S256x128 .bf16 :=
  extractStridedSlice S256x128 ![0, 128] (rowsOfParity p S256x256 (k0_pay6 v) bitcasts_S512x256_w16_S256x256_w32) slices_S256x256_o0_128_S256x128

/-- The stored piece of step `t`, of the first eight, from the eight channel groups. -/
def pieceX (Z : Fin 8 → FVec Ideal S1x512x256 .bf16) (t : Fin 8) : FVec Ideal S1x32x16x128 .bf16 :=
  k0_pay1 (net (fun g => rowsX 0 (Z g)) t) (net (fun g => rowsX 1 (Z g)) t)
/-- The stored piece of step `8 + t`. -/
def pieceY (Z : Fin 8 → FVec Ideal S1x512x256 .bf16) (t : Fin 8) : FVec Ideal S1x32x16x128 .bf16 :=
  k0_pay1 (net (fun g => rowsY 0 (Z g)) t) (net (fun g => rowsY 1 (Z g)) t)

/-- The eight channel groups, loaded. -/
def lot (x0 : Vec Ideal S8x512x256 .bf16) : Fin 8 → FVec Ideal S1x512x256 .bf16 :=
  ![View.ld x0 r0_0, View.ld x0 r0_1, View.ld x0 r0_2, View.ld x0 r0_3, View.ld x0 r0_4, View.ld x0 r0_5, View.ld x0 r0_6, View.ld x0 r0_7]

/-- What a grid point stores is the sixteen pieces. -/
theorem out_eq (x0 : Vec Ideal S8x512x256 .bf16) : out0_1 x0 = View.canon
    [⟨r0_23, pieceY (lot x0) 7⟩, ⟨r0_22, pieceY (lot x0) 6⟩, ⟨r0_21, pieceY (lot x0) 5⟩, ⟨r0_20, pieceY (lot x0) 4⟩,
     ⟨r0_19, pieceY (lot x0) 3⟩, ⟨r0_18, pieceY (lot x0) 2⟩, ⟨r0_17, pieceY (lot x0) 1⟩, ⟨r0_16, pieceY (lot x0) 0⟩,
     ⟨r0_15, pieceX (lot x0) 7⟩, ⟨r0_14, pieceX (lot x0) 6⟩, ⟨r0_13, pieceX (lot x0) 5⟩, ⟨r0_12, pieceX (lot x0) 4⟩,
     ⟨r0_11, pieceX (lot x0) 3⟩, ⟨r0_10, pieceX (lot x0) 2⟩, ⟨r0_9, pieceX (lot x0) 1⟩, ⟨r0_8, pieceX (lot x0) 0⟩] := by
  rfl

/-! ## Values -/

/-- Lane `k` of group `q`. -/
abbrev lane (q : Fin 8) (k : Fin 16) : Fin 128 := ⟨16 * q.val + k.val, by omega⟩

theorem group_val (r : Fin 256) (l : Fin 128) : k0_pay46 (ix2 r l) = BitVec.ofNat 32 (l.val / 16) := by
  pointwise [k0_pay46]
  revert l
  decide

theorem clear_val (n : BitVec 32) (r : Fin 256) (q : Fin 8) (k : Fin 16) : clear n (ix2 r (lane q k)) =
    BitVec.ofBool (BitVec.ofNat 32 q.val &&& n == 0#32) := by
  pointwise [clear, group_val]
  rw [show (16 * q.val + k.val) / 16 = q.val by omega]
  rfl

section
variable (n d : BitVec 32) (a b : FVec Ideal S256x128 .bf16) (r : Fin 256) (q q' : Fin 8) (k : Fin 16)

theorem turn_val (h : (16 * q.val + 128 - d.toNat % 128) % 128 = 16 * q'.val) :
    dynamicRotate 1 d none b rotates_S256x128_d1 (ix2 r (lane q k)) = b (ix2 r (lane q' k)) := by
  pointwise
  congr 2
  apply Fin.ext
  show (16 * q.val + k.val + 128 - (d.toNat + 0) % 128) % 128 = 16 * q'.val + k.val
  omega

theorem low_clear (h : (BitVec.ofNat 32 q.val &&& n == 0#32) = true) : low n d a b (ix2 r (lane q k)) = a (ix2 r (lane q k)) := by
  unfold low
  rw [select, clear_val, h]; rfl
theorem low_set (h : (BitVec.ofNat 32 q.val &&& n == 0#32) = false) (h' : (16 * q.val + 128 - d.toNat % 128) % 128 = 16 * q'.val) :
    low n d a b (ix2 r (lane q k)) = b (ix2 r (lane q' k)) := by
  unfold low
  rw [select, clear_val, h, turn_val d b r q q' k h']; rfl
theorem high_clear (h : (BitVec.ofNat 32 q.val &&& n == 0#32) = true) (h' : (16 * q.val + 128 - d.toNat % 128) % 128 = 16 * q'.val) :
    high n d a b (ix2 r (lane q k)) = a (ix2 r (lane q' k)) := by
  unfold high
  rw [select, clear_val, h, turn_val d a r q q' k h']; rfl
theorem high_set (h : (BitVec.ofNat 32 q.val &&& n == 0#32) = false) : high n d a b (ix2 r (lane q k)) = b (ix2 r (lane q k)) := by
  unfold high
  rw [select, clear_val, h]; rfl

end

/-- Two numbers below eight with the bit `s` exchanged. -/
def flip (s : Fin 8) (x : Fin 8 × Fin 8) : Fin 8 × Fin 8 :=
  if x.1.val / s.val % 2 = x.2.val / s.val % 2 then x
  else if x.1.val / s.val % 2 = 0 then (x.1 + s, x.2 - s) else (x.1 - s, x.2 + s)

section
variable (W : Fin 8 → FVec Ideal S256x128 .bf16) (r : Fin 256) (k : Fin 16)

set_option maxHeartbeats 4000000 in
theorem net4_val (p q : Fin 8) : net4 W p (ix2 r (lane q k)) = W (flip 4 (p, q)).1 (ix2 r (lane (flip 4 (p, q)).2 k)) := by
  fin_cases p <;> fin_cases q <;>
    first
    | exact low_clear _ _ _ _ _ _ _ (by decide) | exact low_set _ _ _ _ _ _ _ _ (by decide) (by decide)
    | exact high_set _ _ _ _ _ _ _ (by decide) | exact high_clear _ _ _ _ _ _ _ _ (by decide) (by decide)
set_option maxHeartbeats 4000000 in
theorem net2_val (p q : Fin 8) : net2 W p (ix2 r (lane q k)) = W (flip 2 (p, q)).1 (ix2 r (lane (flip 2 (p, q)).2 k)) := by
  fin_cases p <;> fin_cases q <;>
    first
    | exact low_clear _ _ _ _ _ _ _ (by decide) | exact low_set _ _ _ _ _ _ _ _ (by decide) (by decide)
    | exact high_set _ _ _ _ _ _ _ (by decide) | exact high_clear _ _ _ _ _ _ _ _ (by decide) (by decide)
set_option maxHeartbeats 4000000 in
theorem net1_val (p q : Fin 8) : net1 W p (ix2 r (lane q k)) = W (flip 1 (p, q)).1 (ix2 r (lane (flip 1 (p, q)).2 k)) := by
  fin_cases p <;> fin_cases q <;>
    first
    | exact low_clear _ _ _ _ _ _ _ (by decide) | exact low_set _ _ _ _ _ _ _ _ (by decide) (by decide)
    | exact high_set _ _ _ _ _ _ _ (by decide) | exact high_clear _ _ _ _ _ _ _ _ (by decide) (by decide)

theorem flips : ∀ p q : Fin 8, flip 4 (flip 2 (flip 1 (p, q))) = (q, p) := by decide

/-- The three exchanges together: array `p` at lane group `q` is array `q` at lane group `p`. -/
theorem net_val (p q : Fin 8) : net W p (ix2 r (lane q k)) = W q (ix2 r (lane p k)) := by
  unfold net
  rw [net1_val, net2_val, net4_val, flips]

end

theorem rowsX_val (p : Fin 2) (v : FVec Ideal S1x512x256 .bf16) (r : Fin 256) (l : Fin 128) :
    rowsX p v (ix2 r l) = v (ix3 (0 : Fin 1) (⟨2 * r.val + p.val, by omega⟩ : Fin 512) (⟨l.val, by omega⟩ : Fin 256)) := by
  pointwise [rowsX, k0_pay6]
theorem rowsY_val (p : Fin 2) (v : FVec Ideal S1x512x256 .bf16) (r : Fin 256) (l : Fin 128) :
    rowsY p v (ix2 r l) = v (ix3 (0 : Fin 1) (⟨2 * r.val + p.val, by omega⟩ : Fin 512) (⟨128 + l.val, by omega⟩ : Fin 256)) := by
  pointwise [rowsY, k0_pay6]

section
variable (Z : Fin 8 → FVec Ideal S1x512x256 .bf16) (t : Fin 8) (c : Fin 32) (b : Fin 16) (q : Fin 8) (k : Fin 16)

theorem pieceX_val : pieceX Z t (ix4 (0 : Fin 1) c b (lane q k)) =
    Z q (ix3 (0 : Fin 1) (⟨16 * c.val + b.val, by omega⟩ : Fin 512) (⟨16 * t.val + k.val, by omega⟩ : Fin 256)) := by
  have e (p : Fin 2) (hp : (c.val * 16 + b.val) % 2 = p.val) :
      net (fun g => rowsX p (Z g)) t (ix2 ⟨(c.val * 16 + b.val) / 2, by omega⟩ (lane q k)) =
        Z q (ix3 (0 : Fin 1) (⟨16 * c.val + b.val, by omega⟩ : Fin 512) (⟨16 * t.val + k.val, by omega⟩ : Fin 256)) := by
    rw [net_val, rowsX_val]
    refine congrArg (fun e : Fin 512 => Z q (ix3 _ e _)) (Fin.ext ?_)
    show 2 * ((c.val * 16 + b.val) / 2) + p.val = 16 * c.val + b.val
    omega
  pointwise [pieceX, k0_pay1]
  split
  · next h => exact e 0 h
  · next h => exact e 1 (by show _ = 1; omega)

theorem pieceY_val : pieceY Z t (ix4 (0 : Fin 1) c b (lane q k)) =
    Z q (ix3 (0 : Fin 1) (⟨16 * c.val + b.val, by omega⟩ : Fin 512) (⟨128 + (16 * t.val + k.val), by omega⟩ : Fin 256)) := by
  have e (p : Fin 2) (hp : (c.val * 16 + b.val) % 2 = p.val) :
      net (fun g => rowsY p (Z g)) t (ix2 ⟨(c.val * 16 + b.val) / 2, by omega⟩ (lane q k)) =
        Z q (ix3 (0 : Fin 1) (⟨16 * c.val + b.val, by omega⟩ : Fin 512) (⟨128 + (16 * t.val + k.val), by omega⟩ : Fin 256)) := by
    rw [net_val, rowsY_val]
    refine congrArg (fun e : Fin 512 => Z q (ix3 _ e _)) (Fin.ext ?_)
    show 2 * ((c.val * 16 + b.val) / 2) + p.val = 16 * c.val + b.val
    omega
  pointwise [pieceY, k0_pay1]
  split
  · next h => exact e 0 h
  · next h => exact e 1 (by show _ = 1; omega)

end

theorem lot_val (x0 : Vec Ideal S8x512x256 .bf16) (g : Fin 8) (e : Fin 512) (l : Fin 256) :
    lot x0 g (ix3 (0 : Fin 1) e l) = x0 (ix3 g e l) := by
  fin_cases g <;> refine congrArg x0 ?_ <;> funext z <;> apply Fin.ext <;> fin_cases z <;>
    first | rfl | exact (Nat.zero_add _).trans (Nat.one_mul _)

/-- A grid point's block as one function of the block it reads. -/
def G (x0 : Vec Ideal S8x512x256 .bf16) : FVec Ideal S16x32x16x128 .bf16 := fun y =>
  x0 (ix3 (⟨(y 3).val / 16, by have := (y 3).isLt; exact Nat.div_lt_of_lt_mul this⟩ : Fin 8)
    (⟨16 * (y 1).val + (y 2).val, by have h1 : (y 1).val < 32 := (y 1).isLt; have h2 : (y 2).val < 16 := (y 2).isLt; omega⟩ : Fin 512)
    (⟨16 * (y 0).val + (y 3).val % 16, by have : (y 0).val < 16 := (y 0).isLt; omega⟩ : Fin 256))

theorem lane_eq (l : Fin 128) : l = lane ⟨l.val / 16, by omega⟩ ⟨l.val % 16, by omega⟩ :=
  Fin.ext (by show l.val = 16 * (l.val / 16) + l.val % 16; omega)

theorem pieceX_G (x0 : Vec Ideal S8x512x256 .bf16) (t : Fin 8) (z : Fin 1) (c : Fin 32) (b : Fin 16) (l : Fin 128) :
    pieceX (lot x0) t (ix4 z c b l) = G x0 (ix4 (⟨t.val, by omega⟩ : Fin 16) c b l) := by
  obtain rfl : z = 0 := Subsingleton.elim _ _
  conv_lhs => rw [lane_eq l]
  rw [pieceX_val, lot_val]
  rfl
theorem pieceY_G (x0 : Vec Ideal S8x512x256 .bf16) (t : Fin 8) (z : Fin 1) (c : Fin 32) (b : Fin 16) (l : Fin 128) :
    pieceY (lot x0) t (ix4 z c b l) = G x0 (ix4 (⟨8 + t.val, by omega⟩ : Fin 16) c b l) := by
  obtain rfl : z = 0 := Subsingleton.elim _ _
  conv_lhs => rw [lane_eq l]
  rw [pieceY_val, lot_val]
  refine congrArg (fun e : Fin 256 => x0 (ix3 _ _ e)) (Fin.ext ?_)
  show 128 + (16 * t.val + l.val % 16) = 16 * (8 + t.val) + l.val % 16
  omega

set_option maxHeartbeats 4000000 in
/-- The pieces agree with that function. -/
theorem out_val (x0 : Vec Ideal S8x512x256 .bf16) : out0_1 x0 = G x0 := by
  rw [out_eq]
  funext y
  refine View.canon_apply_of_pieces (Val := Elt Ideal) (e := .bf16) (G x0) _ ?_ y (cover0_1 _ _ _ _ _ _ _ _ _ _ _ _ _ _ _ _ y)
  intro p hp
  simp only [List.mem_cons, List.not_mem_nil, or_false] at hp
  rcases hp with rfl | rfl | rfl | rfl | rfl | rfl | rfl | rfl | hp
  iterate 8
    intro x
    obtain ⟨z, e, b, l, rfl⟩ : ∃ (z : Fin 1) (e : Fin 32) (b : Fin 16) (l : Fin 128), x = ix4 z e b l := ⟨x 0, x 1, x 2, x 3, by funext a; fin_cases a <;> rfl⟩
    refine (pieceY_G x0 _ z e b l).trans (congrArg (G x0) ?_)
    obtain rfl : z = 0 := Subsingleton.elim _ _
    funext a; apply Fin.ext
    fin_cases a <;> first | rfl | exact ((Nat.zero_add _).trans (Nat.one_mul _)).symm
  rcases hp with rfl | rfl | rfl | rfl | rfl | rfl | rfl | rfl
  all_goals
    intro x
    obtain ⟨z, e, b, l, rfl⟩ : ∃ (z : Fin 1) (e : Fin 32) (b : Fin 16) (l : Fin 128), x = ix4 z e b l := ⟨x 0, x 1, x 2, x 3, by funext a; fin_cases a <;> rfl⟩
    refine (pieceX_G x0 _ z e b l).trans (congrArg (G x0) ?_)
    obtain rfl : z = 0 := Subsingleton.elim _ _
    funext a; apply Fin.ext
    fin_cases a <;> first | rfl | exact ((Nat.zero_add _).trans (Nat.one_mul _)).symm

/-! ## The array -/

/-- The reference's array: by position in the chunk, chunk, batch and channel. -/
def steps (a : FVec Ideal S16x4096x32x16 .f32) : FVec Ideal S16x256x16x512 .bf16 :=
  truncf .bf16 (transpose S16x256x16x512 [2, 1, 0, 3]
    (shapeCast ⟨4, ![16, 256, 16, 512]⟩ (shapeCast ⟨3, ![16, 4096, 512]⟩ a (by decide)) (by decide)) (by decide)) bitsLt_bf16_f32

theorem steps_val (a : FVec Ideal S16x4096x32x16 .f32) (t : Fin 16) (c : Fin 256) (b : Fin 16) (g : Fin 32) (k : Fin 16) :
    steps a (ix4 t c b (⟨16 * g.val + k.val, by omega⟩ : Fin 512))
      = a (ix4 b (⟨16 * c.val + t.val, by omega⟩ : Fin 4096) g k) := by
  pointwise [steps]
  simp only [Nat.mul_comm 16]

variable (m : (ℓ : Loc nD τ sig) → Buf (Elt Ideal) ℓ) (c : Dev nD)

/-- The argument. -/
abbrev A : FVec Ideal S16x4096x32x16 .f32 := m ((c.tc : Thread nD τ).loc main_arg0)

theorem v_val (g : Fin 32) (k : Fin 256) (b t n : Fin 16) :
    V m c main_v3 (ix3 g (⟨16 * k.val + b.val, by omega⟩ : Fin 4096) (⟨16 * t.val + n.val, by omega⟩ : Fin 256)) = A m c (ix4 b (⟨16 * k.val + t.val, by omega⟩ : Fin 4096) g n) := by
  unfold V
  after_reads_simp
  pointwise
  simp only [Nat.mul_comm 16]

theorem idx0 : ∀ t : Fin cfg0.N, win0_0.index t = ![t.val % 4, t.val / 4, 0] := (by decide +kernel : ∀ t : Fin grid0.N, win0_0.index t = ![t.val % 4, t.val / 4, 0])
theorem idx1 : ∀ t : Fin cfg0.N, win0_1.index t = ![0, t.val / 4, 0, t.val % 4] := (by decide +kernel : ∀ t : Fin grid0.N, win0_1.index t = ![0, t.val / 4, 0, t.val % 4])
theorem flush1 : ∀ t : Fin cfg0.N, (cfg0.win 1).flush t = true := (by decide +kernel : ∀ t : Fin grid0.N, win0_1.flush t = true)

section
variable (t : Fin cfg0.N) (i : Fin 8) (j : Fin 4) (hi : t.val / 4 = i.val) (hj : t.val % 4 = j.val)
include hi hj

theorem blk0 (g : Fin 8) (e : Fin 512) (l : Fin 256) :
    iblk m c 0 t (ix3 g e l) = V m c main_v3 (ix3 (⟨j.val * 8 + g.val, by omega⟩ : Fin 32) (⟨i.val * 512 + e.val, by omega⟩ : Fin 4096) l) := by
  blk_ext [iblk, idx0 t, hi, hj]
theorem at1 (X : FVec Ideal S16x256x16x512 .bf16) (s : Fin 16) (k : Fin 32) (b : Fin 16) (d : Fin 128) :
    X (ix4 s (⟨i.val * 32 + k.val, by omega⟩ : Fin 256) b (⟨j.val * 128 + d.val, by omega⟩ : Fin 512)) = ((cfg0.win 1).blk t).view.read (Elt Ideal) X (ix4 s k b d) := by
  blk_ext [idx1 t, hi, hj]
omit hi hj in
theorem cut1 (Y : FVec Ideal S16x32x16x128 .bf16) (s : Fin 16) (k : Fin 32) (b : Fin 16) (d : Fin 128) :
    (cfg0.win 1).cut (grid0.coords t) Y (ix4 s k b d) = Y (ix4 s k b d) := by
  blk_ext [idx1 t]

theorem res1 (g : Fin 8) (k : Fin 32) (b s n : Fin 16) :
    (dats m 0 c).arrAt 1 cfg0.N (ix4 s (⟨i.val * 32 + k.val, by omega⟩ : Fin 256) b (⟨j.val * 128 + (16 * g.val + n.val), by omega⟩ : Fin 512))
      = A m c (ix4 b (⟨16 * (i.val * 32 + k.val) + s.val, by omega⟩ : Fin 4096) (⟨j.val * 8 + g.val, by omega⟩ : Fin 32) n) := by
  refine (at1 t i j hi hj _ s k b ⟨16 * g.val + n.val, by omega⟩).trans
    ((congrFun ((blocks1 m c t (flush1 t)).trans (flushed1 m c t)) _).trans ((cut1 t _ _ _ _ _).trans ((congrFun (out_val _) _).trans ?_)))
  have h : G (iblk m c 0 t) (ix4 s k b (lane g n)) = iblk m c 0 t (ix3 g (⟨16 * k.val + b.val, by omega⟩ : Fin 512) (⟨16 * s.val + n.val, by omega⟩ : Fin 256)) := by
    refine congrArg (iblk m c 0 t) ?_
    funext a; apply Fin.ext
    fin_cases a
    · show (16 * g.val + n.val) / 16 = g.val
      omega
    · rfl
    · show 16 * s.val + (16 * g.val + n.val) % 16 = 16 * s.val + n.val
      omega
  refine h.trans ((blk0 m c t i j hi hj g _ _).trans (Eq.trans (congrArg (V m c main_v3) ?_) (v_val m c ⟨j.val * 8 + g.val, by omega⟩ ⟨i.val * 32 + k.val, by omega⟩ b s n)))
  funext a; apply Fin.ext
  fin_cases a
  · rfl
  · show i.val * 512 + (16 * k.val + b.val) = 16 * (i.val * 32 + k.val) + b.val
    omega
  · rfl

end

/-- The point of chunk block `i` and lane block `j`. -/
def point (i : Fin 8) (j : Fin 4) : Fin cfg0.N := Fin.cast (by decide +kernel : 32 = grid0.N) ⟨i.val * 4 + j.val, by omega⟩

/-- The call's array is the reference's. -/
theorem equal : steps (A m c) = (dats m 0 c).arrAt 1 cfg0.N := by
  funext x
  obtain ⟨s, e, b, d, rfl⟩ : ∃ (s : Fin 16) (e : Fin 256) (b : Fin 16) (d : Fin 512), x = ix4 s e b d := ⟨x 0, x 1, x 2, x 3, by funext a; fin_cases a <;> rfl⟩
  obtain ⟨i, k, rfl⟩ : ∃ (i : Fin 8) (k : Fin 32), e = ⟨i.val * 32 + k.val, by omega⟩ :=
    ⟨⟨e.val / 32, by omega⟩, ⟨e.val % 32, by omega⟩, Fin.ext (by show e.val = e.val / 32 * 32 + e.val % 32; omega)⟩
  obtain ⟨j, g, n, rfl⟩ : ∃ (j : Fin 4) (g : Fin 8) (n : Fin 16), d = ⟨j.val * 128 + (16 * g.val + n.val), by omega⟩ :=
    ⟨⟨d.val / 128, by omega⟩, ⟨d.val % 128 / 16, by omega⟩, ⟨d.val % 16, by omega⟩, Fin.ext (by show d.val = d.val / 128 * 128 + (16 * (d.val % 128 / 16) + d.val % 16); omega)⟩
  refine Eq.trans ?_ (res1 m c (point i j) i j (by show (i.val * 4 + j.val) / 4 = i.val; omega) (by show (i.val * 4 + j.val) % 4 = j.val; omega) g k b s n).symm
  refine Eq.trans (congrArg (steps (A m c)) ?_) (steps_val (A m c) s ⟨i.val * 32 + k.val, by omega⟩ b ⟨j.val * 8 + g.val, by omega⟩ n)
  funext a; apply Fin.ext
  fin_cases a
  · rfl
  · rfl
  · rfl
  · show j.val * 128 + (16 * g.val + n.val) = 16 * (j.val * 8 + g.val) + n.val
    omega

end Cert.Ungroup

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.KernelRun
public import proofs.«01_k».proof.Proof.IdealRun
public import proofs.«01_k».proof.Proof.RefRun
public import proofs.«01_k».proof.Proof.RefValue
public import proofs.«01_k».proof.Proof.IdealValue
public import proofs.«01_k».proof.Proof.Pre
public import proofs.«01_k».proof.Proof.MergeEqual
public import proofs.«01_k».proof.Proof.ProjEqual
public import proofs.«01_k».proof.Proof.Tables
public import proofs.«01_k».proof.Proof.Groups
public import proofs.«01_k».proof.Proof.Ungroup
public import Idealize.ShloMosaic.Lib.Bf16Pair
public import Idealize.ShloMosaic.Lib.Claim
public import Idealize.ShloMosaic.Lib.Quiescent
public import Idealize.ShloMosaic.Lib.Pointwise
public import Idealize.ShloMosaic.Adequacy
public import Idealize.ShloMosaic.Init

@[expose] public section

noncomputable section

namespace Cert.Proof

open Idealize.ShloMosaic Idealize.SL.Sem

/-- The reference's loop states on one core: the generated start, then the generated step. -/
def states (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.RefRun.start m c
  | n + 1 => Cert.ReferenceIdeal.Step.step n (states m c n)

/-- The kernel's frame, over machine words. -/
theorem frame_p : Cert.quiescent_Kernel (hKernel := Cert.Kernel.Gen.facts) := fun m ρ _ => Cert.Kernel.Body.frame m ρ

/-- The kernel's frame, over extended reals. -/
theorem frame_pi : Cert.quiescent_KernelIdeal (hKernelIdeal := Cert.KernelIdeal.Gen.facts) :=
  fun m ρ _ => Cert.KernelIdeal.Body.frame m ρ

/-- The reference's frame: its run keeps the arguments, and it has no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run m ρ)

/-- Where the arguments are finite and no eigenvalue is zero, the kernel and the reference end with equal results. -/
theorem equal : Cert.algebraic_KernelIdeal_ReferenceIdeal_pre_finite_and_nonzero (hKernelIdeal := Cert.KernelIdeal.Gen.facts)
    (hReferenceIdeal := Cert.ReferenceIdeal.Gen.facts) (hPre_finite_and_nonzero := Cert.Pre.facts) := by
  intro m g m' g' hpre hagree
  refine ⟨fun c => (Cert.KernelIdeal.Body.dats m 0 c).arrAt 6 Cert.KernelIdeal.cfg0.N, ?_, ?_⟩
  · exact (θ_run Cert.KernelIdeal.defs _ _).mono (fun r h c => ⟨h.1 c, h.2 c⟩)
      (θ_run_and (Cert.KernelIdeal.Body.run_result m g) (Cert.KernelIdeal.Body.unchanged m g))
  · refine (θ_run Cert.ReferenceIdeal.defs _ _).mono (fun r h c => ⟨(h.1 c).trans ?_, (h.2 c).2⟩)
      (θ_run_and (Cert.RefRun.run_state m' g' (states m') (fun c => rfl) (fun c n => rfl)) (Cert.ReferenceIdeal.Value.run m' g'))
    obtain ⟨e0, e1, e2, e3, e4, e5, e6, e7, e8⟩ := hagree c
    obtain ⟨P, hP⟩ := @Cert.Pre.reads Cert.Pre.facts _ _ _ _ _ _ _ _ _ (hpre c)
    have h0 : states m' c 0 = Cert.ReferenceIdeal.Step.init (m' ((c.tc : Thread Cert.ReferenceIdeal.nD Cert.ReferenceIdeal.τ).loc Cert.ReferenceIdeal.main_arg0)) _ _ _ _ _ := rfl
    rw [e0, e6, e7, e8]
    rw [e0, e1, e2, e3, e4, e5] at h0
    funext x
    have hx : x = ix3 (x 0) (x 1) (x 2) := by
      funext a
      fin_cases a <;> rfl
    rw [hx]
    exact (Cert.RefValue.value hP h0 (fun n => rfl) rfl (x 0) (x 1) (x 2)).trans
      (Cert.KernelIdeal.Value.result_val (m := m) (c := c) hP (x 0) (x 1) (x 2)).symm

/-- The merge call's frame, over machine words. -/
theorem frame_p2 : Cert.quiescent_Kernel2 (hKernel2 := Cert.Kernel2.Gen.facts) := fun m ρ _ => Cert.Kernel2.Gen.frame m ρ

/-- The merge call's frame, over extended reals. -/
theorem frame_pi2 : Cert.quiescent_Kernel2Ideal (hKernel2Ideal := Cert.Kernel2Ideal.Gen.facts) :=
  fun m ρ _ => Cert.Kernel2Ideal.Gen.frame m ρ

/-- Its reference's frame. -/
theorem frame_ri2 : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems rfl r.2⟩)
    (Cert.Reference2Ideal.Value.run m ρ)

/-- Where the arguments are finite, the merge call and its reference end with equal results. -/
theorem equal2 : Cert.algebraic_Kernel2Ideal_Reference2Ideal_pre_finite (hKernel2Ideal := Cert.Kernel2Ideal.Gen.facts)
    (hReference2Ideal := Cert.Reference2Ideal.Gen.facts) (hPre_finite := Cert.Merge.Pre.facts) := by
  intro m g m' g' hpre hagree
  refine ⟨fun c => (Cert.Kernel2Ideal.Gen.dats m 0 c).arrAt 7 Cert.Kernel2Ideal.cfg0.N, fun c => (Cert.Kernel2Ideal.Gen.dats m 0 c).arrAt 8 Cert.Kernel2Ideal.cfg0.N,
    fun c => (Cert.Kernel2Ideal.Gen.dats m 0 c).arrAt 9 Cert.Kernel2Ideal.cfg0.N, Cert.Kernel2Ideal.Value.run_blocks m g, ?_⟩
  refine (θ_run Cert.Reference2Ideal.defs _ _).mono (fun r h c => ?_) (Cert.Reference2Ideal.Value.run m' g')
  obtain ⟨r0, r1, r2, rest⟩ := h c
  obtain ⟨e0, e1, e2, e3, e4, e5, e6, e7⟩ := hagree c
  obtain ⟨h0, h1, h2, h3, h4, h5, h6, h7⟩ := @Cert.Merge.Pre.reals Cert.Merge.Pre.facts _ _ _ _ _ _ _ _ (hpre c)
  refine ⟨r0.trans (Eq.trans ?_ (Cert.Merge.equal7 m c)), r1.trans (Eq.trans ?_ (Cert.Merge.equal8 m c)),
    r2.trans (Eq.trans ?_ (Cert.Merge.equal9 m c h0 h1 h2 h3 h4 h5 h6 h7)), rest⟩
  · rw [e0, e1, e2, e3, e4]
    rfl
  · rw [Cert.Merge.Ref.v44_eq, e0, e1, e2, e3, e4, e5]
  · rw [Cert.Merge.Ref.v47_eq, e0, e1, e2, e3, e4, e5, e6, e7]

/-- The projection call's frame, over machine words. -/
theorem frame_p3 : Cert.quiescent_Kernel3 (hKernel3 := Cert.Kernel3.Gen.facts) := fun m ρ _ => Cert.Kernel3.Gen.frame m ρ

/-- The projection call's frame, over extended reals. -/
theorem frame_pi3 : Cert.quiescent_Kernel3Ideal (hKernel3Ideal := Cert.Kernel3Ideal.Gen.facts) :=
  fun m ρ _ => Cert.Kernel3Ideal.Gen.frame m ρ

/-- Its reference's frame. -/
theorem frame_ri3 : Cert.quiescent_Reference3Ideal (hReference3Ideal := Cert.Reference3Ideal.Gen.facts) := fun m ρ _ =>
  (θ_run Cert.Reference3Ideal.defs _ _).mono (fun r h => ⟨fun c => (h c).2.2.2, sem_eq_zero_of_no_sems rfl r.2⟩)
    (Cert.Reference3Ideal.Value.run m ρ)

/-- Where the arguments are finite, the projection call and its reference end with equal results. -/
theorem equal3 : Cert.algebraic_Kernel3Ideal_Reference3Ideal_pre_finite3 (hKernel3Ideal := Cert.Kernel3Ideal.Gen.facts)
    (hReference3Ideal := Cert.Reference3Ideal.Gen.facts) (hPre_finite3 := Cert.Proj.Pre.facts) := by
  intro m g m' g' hpre hagree
  refine ⟨fun c => (Cert.Kernel3Ideal.Gen.dats m 0 c).arrAt 3 Cert.Kernel3Ideal.cfg0.N, fun c => (Cert.Kernel3Ideal.Gen.dats m 0 c).arrAt 4 Cert.Kernel3Ideal.cfg0.N,
    fun c => (Cert.Kernel3Ideal.Gen.dats m 0 c).arrAt 5 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨r0, r1, r2, rest⟩ := h c
  obtain ⟨e0, e1, e2, e3⟩ := hagree c
  obtain ⟨h0, h1, h2, h3⟩ := @Cert.Proj.Pre.reals Cert.Proj.Pre.facts _ _ _ _ (hpre c)
  refine ⟨r0.trans (Eq.trans ?_ (Cert.Proj.equal3 m c)), r1.trans (Eq.trans ?_ (Cert.Proj.equal4 m c h0 h1 h2 h3)),
    r2.trans (Eq.trans ?_ (Cert.Proj.equal5 m c h0 h1 h2 h3)), rest⟩
  · rw [e0, e1, e2]
    rfl
  · rw [Cert.Proj.Ref.v50_eq, e0, e1, e2, e3]
  · rw [Cert.Proj.Ref.v51_eq, e0, e1, e2, e3]

/-- The cast of the first expert table: its frame, over machine words. -/
theorem frame_p4 : Cert.quiescent_Kernel4 (hKernel4 := Cert.Kernel4.Gen.facts) := fun m ρ _ => Cert.Kernel4.Gen.frame m ρ

/-- Its frame, over extended reals. -/
theorem frame_pi4 : Cert.quiescent_Kernel4Ideal (hKernel4Ideal := Cert.Kernel4Ideal.Gen.facts) :=
  fun m ρ _ => Cert.Kernel4Ideal.Gen.frame m ρ

/-- Its reference's frame. -/
theorem frame_ri4 : Cert.quiescent_Reference4Ideal (hReference4Ideal := Cert.Reference4Ideal.Gen.facts) := fun m ρ _ =>
  (θ_run Cert.Reference4Ideal.defs _ _).mono (fun r h => ⟨fun c => (h c).2, sem_eq_zero_of_no_sems rfl r.2⟩)
    (Cert.Reference4Ideal.Value.run m ρ)

/-- It and its reference end with equal results. -/
theorem equal4 : Cert.algebraic_Kernel4Ideal_Reference4Ideal (hKernel4Ideal := Cert.Kernel4Ideal.Gen.facts)
    (hReference4Ideal := Cert.Reference4Ideal.Gen.facts) := by
  intro m g m' g' _ hagree
  refine ⟨fun c => (Cert.Kernel4Ideal.Gen.dats m 0 c).arrAt 1 Cert.Kernel4Ideal.cfg0.N, Cert.Kernel4Ideal.Value.run_blocks m g, ?_⟩
  refine (θ_run Cert.Reference4Ideal.defs _ _).mono (fun r h c => ⟨(h c).1.trans (Eq.trans ?_ (Cert.Table4.equal m c)), (h c).2⟩)
    (Cert.Reference4Ideal.Value.run m' g')
  rw [hagree c]
  rfl

/-- The cast of the second expert table: its frame, over machine words. -/
theorem frame_p5 : Cert.quiescent_Kernel5 (hKernel5 := Cert.Kernel5.Gen.facts) := fun m ρ _ => Cert.Kernel5.Gen.frame m ρ

/-- Its frame, over extended reals. -/
theorem frame_pi5 : Cert.quiescent_Kernel5Ideal (hKernel5Ideal := Cert.Kernel5Ideal.Gen.facts) :=
  fun m ρ _ => Cert.Kernel5Ideal.Gen.frame m ρ

/-- Its reference's frame. -/
theorem frame_ri5 : Cert.quiescent_Reference5Ideal (hReference5Ideal := Cert.Reference5Ideal.Gen.facts) := fun m ρ _ =>
  (θ_run Cert.Reference5Ideal.defs _ _).mono (fun r h => ⟨fun c => (h c).2, sem_eq_zero_of_no_sems rfl r.2⟩)
    (Cert.Reference5Ideal.Value.run m ρ)

/-- It and its reference end with equal results. -/
theorem equal5 : Cert.algebraic_Kernel5Ideal_Reference5Ideal (hKernel5Ideal := Cert.Kernel5Ideal.Gen.facts)
    (hReference5Ideal := Cert.Reference5Ideal.Gen.facts) := by
  intro m g m' g' _ hagree
  refine ⟨fun c => (Cert.Kernel5Ideal.Gen.dats m 0 c).arrAt 1 Cert.Kernel5Ideal.cfg0.N, Cert.Kernel5Ideal.Value.run_blocks m g, ?_⟩
  refine (θ_run Cert.Reference5Ideal.defs _ _).mono (fun r h c => ⟨(h c).1.trans (Eq.trans ?_ (Cert.Table5.equal m c)), (h c).2⟩)
    (Cert.Reference5Ideal.Value.run m' g')
  rw [hagree c]
  rfl

/-- The regrouping's frame, over machine words. -/
theorem frame_p6 : Cert.quiescent_Kernel6 (hKernel6 := Cert.Kernel6.Gen.facts) := fun m ρ _ => Cert.Kernel6.Gen.frame m ρ

/-- Its frame, over extended reals. -/
theorem frame_pi6 : Cert.quiescent_Kernel6Ideal (hKernel6Ideal := Cert.Kernel6Ideal.Gen.facts) :=
  fun m ρ _ => Cert.Kernel6Ideal.Gen.frame m ρ

/-- Its reference's frame. -/
theorem frame_ri6 : Cert.quiescent_Reference6Ideal (hReference6Ideal := Cert.Reference6Ideal.Gen.facts) := fun m ρ _ =>
  (θ_run Cert.Reference6Ideal.defs _ _).mono (fun r h => ⟨fun c => (h c).2, sem_eq_zero_of_no_sems rfl r.2⟩)
    (Cert.Reference6Ideal.Value.run m ρ)

/-- Reading each word of two rows as its two rows keeps what the words hold. -/
theorem preserves6 : Cert.preserves_Kernel6_Kernel6Ideal :=
  ⟨IdealRules.bf16_pair.statement _ _, IdealRules.bf16_pair.statement _ _⟩

/-- It and its reference end with equal results. -/
theorem equal6 : Cert.algebraic_Kernel6Ideal_Reference6Ideal (hKernel6Ideal := Cert.Kernel6Ideal.Gen.facts)
    (hReference6Ideal := Cert.Reference6Ideal.Gen.facts) := by
  intro m g m' g' _ hagree
  refine ⟨fun c => (Cert.Kernel6Ideal.Gen.dats m 0 c).arrAt 1 Cert.Kernel6Ideal.cfg0.N, Cert.Kernel6Ideal.Value.run_blocks m g, ?_⟩
  refine (θ_run Cert.Reference6Ideal.defs _ _).mono (fun r h c => ⟨(h c).1.trans (Eq.trans ?_ (Cert.Groups.equal m c)), (h c).2⟩)
    (Cert.Reference6Ideal.Value.run m' g')
  rw [hagree c]
  rfl

/-- The second regrouping's frame, over machine words. -/
theorem frame_p7 : Cert.quiescent_Kernel7 (hKernel7 := Cert.Kernel7.Gen.facts) := fun m ρ _ => Cert.Kernel7.Gen.frame m ρ

/-- Its frame, over extended reals. -/
theorem frame_pi7 : Cert.quiescent_Kernel7Ideal (hKernel7Ideal := Cert.Kernel7Ideal.Gen.facts) :=
  fun m ρ _ => Cert.Kernel7Ideal.Gen.frame m ρ

/-- Its reference's frame. -/
theorem frame_ri7 : Cert.quiescent_Reference7Ideal (hReference7Ideal := Cert.Reference7Ideal.Gen.facts) := fun m ρ _ =>
  (θ_run Cert.Reference7Ideal.defs _ _).mono (fun r h => ⟨fun c => (h c).2, sem_eq_zero_of_no_sems rfl r.2⟩)
    (Cert.Reference7Ideal.Value.run m ρ)

/-- Reading each word of two rows as its two rows keeps what the words hold. -/
theorem preserves7 : Cert.preserves_Kernel7_Kernel7Ideal :=
  ⟨IdealRules.bf16_pair.statement _ _, IdealRules.bf16_pair.statement _ _⟩

/-- It and its reference end with equal results. -/
theorem equal7 : Cert.algebraic_Kernel7Ideal_Reference7Ideal (hKernel7Ideal := Cert.Kernel7Ideal.Gen.facts)
    (hReference7Ideal := Cert.Reference7Ideal.Gen.facts) := by
  intro m g m' g' _ hagree
  refine ⟨fun c => (Cert.Kernel7Ideal.Gen.dats m 0 c).arrAt 1 Cert.Kernel7Ideal.cfg0.N, Cert.Kernel7Ideal.Value.run_blocks m g, ?_⟩
  refine (θ_run Cert.Reference7Ideal.defs _ _).mono (fun r h c => ⟨(h c).1.trans (Eq.trans ?_ (Cert.Ungroup.equal m c)), (h c).2⟩)
    (Cert.Reference7Ideal.Value.run m' g')
  rw [hagree c]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre.facts, Cert.Merge.Pre.facts, Cert.Proj.Pre.facts,
  frame_p, frame_pi, fun m g _ => frame_pi m g trivial, frame_ri, fun m g _ => frame_ri m g trivial,
  frame_p2, frame_pi2, fun m g _ => frame_pi2 m g trivial, frame_ri2, fun m g _ => frame_ri2 m g trivial,
  frame_p3, frame_pi3, fun m g _ => frame_pi3 m g trivial, frame_ri3, fun m g _ => frame_ri3 m g trivial,
  frame_p4, frame_pi4, frame_ri4,
  frame_p5, frame_pi5, frame_ri5,
  frame_p6, frame_pi6, frame_ri6,
  frame_p7, frame_pi7, frame_ri7,
  trivial, equal, trivial, equal2, trivial, equal3, trivial, equal4, trivial, equal5, preserves6, equal6, preserves7, equal7⟩

end Cert.Proof

end
